-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelUp [hPre_plan_up : Cert.Pre_plan_up.Facts] (m : (ℓ : Loc Cert.KernelUp.nD Cert.KernelUp.τ Cert.KernelUp.sig) → Buf (Elt Bits) ℓ) : Prop :=
  ∀ c : Dev Cert.KernelUp.nD,
    (Cert.Pre_plan_up.fn (F := Bits) (m ((c.tc : Thread Cert.KernelUp.nD Cert.KernelUp.τ).loc Cert.KernelUp.main_arg0)) (m ((c.tc : Thread Cert.KernelUp.nD Cert.KernelUp.τ).loc Cert.KernelUp.main_arg1)) (m ((c.tc : Thread Cert.KernelUp.nD Cert.KernelUp.τ).loc Cert.KernelUp.main_arg2)) (m ((c.tc : Thread Cert.KernelUp.nD Cert.KernelUp.τ).loc Cert.KernelUp.main_arg3)) (m ((c.tc : Thread Cert.KernelUp.nD Cert.KernelUp.τ).loc Cert.KernelUp.main_arg4)) (m ((c.tc : Thread Cert.KernelUp.nD Cert.KernelUp.τ).loc Cert.KernelUp.main_arg5)) (m ((c.tc : Thread Cert.KernelUp.nD Cert.KernelUp.τ).loc Cert.KernelUp.main_arg6)) (m ((c.tc : Thread Cert.KernelUp.nD Cert.KernelUp.τ).loc Cert.KernelUp.main_arg7))) = (fun _ => 1#1)

def Pre_KernelUpIdeal [hPre_plan_up : Cert.Pre_plan_up.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_plan_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_plan_up [hPre_plan_up : Cert.Pre_plan_up.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_plan_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))) = (fun _ => 1#1)

def Pre_KernelDown [hPre_plan_down : Cert.Pre_plan_down.Facts] (m : (ℓ : Loc Cert.KernelDown.nD Cert.KernelDown.τ Cert.KernelDown.sig) → Buf (Elt Bits) ℓ) : Prop :=
  ∀ c : Dev Cert.KernelDown.nD,
    (Cert.Pre_plan_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2)) (m ((c.tc : Thread Cert.KernelDown.nD Cert.KernelDown.τ).loc Cert.KernelDown.main_arg3)) (m ((c.tc : Thread Cert.KernelDown.nD Cert.KernelDown.τ).loc Cert.KernelDown.main_arg4)) (m ((c.tc : Thread Cert.KernelDown.nD Cert.KernelDown.τ).loc Cert.KernelDown.main_arg5)) (m ((c.tc : Thread Cert.KernelDown.nD Cert.KernelDown.τ).loc Cert.KernelDown.main_arg6)) (m ((c.tc : Thread Cert.KernelDown.nD Cert.KernelDown.τ).loc Cert.KernelDown.main_arg7))) = (fun _ => 1#1)

def Pre_KernelDownIdeal [hPre_plan_down : Cert.Pre_plan_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_plan_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2)) (m ((c.tc : Thread Cert.KernelDownIdeal.nD Cert.KernelDownIdeal.τ).loc Cert.KernelDownIdeal.main_arg3)) (m ((c.tc : Thread Cert.KernelDownIdeal.nD Cert.KernelDownIdeal.τ).loc Cert.KernelDownIdeal.main_arg4)) (m ((c.tc : Thread Cert.KernelDownIdeal.nD Cert.KernelDownIdeal.τ).loc Cert.KernelDownIdeal.main_arg5)) (m ((c.tc : Thread Cert.KernelDownIdeal.nD Cert.KernelDownIdeal.τ).loc Cert.KernelDownIdeal.main_arg6)) (m ((c.tc : Thread Cert.KernelDownIdeal.nD Cert.KernelDownIdeal.τ).loc Cert.KernelDownIdeal.main_arg7))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_plan_down [hPre_plan_down : Cert.Pre_plan_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_plan_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2)) (m ((c.tc : Thread Cert.ReferenceDownIdeal.nD Cert.ReferenceDownIdeal.τ).loc Cert.ReferenceDownIdeal.main_arg3)) (m ((c.tc : Thread Cert.ReferenceDownIdeal.nD Cert.ReferenceDownIdeal.τ).loc Cert.ReferenceDownIdeal.main_arg4)) (m ((c.tc : Thread Cert.ReferenceDownIdeal.nD Cert.ReferenceDownIdeal.τ).loc Cert.ReferenceDownIdeal.main_arg5)) (m ((c.tc : Thread Cert.ReferenceDownIdeal.nD Cert.ReferenceDownIdeal.τ).loc Cert.ReferenceDownIdeal.main_arg6)) (m ((c.tc : Thread Cert.ReferenceDownIdeal.nD Cert.ReferenceDownIdeal.τ).loc Cert.ReferenceDownIdeal.main_arg7))) = (fun _ => 1#1)

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_KernelSmallIdeal_finite_small [hPre_finite_small : Cert.Pre_finite_small.Facts] (m : (ℓ : Loc Cert.KernelSmallIdeal.nD Cert.KernelSmallIdeal.τ Cert.KernelSmallIdeal.sig) → Buf (Elt Ideal) ℓ) : Prop :=
  ∀ c : Dev Cert.KernelSmallIdeal.nD,
    (Cert.Pre_finite_small.fn (F := Ideal) (m ((c.tc : Thread Cert.KernelSmallIdeal.nD Cert.KernelSmallIdeal.τ).loc Cert.KernelSmallIdeal.main_arg0)) (m ((c.tc : Thread Cert.KernelSmallIdeal.nD Cert.KernelSmallIdeal.τ).loc Cert.KernelSmallIdeal.main_arg1))) = (fun _ => 1#1)

def Pre_ReferenceSmallIdeal (m : (ℓ : Loc Cert.ReferenceSmallIdeal.nD Cert.ReferenceSmallIdeal.τ Cert.ReferenceSmallIdeal.sig) → Buf (Elt Ideal) ℓ) : Prop :=
  True

def Pre_ReferenceSmallIdeal_finite_small [hPre_finite_small : Cert.Pre_finite_small.Facts] (m : (ℓ : Loc Cert.ReferenceSmallIdeal.nD Cert.ReferenceSmallIdeal.τ Cert.ReferenceSmallIdeal.sig) → Buf (Elt Ideal) ℓ) : Prop :=
  ∀ c : Dev Cert.ReferenceSmallIdeal.nD,
    (Cert.Pre_finite_small.fn (F := Ideal) (m ((c.tc : Thread Cert.ReferenceSmallIdeal.nD Cert.ReferenceSmallIdeal.τ).loc Cert.ReferenceSmallIdeal.main_arg0)) (m ((c.tc : Thread Cert.ReferenceSmallIdeal.nD Cert.ReferenceSmallIdeal.τ).loc Cert.ReferenceSmallIdeal.main_arg1))) = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_KernelQIdeal_finite_q [hPre_finite_q : Cert.Pre_finite_q.Facts] (m : (ℓ : Loc Cert.KernelQIdeal.nD Cert.KernelQIdeal.τ Cert.KernelQIdeal.sig) → Buf (Elt Ideal) ℓ) : Prop :=
  ∀ c : Dev Cert.KernelQIdeal.nD,
    (Cert.Pre_finite_q.fn (F := Ideal) (m ((c.tc : Thread Cert.KernelQIdeal.nD Cert.KernelQIdeal.τ).loc Cert.KernelQIdeal.main_arg0)) (m ((c.tc : Thread Cert.KernelQIdeal.nD Cert.KernelQIdeal.τ).loc Cert.KernelQIdeal.main_arg1)) (m ((c.tc : Thread Cert.KernelQIdeal.nD Cert.KernelQIdeal.τ).loc Cert.KernelQIdeal.main_arg2))) = (fun _ => 1#1)

def Pre_ReferenceQIdeal (m : (ℓ : Loc Cert.ReferenceQIdeal.nD Cert.ReferenceQIdeal.τ Cert.ReferenceQIdeal.sig) → Buf (Elt Ideal) ℓ) : Prop :=
  True

def Pre_ReferenceQIdeal_finite_q [hPre_finite_q : Cert.Pre_finite_q.Facts] (m : (ℓ : Loc Cert.ReferenceQIdeal.nD Cert.ReferenceQIdeal.τ Cert.ReferenceQIdeal.sig) → Buf (Elt Ideal) ℓ) : Prop :=
  ∀ c : Dev Cert.ReferenceQIdeal.nD,
    (Cert.Pre_finite_q.fn (F := Ideal) (m ((c.tc : Thread Cert.ReferenceQIdeal.nD Cert.ReferenceQIdeal.τ).loc Cert.ReferenceQIdeal.main_arg0)) (m ((c.tc : Thread Cert.ReferenceQIdeal.nD Cert.ReferenceQIdeal.τ).loc Cert.ReferenceQIdeal.main_arg1)) (m ((c.tc : Thread Cert.ReferenceQIdeal.nD Cert.ReferenceQIdeal.τ).loc Cert.ReferenceQIdeal.main_arg2))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelUp [hKernelUp : Cert.KernelUp.Facts] [hPre_plan_up : Cert.Pre_plan_up.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6)
      ∧ r.2.mem ((c.tc : Thread Cert.KernelUp.nD Cert.KernelUp.τ).loc Cert.KernelUp.main_arg7) = m ((c.tc : Thread Cert.KernelUp.nD Cert.KernelUp.τ).loc Cert.KernelUp.main_arg7))
      ∧ r.2.sem = fun _ => 0)

def quiescent_KernelUpIdeal [hKernelUpIdeal : Cert.KernelUpIdeal.Facts] [hPre_plan_up : Cert.Pre_plan_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
      ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6)
      ∧ r.2.mem ((c.tc : Thread Cert.ReferenceUpIdeal.nD Cert.ReferenceUpIdeal.τ).loc Cert.ReferenceUpIdeal.main_arg7) = m ((c.tc : Thread Cert.ReferenceUpIdeal.nD Cert.ReferenceUpIdeal.τ).loc Cert.ReferenceUpIdeal.main_arg7))
      ∧ r.2.sem = fun _ => 0)

def quiescent_ReferenceUpIdeal_pre_plan_up [hReferenceUpIdeal : Cert.ReferenceUpIdeal.Facts] [hPre_plan_up : Cert.Pre_plan_up.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_plan_up m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6)
      ∧ r.2.mem ((c.tc : Thread Cert.ReferenceUpIdeal.nD Cert.ReferenceUpIdeal.τ).loc Cert.ReferenceUpIdeal.main_arg7) = m ((c.tc : Thread Cert.ReferenceUpIdeal.nD Cert.ReferenceUpIdeal.τ).loc Cert.ReferenceUpIdeal.main_arg7))
      ∧ r.2.sem = fun _ => 0)

def quiescent_KernelDown [hKernelDown : Cert.KernelDown.Facts] [hPre_plan_down : Cert.Pre_plan_down.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5)
      ∧ r.2.mem ((c.tc : Thread Cert.KernelDown.nD Cert.KernelDown.τ).loc Cert.KernelDown.main_arg6) = m ((c.tc : Thread Cert.KernelDown.nD Cert.KernelDown.τ).loc Cert.KernelDown.main_arg6)
      ∧ r.2.mem ((c.tc : Thread Cert.KernelDown.nD Cert.KernelDown.τ).loc Cert.KernelDown.main_arg7) = m ((c.tc : Thread Cert.KernelDown.nD Cert.KernelDown.τ).loc Cert.KernelDown.main_arg7))
      ∧ r.2.sem = fun _ => 0)

def quiescent_KernelDownIdeal [hKernelDownIdeal : Cert.KernelDownIdeal.Facts] [hPre_plan_down : Cert.Pre_plan_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
      ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6)
      ∧ r.2.mem ((c.tc : Thread Cert.KernelDownIdeal.nD Cert.KernelDownIdeal.τ).loc Cert.KernelDownIdeal.main_arg7) = m ((c.tc : Thread Cert.KernelDownIdeal.nD Cert.KernelDownIdeal.τ).loc Cert.KernelDownIdeal.main_arg7))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6)
      ∧ r.2.mem ((c.tc : Thread Cert.ReferenceDownIdeal.nD Cert.ReferenceDownIdeal.τ).loc Cert.ReferenceDownIdeal.main_arg7) = m ((c.tc : Thread Cert.ReferenceDownIdeal.nD Cert.ReferenceDownIdeal.τ).loc Cert.ReferenceDownIdeal.main_arg7))
      ∧ r.2.sem = fun _ => 0)

def quiescent_ReferenceDownIdeal_pre_plan_down [hReferenceDownIdeal : Cert.ReferenceDownIdeal.Facts] [hPre_plan_down : Cert.Pre_plan_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_plan_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6)
      ∧ r.2.mem ((c.tc : Thread Cert.ReferenceDownIdeal.nD Cert.ReferenceDownIdeal.τ).loc Cert.ReferenceDownIdeal.main_arg7) = m ((c.tc : Thread Cert.ReferenceDownIdeal.nD Cert.ReferenceDownIdeal.τ).loc Cert.ReferenceDownIdeal.main_arg7))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ r.2.sem = fun _ => 0)

def quiescent_KernelSmallIdeal_pre_finite_small [hKernelSmallIdeal : Cert.KernelSmallIdeal.Facts] [hPre_finite_small : Cert.Pre_finite_small.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal_finite_small m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1))
      ∧ r.2.sem = fun _ => 0)

def quiescent_ReferenceSmallIdeal_pre_finite_small [hReferenceSmallIdeal : Cert.ReferenceSmallIdeal.Facts] [hPre_finite_small : Cert.Pre_finite_small.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal_finite_small m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_KernelQIdeal_pre_finite_q [hKernelQIdeal : Cert.KernelQIdeal.Facts] [hPre_finite_q : Cert.Pre_finite_q.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal_finite_q m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_ReferenceQIdeal_pre_finite_q [hReferenceQIdeal : Cert.ReferenceQIdeal.Facts] [hPre_finite_q : Cert.Pre_finite_q.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal_finite_q m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1))
      ∧ r.2.sem = fun _ => 0)

def preserves_Kernel_KernelIdeal : Prop :=
  IdealRules.named_const.Statement Cert.KernelIdeal.κ "qk_scale_log2" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v7) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v10) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v5)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v5) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v19) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] [hPre_plan_up : Cert.Pre_plan_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)
      ∧ m' ((c.tc : Thread Cert.ReferenceUpIdeal.nD Cert.ReferenceUpIdeal.τ).loc Cert.ReferenceUpIdeal.main_arg7) = m ((c.tc : Thread Cert.KernelUpIdeal.nD Cert.KernelUpIdeal.τ).loc Cert.KernelUpIdeal.main_arg7)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
          ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v43) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6)
          ∧ r.2.mem ((c.tc : Thread Cert.ReferenceUpIdeal.nD Cert.ReferenceUpIdeal.τ).loc Cert.ReferenceUpIdeal.main_arg7) = m' ((c.tc : Thread Cert.ReferenceUpIdeal.nD Cert.ReferenceUpIdeal.τ).loc Cert.ReferenceUpIdeal.main_arg7))

def preserves_KernelDown_KernelDownIdeal : Prop :=
  True

def algebraic_KernelDownIdeal_ReferenceDownIdeal [hKernelDownIdeal : Cert.KernelDownIdeal.Facts] [hReferenceDownIdeal : Cert.ReferenceDownIdeal.Facts] [hPre_plan_down : Cert.Pre_plan_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)
      ∧ m' ((c.tc : Thread Cert.ReferenceDownIdeal.nD Cert.ReferenceDownIdeal.τ).loc Cert.ReferenceDownIdeal.main_arg6) = m ((c.tc : Thread Cert.KernelDownIdeal.nD Cert.KernelDownIdeal.τ).loc Cert.KernelDownIdeal.main_arg6)
      ∧ m' ((c.tc : Thread Cert.ReferenceDownIdeal.nD Cert.ReferenceDownIdeal.τ).loc Cert.ReferenceDownIdeal.main_arg7) = m ((c.tc : Thread Cert.KernelDownIdeal.nD Cert.KernelDownIdeal.τ).loc Cert.KernelDownIdeal.main_arg7)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
          ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6)
          ∧ r.2.mem ((c.tc : Thread Cert.KernelDownIdeal.nD Cert.KernelDownIdeal.τ).loc Cert.KernelDownIdeal.main_arg7) = m ((c.tc : Thread Cert.KernelDownIdeal.nD Cert.KernelDownIdeal.τ).loc Cert.KernelDownIdeal.main_arg7))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v26) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5)
          ∧ r.2.mem ((c.tc : Thread Cert.ReferenceDownIdeal.nD Cert.ReferenceDownIdeal.τ).loc Cert.ReferenceDownIdeal.main_arg6) = m' ((c.tc : Thread Cert.ReferenceDownIdeal.nD Cert.ReferenceDownIdeal.τ).loc Cert.ReferenceDownIdeal.main_arg6)
          ∧ r.2.mem ((c.tc : Thread Cert.ReferenceDownIdeal.nD Cert.ReferenceDownIdeal.τ).loc Cert.ReferenceDownIdeal.main_arg7) = m' ((c.tc : Thread Cert.ReferenceDownIdeal.nD Cert.ReferenceDownIdeal.τ).loc Cert.ReferenceDownIdeal.main_arg7))

def preserves_KernelSmall_KernelSmallIdeal : Prop :=
  True

def algebraic_KernelSmallIdeal_ReferenceSmallIdeal_pre_finite_small [hKernelSmallIdeal : Cert.KernelSmallIdeal.Facts] [hReferenceSmallIdeal : Cert.ReferenceSmallIdeal.Facts] [hPre_finite_small : Cert.Pre_finite_small.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal_finite_small m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)) →
    ∃ (v0 : (c : Dev Cert.KernelSmallIdeal.nD) → Buf (Elt Ideal) ((c.tc : Thread Cert.KernelSmallIdeal.nD Cert.KernelSmallIdeal.τ).loc Cert.KernelSmallIdeal.main_v11)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v11) = v0 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v14) = v0 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v8)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v8) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v21) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelQ_KernelQIdeal : Prop :=
  True

def algebraic_KernelQIdeal_ReferenceQIdeal_pre_finite_q [hKernelQIdeal : Cert.KernelQIdeal.Facts] [hReferenceQIdeal : Cert.ReferenceQIdeal.Facts] [hPre_finite_q : Cert.Pre_finite_q.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal_finite_q m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v11)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v11) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v24) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelRope_KernelRopeIdeal : Prop :=
  IdealRules.named_const.Statement Cert.KernelRopeIdeal.κ "qk_scale_log2" .f32 0x3DD53B95#32 (((Real.sqrt 192)⁻¹ * (Real.log 2)⁻¹ : ℝ) : EReal)

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)) →
    ∃ (v0 : (c : Dev Cert.KernelRopeIdeal.nD) → Buf (Elt Ideal) ((c.tc : Thread Cert.KernelRopeIdeal.nD Cert.KernelRopeIdeal.τ).loc Cert.KernelRopeIdeal.main_v22_0)) (v1 : (c : Dev Cert.KernelRopeIdeal.nD) → Buf (Elt Ideal) ((c.tc : Thread Cert.KernelRopeIdeal.nD Cert.KernelRopeIdeal.τ).loc Cert.KernelRopeIdeal.main_v22_1)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v22_0) = v0 c
          ∧ r.2.mem ((c.tc : Thread Cert.KernelRopeIdeal.nD Cert.KernelRopeIdeal.τ).loc Cert.KernelRopeIdeal.main_v22_1) = v1 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v34) = v0 c
          ∧ r.2.mem ((c.tc : Thread Cert.ReferenceRopeIdeal.nD Cert.ReferenceRopeIdeal.τ).loc Cert.ReferenceRopeIdeal.main_v32) = v1 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts) (hKernelOut : Cert.KernelOut.Facts) (hKernelOutIdeal : Cert.KernelOutIdeal.Facts) (hReferenceOutIdeal : Cert.ReferenceOutIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelSmall : Cert.KernelSmall.Facts) (hKernelSmallIdeal : Cert.KernelSmallIdeal.Facts) (hReferenceSmallIdeal : Cert.ReferenceSmallIdeal.Facts) (hKernelKv : Cert.KernelKv.Facts) (hKernelKvIdeal : Cert.KernelKvIdeal.Facts) (hReferenceKvIdeal : Cert.ReferenceKvIdeal.Facts) (hKernelQ : Cert.KernelQ.Facts) (hKernelQIdeal : Cert.KernelQIdeal.Facts) (hReferenceQIdeal : Cert.ReferenceQIdeal.Facts) (hKernelNorm : Cert.KernelNorm.Facts) (hKernelNormIdeal : Cert.KernelNormIdeal.Facts) (hReferenceNormIdeal : Cert.ReferenceNormIdeal.Facts) (hKernelRope : Cert.KernelRope.Facts) (hKernelRopeIdeal : Cert.KernelRopeIdeal.Facts) (hReferenceRopeIdeal : Cert.ReferenceRopeIdeal.Facts) (hPre_finite : Cert.Pre_finite.Facts) (hPre_plan_up : Cert.Pre_plan_up.Facts) (hPre_plan_down : Cert.Pre_plan_down.Facts) (hPre_finite_small : Cert.Pre_finite_small.Facts) (hPre_finite_q : Cert.Pre_finite_q.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelUp (hKernelUp := hKernelUp) (hPre_plan_up := hPre_plan_up)
    ∧ quiescent_KernelUpIdeal (hKernelUpIdeal := hKernelUpIdeal) (hPre_plan_up := hPre_plan_up)
    ∧ quiescent_ReferenceUpIdeal (hReferenceUpIdeal := hReferenceUpIdeal)
    ∧ quiescent_ReferenceUpIdeal_pre_plan_up (hReferenceUpIdeal := hReferenceUpIdeal) (hPre_plan_up := hPre_plan_up)
    ∧ quiescent_KernelDown (hKernelDown := hKernelDown) (hPre_plan_down := hPre_plan_down)
    ∧ quiescent_KernelDownIdeal (hKernelDownIdeal := hKernelDownIdeal) (hPre_plan_down := hPre_plan_down)
    ∧ quiescent_ReferenceDownIdeal (hReferenceDownIdeal := hReferenceDownIdeal)
    ∧ quiescent_ReferenceDownIdeal_pre_plan_down (hReferenceDownIdeal := hReferenceDownIdeal) (hPre_plan_down := hPre_plan_down)
    ∧ quiescent_KernelSmall (hKernelSmall := hKernelSmall)
    ∧ quiescent_KernelSmallIdeal (hKernelSmallIdeal := hKernelSmallIdeal)
    ∧ quiescent_KernelSmallIdeal_pre_finite_small (hKernelSmallIdeal := hKernelSmallIdeal) (hPre_finite_small := hPre_finite_small)
    ∧ quiescent_ReferenceSmallIdeal (hReferenceSmallIdeal := hReferenceSmallIdeal)
    ∧ quiescent_ReferenceSmallIdeal_pre_finite_small (hReferenceSmallIdeal := hReferenceSmallIdeal) (hPre_finite_small := hPre_finite_small)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelQ (hKernelQ := hKernelQ)
    ∧ quiescent_KernelQIdeal (hKernelQIdeal := hKernelQIdeal)
    ∧ quiescent_KernelQIdeal_pre_finite_q (hKernelQIdeal := hKernelQIdeal) (hPre_finite_q := hPre_finite_q)
    ∧ quiescent_ReferenceQIdeal (hReferenceQIdeal := hReferenceQIdeal)
    ∧ quiescent_ReferenceQIdeal_pre_finite_q (hReferenceQIdeal := hReferenceQIdeal) (hPre_finite_q := hPre_finite_q)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal (hKernelMixIdeal := hKernelMixIdeal) (hReferenceMixIdeal := hReferenceMixIdeal)
    ∧ preserves_KernelOut_KernelOutIdeal
    ∧ algebraic_KernelOutIdeal_ReferenceOutIdeal (hKernelOutIdeal := hKernelOutIdeal) (hReferenceOutIdeal := hReferenceOutIdeal)
    ∧ preserves_KernelUp_KernelUpIdeal
    ∧ algebraic_KernelUpIdeal_ReferenceUpIdeal (hKernelUpIdeal := hKernelUpIdeal) (hReferenceUpIdeal := hReferenceUpIdeal) (hPre_plan_up := hPre_plan_up)
    ∧ preserves_KernelDown_KernelDownIdeal
    ∧ algebraic_KernelDownIdeal_ReferenceDownIdeal (hKernelDownIdeal := hKernelDownIdeal) (hReferenceDownIdeal := hReferenceDownIdeal) (hPre_plan_down := hPre_plan_down)
    ∧ preserves_KernelSmall_KernelSmallIdeal
    ∧ algebraic_KernelSmallIdeal_ReferenceSmallIdeal_pre_finite_small (hKernelSmallIdeal := hKernelSmallIdeal) (hReferenceSmallIdeal := hReferenceSmallIdeal) (hPre_finite_small := hPre_finite_small)
    ∧ preserves_KernelKv_KernelKvIdeal
    ∧ algebraic_KernelKvIdeal_ReferenceKvIdeal (hKernelKvIdeal := hKernelKvIdeal) (hReferenceKvIdeal := hReferenceKvIdeal)
    ∧ preserves_KernelQ_KernelQIdeal
    ∧ algebraic_KernelQIdeal_ReferenceQIdeal_pre_finite_q (hKernelQIdeal := hKernelQIdeal) (hReferenceQIdeal := hReferenceQIdeal) (hPre_finite_q := hPre_finite_q)
    ∧ preserves_KernelNorm_KernelNormIdeal
    ∧ algebraic_KernelNormIdeal_ReferenceNormIdeal (hKernelNormIdeal := hKernelNormIdeal) (hReferenceNormIdeal := hReferenceNormIdeal)
    ∧ preserves_KernelRope_KernelRopeIdeal
    ∧ algebraic_KernelRopeIdeal_ReferenceRopeIdeal (hKernelRopeIdeal := hKernelRopeIdeal) (hReferenceRopeIdeal := hReferenceRopeIdeal)
-- ==== Pre_finite.lean ====
abbrev S16384x3072 : Shape := ⟨2, ![16384, 3072]⟩
abbrev S16384x32 : Shape := ⟨2, ![16384, 32]⟩
abbrev S16384x4096 : Shape := ⟨2, ![16384, 4096]⟩
abbrev S16384x64 : Shape := ⟨2, ![16384, 64]⟩
abbrev S16384x2048 : Shape := ⟨2, ![16384, 2048]⟩
abbrev S_ : Shape := ⟨0, ![]⟩

class Facts : Prop where
  slices_S16384x4096_S16384x2048_0_0 : S16384x4096.Slices ![0, 0] S16384x2048
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S16384x2048 : S_.BroadcastsInDim S16384x2048 (![] : Fin 0 → Fin S16384x2048.rank)
  reducesTo_S16384x2048_S_d0_1 : S16384x2048.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg4 : FVec F S16384x64 .f32) (main_v14 : IVec S_ 1) (main_v15 : FVec F S16384x2048 .f32) (main_v16 : FVec F S16384x2048 .f32) : IVec S_ 1 :=
  let main_v17 : IVec S16384x2048 1 := cmpf .olt main_v15 main_v16
  let main_c_5 : IVec S_ 1 := constantI S_ 1 1#1
  let main_v18 : IVec S_ 1 := (fun x v => Host.reduce IntOp.andi x v reducesTo_S16384x2048_S_d0_1 h_S_) main_v17 main_c_5
  let main_v19 : IVec S_ 1 := andi main_v14 main_v18
  let main_v20 : FVec F S16384x64 .f32 := Host.absf main_arg4
  let main_cst_6 : FVec F S_ .f32 := constant S_ .f32 0x7F800000#32
  let main_v21 : FVec F S16384x64 .f32 := broadcastInDim S16384x64 ![] bcast_S_S16384x64 main_cst_6
  let main_v22 : IVec S16384x64 1 := cmpf .olt main_v20 main_v21
  let main_c_7 : IVec S_ 1 := constantI S_ 1 1#1
  let main_v23 : IVec S_ 1 := (fun x v => Host.reduce IntOp.andi x v reducesTo_S16384x64_S_d0_1 h_S_) main_v22 main_c_7
  let main_v24 : IVec S_ 1 := andi main_v19 main_v23
  main_v24

def fn {F : FTy → Type} [FloatOps F] (main_arg0 : FVec F S16384x3072 .f32) (main_arg1 : FVec F S16384x32 .f32) (main_arg2 : FVec F S16384x32 .f32) (main_arg3 : FVec F S16384x4096 .f32) (main_arg4 : FVec F S16384x64 .f32) : IVec S_ 1 :=
  let main_v0 : FVec F S16384x2048 .f32 := (extractStridedSlice S16384x2048 ![0, 0] · slices_S16384x4096_S16384x2048_0_0) main_arg3
  let main_v1 : FVec F S16384x3072 .f32 := Host.absf main_arg0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S16384x32 .f32 := Host.absf main_arg1
  let main_cst_0 : FVec F S_ .f32 := constant S_ .f32 0x7F800000#32
  let main_v6 : FVec F S16384x32 .f32 := broadcastInDim S16384x32 ![] bcast_S_S16384x32 main_cst_0
  let main_v7 : IVec S16384x32 1 := cmpf .olt main_v5 main_v6
  let main_c_1 : IVec S_ 1 := constantI S_ 1 1#1
  let main_v8 : IVec S_ 1 := (fun x v => Host.reduce IntOp.andi x v reducesTo_S16384x32_S_d0_1 h_S_) main_v7 main_c_1
  let main_v9 : IVec S_ 1 := andi main_v4 main_v8
  let main_v10 : FVec F S16384x32 .f32 := Host.absf main_arg2
  let main_cst_2 : FVec F S_ .f32 := constant S_ .f32 0x7F800000#32
  let main_v11 : FVec F S16384x32 .f32 := broadcastInDim S16384x32 ![] bcast_S_S16384x32 main_cst_2
  let main_v12 : IVec S16384x32 1 := cmpf .olt main_v10 main_v11
  let main_c_3 : IVec S_ 1 := constantI S_ 1 1#1
  let main_v13 : IVec S_ 1 := (fun x v => Host.reduce IntOp.andi x v reducesTo_S16384x32_S_d0_1 h_S_) main_v12 main_c_3
  let main_v14 : IVec S_ 1 := andi main_v9 main_v13
  let main_v15 : FVec F S16384x2048 .f32 := Host.absf main_v0
  let main_cst_4 : FVec F S_ .f32 := constant S_ .f32 0x7F800000#32
  let main_v16 : FVec F S16384x2048 .f32 := broadcastInDim S16384x2048 ![] bcast_S_S16384x2048 main_cst_4
  fn_part1 (F := F) main_arg4 main_v14 main_v15 main_v16
-- ==== Pre_finite_q.lean ====
abbrev S16384x2048 : Shape := ⟨2, ![16384, 2048]⟩
abbrev S1024 : Shape := ⟨1, ![1024]⟩
abbrev S1024x3072 : Shape := ⟨2, ![1024, 3072]⟩
abbrev S1024x16x192 : Shape := ⟨3, ![1024, 16, 192]⟩
abbrev S1024x16x64 : Shape := ⟨3, ![1024, 16, 64]⟩
abbrev S16384x1024 : Shape := ⟨2, ![16384, 1024]⟩
abbrev S_ : Shape := ⟨0, ![]⟩

class Facts : Prop where
  shapeCasts_S1024x3072_S1024x16x192 : S1024x3072.ShapeCasts S1024x16x192
  slices_S1024x16x192_S1024x16x64_0_0_128 : S1024x16x192.Slices ![0, 0, 128] S1024x16x64
  slices_S16384x2048_S16384x1024_0_0 : S16384x2048.Slices ![0, 0] S16384x1024
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x16x64 : S_.BroadcastsInDim S1024x16x64 (![] : Fin 0 → Fin S1024x16x64.rank)
  reducesTo_S1024x16x64_S_d0_1_2 : S1024x16x64.ReducesTo [0, 1, 2] S_

variable [Facts]

def fn {F : FTy → Type} [FloatOps F] (main_arg0 : FVec F S16384x2048 .f32) (main_arg1 : FVec F S1024 .f32) (main_arg2 : FVec F S1024x3072 .f32) : IVec S_ 1 :=
  let main_v0 : FVec F S1024x16x192 .f32 := shapeCast S1024x16x192 main_arg2 shapeCasts_S1024x3072_S1024x16x192
  let main_v1 : FVec F S1024x16x64 .f32 := (extractStridedSlice S1024x16x64 ![0, 0, 128] · slices_S1024x16x192_S1024x16x64_0_0_128) main_v0
  let main_v2 : FVec F S16384x1024 .f32 := (extractStridedSlice S16384x1024 ![0, 0] · slices_S16384x2048_S16384x1024_0_0) main_arg0
  let main_v3 : FVec F S16384x1024 .f32 := Host.absf main_v2
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_c : IVec S_ 1 := constantI S_ 1 1#1
  let main_v6 : IVec S_ 1 := (fun x v => Host.reduce IntOp.andi x v reducesTo_S16384x1024_S_d0_1 h_S_) main_v5 main_c
  let main_v7 : FVec F S1024 .f32 := Host.absf main_arg1
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_c_1 : IVec S_ 1 := constantI S_ 1 1#1
  let main_v10 : IVec S_ 1 := (fun x v => Host.reduce IntOp.andi x v reducesTo_S1024_S_d0 h_S_) main_v9 main_c_1
  let main_v11 : IVec S_ 1 := andi main_v6 main_v10
  let main_v12 : FVec F S1024x16x64 .f32 := Host.absf main_v1
  let main_cst_2 : FVec F S_ .f32 := constant S_ .f32 0x7F800000#32
  let main_v13 : FVec F S1024x16x64 .f32 := broadcastInDim S1024x16x64 ![] bcast_S_S1024x16x64 main_cst_2
  let main_v14 : IVec S1024x16x64 1 := cmpf .olt main_v12 main_v13
  let main_c_3 : IVec S_ 1 := constantI S_ 1 1#1
  let main_v15 : IVec S_ 1 := (fun x v => Host.reduce IntOp.andi x v reducesTo_S1024x16x64_S_d0_1_2 h_S_) main_v14 main_c_3
  let main_v16 : IVec S_ 1 := andi main_v11 main_v15
  main_v16
-- ==== Pre_finite_small.lean ====
abbrev S16384x4096 : Shape := ⟨2, ![16384, 4096]⟩
abbrev S4096x18048 : Shape := ⟨2, ![4096, 18048]⟩
abbrev S_ : Shape := ⟨0, ![]⟩
abbrev S4096x64 : Shape := ⟨2, ![4096, 64]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  slices_S4096x18048_S4096x64_0_1536 : S4096x18048.Slices ![0, 1536] S4096x64
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S16384x4096 .f32) (main_arg1 : FVec F S4096x18048 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x64 .f32 := (extractStridedSlice S4096x64 ![0, 1536] · slices_S4096x18048_S4096x64_0_1536) main_arg1
  let main_v5 : FVec F S4096x64 .f32 := Host.absf main_v4
  let main_cst_0 : FVec F S_ .f32 := constant S_ .f32 0x7F800000#32
  let main_v6 : FVec F S4096x64 .f32 := broadcastInDim S4096x64 ![] bcast_S_S4096x64 main_cst_0
  let main_v7 : IVec S4096x64 1 := cmpf .olt main_v5 main_v6
  let main_c_1 : IVec S_ 1 := constantI S_ 1 1#1
  let main_v8 : IVec S_ 1 := (fun x v => Host.reduce IntOp.andi x v reducesTo_S4096x64_S_d0_1 h_S_) main_v7 main_c_1
  let main_v9 : IVec S_ 1 := andi main_v3 main_v8
  main_v9
-- ==== Pre_plan_down.lean ====
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x4096 : Shape := ⟨2, ![32, 4096]⟩
abbrev S_ : Shape := ⟨0, ![]⟩
abbrev S159 : Shape := ⟨1, ![159]⟩

class Facts : Prop where
  shapeCasts_S1_S_ : S1.ShapeCasts S_
  bcast_S_S160 : S_.BroadcastsInDim S160 (![] : Fin 0 → Fin S160.rank)
  reducesTo_S160_S_d0 : S160.ReducesTo [0] S_
  h_S_ : 0 < S_.numel
  slices_S160_S1_0 : S160.Slices ![0] S1
  slices_S160_S159_1 : S160.Slices ![1] S159
  bcast_S_S159 : S_.BroadcastsInDim S159 (![] : Fin 0 → Fin S159.rank)
  slices_S160_S159_0 : S160.Slices ![0] S159
  reducesTo_S159_S_d0 : S159.ReducesTo [0] S_
  slices_S160_S1_159 : S160.Slices ![159] S1

variable [Facts]

def fn_where {F : FTy → Type} [FloatOps F] (arg0 : IVec S159 1) (arg1 : IVec S159 1) (arg2 : IVec S159 1) : IVec S159 1 :=
  let v0 : IVec S159 1 := select arg0 arg1 arg2
  v0

def fn_part2 {F : FTy → Type} [FloatOps F] (main_arg0 : IVec S160 32) (main_arg2 : IVec S160 32) (main_arg3 : IVec S160 32) (main_v15 : IVec S_ 1) (main_v18 : IVec S159 1) (main_v25 : IVec S159 1) (main_v35 : IVec S159 1) (main_v38 : IVec S159 1) : IVec S_ 1 :=
  let main_v39 : IVec S159 1 := andi main_v35 main_v38
  let main_v40 : IVec S159 32 := (extractStridedSlice S159 ![1] · slices_S160_S159_1) main_arg3
  let main_v41 : IVec S159 32 := (extractStridedSlice S159 ![0] · slices_S160_S159_0) main_arg3
  let main_v42 : IVec S159 1 := cmpi .eq main_v40 main_v41
  let main_v43 : IVec S159 1 := andi main_v39 main_v42
  let main_v44 : IVec S159 1 := fn_where (F := F) main_v18 main_v25 main_v43
  let main_c_8 : IVec S_ 1 := constantI S_ 1 1#1
  let main_v45 : IVec S_ 1 := (fun x v => Host.reduce IntOp.andi x v reducesTo_S159_S_d0 h_S_) main_v44 main_c_8
  let main_v46 : IVec S_ 1 := andi main_v15 main_v45
  let main_v47 : IVec S1 32 := (extractStridedSlice S1 ![159] · slices_S160_S1_159) main_arg2
  let main_v48 : IVec S_ 32 := shapeCast S_ main_v47 shapeCasts_S1_S_
  let main_v49 : IVec S1 32 := (extractStridedSlice S1 ![0] · slices_S160_S1_0) main_arg0
  let main_v50 : IVec S_ 32 := shapeCast S_ main_v49 shapeCasts_S1_S_
  let main_v51 : IVec S_ 1 := cmpi .eq main_v48 main_v50
  let main_v52 : IVec S_ 1 := andi main_v46 main_v51
  let main_v53 : IVec S1 32 := (extractStridedSlice S1 ![159] · slices_S160_S1_159) main_arg3
  let main_v54 : IVec S_ 32 := shapeCast S_ main_v53 shapeCasts_S1_S_
  let main_c_9 : IVec S_ 32 := constantI S_ 32 1#32
  let main_v55 : IVec S_ 1 := cmpi .eq main_v54 main_c_9
  let main_v56 : IVec S_ 1 := andi main_v52 main_v55
  main_v56

def fn_part1 {F : FTy → Type} [FloatOps F] (main_arg0 : IVec S160 32) (main_arg2 : IVec S160 32) (main_arg3 : IVec S160 32) (main_arg4 : IVec S1 32) (main_v15 : IVec S_ 1) (main_v16 : IVec S159 32) (main_c_5 : IVec S_ 32) : IVec S_ 1 :=
  let main_v17 : IVec S159 32 := broadcastInDim S159 ![] bcast_S_S159 main_c_5
  let main_v18 : IVec S159 1 := cmpi .eq main_v16 main_v17
  let main_v19 : IVec S159 32 := (extractStridedSlice S159 ![0] · slices_S160_S159_0) main_arg2
  let main_v20 : IVec S159 32 := (extractStridedSlice S159 ![1] · slices_S160_S159_1) main_arg0
  let main_v21 : IVec S159 1 := cmpi .eq main_v19 main_v20
  let main_v22 : IVec S159 32 := (extractStridedSlice S159 ![0] · slices_S160_S159_0) main_arg3
  let main_c_6 : IVec S_ 32 := constantI S_ 32 0#32
  let main_v23 : IVec S159 32 := broadcastInDim S159 ![] bcast_S_S159 main_c_6
  let main_v24 : IVec S159 1 := cmpi .eq main_v22 main_v23
  let main_v25 : IVec S159 1 := andi main_v21 main_v24
  let main_v26 : IVec S159 32 := (extractStridedSlice S159 ![1] · slices_S160_S159_1) main_arg0
  let main_v27 : IVec S159 32 := (extractStridedSlice S159 ![0] · slices_S160_S159_0) main_arg0
  let main_v28 : IVec S159 1 := cmpi .eq main_v26 main_v27
  let main_v29 : IVec S159 32 := iotaInDim S159 32 0
  let main_c_7 : IVec S_ 32 := constantI S_ 32 1#32
  let main_v30 : IVec S159 32 := broadcastInDim S159 ![] bcast_S_S159 main_c_7
  let main_v31 : IVec S159 32 := addi main_v30 main_v29
  let main_v32 : IVec S_ 32 := shapeCast S_ main_arg4 shapeCasts_S1_S_
  let main_v33 : IVec S159 32 := broadcastInDim S159 ![] bcast_S_S159 main_v32
  let main_v34 : IVec S159 1 := cmpi .sge main_v31 main_v33
  let main_v35 : IVec S159 1 := ori main_v28 main_v34
  let main_v36 : IVec S159 32 := (extractStridedSlice S159 ![1] · slices_S160_S159_1) main_arg2
  let main_v37 : IVec S159 32 := (extractStridedSlice S159 ![0] · slices_S160_S159_0) main_arg2
  let main_v38 : IVec S159 1 := cmpi .eq main_v36 main_v37
  fn_part2 (F := F) main_arg0 main_arg2 main_arg3 main_v15 main_v18 main_v25 main_v35 main_v38

def fn {F : FTy → Type} [FloatOps F] (main_arg0 : IVec S160 32) (main_arg1 : IVec S160 32) (main_arg2 : IVec S160 32) (main_arg3 : IVec S160 32) (main_arg4 : IVec S1 32) (main_arg5 : FVec F S81920x2048 .f32) (main_arg6 : FVec F S32x2048x4096 .f32) (main_arg7 : FVec F S32x4096 .f32) : IVec S_ 1 :=
  let main_v0 : IVec S_ 32 := shapeCast S_ main_arg4 shapeCasts_S1_S_
  let main_c : IVec S_ 32 := constantI S_ 32 1#32
  let main_v1 : IVec S_ 1 := cmpi .sge main_v0 main_c
  let main_v2 : IVec S_ 32 := shapeCast S_ main_arg4 shapeCasts_S1_S_
  let main_c_0 : IVec S_ 32 := constantI S_ 32 160#32
  let main_v3 : IVec S_ 1 := cmpi .sle main_v2 main_c_0
  let main_v4 : IVec S_ 1 := andi main_v1 main_v3
  let main_c_1 : IVec S_ 32 := constantI S_ 32 0#32
  let main_v5 : IVec S160 32 := broadcastInDim S160 ![] bcast_S_S160 main_c_1
  let main_v6 : IVec S160 1 := cmpi .sge main_arg0 main_v5
  let main_c_2 : IVec S_ 32 := constantI S_ 32 32#32
  let main_v7 : IVec S160 32 := broadcastInDim S160 ![] bcast_S_S160 main_c_2
  let main_v8 : IVec S160 1 := cmpi .slt main_arg0 main_v7
  let main_v9 : IVec S160 1 := andi main_v6 main_v8
  let main_c_3 : IVec S_ 1 := constantI S_ 1 1#1
  let main_v10 : IVec S_ 1 := (fun x v => Host.reduce IntOp.andi x v reducesTo_S160_S_d0 h_S_) main_v9 main_c_3
  let main_v11 : IVec S_ 1 := andi main_v4 main_v10
  let main_v12 : IVec S1 32 := (extractStridedSlice S1 ![0] · slices_S160_S1_0) main_arg1
  let main_v13 : IVec S_ 32 := shapeCast S_ main_v12 shapeCasts_S1_S_
  let main_c_4 : IVec S_ 32 := constantI S_ 32 1#32
  let main_v14 : IVec S_ 1 := cmpi .eq main_v13 main_c_4
  let main_v15 : IVec S_ 1 := andi main_v11 main_v14
  let main_v16 : IVec S159 32 := (extractStridedSlice S159 ![1] · slices_S160_S159_1) main_arg1
  let main_c_5 : IVec S_ 32 := constantI S_ 32 1#32
  fn_part1 (F := F) main_arg0 main_arg2 main_arg3 main_arg4 main_v15 main_v16 main_c_5
-- ==== Pre_plan_up.lean ====
abbrev S160 : Shape := ⟨1, ![160]⟩
abbrev S1 : Shape := ⟨1, ![1]⟩
abbrev S81920x4096 : Shape := ⟨2, ![81920, 4096]⟩
abbrev S32x4096x4096 : Shape := ⟨3, ![32, 4096, 4096]⟩
abbrev S32x4096 : Shape := ⟨2, ![32, 4096]⟩
abbrev S_ : Shape := ⟨0, ![]⟩
abbrev S159 : Shape := ⟨1, ![159]⟩

class Facts : Prop where
  shapeCasts_S1_S_ : S1.ShapeCasts S_
  bcast_S_S160 : S_.BroadcastsInDim S160 (![] : Fin 0 → Fin S160.rank)
  reducesTo_S160_S_d0 : S160.ReducesTo [0] S_
  h_S_ : 0 < S_.numel
  slices_S160_S1_0 : S160.Slices ![0] S1
  slices_S160_S159_1 : S160.Slices ![1] S159
  bcast_S_S159 : S_.BroadcastsInDim S159 (![] : Fin 0 → Fin S159.rank)
  slices_S160_S159_0 : S160.Slices ![0] S159
  reducesTo_S159_S_d0 : S159.ReducesTo [0] S_
  slices_S160_S1_159 : S160.Slices ![159] S1

variable [Facts]

def fn_where {F : FTy → Type} [FloatOps F] (arg0 : IVec S159 1) (arg1 : IVec S159 1) (arg2 : IVec S159 1) : IVec S159 1 :=
  let v0 : IVec S159 1 := select arg0 arg1 arg2
  v0

def fn_part2 {F : FTy → Type} [FloatOps F] (main_arg0 : IVec S160 32) (main_arg2 : IVec S160 32) (main_arg3 : IVec S160 32) (main_v15 : IVec S_ 1) (main_v18 : IVec S159 1) (main_v25 : IVec S159 1) (main_v35 : IVec S159 1) (main_v38 : IVec S159 1) : IVec S_ 1 :=
  let main_v39 : IVec S159 1 := andi main_v35 main_v38
  let main_v40 : IVec S159 32 := (extractStridedSlice S159 ![1] · slices_S160_S159_1) main_arg3
  let main_v41 : IVec S159 32 := (extractStridedSlice S159 ![0] · slices_S160_S159_0) main_arg3
  let main_v42 : IVec S159 1 := cmpi .eq main_v40 main_v41
  let main_v43 : IVec S159 1 := andi main_v39 main_v42
  let main_v44 : IVec S159 1 := fn_where (F := F) main_v18 main_v25 main_v43
  let main_c_8 : IVec S_ 1 := constantI S_ 1 1#1
  let main_v45 : IVec S_ 1 := (fun x v => Host.reduce IntOp.andi x v reducesTo_S159_S_d0 h_S_) main_v44 main_c_8
  let main_v46 : IVec S_ 1 := andi main_v15 main_v45
  let main_v47 : IVec S1 32 := (extractStridedSlice S1 ![159] · slices_S160_S1_159) main_arg2
  let main_v48 : IVec S_ 32 := shapeCast S_ main_v47 shapeCasts_S1_S_
  let main_v49 : IVec S1 32 := (extractStridedSlice S1 ![0] · slices_S160_S1_0) main_arg0
  let main_v50 : IVec S_ 32 := shapeCast S_ main_v49 shapeCasts_S1_S_
  let main_v51 : IVec S_ 1 := cmpi .eq main_v48 main_v50
  let main_v52 : IVec S_ 1 := andi main_v46 main_v51
  let main_v53 : IVec S1 32 := (extractStridedSlice S1 ![159] · slices_S160_S1_159) main_arg3
  let main_v54 : IVec S_ 32 := shapeCast S_ main_v53 shapeCasts_S1_S_
  let main_c_9 : IVec S_ 32 := constantI S_ 32 1#32
  let main_v55 : IVec S_ 1 := cmpi .eq main_v54 main_c_9
  let main_v56 : IVec S_ 1 := andi main_v52 main_v55
  main_v56

def fn_part1 {F : FTy → Type} [FloatOps F] (main_arg0 : IVec S160 32) (main_arg2 : IVec S160 32) (main_arg3 : IVec S160 32) (main_arg4 : IVec S1 32) (main_v15 : IVec S_ 1) (main_v16 : IVec S159 32) (main_c_5 : IVec S_ 32) : IVec S_ 1 :=
  let main_v17 : IVec S159 32 := broadcastInDim S159 ![] bcast_S_S159 main_c_5
  let main_v18 : IVec S159 1 := cmpi .eq main_v16 main_v17
  let main_v19 : IVec S159 32 := (extractStridedSlice S159 ![0] · slices_S160_S159_0) main_arg2
  let main_v20 : IVec S159 32 := (extractStridedSlice S159 ![1] · slices_S160_S159_1) main_arg0
  let main_v21 : IVec S159 1 := cmpi .eq main_v19 main_v20
  let main_v22 : IVec S159 32 := (extractStridedSlice S159 ![0] · slices_S160_S159_0) main_arg3
  let main_c_6 : IVec S_ 32 := constantI S_ 32 0#32
  let main_v23 : IVec S159 32 := broadcastInDim S159 ![] bcast_S_S159 main_c_6
  let main_v24 : IVec S159 1 := cmpi .eq main_v22 main_v23
  let main_v25 : IVec S159 1 := andi main_v21 main_v24
  let main_v26 : IVec S159 32 := (extractStridedSlice S159 ![1] · slices_S160_S159_1) main_arg0
  let main_v27 : IVec S159 32 := (extractStridedSlice S159 ![0] · slices_S160_S159_0) main_arg0
  let main_v28 : IVec S159 1 := cmpi .eq main_v26 main_v27
  let main_v29 : IVec S159 32 := iotaInDim S159 32 0
  let main_c_7 : IVec S_ 32 := constantI S_ 32 1#32
  let main_v30 : IVec S159 32 := broadcastInDim S159 ![] bcast_S_S159 main_c_7
  let main_v31 : IVec S159 32 := addi main_v30 main_v29
  let main_v32 : IVec S_ 32 := shapeCast S_ main_arg4 shapeCasts_S1_S_
  let main_v33 : IVec S159 32 := broadcastInDim S159 ![] bcast_S_S159 main_v32
  let main_v34 : IVec S159 1 := cmpi .sge main_v31 main_v33
  let main_v35 : IVec S159 1 := ori main_v28 main_v34
  let main_v36 : IVec S159 32 := (extractStridedSlice S159 ![1] · slices_S160_S159_1) main_arg2
  let main_v37 : IVec S159 32 := (extractStridedSlice S159 ![0] · slices_S160_S159_0) main_arg2
  let main_v38 : IVec S159 1 := cmpi .eq main_v36 main_v37
  fn_part2 (F := F) main_arg0 main_arg2 main_arg3 main_v15 main_v18 main_v25 main_v35 main_v38

def fn {F : FTy → Type} [FloatOps F] (main_arg0 : IVec S160 32) (main_arg1 : IVec S160 32) (main_arg2 : IVec S160 32) (main_arg3 : IVec S160 32) (main_arg4 : IVec S1 32) (main_arg5 : FVec F S81920x4096 .f32) (main_arg6 : FVec F S32x4096x4096 .f32) (main_arg7 : FVec F S32x4096 .f32) : IVec S_ 1 :=
  let main_v0 : IVec S_ 32 := shapeCast S_ main_arg4 shapeCasts_S1_S_
  let main_c : IVec S_ 32 := constantI S_ 32 1#32
  let main_v1 : IVec S_ 1 := cmpi .sge main_v0 main_c
  let main_v2 : IVec S_ 32 := shapeCast S_ main_arg4 shapeCasts_S1_S_
  let main_c_0 : IVec S_ 32 := constantI S_ 32 160#32
  let main_v3 : IVec S_ 1 := cmpi .sle main_v2 main_c_0
  let main_v4 : IVec S_ 1 := andi main_v1 main_v3
  let main_c_1 : IVec S_ 32 := constantI S_ 32 0#32
  let main_v5 : IVec S160 32 := broadcastInDim S160 ![] bcast_S_S160 main_c_1
  let main_v6 : IVec S160 1 := cmpi .sge main_arg0 main_v5
  let main_c_2 : IVec S_ 32 := constantI S_ 32 32#32
  let main_v7 : IVec S160 32 := broadcastInDim S160 ![] bcast_S_S160 main_c_2
  let main_v8 : IVec S160 1 := cmpi .slt main_arg0 main_v7
  let main_v9 : IVec S160 1 := andi main_v6 main_v8
  let main_c_3 : IVec S_ 1 := constantI S_ 1 1#1
  let main_v10 : IVec S_ 1 := (fun x v => Host.reduce IntOp.andi x v reducesTo_S160_S_d0 h_S_) main_v9 main_c_3
  let main_v11 : IVec S_ 1 := andi main_v4 main_v10
  let main_v12 : IVec S1 32 := (extractStridedSlice S1 ![0] · slices_S160_S1_0) main_arg1
  let main_v13 : IVec S_ 32 := shapeCast S_ main_v12 shapeCasts_S1_S_
  let main_c_4 : IVec S_ 32 := constantI S_ 32 1#32
  let main_v14 : IVec S_ 1 := cmpi .eq main_v13 main_c_4
  let main_v15 : IVec S_ 1 := andi main_v11 main_v14
  let main_v16 : IVec S159 32 := (extractStridedSlice S159 ![1] · slices_S160_S159_1) main_arg1
  let main_c_5 : IVec S_ 32 := constantI S_ 32 1#32
  fn_part1 (F := F) main_arg0 main_arg2 main_arg3 main_arg4 main_v15 main_v16 main_c_5
-- ==== Kernel.lean ====
abbrev S16384x3072 : Shape := ⟨2, ![16384, 3072]⟩
abbrev S16384x32 : Shape := ⟨2, ![16384, 32]⟩
abbrev S16384x4096 : Shape := ⟨2, ![16384, 4096]⟩
abbrev S16384x64 : Shape := ⟨2, ![16384, 64]⟩
abbrev S16384x16x192 : Shape := ⟨3, ![16384, 16, 192]⟩
abbrev S16384x16x64 : Shape := ⟨3, ![16384, 16, 64]⟩
abbrev S16384x16x128 : Shape := ⟨3, ![16384, 16, 128]⟩
abbrev S16384x16x32 : Shape := ⟨3, ![16384, 16, 32]⟩
abbrev S16384x16x256 : Shape := ⟨3, ![16384, 16, 256]⟩
abbrev S16384x128 : Shape := ⟨2, ![16384, 128]⟩
abbrev S_ : Shape := ⟨0, ![]⟩
abbrev S16384x2048 : Shape := ⟨2, ![16384, 2048]⟩
abbrev S256x512 : Shape := ⟨2, ![256, 512]⟩
abbrev S256x128 : Shape := ⟨2, ![256, 128]⟩
abbrev S4096x256 : Shape := ⟨2, ![4096, 256]⟩
abbrev S4096x128 : Shape := ⟨2, ![4096, 128]⟩
abbrev S256x256 : Shape := ⟨2, ![256, 256]⟩
abbrev S2x4096x256 : Shape := ⟨3, ![2, 4096, 256]⟩
abbrev S1x4096x128 : Shape := ⟨3, ![1, 4096, 128]⟩
abbrev S1x4096x256 : Shape := ⟨3, ![1, 4096, 256]⟩
abbrev S256x4096 : Shape := ⟨2, ![256, 4096]⟩
abbrev S256 : Shape := ⟨1, ![256]⟩
abbrev S256x1 : Shape := ⟨2, ![256, 1]⟩

abbrev nBuf : Space → Nat
  | .hbm => 27
  | .vmem => 13
  | .smem => 0
  | _ => 0

abbrev bufTy : (tb : Table) → Fin (tcTables nBuf tb) → BufTy
  | .hbm, ⟨0, _⟩ => ⟨S16384x3072, .f32⟩
  | .hbm, ⟨1, _⟩ => ⟨S16384x32, .f32⟩
  | .hbm, ⟨2, _⟩ => ⟨S16384x32, .f32⟩
  | .hbm, ⟨3, _⟩ => ⟨S16384x4096, .f32⟩
  | .hbm, ⟨4, _⟩ => ⟨S16384x64, .f32⟩
  | .hbm, ⟨5, _⟩ => ⟨S16384x16x192, .f32⟩
  | .hbm, ⟨6, _⟩ => ⟨S16384x16x64, .f32⟩
  | .hbm, ⟨7, _⟩ => ⟨S16384x16x128, .f32⟩
  | .hbm, ⟨8, _⟩ => ⟨S16384x16x32, .f32⟩
  | .hbm, ⟨9, _⟩ => ⟨S16384x16x32, .f32⟩
  | .hbm, ⟨10, _⟩ => ⟨S16384x16x32, .f32⟩
  | .hbm, ⟨11, _⟩ => ⟨S16384x16x64, .f32⟩
  | .hbm, ⟨12, _⟩ => ⟨S16384x16x256, .f32⟩
  | .hbm, ⟨13, _⟩ => ⟨S16384x4096, .f32⟩
  | .hbm, ⟨14, _⟩ => ⟨S16384x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x4096, .bf16⟩
  | .hbm, ⟨24, _⟩ => ⟨S16384x4096, .bf16⟩
  | .hbm, ⟨25, _⟩ => ⟨S16384x128, .bf16⟩
  | .hbm, ⟨26, _⟩ => ⟨S16384x2048, .bf16⟩
  | .local _ .vmem, ⟨0, _⟩ => ⟨S256x512, .bf16⟩
  | .local _ .vmem, ⟨1, _⟩ => ⟨S256x512, .bf16⟩
  | .local _ .vmem, ⟨2, _⟩ => ⟨S256x128, .f32⟩
  | .local _ .vmem, ⟨3, _⟩ => ⟨S256x128, .f32⟩
  | .local _ .vmem, ⟨4, _⟩ => ⟨S4096x256, .bf16⟩
  | .local _ .vmem, ⟨5, _⟩ => ⟨S4096x256, .bf16⟩
  | .local _ .vmem, ⟨6, _⟩ => ⟨S4096x128, .bf16⟩
  | .local _ .vmem, ⟨7, _⟩ => ⟨S4096x128, .bf16⟩
  | .local _ .vmem, ⟨8, _⟩ => ⟨S4096x256, .bf16⟩
  | .local _ .vmem, ⟨9, _⟩ => ⟨S4096x256, .bf16⟩
  | .local _ .vmem, ⟨10, _⟩ => ⟨S256x256, .bf16⟩
  | .local _ .vmem, ⟨11, _⟩ => ⟨S256x256, .bf16⟩
  | .local _ .vmem, ⟨12, _⟩ => ⟨S2x4096x256, .bf16⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qk_scale_log2" => some (((Real.sqrt 192)⁻¹ * (Real.log 2)⁻¹ : ℝ) : EReal)
  | _ => none
-- ==== ReferenceIdeal.lean ====
abbrev S16384x3072 : Shape := ⟨2, ![16384, 3072]⟩
abbrev S16384x32 : Shape := ⟨2, ![16384, 32]⟩
abbrev S16384x4096 : Shape := ⟨2, ![16384, 4096]⟩
abbrev S16384x64 : Shape := ⟨2, ![16384, 64]⟩
abbrev S4x4096x16x192 : Shape := ⟨4, ![4, 4096, 16, 192]⟩
abbrev S16384x2048 : Shape := ⟨2, ![16384, 2048]⟩
abbrev S4x4096x16x128 : Shape := ⟨4, ![4, 4096, 16, 128]⟩
abbrev S4x4096x64 : Shape := ⟨3, ![4, 4096, 64]⟩
abbrev S4x4096x32 : Shape := ⟨3, ![4, 4096, 32]⟩
abbrev S4x4096x16x64 : Shape := ⟨4, ![4, 4096, 16, 64]⟩
abbrev S4x4096x1x32 : Shape := ⟨4, ![4, 4096, 1, 32]⟩
abbrev S4x4096x16x32 : Shape := ⟨4, ![4, 4096, 16, 32]⟩
abbrev S_ : Shape := ⟨0, ![]⟩
abbrev S4x16x4096x4096 : Shape := ⟨4, ![4, 16, 4096, 4096]⟩
abbrev S4x4096x4096x16 : Shape := ⟨4, ![4, 4096, 4096, 16]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩

abbrev nBuf : Space → Nat
  | .hbm => 58
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x32, .f32⟩
  | .hbm, ⟨2, _⟩ => ⟨S16384x32, .f32⟩
  | .hbm, ⟨3, _⟩ => ⟨S16384x4096, .f32⟩
  | .hbm, ⟨4, _⟩ => ⟨S16384x64, .f32⟩
  | .hbm, ⟨5, _⟩ => ⟨S4x4096x16x192, .f32⟩
  | .hbm, ⟨6, _⟩ => ⟨S16384x2048, .f32⟩
  | .hbm, ⟨7, _⟩ => ⟨S4x4096x16x128, .f32⟩
  | .hbm, ⟨8, _⟩ => ⟨S16384x2048, .f32⟩
  | .hbm, ⟨9, _⟩ => ⟨S4x4096x16x128, .f32⟩
  | .hbm, ⟨10, _⟩ => ⟨S4x4096x64, .f32⟩
  | .hbm, ⟨11, _⟩ => ⟨S4x4096x32, .f32⟩
  | .hbm, ⟨12, _⟩ => ⟨S4x4096x32, .f32⟩
  | .hbm, ⟨13, _⟩ => ⟨S4x4096x16x128, .f32⟩
  | .hbm, ⟨14, _⟩ => ⟨S4x4096x16x64, .f32⟩
  | .hbm, ⟨15, _⟩ => ⟨S4x4096x1x32, .f32⟩
  | .hbm, ⟨16, _⟩ => ⟨S4x4096x1x32, .f32⟩
  | .hbm, ⟨17, _⟩ => ⟨S4x4096x16x32, .f32⟩
  | .hbm, ⟨18, _⟩ => ⟨S4x4096x16x32, .f32⟩
  | .hbm, ⟨19, _⟩ => ⟨S4x4096x16x32, .f32⟩
  | .hbm, ⟨20, _⟩ => ⟨S4x4096x16x32, .f32⟩
  | .hbm, ⟨21, _⟩ => ⟨S4x4096x16x32, .f32⟩
  | .hbm, ⟨22, _⟩ => ⟨S4x4096x16x32, .f32⟩
  | .hbm, ⟨23, _⟩ => ⟨S4x4096x16x32, .f32⟩
  | .hbm, ⟨24, _⟩ => ⟨S4x4096x16x32, .f32⟩
  | .hbm, ⟨25, _⟩ => ⟨S4x4096x16x32, .f32⟩
  | .hbm, ⟨26, _⟩ => ⟨S4x4096x16x32, .f32⟩
  | .hbm, ⟨27, _⟩ => ⟨S4x4096x16x32, .f32⟩
  | .hbm, ⟨28, _⟩ => ⟨S4x4096x16x32, .f32⟩
  | .hbm, ⟨29, _⟩ => ⟨S4x4096x16x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x16x4096x4096, .f32⟩
  | .hbm, ⟨35, _⟩ => ⟨S4x4096x4096x16, .f32⟩
  | .hbm, ⟨36, _⟩ => ⟨S4x16x4096x4096, .f32⟩
  | .hbm, ⟨37, _⟩ => ⟨S4x16x4096x4096, .f32⟩
  | .hbm, ⟨38, _⟩ => ⟨S4x16x4096x4096, .f32⟩
  | .hbm, ⟨39, _⟩ => ⟨S4x16x4096x4096, .f32⟩
  | .hbm, ⟨40, _⟩ => ⟨S_, .f32⟩
  | .hbm, ⟨41, _⟩ => ⟨S4x16x4096, .f32⟩
  | .hbm, ⟨42, _⟩ => ⟨S_, .f32⟩
  | .hbm, ⟨43, _⟩ => ⟨S4x16x4096, .f32⟩
  | .hbm, ⟨44, _⟩ => ⟨S4x16x4096, .f32⟩
  | .hbm, ⟨45, _⟩ => ⟨S4x16x4096x1, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S_, .f32⟩
  | .hbm, ⟨50, _⟩ => ⟨S4x16x4096, .f32⟩
  | .hbm, ⟨51, _⟩ => ⟨S4x16x4096x1, .f32⟩
  | .hbm, ⟨52, _⟩ => ⟨S4x16x4096x4096, .f32⟩
  | .hbm, ⟨53, _⟩ => ⟨S4x16x4096x4096, .f32⟩
  | .hbm, ⟨54, _⟩ => ⟨S4x16x128x4096, .f32⟩
  | .hbm, ⟨55, _⟩ => ⟨S4x4096x16x128, .f32⟩
  | .hbm, ⟨56, _⟩ => ⟨S16384x2048, .f32⟩
  | .hbm, ⟨57, _⟩ => ⟨S16384x2048, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== KernelIn.lean ====
abbrev S16384x4096 : Shape := ⟨2, ![16384, 4096]⟩
abbrev S4096x18048 : Shape := ⟨2, ![4096, 18048]⟩
abbrev S4096x6144 : Shape := ⟨2, ![4096, 6144]⟩
abbrev S4096x2048 : Shape := ⟨2, ![4096, 2048]⟩
abbrev S4096x4096 : Shape := ⟨2, ![4096, 4096]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x18048, .f32⟩
  | .hbm, ⟨2, _⟩ => ⟨S4096x6144, .f32⟩
  | .hbm, ⟨3, _⟩ => ⟨S4096x2048, .f32⟩
  | .hbm, ⟨4, _⟩ => ⟨S4096x4096, .f32⟩
  | .hbm, ⟨5, _⟩ => ⟨S4096x4096, .f32⟩
  | .hbm, ⟨6, _⟩ => ⟨S4096x16384, .f32⟩
  | .hbm, ⟨7, _⟩ => ⟨S4096x16384, .bf16⟩
  | .hbm, ⟨8, _⟩ => ⟨S16384x4096, .bf16⟩
  | .hbm, ⟨9, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S16384x4096 : Shape := ⟨2, ![16384, 4096]⟩
abbrev S4096x18048 : Shape := ⟨2, ![4096, 18048]⟩
abbrev S16384x18048 : Shape := ⟨2, ![16384, 18048]⟩
abbrev S16384x1024 : Shape := ⟨2, ![16384, 1024]⟩
abbrev S16384x512 : Shape := ⟨2, ![16384, 512]⟩
abbrev S16384x64 : Shape := ⟨2, ![16384, 64]⟩
abbrev S16384x6144 : Shape := ⟨2, ![16384, 6144]⟩
abbrev S16384x2048 : Shape := ⟨2, ![16384, 2048]⟩
abbrev S16384x16384 : Shape := ⟨2, ![16384, 16384]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x18048, .f32⟩
  | .hbm, ⟨2, _⟩ => ⟨S16384x18048, .f32⟩
  | .hbm, ⟨3, _⟩ => ⟨S16384x1024, .f32⟩
  | .hbm, ⟨4, _⟩ => ⟨S16384x512, .f32⟩
  | .hbm, ⟨5, _⟩ => ⟨S16384x64, .f32⟩
  | .hbm, ⟨6, _⟩ => ⟨S16384x6144, .f32⟩
  | .hbm, ⟨7, _⟩ => ⟨S16384x2048, .f32⟩
  | .hbm, ⟨8, _⟩ => ⟨S16384x64, .f32⟩
  | .hbm, ⟨9, _⟩ => ⟨S16384x4096, .f32⟩
  | .hbm, ⟨10, _⟩ => ⟨S16384x4096, .f32⟩
  | .hbm, ⟨11, _⟩ => ⟨S16384x16384, .f32⟩
  | .hbm, ⟨12, _⟩ => ⟨S16384x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelMix.lean ====
abbrev S16384x2048 : Shape := ⟨2, ![16384, 2048]⟩
abbrev S2048x4096 : Shape := ⟨2, ![2048, 4096]⟩
abbrev S16384x16384 : Shape := ⟨2, ![16384, 16384]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S16384x2048, .f32⟩
  | .hbm, ⟨3, _⟩ => ⟨S2048x4096, .f32⟩
  | .hbm, ⟨4, _⟩ => ⟨S16384x16384, .f32⟩
  | .hbm, ⟨5, _⟩ => ⟨S16384x2048, .bf16⟩
  | .hbm, ⟨6, _⟩ => ⟨S2048x4096, .bf16⟩
  | .hbm, ⟨7, _⟩ => ⟨S16384x2048, .bf16⟩
  | .hbm, ⟨8, _⟩ => ⟨S2048x4096, .bf16⟩
  | .hbm, ⟨9, _⟩ => ⟨S16384x16384, .bf16⟩
  | .hbm, ⟨10, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMixIdeal.lean ====
abbrev S16384x2048 : Shape := ⟨2, ![16384, 2048]⟩
abbrev S2048x4096 : Shape := ⟨2, ![2048, 4096]⟩
abbrev S16384x16384 : Shape := ⟨2, ![16384, 16384]⟩
abbrev S16384x4096 : Shape := ⟨2, ![16384, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x4096, .f32⟩
  | .hbm, ⟨2, _⟩ => ⟨S16384x2048, .f32⟩
  | .hbm, ⟨3, _⟩ => ⟨S2048x4096, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== KernelOut.lean ====
abbrev S16384x4096 : Shape := ⟨2, ![16384, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelUp.lean ====
abbrev S160 : Shape := ⟨1, ![160]⟩
abbrev S1 : Shape := ⟨1, ![1]⟩
abbrev S81920x4096 : Shape := ⟨2, ![81920, 4096]⟩
abbrev S32x4096x4096 : Shape := ⟨3, ![32, 4096, 4096]⟩
abbrev S32x4096 : Shape := ⟨2, ![32, 4096]⟩
abbrev S32x1x4096 : Shape := ⟨3, ![32, 1, 4096]⟩
abbrev S81920x2048 : Shape := ⟨2, ![81920, 2048]⟩
abbrev S512x4096 : Shape := ⟨2, ![512, 4096]⟩
abbrev S1x1x512 : Shape := ⟨3, ![1, 1, 512]⟩
abbrev S512x512 : Shape := ⟨2, ![512, 512]⟩
abbrev S2x4096x512 : Shape := ⟨3, ![2, 4096, 512]⟩
abbrev S4096x1024 : Shape := ⟨2, ![4096, 1024]⟩
abbrev S2 : Shape := ⟨1, ![2]⟩
abbrev S_ : Shape := ⟨0, ![]⟩
abbrev S1x4096x512 : Shape := ⟨3, ![1, 4096, 512]⟩
abbrev S4096x512 : Shape := ⟨2, ![4096, 512]⟩
abbrev S256x512 : Shape := ⟨2, ![256, 512]⟩
abbrev S512x2048 : Shape := ⟨2, ![512, 2048]⟩
abbrev S2048x1024 : Shape := ⟨2, ![2048, 1024]⟩
abbrev S512x1024 : Shape := ⟨2, ![512, 1024]⟩
abbrev S1x512 : Shape := ⟨2, ![1, 512]⟩

abbrev nBuf : Space → Nat
  | .hbm => 6
  | .vmem => 10
  | .smem => 5
  | _ => 0

abbrev bufTy : (tb : Table) → Fin (tcTables nBuf tb) → BufTy
  | .hbm, ⟨0, _⟩ => ⟨S81920x4096, .f32⟩
  | .hbm, ⟨1, _⟩ => ⟨S32x4096x4096, .f32⟩
  | .hbm, ⟨2, _⟩ => ⟨S32x4096, .f32⟩
  | .hbm, ⟨3, _⟩ => ⟨S81920x4096, .bf16⟩
  | .hbm, ⟨4, _⟩ => ⟨S32x1x4096, .f32⟩
  | .hbm, ⟨5, _⟩ => ⟨S81920x2048, .bf16⟩
  | .local _ .vmem, ⟨0, _⟩ => ⟨S512x4096, .bf16⟩
  | .local _ .vmem, ⟨1, _⟩ => ⟨S512x4096, .bf16⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x512, .bf16⟩
  | .local _ .vmem, ⟨7, _⟩ => ⟨S512x512, .bf16⟩
  | .local _ .vmem, ⟨8, _⟩ => ⟨S2x4096x512, .f32⟩
  | .local _ .vmem, ⟨9, _⟩ => ⟨S4096x1024, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S1, .i32⟩
  | _, _ => ⟨S81920x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 160], ![false, false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_7 : BitVec 32 := 0#32
  c0_i32_7
def k0_mult2 : BitVec 32 :=
  let c2048_i32 : BitVec 32 := 2048#32
  c2048_i32
def k0_off2 (v18 : BitVec 32) : Fin 3 → Nat :=
  let c0_i32_12 : BitVec 32 := 0#32
  let c0_i32_7 : BitVec 32 := 0#32
  let v19 : BitVec 32 := c0_i32_7
  ![v18.toNat, 0, 0]

def k0_off3 (v18 : BitVec 32) : Fin 3 → Nat :=
  let c0_i32_17 : BitVec 32 := 0#32
  let c2048_i32 : BitVec 32 := 2048#32
  let v20 : BitVec 32 := c2048_i32
  ![v18.toNat, 0, 2048]

def k0_chk1 (i : grid0.Coords) (v18 : BitVec 32) : Prop :=
  (∀ (k0_h1 : k0_cond1 i = 1#1), ∀ a, (k0_off2 v18) a + S1x4096x512.size a ≤ S32x4096x4096.size a) ∧
  (∀ (k0_h1 : k0_cond1 i = 1#1), ∀ a, (k0_off3 v18) a + S1x4096x512.size a ≤ S32x4096x4096.size a)
theorem k0_off2_inb : ∀ (i : grid0.Coords) (v18 : BitVec 32) (k0_hw1 : k0_chk1 i v18), ∀ (k0_h1 : k0_cond1 i = 1#1), ∀ a, (k0_off2 v18) a + S1x4096x512.size a ≤ S32x4096x4096.size a := fun i v18 k0_hw1 k0_h1 => k0_hw1.1 k0_h1
theorem k0_off3_inb : ∀ (i : grid0.Coords) (v18 : BitVec 32) (k0_hw1 : k0_chk1 i v18), ∀ (k0_h1 : k0_cond1 i = 1#1), ∀ a, (k0_off3 v18) a + S1x4096x512.size a ≤ S32x4096x4096.size a := fun i v18 k0_hw1 k0_h1 => k0_hw1.2 k0_h1

def k0_off4 (i : grid0.Coords) : Fin 1 → Nat :=
  let arg1 : BitVec 32 := BitVec.ofNat 32 (i 1).val
  let v18 : Index := Scalar.indexCast arg1
  ![v18.toNat]
def k0_mult3 (i : grid0.Coords) : BitVec 32 :=
  let c0_i32_6 : BitVec 32 := 0#32
  let arg0 : BitVec 32 := BitVec.ofNat 32 (i 0).val
  let c512_i32 : BitVec 32 := 512#32
  let v20 : BitVec 32 := Scalar.muli arg0 c512_i32
  let v21 : BitVec 32 := Scalar.addi c0_i32_6 v20
  v21
def k0_mult4 (i : grid0.Coords) : BitVec 32 :=
  let c2048_i32 : BitVec 32 := 2048#32
  let arg0 : BitVec 32 := BitVec.ofNat 32 (i 0).val
  let c512_i32_7 : BitVec 32 := 512#32
  let v23 : BitVec 32 := Scalar.muli arg0 c512_i32_7
  let v24 : BitVec 32 := Scalar.addi c2048_i32 v23
  v24
def k0_off5 (i : grid0.Coords) (v19 : BitVec 32) (c0_i32_6 : BitVec 32) : Fin 3 → Nat :=
  let c0_i32_12 : BitVec 32 := 0#32
  let arg0 : BitVec 32 := BitVec.ofNat 32 (i 0).val
  let c512_i32 : BitVec 32 := 512#32
  let v20 : BitVec 32 := Scalar.muli arg0 c512_i32
  let v21 : BitVec 32 := Scalar.addi c0_i32_6 v20
  let v22 : BitVec 32 := v21
  ![v19.toNat, 0, v22.toNat]
def k0_cond2 (v6 : BitVec 32) : BitVec 1 :=
  let c1_i32 : BitVec 32 := 1#32
  let v7 : BitVec 1 := Scalar.cmpi .eq v6 c1_i32
  let v8 : BitVec 32 := Scalar.extui v7
  let c0_i32_2 : BitVec 32 := 0#32
  let v9 : BitVec 1 := Scalar.cmpi .ne v8 c0_i32_2
  v9

def k0_chk2 (i : grid0.Coords) (v6 : BitVec 32) (v19 : BitVec 32) : Prop :=
  (∀ (k0_h2 : k0_cond2 v6 = 1#1), ∀ (r : Fin 2), ∀ a, (k0_off5 i v19 (BitVec.ofNat 32 (2048 * r.val))) a + S1x4096x512.size a ≤ S32x4096x4096.size a)
theorem k0_off5_inb : ∀ (i : grid0.Coords) (v6 : BitVec 32) (v19 : BitVec 32) (k0_hw2 : k0_chk2 i v6 v19), ∀ (k0_h2 : k0_cond2 v6 = 1#1), ∀ (r : Fin 2), ∀ a, (k0_off5 i v19 (BitVec.ofNat 32 (2048 * r.val))) a + S1x4096x512.size a ≤ S32x4096x4096.size a := fun i v6 v19 k0_hw2 k0_h2 r => k0_hw2 k0_h2 r

@[reducible] def k0_t1_loop : Scf.Loop 32 :=
  let c0_i32_19 : BitVec 32 := 0#32
  let c16_i32 : BitVec 32 := 16#32
  let v38 : BitVec 32 := Scalar.addi c0_i32_19 c16_i32
  let c1_i32_20 : BitVec 32 := 1#32
  ⟨c0_i32_19, v38, c1_i32_20⟩
def k0_mult5 (k0_t1 : Fin k0_t1_loop.trips) : BitVec 32 :=
  let c0_i32_19 : BitVec 32 := 0#32
  let c1_i32_20 : BitVec 32 := 1#32
  let arg15 : BitVec 32 := Scf.iv c0_i32_19 c1_i32_20 k0_t1
  let c256_i32 : BitVec 32 := 256#32
  let v48 : BitVec 32 := Scalar.muli arg15 c256_i32
  v48
def k0_off6 (k0_t1 : Fin k0_t1_loop.trips) : Fin 2 → Nat :=
  let c0_i32_19 : BitVec 32 := 0#32
  let c1_i32_20 : BitVec 32 := 1#32
  let arg15 : BitVec 32 := Scf.iv c0_i32_19 c1_i32_20 k0_t1
  let c256_i32 : BitVec 32 := 256#32
  let v48 : BitVec 32 := Scalar.muli arg15 c256_i32
  let v49 : BitVec 32 := v48
  let v52 : Index := Scalar.indexCast v49
  let c0_32 : Index := 0#32
  ![v52.toNat, 0]
def k0_off7 (k0_t1 : Fin k0_t1_loop.trips) : Fin 2 → Nat :=
  let c0_i32_19 : BitVec 32 := 0#32
  let c1_i32_20 : BitVec 32 := 1#32
  let arg15 : BitVec 32 := Scf.iv c0_i32_19 c1_i32_20 k0_t1
  let c256_i32 : BitVec 32 := 256#32
  let v48 : BitVec 32 := Scalar.muli arg15 c256_i32
  let v49 : BitVec 32 := v48
  let v55 : Index := Scalar.indexCast v49
  let c0_33 : Index := 0#32
  ![v55.toNat, 0]
@[reducible] def k0_t2_loop : Scf.Loop 32 :=
  let c0_i32_23 : BitVec 32 := 0#32
  let c16_i32_24 : BitVec 32 := 16#32
  let v39 : BitVec 32 := Scalar.addi c0_i32_23 c16_i32_24
  let c1_i32_25 : BitVec 32 := 1#32
  ⟨c0_i32_23, v39, c1_i32_25⟩
def k0_mult6 (k0_t2 : Fin k0_t2_loop.trips) : BitVec 32 :=
  let c0_i32_23 : BitVec 32 := 0#32
  let c1_i32_25 : BitVec 32 := 1#32
  let arg15 : BitVec 32 := Scf.iv c0_i32_23 c1_i32_25 k0_t2
  let c256_i32 : BitVec 32 := 256#32
  let v48 : BitVec 32 := Scalar.muli arg15 c256_i32
  v48
def k0_off8 (k0_t2 : Fin k0_t2_loop.trips) : Fin 2 → Nat :=
  let c0_i32_23 : BitVec 32 := 0#32
  let c1_i32_25 : BitVec 32 := 1#32
  let arg15 : BitVec 32 := Scf.iv c0_i32_23 c1_i32_25 k0_t2
  let c256_i32 : BitVec 32 := 256#32
  let v48 : BitVec 32 := Scalar.muli arg15 c256_i32
  let v49 : BitVec 32 := v48
  let v52 : Index := Scalar.indexCast v49
  let c0_32 : Index := 0#32
  ![v52.toNat, 0]
def k0_off9 (k0_t2 : Fin k0_t2_loop.trips) : Fin 2 → Nat :=
  let c0_i32_23 : BitVec 32 := 0#32
  let c1_i32_25 : BitVec 32 := 1#32
  let arg15 : BitVec 32 := Scf.iv c0_i32_23 c1_i32_25 k0_t2
  let c256_i32 : BitVec 32 := 256#32
  let v48 : BitVec 32 := Scalar.muli arg15 c256_i32
  let v49 : BitVec 32 := v48
  let v55 : Index := Scalar.indexCast v49
  let c512 : Index := 512#32
  ![v55.toNat, 512]
def k0_off10 (i : grid0.Coords) : Fin 1 → Nat :=
  let arg1 : BitVec 32 := BitVec.ofNat 32 (i 1).val
  let v40 : Index := Scalar.indexCast arg1
  ![v40.toNat]
def k0_off11 (i : grid0.Coords) : Fin 1 → Nat :=
  let arg1 : BitVec 32 := BitVec.ofNat 32 (i 1).val
  let v48 : Index := Scalar.indexCast arg1
  ![v48.toNat]
def k0_mult7 (i : grid0.Coords) (v41 : BitVec 32) : BitVec 32 :=
  let c0_i32_31 : BitVec 32 := 0#32
  let arg0 : BitVec 32 := BitVec.ofNat 32 (i 0).val
  let v50 : BitVec 32 := Scalar.addi arg0 v41
  let c512_i32_30 : BitVec 32 := 512#32
  let v51 : BitVec 32 := Scalar.muli v50 c512_i32_30
  let v52 : BitVec 32 := Scalar.addi c0_i32_31 v51
  v52
def k0_cond3 (i : grid0.Coords) (v41 : BitVec 32) : BitVec 1 :=
  let c0_i32_27 : BitVec 32 := 0#32
  let v42 : BitVec 1 := Scalar.cmpi .eq v41 c0_i32_27
  let arg0 : BitVec 32 := BitVec.ofNat 32 (i 0).val
  let c1_i32_28 : BitVec 32 := 1#32
  let v43 : BitVec 32 := Scalar.addi arg0 c1_i32_28
  let c4_i32 : BitVec 32 := 4#32
  let v44 : BitVec 1 := Scalar.cmpi .slt v43 c4_i32
  let v45 : BitVec 1 := Scalar.ori v42 v44
  let v46 : BitVec 32 := Scalar.extui v45
  let c0_i32_29 : BitVec 32 := 0#32
  let v47 : BitVec 1 := Scalar.cmpi .ne v46 c0_i32_29
  v47

def k0_mult8 (i : grid0.Coords) (v41 : BitVec 32) : BitVec 32 :=
  let c2048_i32_33 : BitVec 32 := 2048#32
  let arg0 : BitVec 32 := BitVec.ofNat 32 (i 0).val
  let v50 : BitVec 32 := Scalar.addi arg0 v41
  let c512_i32_32 : BitVec 32 := 512#32
  let v54 : BitVec 32 := Scalar.muli v50 c512_i32_32
  let v55 : BitVec 32 := Scalar.addi c2048_i32_33 v54
  v55

def k0_chk3 (i : grid0.Coords) (v6 : BitVec 32) (v41 : BitVec 32) : Prop :=
  (∀ (k0_h2 : k0_cond2 v6 = 1#1), ∀ (k0_h3 : k0_cond3 i v41 = 1#1), 512 ∣ (k0_mult7 i v41).toNat) ∧
  (∀ (k0_h2 : k0_cond2 v6 = 1#1), ∀ (k0_h3 : k0_cond3 i v41 = 1#1), 512 ∣ (k0_mult8 i v41).toNat)
theorem k0_mult7_dvd : ∀ (i : grid0.Coords) (v6 : BitVec 32) (v41 : BitVec 32) (k0_hw3 : k0_chk3 i v6 v41), ∀ (k0_h2 : k0_cond2 v6 = 1#1), ∀ (k0_h3 : k0_cond3 i v41 = 1#1), 512 ∣ (k0_mult7 i v41).toNat := fun i v6 v41 k0_hw3 k0_h2 k0_h3 => k0_hw3.1 k0_h2 k0_h3
theorem k0_mult8_dvd : ∀ (i : grid0.Coords) (v6 : BitVec 32) (v41 : BitVec 32) (k0_hw3 : k0_chk3 i v6 v41), ∀ (k0_h2 : k0_cond2 v6 = 1#1), ∀ (k0_h3 : k0_cond3 i v41 = 1#1), 512 ∣ (k0_mult8 i v41).toNat := fun i v6 v41 k0_hw3 k0_h2 k0_h3 => k0_hw3.2 k0_h2 k0_h3

def k0_off12 (i : grid0.Coords) (v41 : BitVec 32) (v49 : BitVec 32) (c0_i32_31 : BitVec 32) : Fin 3 → Nat :=
  let c0_i32_38 : BitVec 32 := 0#32
  let arg0 : BitVec 32 := BitVec.ofNat 32 (i 0).val
  let v50 : BitVec 32 := Scalar.addi arg0 v41
  let c512_i32_30 : BitVec 32 := 512#32
  let v51 : BitVec 32 := Scalar.muli v50 c512_i32_30
  let v52 : BitVec 32 := Scalar.addi c0_i32_31 v51
  let v53 : BitVec 32 := v52
  ![v49.toNat, 0, v53.toNat]

def k0_chk4 (i : grid0.Coords) (v6 : BitVec 32) (v41 : BitVec 32) (v49 : BitVec 32) : Prop :=
  (∀ (k0_h2 : k0_cond2 v6 = 1#1), ∀ (k0_h3 : k0_cond3 i v41 = 1#1), ∀ (r : Fin 2), ∀ a, (k0_off12 i v41 v49 (BitVec.ofNat 32 (2048 * r.val))) a + S1x4096x512.size a ≤ S32x4096x4096.size a)
theorem k0_off12_inb : ∀ (i : grid0.Coords) (v6 : BitVec 32) (v41 : BitVec 32) (v49 : BitVec 32) (k0_hw4 : k0_chk4 i v6 v41 v49), ∀ (k0_h2 : k0_cond2 v6 = 1#1), ∀ (k0_h3 : k0_cond3 i v41 = 1#1), ∀ (r : Fin 2), ∀ a, (k0_off12 i v41 v49 (BitVec.ofNat 32 (2048 * r.val))) a + S1x4096x512.size a ≤ S32x4096x4096.size a := fun i v6 v41 v49 k0_hw4 k0_h2 k0_h3 r => k0_hw4 k0_h2 k0_h3 r

def k0_cond4 (i : grid0.Coords) (v10 : BitVec 32) : BitVec 1 :=
  let arg1 : BitVec 32 := BitVec.ofNat 32 (i 1).val
  let v11 : BitVec 1 := Scalar.cmpi .slt arg1 v10
  let v12 : BitVec 32 := Scalar.extui v11
  let c0_i32_3 : BitVec 32 := 0#32
  let v13 : BitVec 1 := Scalar.cmpi .ne v12 c0_i32_3
  v13

def k0_cond5 (i : grid0.Coords) (v14 : BitVec 32) : BitVec 1 :=
  let arg1 : BitVec 32 := BitVec.ofNat 32 (i 1).val
  let v15 : BitVec 1 := Scalar.cmpi .sge arg1 v14
  let v16 : BitVec 32 := Scalar.extui v15
  let c0_i32_5 : BitVec 32 := 0#32
  let v17 : BitVec 1 := Scalar.cmpi .ne v16 c0_i32_5
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 4 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S160 : Shape := ⟨1, ![160]⟩
abbrev S1 : Shape := ⟨1, ![1]⟩
abbrev S81920x4096 : Shape := ⟨2, ![81920, 4096]⟩
abbrev S32x4096x4096 : Shape := ⟨3, ![32, 4096, 4096]⟩
abbrev S32x4096 : Shape := ⟨2, ![32, 4096]⟩
abbrev S160x512x4096 : Shape := ⟨3, ![160, 512, 4096]⟩
abbrev S_ : Shape := ⟨0, ![]⟩
abbrev S160x1 : Shape := ⟨2, ![160, 1]⟩
abbrev S160x4096x4096 : Shape := ⟨3, ![160, 4096, 4096]⟩
abbrev S160x4096 : Shape := ⟨2, ![160, 4096]⟩
abbrev S160x1x4096 : Shape := ⟨3, ![160, 1, 4096]⟩
abbrev S160x512x2048 : Shape := ⟨3, ![160, 512, 2048]⟩
abbrev S160x1x1 : Shape := ⟨3, ![160, 1, 1]⟩
abbrev S81920x2048 : Shape := ⟨2, ![81920, 2048]⟩

abbrev nBuf : Space → Nat
  | .hbm => 72
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S160, .i32⟩
  | .hbm, ⟨3, _⟩ => ⟨S160, .i32⟩
  | .hbm, ⟨4, _⟩ => ⟨S1, .i32⟩
  | .hbm, ⟨5, _⟩ => ⟨S81920x4096, .f32⟩
  | .hbm, ⟨6, _⟩ => ⟨S32x4096x4096, .f32⟩
  | .hbm, ⟨7, _⟩ => ⟨S32x4096, .f32⟩
  | .hbm, ⟨8, _⟩ => ⟨S160x512x4096, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x4096x4096, .f32⟩
  | .hbm, ⟨18, _⟩ => ⟨S160x512x4096, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x4096, .f32⟩
  | .hbm, ⟨28, _⟩ => ⟨S160x1x4096, .f32⟩
  | .hbm, ⟨29, _⟩ => ⟨S160x512x4096, .f32⟩
  | .hbm, ⟨30, _⟩ => ⟨S160x512x4096, .f32⟩
  | .hbm, ⟨31, _⟩ => ⟨S160x512x2048, .f32⟩
  | .hbm, ⟨32, _⟩ => ⟨S160x512x2048, .f32⟩
  | .hbm, ⟨33, _⟩ => ⟨S_, .f32⟩
  | .hbm, ⟨34, _⟩ => ⟨S160x512x2048, .f32⟩
  | .hbm, ⟨35, _⟩ => ⟨S160x512x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S160x512x2048, .f32⟩
  | .hbm, ⟨40, _⟩ => ⟨S160x512x2048, .f32⟩
  | .hbm, ⟨41, _⟩ => ⟨S_, .f32⟩
  | .hbm, ⟨42, _⟩ => ⟨S160x512x2048, .f32⟩
  | .hbm, ⟨43, _⟩ => ⟨S160x512x2048, .f32⟩
  | .hbm, ⟨44, _⟩ => ⟨S_, .f32⟩
  | .hbm, ⟨45, _⟩ => ⟨S160x512x2048, .f32⟩
  | .hbm, ⟨46, _⟩ => ⟨S160x512x2048, .f32⟩
  | .hbm, ⟨47, _⟩ => ⟨S160x512x2048, .f32⟩
  | .hbm, ⟨48, _⟩ => ⟨S_, .f32⟩
  | .hbm, ⟨49, _⟩ => ⟨S160x512x2048, .f32⟩
  | .hbm, ⟨50, _⟩ => ⟨S160x512x2048, .f32⟩
  | .hbm, ⟨51, _⟩ => ⟨S160x512x2048, .f32⟩
  | .hbm, ⟨52, _⟩ => ⟨S160x512x2048, .f32⟩
  | .hbm, ⟨53, _⟩ => ⟨S_, .f32⟩
  | .hbm, ⟨54, _⟩ => ⟨S160x512x2048, .f32⟩
  | .hbm, ⟨55, _⟩ => ⟨S160x512x2048, .f32⟩
  | .hbm, ⟨56, _⟩ => ⟨S_, .f32⟩
  | .hbm, ⟨57, _⟩ => ⟨S160x512x2048, .f32⟩
  | .hbm, ⟨58, _⟩ => ⟨S160x512x2048, .f32⟩
  | .hbm, ⟨59, _⟩ => ⟨S160x512x2048, .f32⟩
  | .hbm, ⟨60, _⟩ => ⟨S160, .i32⟩
  | .hbm, ⟨61, _⟩ => ⟨S_, .i32⟩
  | .hbm, ⟨62, _⟩ => ⟨S160, .i32⟩
  | .hbm, ⟨63, _⟩ => ⟨S160, .i1⟩
  | .hbm, ⟨64, _⟩ => ⟨S160x1x1, .i1⟩
  | .hbm, ⟨65, _⟩ => ⟨S_, .f32⟩
  | .hbm, ⟨66, _⟩ => ⟨S_, .f32⟩
  | .hbm, ⟨67, _⟩ => ⟨S160x512x2048, .i1⟩
  | .hbm, ⟨68, _⟩ => ⟨S160x512x2048, .f32⟩
  | .hbm, ⟨69, _⟩ => ⟨S160x512x2048, .f32⟩
  | .hbm, ⟨70, _⟩ => ⟨S81920x2048, .f32⟩
  | .hbm, ⟨71, _⟩ => ⟨S81920x2048, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== KernelDown.lean ====
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x4096 : Shape := ⟨2, ![32, 4096]⟩
abbrev S32x1x4096 : Shape := ⟨3, ![32, 1, 4096]⟩
abbrev S81920x4096 : Shape := ⟨2, ![81920, 4096]⟩
abbrev S512x2048 : Shape := ⟨2, ![512, 2048]⟩
abbrev S1x1x2048 : Shape := ⟨3, ![1, 1, 2048]⟩
abbrev S2048x2048 : Shape := ⟨2, ![2048, 2048]⟩
abbrev S_ : Shape := ⟨0, ![]⟩
abbrev S1x2048x2048 : Shape := ⟨3, ![1, 2048, 2048]⟩
abbrev S256x2048 : Shape := ⟨2, ![256, 2048]⟩
abbrev S1x2048 : Shape := ⟨2, ![1, 2048]⟩

abbrev nBuf : Space → Nat
  | .hbm => 6
  | .vmem => 8
  | .smem => 5
  | _ => 0

abbrev bufTy : (tb : Table) → Fin (tcTables nBuf tb) → BufTy
  | .hbm, ⟨0, _⟩ => ⟨S81920x2048, .f32⟩
  | .hbm, ⟨1, _⟩ => ⟨S32x2048x4096, .f32⟩
  | .hbm, ⟨2, _⟩ => ⟨S32x4096, .f32⟩
  | .hbm, ⟨3, _⟩ => ⟨S81920x2048, .bf16⟩
  | .hbm, ⟨4, _⟩ => ⟨S32x1x4096, .f32⟩
  | .hbm, ⟨5, _⟩ => ⟨S81920x4096, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048, .f32⟩
  | .local _ .vmem, ⟨3, _⟩ => ⟨S1x1x2048, .f32⟩
  | .local _ .vmem, ⟨4, _⟩ => ⟨S512x2048, .bf16⟩
  | .local _ .vmem, ⟨5, _⟩ => ⟨S512x2048, .bf16⟩
  | .local _ .vmem, ⟨6, _⟩ => ⟨S2048x2048, .f32⟩
  | .local _ .vmem, ⟨7, _⟩ => ⟨S2048x2048, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 160], ![false, false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_7 : BitVec 32 := 0#32
  c0_i32_7
def k0_off2 (v18 : BitVec 32) : Fin 3 → Nat :=
  let c0_i32_9 : BitVec 32 := 0#32
  let c0_i32_7 : BitVec 32 := 0#32
  let v19 : BitVec 32 := c0_i32_7
  ![v18.toNat, 0, 0]

def k0_chk1 (i : grid0.Coords) (v18 : BitVec 32) : Prop :=
  (∀ (k0_h1 : k0_cond1 i = 1#1), ∀ a, (k0_off2 v18) a + S1x2048x2048.size a ≤ S32x2048x4096.size a)
theorem k0_off2_inb : ∀ (i : grid0.Coords) (v18 : BitVec 32) (k0_hw1 : k0_chk1 i v18), ∀ (k0_h1 : k0_cond1 i = 1#1), ∀ a, (k0_off2 v18) a + S1x2048x2048.size a ≤ S32x2048x4096.size a := fun i v18 k0_hw1 k0_h1 => k0_hw1 k0_h1

def k0_off3 (i : grid0.Coords) : Fin 1 → Nat :=
  let arg1 : BitVec 32 := BitVec.ofNat 32 (i 1).val
  let v18 : Index := Scalar.indexCast arg1
  ![v18.toNat]
def k0_mult2 (i : grid0.Coords) : BitVec 32 :=
  let arg0 : BitVec 32 := BitVec.ofNat 32 (i 0).val
  let c2048_i32 : BitVec 32 := 2048#32
  let v20 : BitVec 32 := Scalar.muli arg0 c2048_i32
  v20
def k0_off4 (i : grid0.Coords) (v19 : BitVec 32) : Fin 3 → Nat :=
  let c0_i32_7 : BitVec 32 := 0#32
  let arg0 : BitVec 32 := BitVec.ofNat 32 (i 0).val
  let c2048_i32 : BitVec 32 := 2048#32
  let v20 : BitVec 32 := Scalar.muli arg0 c2048_i32
  let v21 : BitVec 32 := v20
  ![v19.toNat, 0, v21.toNat]
def k0_cond2 (v6 : BitVec 32) : BitVec 1 :=
  let c1_i32 : BitVec 32 := 1#32
  let v7 : BitVec 1 := Scalar.cmpi .eq v6 c1_i32
  let v8 : BitVec 32 := Scalar.extui v7
  let c0_i32_2 : BitVec 32 := 0#32
  let v9 : BitVec 1 := Scalar.cmpi .ne v8 c0_i32_2
  v9

def k0_chk2 (i : grid0.Coords) (v6 : BitVec 32) (v19 : BitVec 32) : Prop :=
  (∀ (k0_h2 : k0_cond2 v6 = 1#1), ∀ a, (k0_off4 i v19) a + S1x2048x2048.size a ≤ S32x2048x4096.size a)
theorem k0_off4_inb : ∀ (i : grid0.Coords) (v6 : BitVec 32) (v19 : BitVec 32) (k0_hw2 : k0_chk2 i v6 v19), ∀ (k0_h2 : k0_cond2 v6 = 1#1), ∀ a, (k0_off4 i v19) a + S1x2048x2048.size a ≤ S32x2048x4096.size a := fun i v6 v19 k0_hw2 k0_h2 => k0_hw2 k0_h2

@[reducible] def k0_t1_loop : Scf.Loop 32 :=
  let c0_i32_8 : BitVec 32 := 0#32
  let c8_i32 : BitVec 32 := 8#32
  let v26 : BitVec 32 := Scalar.addi c0_i32_8 c8_i32
  let c1_i32_9 : BitVec 32 := 1#32
  ⟨c0_i32_8, v26, c1_i32_9⟩
def k0_mult3 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c256_i32 : BitVec 32 := 256#32
  let v35 : BitVec 32 := Scalar.muli arg14 c256_i32
  v35
def k0_off5 (k0_t1 : Fin k0_t1_loop.trips) : Fin 2 → Nat :=
  let c0_i32_8 : BitVec 32 := 0#32
  let c1_i32_9 : BitVec 32 := 1#32
  let arg14 : BitVec 32 := Scf.iv c0_i32_8 c1_i32_9 k0_t1
  let c256_i32 : BitVec 32 := 256#32
  let v35 : BitVec 32 := Scalar.muli arg14 c256_i32
  let v36 : BitVec 32 := v35
  let v37 : Index := Scalar.indexCast v36
  let c0_14 : Index := 0#32
  ![v37.toNat, 0]
def k0_off6 (i : grid0.Coords) : Fin 1 → Nat :=
  let arg1 : BitVec 32 := BitVec.ofNat 32 (i 1).val
  let v27 : Index := Scalar.indexCast arg1
  ![v27.toNat]
def k0_off7 (i : grid0.Coords) : Fin 1 → Nat :=
  let arg1 : BitVec 32 := BitVec.ofNat 32 (i 1).val
  let v35 : Index := Scalar.indexCast arg1
  ![v35.toNat]
def k0_mult4 (i : grid0.Coords) (v28 : BitVec 32) : BitVec 32 :=
  let arg0 : BitVec 32 := BitVec.ofNat 32 (i 0).val
  let v37 : BitVec 32 := Scalar.addi arg0 v28
  let c2048_i32_14 : BitVec 32 := 2048#32
  let v38 : BitVec 32 := Scalar.muli v37 c2048_i32_14
  v38
def k0_cond3 (i : grid0.Coords) (v28 : BitVec 32) : BitVec 1 :=
  let c0_i32_11 : BitVec 32 := 0#32
  let v29 : BitVec 1 := Scalar.cmpi .eq v28 c0_i32_11
  let arg0 : BitVec 32 := BitVec.ofNat 32 (i 0).val
  let c1_i32_12 : BitVec 32 := 1#32
  let v30 : BitVec 32 := Scalar.addi arg0 c1_i32_12
  let c2_i32 : BitVec 32 := 2#32
  let v31 : BitVec 1 := Scalar.cmpi .slt v30 c2_i32
  let v32 : BitVec 1 := Scalar.ori v29 v31
  let v33 : BitVec 32 := Scalar.extui v32
  let c0_i32_13 : BitVec 32 := 0#32
  let v34 : BitVec 1 := Scalar.cmpi .ne v33 c0_i32_13
  v34

def k0_chk3 (i : grid0.Coords) (v6 : BitVec 32) (v28 : BitVec 32) : Prop :=
  (∀ (k0_h2 : k0_cond2 v6 = 1#1), ∀ (k0_h3 : k0_cond3 i v28 = 1#1), 2048 ∣ (k0_mult4 i v28).toNat)
theorem k0_mult4_dvd : ∀ (i : grid0.Coords) (v6 : BitVec 32) (v28 : BitVec 32) (k0_hw3 : k0_chk3 i v6 v28), ∀ (k0_h2 : k0_cond2 v6 = 1#1), ∀ (k0_h3 : k0_cond3 i v28 = 1#1), 2048 ∣ (k0_mult4 i v28).toNat := fun i v6 v28 k0_hw3 k0_h2 k0_h3 => k0_hw3 k0_h2 k0_h3

def k0_off8 (i : grid0.Coords) (v28 : BitVec 32) (v36 : BitVec 32) : Fin 3 → Nat :=
  let c0_i32_16 : BitVec 32 := 0#32
  let arg0 : BitVec 32 := BitVec.ofNat 32 (i 0).val
  let v37 : BitVec 32 := Scalar.addi arg0 v28
  let c2048_i32_14 : BitVec 32 := 2048#32
  let v38 : BitVec 32 := Scalar.muli v37 c2048_i32_14
  let v39 : BitVec 32 := v38
  ![v36.toNat, 0, v39.toNat]

def k0_chk4 (i : grid0.Coords) (v6 : BitVec 32) (v28 : BitVec 32) (v36 : BitVec 32) : Prop :=
  (∀ (k0_h2 : k0_cond2 v6 = 1#1), ∀ (k0_h3 : k0_cond3 i v28 = 1#1), ∀ a, (k0_off8 i v28 v36) a + S1x2048x2048.size a ≤ S32x2048x4096.size a)
theorem k0_off8_inb : ∀ (i : grid0.Coords) (v6 : BitVec 32) (v28 : BitVec 32) (v36 : BitVec 32) (k0_hw4 : k0_chk4 i v6 v28 v36), ∀ (k0_h2 : k0_cond2 v6 = 1#1), ∀ (k0_h3 : k0_cond3 i v28 = 1#1), ∀ a, (k0_off8 i v28 v36) a + S1x2048x2048.size a ≤ S32x2048x4096.size a := fun i v6 v28 v36 k0_hw4 k0_h2 k0_h3 => k0_hw4 k0_h2 k0_h3

def k0_cond4 (i : grid0.Coords) (v10 : BitVec 32) : BitVec 1 :=
  let arg1 : BitVec 32 := BitVec.ofNat 32 (i 1).val
  let v11 : BitVec 1 := Scalar.cmpi .slt arg1 v10
  let v12 : BitVec 32 := Scalar.extui v11
  let c0_i32_3 : BitVec 32 := 0#32
  let v13 : BitVec 1 := Scalar.cmpi .ne v12 c0_i32_3
  v13

def k0_cond5 (i : grid0.Coords) (v14 : BitVec 32) : BitVec 1 :=
  let arg1 : BitVec 32 := BitVec.ofNat 32 (i 1).val
  let v15 : BitVec 1 := Scalar.cmpi .sge arg1 v14
  let v16 : BitVec 32 := Scalar.extui v15
  let c0_i32_5 : BitVec 32 := 0#32
  let v17 : BitVec 1 := Scalar.cmpi .ne v16 c0_i32_5
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 4 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S160 : Shape := ⟨1, ![160]⟩
abbrev S1 : Shape := ⟨1, ![1]⟩
abbrev S81920x2048 : Shape := ⟨2, ![81920, 2048]⟩
abbrev S32x2048x4096 : Shape := ⟨3, ![32, 2048, 4096]⟩
abbrev S32x4096 : Shape := ⟨2, ![32, 4096]⟩
abbrev S160x512x2048 : Shape := ⟨3, ![160, 512, 2048]⟩
abbrev S_ : Shape := ⟨0, ![]⟩
abbrev S160x1 : Shape := ⟨2, ![160, 1]⟩
abbrev S160x2048x4096 : Shape := ⟨3, ![160, 2048, 4096]⟩
abbrev S160x512x4096 : Shape := ⟨3, ![160, 512, 4096]⟩
abbrev S160x4096 : Shape := ⟨2, ![160, 4096]⟩
abbrev S160x1x4096 : Shape := ⟨3, ![160, 1, 4096]⟩
abbrev S160x1x1 : Shape := ⟨3, ![160, 1, 1]⟩
abbrev S81920x4096 : Shape := ⟨2, ![81920, 4096]⟩

abbrev nBuf : Space → Nat
  | .hbm => 43
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S160, .i32⟩
  | .hbm, ⟨3, _⟩ => ⟨S160, .i32⟩
  | .hbm, ⟨4, _⟩ => ⟨S1, .i32⟩
  | .hbm, ⟨5, _⟩ => ⟨S81920x2048, .f32⟩
  | .hbm, ⟨6, _⟩ => ⟨S32x2048x4096, .f32⟩
  | .hbm, ⟨7, _⟩ => ⟨S32x4096, .f32⟩
  | .hbm, ⟨8, _⟩ => ⟨S160x512x2048, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x2048x4096, .f32⟩
  | .hbm, ⟨18, _⟩ => ⟨S160x512x4096, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x4096, .f32⟩
  | .hbm, ⟨28, _⟩ => ⟨S160x1x4096, .f32⟩
  | .hbm, ⟨29, _⟩ => ⟨S160x512x4096, .f32⟩
  | .hbm, ⟨30, _⟩ => ⟨S160x512x4096, .f32⟩
  | .hbm, ⟨31, _⟩ => ⟨S160, .i32⟩
  | .hbm, ⟨32, _⟩ => ⟨S_, .i32⟩
  | .hbm, ⟨33, _⟩ => ⟨S160, .i32⟩
  | .hbm, ⟨34, _⟩ => ⟨S160, .i1⟩
  | .hbm, ⟨35, _⟩ => ⟨S160x1x1, .i1⟩
  | .hbm, ⟨36, _⟩ => ⟨S_, .f32⟩
  | .hbm, ⟨37, _⟩ => ⟨S_, .f32⟩
  | .hbm, ⟨38, _⟩ => ⟨S160x512x4096, .i1⟩
  | .hbm, ⟨39, _⟩ => ⟨S160x512x4096, .f32⟩
  | .hbm, ⟨40, _⟩ => ⟨S160x512x4096, .f32⟩
  | .hbm, ⟨41, _⟩ => ⟨S81920x4096, .f32⟩
  | .hbm, ⟨42, _⟩ => ⟨S81920x4096, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== KernelSmall.lean ====
abbrev S16384x4096 : Shape := ⟨2, ![16384, 4096]⟩
abbrev S4096x18048 : Shape := ⟨2, ![4096, 18048]⟩
abbrev S4096x64 : Shape := ⟨2, ![4096, 64]⟩
abbrev S4096x32 : Shape := ⟨2, ![4096, 32]⟩
abbrev S4096x1536 : Shape := ⟨2, ![4096, 1536]⟩
abbrev S_ : Shape := ⟨0, ![]⟩
abbrev S4096x192 : Shape := ⟨2, ![4096, 192]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x18048, .f32⟩
  | .hbm, ⟨2, _⟩ => ⟨S4096x64, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S4096x64, .f32⟩
  | .hbm, ⟨7, _⟩ => ⟨S4096x1536, .f32⟩
  | .hbm, ⟨8, _⟩ => ⟨S4096x64, .f32⟩
  | .hbm, ⟨9, _⟩ => ⟨S_, .f32⟩
  | .hbm, ⟨10, _⟩ => ⟨S4096x192, .f32⟩
  | .hbm, ⟨11, _⟩ => ⟨S4096x2048, .f32⟩
  | .hbm, ⟨12, _⟩ => ⟨S4096x2048, .bf16⟩
  | .hbm, ⟨13, _⟩ => ⟨S16384x4096, .bf16⟩
  | .hbm, ⟨14, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSmallIdeal.lean ====
abbrev S16384x4096 : Shape := ⟨2, ![16384, 4096]⟩
abbrev S4096x18048 : Shape := ⟨2, ![4096, 18048]⟩
abbrev S16384x18048 : Shape := ⟨2, ![16384, 18048]⟩
abbrev S16384x1024 : Shape := ⟨2, ![16384, 1024]⟩
abbrev S16384x512 : Shape := ⟨2, ![16384, 512]⟩
abbrev S16384x64 : Shape := ⟨2, ![16384, 64]⟩
abbrev S16384x6144 : Shape := ⟨2, ![16384, 6144]⟩
abbrev S16384x2048 : Shape := ⟨2, ![16384, 2048]⟩
abbrev S16384x32 : Shape := ⟨2, ![16384, 32]⟩
abbrev S_ : Shape := ⟨0, ![]⟩
abbrev S16384x192 : Shape := ⟨2, ![16384, 192]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x18048, .f32⟩
  | .hbm, ⟨2, _⟩ => ⟨S16384x18048, .f32⟩
  | .hbm, ⟨3, _⟩ => ⟨S16384x1024, .f32⟩
  | .hbm, ⟨4, _⟩ => ⟨S16384x512, .f32⟩
  | .hbm, ⟨5, _⟩ => ⟨S16384x64, .f32⟩
  | .hbm, ⟨6, _⟩ => ⟨S16384x6144, .f32⟩
  | .hbm, ⟨7, _⟩ => ⟨S16384x2048, .f32⟩
  | .hbm, ⟨8, _⟩ => ⟨S16384x64, .f32⟩
  | .hbm, ⟨9, _⟩ => ⟨S16384x4096, .f32⟩
  | .hbm, ⟨10, _⟩ => ⟨S16384x4096, .f32⟩
  | .hbm, ⟨11, _⟩ => ⟨S16384x32, .f32⟩
  | .hbm, ⟨12, _⟩ => ⟨S16384x32, .f32⟩
  | .hbm, ⟨13, _⟩ => ⟨S16384x32, .f32⟩
  | .hbm, ⟨14, _⟩ => ⟨S16384x64, .f32⟩
  | .hbm, ⟨15, _⟩ => ⟨S_, .f32⟩
  | .hbm, ⟨16, _⟩ => ⟨S16384x192, .f32⟩
  | .hbm, ⟨17, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== KernelKv.lean ====
abbrev S16384x2048 : Shape := ⟨2, ![16384, 2048]⟩
abbrev S512 : Shape := ⟨1, ![512]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S1x512 : Shape := ⟨2, ![1, 512]⟩
abbrev S16384x4096 : Shape := ⟨2, ![16384, 4096]⟩
abbrev S1024x512 : Shape := ⟨2, ![1024, 512]⟩
abbrev S512x1024 : Shape := ⟨2, ![512, 1024]⟩
abbrev S1024x1024 : Shape := ⟨2, ![1024, 1024]⟩
abbrev S32x512 : Shape := ⟨2, ![32, 512]⟩
abbrev S32 : Shape := ⟨1, ![32]⟩
abbrev S32x1 : Shape := ⟨2, ![32, 1]⟩

abbrev nBuf : Space → Nat
  | .hbm => 12
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S512, .f32⟩
  | .hbm, ⟨2, _⟩ => ⟨S512x4096, .f32⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x16x128, .f32⟩
  | .hbm, ⟨7, _⟩ => ⟨S512x2048, .f32⟩
  | .hbm, ⟨8, _⟩ => ⟨S512x4096, .f32⟩
  | .hbm, ⟨9, _⟩ => ⟨S512x4096, .bf16⟩
  | .hbm, ⟨10, _⟩ => ⟨S1x512, .f32⟩
  | .hbm, ⟨11, _⟩ => ⟨S16384x4096, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c32_i32 : BitVec 32 := 32#32
  let v9 : BitVec 32 := Scalar.addi c0_i32_6 c32_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c32_i32_8 : BitVec 32 := 32#32
  let v10 : BitVec 32 := Scalar.muli arg7 c32_i32_8
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c32_i32_8 : BitVec 32 := 32#32
  let v10 : BitVec 32 := Scalar.muli arg7 c32_i32_8
  let v11 : BitVec 32 := v10
  let v12 : Index := Scalar.indexCast v11
  let c0_9 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKvIdeal.lean ====
abbrev S16384x2048 : Shape := ⟨2, ![16384, 2048]⟩
abbrev S512 : Shape := ⟨1, ![512]⟩
abbrev S512x4096 : Shape := ⟨2, ![512, 4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x4096 : Shape := ⟨2, ![16384, 4096]⟩
abbrev S16384x16x256 : Shape := ⟨3, ![16384, 16, 256]⟩
abbrev S16384x16x128 : Shape := ⟨3, ![16384, 16, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S512, .f32⟩
  | .hbm, ⟨2, _⟩ => ⟨S512x4096, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S16384x4096, .f32⟩
  | .hbm, ⟨21, _⟩ => ⟨S16384x16x256, .f32⟩
  | .hbm, ⟨22, _⟩ => ⟨S16384x16x128, .f32⟩
  | .hbm, ⟨23, _⟩ => ⟨S16384x16x128, .f32⟩
  | .hbm, ⟨24, _⟩ => ⟨S16384x2048, .f32⟩
  | .hbm, ⟨25, _⟩ => ⟨S16384x2048, .f32⟩
  | .hbm, ⟨26, _⟩ => ⟨S16384x4096, .f32⟩
  | .hbm, ⟨27, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelQ.lean ====
abbrev S16384x2048 : Shape := ⟨2, ![16384, 2048]⟩
abbrev S1024 : Shape := ⟨1, ![1024]⟩
abbrev S1024x3072 : Shape := ⟨2, ![1024, 3072]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x16x32 : Shape := ⟨3, ![1024, 16, 32]⟩
abbrev S1024x16x256 : Shape := ⟨3, ![1024, 16, 256]⟩
abbrev S1024x4096 : Shape := ⟨2, ![1024, 4096]⟩
abbrev S1x1024 : Shape := ⟨2, ![1, 1024]⟩
abbrev S16384x4096 : Shape := ⟨2, ![16384, 4096]⟩
abbrev S1024x1024 : Shape := ⟨2, ![1024, 1024]⟩
abbrev S32x1024 : Shape := ⟨2, ![32, 1024]⟩
abbrev S32 : Shape := ⟨1, ![32]⟩
abbrev S32x1 : Shape := ⟨2, ![32, 1]⟩

abbrev nBuf : Space → Nat
  | .hbm => 15
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1024, .f32⟩
  | .hbm, ⟨2, _⟩ => ⟨S1024x3072, .f32⟩
  | .hbm, ⟨3, _⟩ => ⟨S1024x16x192, .f32⟩
  | .hbm, ⟨4, _⟩ => ⟨S1024x16x64, .f32⟩
  | .hbm, ⟨5, _⟩ => ⟨S1024x16x128, .f32⟩
  | .hbm, ⟨6, _⟩ => ⟨S1024x16x32, .f32⟩
  | .hbm, ⟨7, _⟩ => ⟨S1024x16x32, .f32⟩
  | .hbm, ⟨8, _⟩ => ⟨S1024x16x32, .f32⟩
  | .hbm, ⟨9, _⟩ => ⟨S1024x16x64, .f32⟩
  | .hbm, ⟨10, _⟩ => ⟨S1024x16x256, .f32⟩
  | .hbm, ⟨11, _⟩ => ⟨S1024x4096, .f32⟩
  | .hbm, ⟨12, _⟩ => ⟨S1024x4096, .bf16⟩
  | .hbm, ⟨13, _⟩ => ⟨S1x1024, .f32⟩
  | .hbm, ⟨14, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c32_i32 : BitVec 32 := 32#32
  let v9 : BitVec 32 := Scalar.addi c0_i32_6 c32_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c32_i32_8 : BitVec 32 := 32#32
  let v10 : BitVec 32 := Scalar.muli arg7 c32_i32_8
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c32_i32_8 : BitVec 32 := 32#32
  let v10 : BitVec 32 := Scalar.muli arg7 c32_i32_8
  let v11 : BitVec 32 := v10
  let v12 : Index := Scalar.indexCast v11
  let c0_9 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQIdeal.lean ====
abbrev S16384x2048 : Shape := ⟨2, ![16384, 2048]⟩
abbrev S1024 : Shape := ⟨1, ![1024]⟩
abbrev S1024x3072 : Shape := ⟨2, ![1024, 3072]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x16x192 : Shape := ⟨3, ![16384, 16, 192]⟩
abbrev S16384x16x64 : Shape := ⟨3, ![16384, 16, 64]⟩
abbrev S16384x16x32 : Shape := ⟨3, ![16384, 16, 32]⟩
abbrev S16384x16x128 : Shape := ⟨3, ![16384, 16, 128]⟩
abbrev S16384x16x256 : Shape := ⟨3, ![16384, 16, 256]⟩
abbrev S16384x4096 : Shape := ⟨2, ![16384, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3072, .f32⟩
  | .hbm, ⟨21, _⟩ => ⟨S16384x16x192, .f32⟩
  | .hbm, ⟨22, _⟩ => ⟨S16384x16x64, .f32⟩
  | .hbm, ⟨23, _⟩ => ⟨S16384x16x32, .f32⟩
  | .hbm, ⟨24, _⟩ => ⟨S16384x16x32, .f32⟩
  | .hbm, ⟨25, _⟩ => ⟨S16384x16x32, .f32⟩
  | .hbm, ⟨26, _⟩ => ⟨S16384x16x64, .f32⟩
  | .hbm, ⟨27, _⟩ => ⟨S16384x16x128, .f32⟩
  | .hbm, ⟨28, _⟩ => ⟨S16384x16x256, .f32⟩
  | .hbm, ⟨29, _⟩ => ⟨S16384x4096, .f32⟩
  | .hbm, ⟨30, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S32x4096 : Shape := ⟨2, ![32, 4096]⟩
abbrev S32 : Shape := ⟨1, ![32]⟩
abbrev S32x1 : Shape := ⟨2, ![32, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32 : BitVec 32 := 32#32
  let v1 : BitVec 32 := Scalar.muli arg4 c32_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32 : BitVec 32 := 32#32
  let v1 : BitVec 32 := Scalar.muli arg4 c32_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelRope.lean ====
abbrev S16384 : Shape := ⟨1, ![16384]⟩
abbrev S16384x64 : Shape := ⟨2, ![16384, 64]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x1 : Shape := ⟨2, ![16384, 1]⟩
abbrev S16384x32 : Shape := ⟨2, ![16384, 32]⟩
abbrev S16384x1536 : Shape := ⟨2, ![16384, 1536]⟩
abbrev S16384x256 : Shape := ⟨2, ![16384, 256]⟩
abbrev S16384x2048 : Shape := ⟨2, ![16384, 2048]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 32
  | .vmem => 11
  | .smem => 0
  | _ => 0

abbrev bufTy : (tb : Table) → Fin (tcTables nBuf tb) → BufTy
  | .hbm, ⟨0, _⟩ => ⟨S16384, .i32⟩
  | .hbm, ⟨1, _⟩ => ⟨S16384x64, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S1x32, .f32⟩
  | .hbm, ⟨17, _⟩ => ⟨S4x32, .f32⟩
  | .hbm, ⟨18, _⟩ => ⟨S128, .f32⟩
  | .hbm, ⟨19, _⟩ => ⟨S1x128, .f32⟩
  | .hbm, ⟨20, _⟩ => ⟨S16384x1, .i32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x64, .f32⟩
  | .hbm, ⟨25, _⟩ => ⟨S_, .f32⟩
  | .hbm, ⟨26, _⟩ => ⟨S16384x1536, .f32⟩
  | .hbm, ⟨27, _⟩ => ⟨S_, .f32⟩
  | .hbm, ⟨28, _⟩ => ⟨S16384x256, .f32⟩
  | .hbm, ⟨29, _⟩ => ⟨S16384x2048, .f32⟩
  | .hbm, ⟨30, _⟩ => ⟨S16384x128, .bf16⟩
  | .hbm, ⟨31, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .bf16⟩
  | .local _ .vmem, ⟨8, _⟩ => ⟨S1024x128, .bf16⟩
  | .local _ .vmem, ⟨9, _⟩ => ⟨S1024x128, .f32⟩
  | .local _ .vmem, ⟨10, _⟩ => ⟨S1024x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelRopeIdeal.lean ====
variable {F : FTy → Type} [FloatOps F] [Named F]
def κ : String → Option EReal := fun
  | "qk_scale_log2" => some (((Real.sqrt 192)⁻¹ * (Real.log 2)⁻¹ : ℝ) : EReal)
  | _ => none
-- ==== ReferenceRopeIdeal.lean ====
abbrev S16384 : Shape := ⟨1, ![16384]⟩
abbrev S16384x64 : Shape := ⟨2, ![16384, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩

abbrev nBuf : Space → Nat
  | .hbm => 43
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x64, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x64, .f32⟩
  | .hbm, ⟨33, _⟩ => ⟨S16384x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .bf16⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.Head.lean ====
/- One row of one head of the attention kernel, read at an index: the scaled scores against the keys, their maximum,
   the powers of two, their sum, the weighted values and the quotient. -/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- The factor the kernel puts on the unrotated part of a query: the scale of the scores times the binary logarithm of e. -/
abbrev fac : EReal := (((Real.sqrt 192)⁻¹ * (Real.log 2)⁻¹ : ℝ) : EReal)

/-- The score of one query row against key `j`: the unrotated lanes, scaled, and the rotary lanes, each times its angle. -/
def score (qn qr cs : Fin 128 → EReal) (kn kr : Fin 4096 → Fin 128 → EReal) (j : Fin 4096) : EReal :=
  (∑ e, qn e * fac * kn j e) + ∑ e, qr e * cs e * kr j e

/-- The softmax in powers of two of the scores `s`, applied to the values `v`: the weighted sum first, then the quotient. -/
def soft2 (s v : Fin 4096 → EReal) : EReal :=
  Ideal.div (∑ j, Ideal.exp2 (s j - Finset.univ.fold max ⊥ s) * v j) (∑ j, Ideal.exp2 (s j - Finset.univ.fold max ⊥ s))

/-- The kernel's named constant is that factor. -/
theorem named_fac : (Named.named κ "qk_scale_log2" 0x3DD53B95#32 : Ideal .f32) = fac := rfl

/-- The word of the running maximum's start is minus infinity. -/
theorem bits_bot : Ideal.ofBits .f32 0xFF800000#32 = ⊥ := by
  show Ideal.ieee 8 23 0xFF800000#32 = ⊥
  simp [Ideal.ieee]

/-- The first head's store, at row `r` and lane `l`. -/
theorem pay_head0 (q : Vec Ideal S256x256 .bf16) (cs : Vec Ideal S256x128 .f32) (kc : Vec Ideal S1x4096x256 .bf16)
    (v : Vec Ideal S4096x128 .bf16) (r : Fin 256) (l : Fin 128) :
    k0_pay1 (k0_pay8 q cs kc) v (ix2 r l)
      = soft2 (score (fun e => q (ix2 r ⟨e.val, by omega⟩)) (fun e => q (ix2 r ⟨128 + e.val, by omega⟩)) (fun e => cs (ix2 r e))
          (fun j e => kc (ix3 0 j ⟨e.val, by omega⟩)) (fun j e => kc (ix3 0 j ⟨128 + e.val, by omega⟩))) (fun j => v (ix2 j l)) := by
  pointwise [k0_pay1, k0_pay8, soft2, score]
  rw [bits_bot, named_fac]
  rfl

/-- The second head's store, at row `r` and lane `l`. -/
theorem pay_head1 (q : Vec Ideal S256x256 .bf16) (cs : Vec Ideal S256x128 .f32) (kc : Vec Ideal S1x4096x256 .bf16)
    (v : Vec Ideal S4096x128 .bf16) (r : Fin 256) (l : Fin 128) :
    k0_pay2 (k0_pay7 q cs) (k0_pay9 kc) (constant S256x4096 .f32 0x00000000#32) v (ix2 r l)
      = soft2 (score (fun e => q (ix2 r ⟨e.val, by omega⟩)) (fun e => q (ix2 r ⟨128 + e.val, by omega⟩)) (fun e => cs (ix2 r e))
          (fun j e => kc (ix3 0 j ⟨e.val, by omega⟩)) (fun j e => kc (ix3 0 j ⟨128 + e.val, by omega⟩))) (fun j => v (ix2 j l)) := by
  pointwise [k0_pay2, k0_pay7, k0_pay9, soft2, score]
  rw [bits_bot, named_fac]
  rfl

end Cert.KernelIdeal.Attn

end
-- ==== Proof.Block.lean ====
/- One grid point of the attention kernel. What the key scratch holds after it, at an index: the unrotated keys of the
   point's two heads beside the rotary key, written by the first of the sixteen points of a run and carried by the others.
   What its output block holds, at an index: `soft2` of the point's scores. -/
module

public import proofs.«01_k».proof.Proof.Head
public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The keys of point `t`'s two heads, at plane `a`, token `j` and lane `e`: the unrotated part of the head, then the
    rotary part that all heads share. -/
def keys (c : Dev nD) (t : Fin cfg0.N) : S2x4096x256.Idx → EReal := fun y =>
  if h : (y 2).val < 128 then iblk m c 2 t (ix2 (y 1) ⟨(y 0).val * 128 + (y 2).val, by have := (y 0).isLt; change _ < 2 at this; omega⟩)
  else iblk m c 3 t (ix2 (y 1) ⟨(y 2).val - 128, by have := (y 2).isLt; change _ < 256 at this; omega⟩)

/-- The four stores of a run's first point, the last first. -/
abbrev stores (c : Dev nD) (t : Fin cfg0.N) : List (View.Piece (Elt Ideal) S2x4096x256 .bf16) :=
  [⟨Rect.unit ![1, 0, 128] ![1, 4096, 128] inb_S2x4096x256_S1x4096x128_1_0_128, k0_pay6 (iblk m c 3 t)⟩,
    ⟨Rect.unit ![1, 0, 0] ![1, 4096, 128] inb_S2x4096x256_S1x4096x128_1_0_0,
      k0_pay5 (View.ld (iblk m c 2 t) (Rect.unit ![0, 128] ![4096, 128] inb_S4096x256_S4096x128_0_128))⟩,
    ⟨Rect.unit ![0, 0, 128] ![1, 4096, 128] inb_S2x4096x256_S1x4096x128_0_0_128, k0_pay4 (iblk m c 3 t)⟩,
    ⟨Rect.unit ![0, 0, 0] ![1, 4096, 128] inb_S2x4096x256_S1x4096x128_0_0_0,
      k0_pay3 (View.ld (iblk m c 2 t) (Rect.unit ![0, 0] ![4096, 128] inb_S4096x256_S4096x128_0_0))⟩]

/-- They leave the keys. -/
theorem stores_eq (c : Dev nD) (t : Fin cfg0.N) (y : S2x4096x256.Idx) : View.canon (stores m c t) y = keys m c t y := by
  unfold stores
  canon_tiles x h
  · pointwise [k0_pay6, keys]
    rw [dif_neg (by omega)]
    blk_ext
  · pointwise [k0_pay5, keys]
    rw [dif_pos (by omega)]
    blk_ext
  · pointwise [k0_pay4, keys]
    rw [dif_neg (by omega)]
    blk_ext
  · pointwise [k0_pay3, keys]
    rw [dif_pos (by omega)]
    blk_ext

/-- The blocks of a point, decided over the grid: batch, pair of heads, block of query rows. -/
theorem idx (t : Fin cfg0.N) :
    win0_0.index t = ![t.val / 128 * 16 + t.val % 16, t.val / 16 % 8] ∧ win0_1.index t = ![t.val / 128 * 16 + t.val % 16, 0]
      ∧ win0_2.index t = ![t.val / 128, t.val / 16 % 8] ∧ win0_3.index t = ![t.val / 128, 0]
      ∧ win0_4.index t = ![t.val / 128, 8 + t.val / 16 % 8] ∧ win0_5.index t = ![t.val / 128 * 16 + t.val % 16, t.val / 16 % 8] := by
  revert t
  decide +kernel

/-- The keys depend on the batch and the pair of heads alone. -/
theorem keys_run (c : Dev nD) (t u : Fin cfg0.N) (h : t.val / 16 = u.val / 16) : keys m c t = keys m c u := by
  have h1 : t.val / 128 = u.val / 128 := by omega
  funext y
  unfold keys
  split
  · blk_ext [iblk, (idx t).2.2.1, (idx u).2.2.1, h1, h]
  · blk_ext [iblk, (idx t).2.2.2.1, (idx u).2.2.2.1, h1]

/-- After every point the scratch holds the keys of the point's two heads. -/
theorem scratch_eq (c : Dev nD) (t : Fin cfg0.N) : (outsAt0 m c t.val t.isLt).2 = keys m c t := by
  have e := Pipeline.eq_of_write_hold (fun n h => (outsAt0 m c n h).2) 16 (keys m c)
    (fun t h => by
      funext y
      rw [outsAt0_A m c t h]
      frame_out
      exact stores_eq m c t y)
    (fun t h => by rw [outsAt0_B m c t h]; rfl) t
  rw [e]
  exact keys_run m c _ _ (by show 16 * (t.val / 16) / 16 = _; omega)

/-- The value of head `a` of point `t`'s pair at row `r` and lane `l`. -/
def headOf (c : Dev nD) (t : Fin cfg0.N) (a : Fin 2) (r : Fin 256) (l : Fin 128) : EReal :=
  soft2 (score (fun e => iblk m c 0 t (ix2 r ⟨a.val * 256 + e.val, by omega⟩))
      (fun e => iblk m c 0 t (ix2 r ⟨a.val * 256 + (128 + e.val), by omega⟩)) (fun e => iblk m c 1 t (ix2 r e))
      (fun j e => keys m c t (ix3 a j ⟨e.val, by omega⟩)) (fun j e => keys m c t (ix3 a j ⟨128 + e.val, by omega⟩)))
    (fun j => iblk m c 4 t (ix2 j ⟨a.val * 128 + l.val, by omega⟩))

/-- The two stores of a point, over a scratch that holds `K`. -/
abbrev outs (c : Dev nD) (t : Fin cfg0.N) (K : Vec Ideal S2x4096x256 .bf16) : List (View.Piece (Elt Ideal) S256x256 .bf16) :=
  [⟨Rect.unit ![0, 128] ![256, 128] inb_S256x256_S256x128_0_128,
      k0_pay2
        (k0_pay7 (View.ld (iblk m c 0 t) (Rect.unit ![0, 256] ![256, 256] inb_S256x512_S256x256_0_256)) (iblk m c 1 t))
        (k0_pay9 (View.ld K (Rect.unit ![1, 0, 0] ![1, 4096, 256] inb_S2x4096x256_S1x4096x256_1_0_0)))
        (constant S256x4096 FTy.f32 0#32)
        (View.ld (iblk m c 4 t) (Rect.unit ![0, 128] ![4096, 128] inb_S4096x256_S4096x128_0_128))⟩,
    ⟨Rect.unit ![0, 0] ![256, 128] inb_S256x256_S256x128_0_0,
      k0_pay1
        (k0_pay8 (View.ld (iblk m c 0 t) (Rect.unit ![0, 0] ![256, 256] inb_S256x512_S256x256_0_0)) (iblk m c 1 t)
          (View.ld K (Rect.unit ![0, 0, 0] ![1, 4096, 256] inb_S2x4096x256_S1x4096x256_0_0_0)))
        (View.ld (iblk m c 4 t) (Rect.unit ![0, 0] ![4096, 128] inb_S4096x256_S4096x128_0_0))⟩]

/-- At every point the output block is those two stores over the keys. -/
theorem block_eq (c : Dev nD) (t : Fin cfg0.N) : (outsAt0 m c t.val t.isLt).1 = View.canon (outs m c t (keys m c t)) := by
  by_cases h : t.val % 16 = 0
  · have hs : View.canon (stores m c t) = keys m c t := funext (stores_eq m c t)
    rw [outsAt0_A m c t h]
    frame_out
    simp only [View.readCov_eq_canon']
    rw [← hs]
    rfl
  · have hk : (outsAt0 m c (t.val - 1) (Nat.lt_of_le_of_lt (Nat.sub_le _ _) t.isLt)).2 = keys m c t :=
      (scratch_eq m c ⟨t.val - 1, Nat.lt_of_le_of_lt (Nat.sub_le _ _) t.isLt⟩).trans
        (keys_run m c _ _ (by show (t.val - 1) / 16 = _; omega))
    rw [outsAt0_B m c t h]
    frame_out
    simp only [read_unread_whole]
    rw [hk]
    rfl

/-- The output block at an index. -/
theorem block_apply (c : Dev nD) (t : Fin cfg0.N) (y : S256x256.Idx) (a : Fin 2) (l : Fin 128) (h : (y 1).val = a.val * 128 + l.val) :
    (outsAt0 m c t.val t.isLt).1 y = headOf m c t a (y 0) l := by
  rw [block_eq]
  unfold outs
  canon_tiles x hx
  · have ha : a = 1 := by omega
    have hl : l = (x 1 : Fin 128) := Fin.ext (by show l.val = (x 1).val; omega)
    have hr : (y 0 : Fin 256) = (x 0 : Fin 256) := Fin.ext (by show (y 0).val = (x 0).val; omega)
    rw [eq_ix2 x, ha, hl, hr]
    refine (pay_head1 _ _ _ _ _ _).trans ?_
    unfold headOf
    pointwise
  · have ha : a = 0 := by omega
    have hl : l = (x 1 : Fin 128) := Fin.ext (by show l.val = (x 1).val; omega)
    have hr : (y 0 : Fin 256) = (x 0 : Fin 256) := Fin.ext (by show (y 0).val = (x 0).val; omega)
    rw [eq_ix2 x, ha, hl, hr]
    refine (pay_head0 _ _ _ _ _ _).trans ?_
    unfold headOf
    pointwise

end Cert.KernelIdeal.Attn

end
-- ==== Proof.Array.lean ====
/- The attention kernel's result array after the run, at an index, over the arrays that its windows read. -/
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe Idealize.SL.Sem

/-- Attention over whole arrays: queries `Q` (per head 128 unrotated lanes, then 128 rotary lanes), angles `A`, unrotated
    keys and values `KV`, rotary keys `KR`, at a token and an output column (head and lane). -/
def attn (Q : S16384x4096.Idx → EReal) (A : S16384x128.Idx → EReal) (KV : S16384x4096.Idx → EReal)
    (KR : S16384x128.Idx → EReal) (r : Fin 16384) (hd : Fin 16) (l : Fin 128) : EReal :=
  soft2 (score (fun e => Q (ix2 r ⟨hd.val * 256 + e.val, by omega⟩)) (fun e => Q (ix2 r ⟨hd.val * 256 + (128 + e.val), by omega⟩))
      (fun e => A (ix2 r e)) (fun j e => KV (ix2 ⟨r.val / 4096 * 4096 + j.val, by omega⟩ ⟨hd.val * 128 + e.val, by omega⟩))
      (fun j e => KR (ix2 ⟨r.val / 4096 * 4096 + j.val, by omega⟩ e)))
    (fun j => KV (ix2 ⟨r.val / 4096 * 4096 + j.val, by omega⟩ ⟨2048 + (hd.val * 128 + l.val), by omega⟩))

variable (m : (ℓ : Loc nD τ sig) → Buf (Elt Ideal) ℓ)

/-- Equal rows, keys and values give equal heads. -/
theorem head_congr {qn qn' qr qr' cs cs' : Fin 128 → EReal} {kn kn' kr kr' : Fin 4096 → Fin 128 → EReal} {v v' : Fin 4096 → EReal}
    (h1 : ∀ e, qn e = qn' e) (h2 : ∀ e, qr e = qr' e) (h3 : ∀ e, cs e = cs' e) (h4 : ∀ j e, kn j e = kn' j e)
    (h5 : ∀ j e, kr j e = kr' j e) (h6 : ∀ j, v j = v' j) : soft2 (score qn qr cs kn kr) v = soft2 (score qn' qr' cs' kn' kr') v' := by
  obtain rfl := funext h1
  obtain rfl := funext h2
  obtain rfl := funext h3
  obtain rfl : kn = kn' := funext fun j => funext (h4 j)
  obtain rfl : kr = kr' := funext fun j => funext (h5 j)
  obtain rfl := funext h6
  rfl

theorem keys_lo (c : Dev nD) (t : Fin cfg0.N) (a : Fin 2) (j : Fin 4096) (e : Fin 128) :
    keys m c t (ix3 a j ⟨e.val, by omega⟩) = iblk m c 2 t (ix2 j ⟨a.val * 128 + e.val, by omega⟩) := dif_pos e.isLt

theorem keys_hi (c : Dev nD) (t : Fin cfg0.N) (a : Fin 2) (j : Fin 4096) (e : Fin 128) :
    keys m c t (ix3 a j ⟨128 + e.val, by omega⟩) = iblk m c 3 t (ix2 j e) := by
  refine (dif_neg (by show ¬ 128 + e.val < 128; omega)).trans ?_
  blk_ext

theorem read0 (c : Dev nD) (t : Fin cfg0.N) (y : Fin 256) (e : Fin 512) (r : Fin 16384) (k : Fin 4096)
    (hr : r.val = (t.val / 128 * 16 + t.val % 16) * 256 + y.val) (hk : k.val = t.val / 16 % 8 * 512 + e.val) :
    iblk m c 0 t (ix2 y e) = V m c main_v16 (ix2 r k) := by
  blk_ext [iblk, (idx t).1]

theorem read1 (c : Dev nD) (t : Fin cfg0.N) (y : Fin 256) (e : Fin 128) (r : Fin 16384)
    (hr : r.val = (t.val / 128 * 16 + t.val % 16) * 256 + y.val) :
    iblk m c 1 t (ix2 y e) = V m c main_v14 (ix2 r e) := by
  blk_ext [iblk, (idx t).2.1]

theorem read2 (c : Dev nD) (t : Fin cfg0.N) (y : Fin 4096) (e : Fin 256) (r : Fin 16384) (k : Fin 4096)
    (hr : r.val = t.val / 128 * 4096 + y.val) (hk : k.val = t.val / 16 % 8 * 256 + e.val) :
    iblk m c 2 t (ix2 y e) = V m c main_v17 (ix2 r k) := by
  blk_ext [iblk, (idx t).2.2.1]

theorem read3 (c : Dev nD) (t : Fin cfg0.N) (y : Fin 4096) (e : Fin 128) (r : Fin 16384)
    (hr : r.val = t.val / 128 * 4096 + y.val) :
    iblk m c 3 t (ix2 y e) = V m c main_v18 (ix2 r e) := by
  blk_ext [iblk, (idx t).2.2.2.1]

theorem read4 (c : Dev nD) (t : Fin cfg0.N) (y : Fin 4096) (e : Fin 256) (r : Fin 16384) (k : Fin 4096)
    (hr : r.val = t.val / 128 * 4096 + y.val) (hk : k.val = (8 + t.val / 16 % 8) * 256 + e.val) :
    iblk m c 4 t (ix2 y e) = V m c main_v17 (ix2 r k) := by
  blk_ext [iblk, (idx t).2.2.2.2.1]

/-- A head of a grid point, over the arrays. -/
theorem headOf_eq (c : Dev nD) (t : Fin cfg0.N) (a : Fin 2) (y : Fin 256) (l : Fin 128) (r : Fin 16384) (hd : Fin 16)
    (hr : r.val = (t.val / 128 * 16 + t.val % 16) * 256 + y.val) (hh : hd.val = t.val / 16 % 8 * 2 + a.val) :
    headOf m c t a y l = attn (V m c main_v16) (V m c main_v14) (V m c main_v17) (V m c main_v18) r hd l := by
  have hb : r.val / 4096 = t.val / 128 := by omega
  unfold headOf attn
  refine head_congr (fun e => ?_) (fun e => ?_) (fun e => ?_) (fun j e => ?_) (fun j e => ?_) (fun j => ?_)
  · exact read0 m c t _ _ _ _ hr (by show hd.val * 256 + e.val = _ + (a.val * 256 + e.val); omega)
  · exact read0 m c t _ _ _ _ hr (by show hd.val * 256 + (128 + e.val) = _ + (a.val * 256 + (128 + e.val)); omega)
  · exact read1 m c t _ _ _ hr
  · exact (keys_lo m c t a j e).trans (read2 m c t _ _ _ _ (by show r.val / 4096 * 4096 + j.val = _; omega)
      (by show hd.val * 128 + e.val = _ + (a.val * 128 + e.val); omega))
  · exact (keys_hi m c t a j e).trans (read3 m c t _ _ _ (by show r.val / 4096 * 4096 + j.val = _; omega))
  · exact read4 m c t _ _ _ _ (by show r.val / 4096 * 4096 + j.val = _; omega)
      (by show 2048 + (hd.val * 128 + l.val) = _ + (a.val * 128 + l.val); omega)

/-- The result array after the run. -/
theorem result_eq (c : Dev nD) : (dats m 0 c).arrAt 5 cfg0.N = fun i : S16384x2048.Idx =>
    attn (V m c main_v16) (V m c main_v14) (V m c main_v17) (V m c main_v18)
      (i 0) ⟨(i 1).val / 128, by have := (i 1).isLt; change _ < 2048 at this; omega⟩ ⟨(i 1).val % 128, by omega⟩ := by
  refine (dats m 0 c).arrAt_eq_of_covers 5 _ (by decide +kernel) fun t hf y => ?_
  have i5 := (idx t).2.2.2.2.2
  have hy1 : (y 1).val < 256 := (y 1).isLt
  have hy0 : (y 0).val < 256 := (y 0).isLt
  have ht : t.val < 512 := t.isLt
  have e1 : ((((cfg0.win 5).blk t).view.emb y) 1).val = t.val / 16 % 8 * 256 + (y 1).val := by blk_simp [i5]
  have e0 : ((((cfg0.win 5).blk t).view.emb y) 0).val = (t.val / 128 * 16 + t.val % 16) * 256 + (y 0).val := by blk_simp [i5]
  have hv : (dats m 0 c).after 5 t = (outsAt0 m c t.val t.isLt).1 := after0_5 m c t
  refine Eq.trans (b := headOf m c t ⟨(y 1).val / 128, by omega⟩ (y 0) ⟨(y 1).val % 128, by omega⟩) ?_ ?_
  · blk_simp
    rw [hv]
    exact block_apply m c t _ _ _ (by show (y 1).val = (y 1).val / 128 * 128 + (y 1).val % 128; omega)
  · refine (headOf_eq m c t _ _ _ _ ⟨t.val / 16 % 8 * 2 + (y 1).val / 128, by omega⟩ e0 rfl).trans ?_
    congr 1
    · apply Fin.ext; show t.val / 16 % 8 * 2 + (y 1).val / 128 = ((((cfg0.win 5).blk t).view.emb y) 1).val / 128; omega
    · apply Fin.ext; show (y 1).val % 128 = ((((cfg0.win 5).blk t).view.emb y) 1).val % 128; omega

end Cert.KernelIdeal.Attn

end
-- ==== Proof.Entry.lean ====
/- The arrays that the attention kernel's windows read, at an index, over the arguments: the queries with their rotary
   lanes twice (as they are, then turned by a quarter), the scaled angles, the keys and values, the rotary key twice. -/
module

public import proofs.«01_k».proof.Proof.Array

@[expose] public section

set_option maxRecDepth 16384

noncomputable section

namespace Cert.KernelIdeal.Attn

open Cert.KernelIdeal Cert.KernelIdeal.Gen Idealize.ShloMosaic Idealize.ShloMosaic.TcCoe Idealize.SL.Sem

/-- The rotary lanes of the queries, by token and head. -/
def rope (Q : FVec Ideal S16384x3072 .f32) : FVec Ideal S16384x16x64 .f32 :=
  extractStridedSlice S16384x16x64 ![0, 0, 128] (shapeCast S16384x16x192 Q shapeCasts_S16384x3072_S16384x16x192) slices_S16384x16x192_S16384x16x64_0_0_128

/-- The second half of the rotary lanes, with the sign turned. -/
def negSecond (Q : FVec Ideal S16384x3072 .f32) : FVec Ideal S16384x16x32 .f32 :=
  Host.negf (extractStridedSlice S16384x16x32 ![0, 0, 32] (rope Q) slices_S16384x16x64_S16384x16x32_0_0_32)

/-- The first half of the rotary lanes. -/
def first (Q : FVec Ideal S16384x3072 .f32) : FVec Ideal S16384x16x32 .f32 :=
  extractStridedSlice S16384x16x32 ![0, 0, 0] (rope Q) slices_S16384x16x64_S16384x16x32_0_0_0

/-- The rotary lanes turned by a quarter. -/
def rot (Q : FVec Ideal S16384x3072 .f32) : FVec Ideal S16384x16x64 .f32 :=
  concatenate S16384x16x64 2 [⟨S16384x16x32, negSecond Q⟩, ⟨S16384x16x32, first Q⟩] concatenates_S16384x16x32_S16384x16x32_S16384x16x64_d2

/-- The unrotated lanes. -/
def nope (Q : FVec Ideal S16384x3072 .f32) : FVec Ideal S16384x16x128 .f32 :=
  extractStridedSlice S16384x16x128 ![0, 0, 0] (shapeCast S16384x16x192 Q shapeCasts_S16384x3072_S16384x16x192) slices_S16384x16x192_S16384x16x128_0_0_0

/-- The three side by side. -/
def qcat (Q : FVec Ideal S16384x3072 .f32) : FVec Ideal S16384x16x256 .f32 :=
  concatenate S16384x16x256 2 [⟨S16384x16x128, nope Q⟩, ⟨S16384x16x64, rope Q⟩, ⟨S16384x16x64, rot Q⟩] concatenates_S16384x16x128_S16384x16x64_S16384x16x64_S16384x16x256_d2

/-- … by token and column. -/
def qflat (Q : FVec Ideal S16384x3072 .f32) : FVec Ideal S16384x4096 .bf16 :=
  truncf .bf16 (shapeCast S16384x4096 (qcat Q) shapeCasts_S16384x16x256_S16384x4096) bitsLt_bf16_f32

theorem qcat_nope (Q : FVec Ideal S16384x3072 .f32) (r : Fin 16384) (hd : Fin 16) (e : Fin 128) :
    qcat Q (ix3 r hd ⟨e.val, by omega⟩) = Q (ix2 r ⟨hd.val * 192 + e.val, by omega⟩) := by
  unfold qcat
  pointwise [nope]

theorem qcat_0 (Q : FVec Ideal S16384x3072 .f32) (r : Fin 16384) (hd : Fin 16) (e : Fin 32) :
    qcat Q (ix3 r hd ⟨128 + e.val, by omega⟩) = Q (ix2 r ⟨hd.val * 192 + (128 + e.val), by omega⟩) := by
  unfold qcat
  pointwise [rope]
  rw [dif_pos (by omega)]

theorem qcat_1 (Q : FVec Ideal S16384x3072 .f32) (r : Fin 16384) (hd : Fin 16) (e : Fin 32) :
    qcat Q (ix3 r hd ⟨128 + (32 + e.val), by omega⟩) = Q (ix2 r ⟨hd.val * 192 + (128 + (32 + e.val)), by omega⟩) := by
  unfold qcat
  pointwise [rope]
  rw [dif_pos (by omega)]

theorem qcat_2 (Q : FVec Ideal S16384x3072 .f32) (r : Fin 16384) (hd : Fin 16) (e : Fin 32) :
    qcat Q (ix3 r hd ⟨128 + (64 + e.val), by omega⟩) = -(Q (ix2 r ⟨hd.val * 192 + (128 + (32 + e.val)), by omega⟩) : EReal) := by
  unfold qcat
  pointwise [rot, negSecond, first, rope]

theorem qcat_3 (Q : FVec Ideal S16384x3072 .f32) (r : Fin 16384) (hd : Fin 16) (e : Fin 32) :
    qcat Q (ix3 r hd ⟨128 + (64 + (32 + e.val)), by omega⟩) = Q (ix2 r ⟨hd.val * 192 + (128 + e.val), by omega⟩) := by
  unfold qcat
  pointwise [rot, negSecond, first, rope]

theorem qflat_apply (Q : FVec Ideal S16384x3072 .f32) (r : Fin 16384) (hd : Fin 16) (e : Fin 256) :
    qflat Q (ix2 r ⟨hd.val * 256 + e.val, by omega⟩) = qcat Q (ix3 r hd e) := by
  unfold qflat
  pointwise

/-- The square root of 192 times the logarithm of 2. -/
def denom : FVec Ideal S_ .f32 := mulf (Host.sqrt (constant S_ .f32 0x43400000#32)) (Host.log (constant S_ .f32 0x40000000#32))

/-- The cosines twice, then the sines twice. -/
def angles (C S : FVec Ideal S16384x32 .f32) : FVec Ideal S16384x128 .f32 :=
  concatenate S16384x128 1 [⟨S16384x32, C⟩, ⟨S16384x32, C⟩, ⟨S16384x32, S⟩, ⟨S16384x32, S⟩] concatenates_S16384x32_S16384x32_S16384x32_S16384x32_S16384x128_d1

/-- … over the square root of 192 times the logarithm of 2. -/
def scaled (X : FVec Ideal S16384x128 .f32) : FVec Ideal S16384x128 .f32 :=
  Host.divf X (broadcastInDim S16384x128 ![] bcast_S_S16384x128 denom)

theorem bits_192 : Ideal.ofBits FTy.f32 0x43400000#32 = ((192 : ℝ) : EReal) := by
  show Ideal.ieee 8 23 0x43400000#32 = _
  simp [Ideal.ieee, -EReal.coe_mul]
  norm_num

theorem bits_2 : Ideal.ofBits FTy.f32 0x40000000#32 = ((2 : ℝ) : EReal) := by
  show Ideal.ieee 8 23 0x40000000#32 = _
  simp [Ideal.ieee, -EReal.coe_mul]
  norm_num

/-- Dividing by it is multiplying by the kernel's factor. -/
theorem scaled_apply (X : FVec Ideal S16384x128 .f32) (r : Fin 16384) (e : Fin 128) :
    scaled X (ix2 r e) = (X (ix2 r e) * fac : EReal) := by
  unfold scaled denom
  pointwise
  have h2 : (0 : ℝ) < Real.log 2 := Real.log_pos (by norm_num)
  rw [bits_192, bits_2, Ideal.sqrt_coe, if_neg (by norm_num), Ideal.log_coe, if_neg (by norm_num), ← EReal.coe_mul, Ideal.div,
    if_neg (by rw [← EReal.coe_zero, EReal.coe_eq_coe_iff]; positivity), ← EReal.coe_inv, mul_inv]

theorem angles_0 (C S : FVec Ideal S16384x32 .f32) (r : Fin 16384) (e : Fin 32) :
    angles C S (ix2 r ⟨e.val, by omega⟩) = C (ix2 r e) := by
  unfold angles
  pointwise

theorem angles_1 (C S : FVec Ideal S16384x32 .f32) (r : Fin 16384) (e : Fin 32) :
    angles C S (ix2 r ⟨32 + e.val, by omega⟩) = C (ix2 r e) := by
  unfold angles
  pointwise

theorem angles_2 (C S : FVec Ideal S16384x32 .f32) (r : Fin 16384) (e : Fin 32) :
    angles C S (ix2 r ⟨64 + e.val, by omega⟩) = S (ix2 r e) := by
  unfold angles
  pointwise
  rw [dif_neg (by omega), dif_neg (by omega), dif_pos (by omega)]
  congr 2
  apply Fin.ext; show 64 + e.val - 32 - 32 = e.val; omega

theorem angles_3 (C S : FVec Ideal S16384x32 .f32) (r : Fin 16384) (e : Fin 32) :
    angles C S (ix2 r ⟨64 + (32 + e.val), by omega⟩) = S (ix2 r e) := by
  unfold angles
  pointwise
  rw [dif_neg (by omega), dif_neg (by omega), dif_neg (by omega)]
  congr 2
  apply Fin.ext; show 64 + (32 + e.val) - 32 - 32 - 32 = e.val; omega

/-- The rotary key twice. -/
def twice (K : FVec Ideal S16384x64 .f32) : FVec Ideal S16384x128 .bf16 :=
  truncf .bf16 (concatenate S16384x128 1 [⟨S16384x64, K⟩, ⟨S16384x64, K⟩] concatenates_S16384x64_S16384x64_S16384x128_d1 : FVec Ideal S16384x128 .f32) bitsLt_bf16_f32

theorem twice_lo (K : FVec Ideal S16384x64 .f32) (r : Fin 16384) (e : Fin 64) :
    twice K (ix2 r ⟨e.val, by omega⟩) = K (ix2 r e) := by
  unfold twice
  pointwise

theorem twice_hi (K : FVec Ideal S16384x64 .f32) (r : Fin 16384) (e : Fin 64) :
    twice K (ix2 r ⟨64 + e.val, by omega⟩) = K (ix2 r e) := by
  unfold twice
  pointwise

variable (m : (ℓ : Loc nD τ sig) → Buf (Elt Ideal) ℓ)

theorem V_q (c : Dev nD) : V m c main_v16 = qflat (m ((c : Thread nD τ).loc main_arg0)) := by
  unfold V
  after_results_simp
  rfl

theorem V_angles (c : Dev nD) : V m c main_v14 = scaled (angles (m ((c : Thread nD τ).loc main_arg1)) (m ((c : Thread nD τ).loc main_arg2))) := by
  unfold V
  after_results_simp
  rfl

theorem V_kv (c : Dev nD) : V m c main_v17 = (truncf .bf16 (m ((c : Thread nD τ).loc main_arg3) : FVec Ideal S16384x4096 .f32) bitsLt_bf16_f32 : FVec Ideal S16384x4096 .bf16) := by
  unfold V
  after_results_simp

theorem V_kr (c : Dev nD) : V m c main_v18 = twice (m ((c : Thread nD τ).loc main_arg4)) := by
  unfold V
  after_results_simp
  rfl

end Cert.KernelIdeal.Attn

end
-- ==== Proof.Ref.lean ====
/- The attention reference's result at an index, over the arguments. -/
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The queries by batch, token, head and lane. -/
def heads (Q : FVec Ideal S16384x3072 .f32) : FVec Ideal S4x4096x16x192 .f32 := shapeCast _ Q shapeCasts_S16384x3072_S4x4096x16x192

/-- Their rotary lanes, by halves. -/
def half1 (Q : FVec Ideal S16384x3072 .f32) : FVec Ideal S4x4096x16x32 .f32 :=
  extractStridedSlice S4x4096x16x32 ![0, 0, 0, 0] (extractStridedSlice S4x4096x16x64 ![0, 0, 0, 128] (heads Q) slices_S4x4096x16x192_S4x4096x16x64_0_0_0_128) slices_S4x4096x16x64_S4x4096x16x32_0_0_0_0

def half2 (Q : FVec Ideal S16384x3072 .f32) : FVec Ideal S4x4096x16x32 .f32 :=
  extractStridedSlice S4x4096x16x32 ![0, 0, 0, 32] (extractStridedSlice S4x4096x16x64 ![0, 0, 0, 128] (heads Q) slices_S4x4096x16x192_S4x4096x16x64_0_0_0_128) slices_S4x4096x16x64_S4x4096x16x32_0_0_0_32

/-- An angle table, the same for every head. -/
def angle (C : FVec Ideal S16384x32 .f32) : FVec Ideal S4x4096x16x32 .f32 :=
  broadcastInDim S4x4096x16x32 ![0, 1, 2, 3] bcast_S4x4096x1x32_S4x4096x16x32_0_1_2_3
    (broadcastInDim S4x4096x1x32 ![0, 1, 3] bcast_S4x4096x32_S4x4096x1x32_0_1_3 (shapeCast _ C shapeCasts_S16384x32_S4x4096x32))

/-- The turned rotary lanes. -/
def turned (Q : FVec Ideal S16384x3072 .f32) (C S : FVec Ideal S16384x32 .f32) : FVec Ideal S4x4096x16x64 .f32 :=
  concatenate S4x4096x16x64 3 [⟨S4x4096x16x32, subf (mulf (half1 Q) (angle C)) (mulf (half2 Q) (angle S))⟩,
    ⟨S4x4096x16x32, addf (mulf (half2 Q) (angle C)) (mulf (half1 Q) (angle S))⟩] concatenates_S4x4096x16x32_S4x4096x16x32_S4x4096x16x64_d3

/-- The scale of the scores. -/
def scale : FVec Ideal S_ .f32 := Host.divf (constant S_ .f32 0x3F800000#32) (Host.sqrt (constant S_ .f32 0x43400000#32))

/-- The scaled scores. -/
def scores (Q : FVec Ideal S16384x3072 .f32) (C S : FVec Ideal S16384x32 .f32) (KV : FVec Ideal S16384x4096 .f32) (KR : FVec Ideal S16384x64 .f32) :
    FVec Ideal S4x16x4096x4096 .f32 :=
  mulf (addf (Host.dotGeneral dot_S4x4096x16x128_S4x4096x16x128_S4x16x4096x4096_3_3_1_1_02_02 none
      (extractStridedSlice S4x4096x16x128 ![0, 0, 0, 0] (heads Q) slices_S4x4096x16x192_S4x4096x16x128_0_0_0_0)
      (shapeCast _ (extractStridedSlice S16384x2048 ![0, 0] KV slices_S16384x4096_S16384x2048_0_0) shapeCasts_S16384x2048_S4x4096x16x128))
    (transpose S4x16x4096x4096 [0, 3, 2, 1] (Host.dotGeneral dot_S4x4096x64_S4x4096x16x64_S4x4096x4096x16_2_3_1_12_0_0 none
      (shapeCast _ KR shapeCasts_S16384x64_S4x4096x64) (turned Q C S)) transposes_S4x4096x4096x16_S4x16x4096x4096_0_3_2_1))
    (broadcastInDim S4x16x4096x4096 ![] bcast_S_S4x16x4096x4096 scale)

/-- The maximum of each row of scores. -/
def top (X : FVec Ideal S4x16x4096x4096 .f32) : FVec Ideal S4x16x4096 .f32 :=
  Host.reduce FloatOps.maximumf X (constant S_ .f32 0xFF800000#32) reducesTo_S4x16x4096x4096_S4x16x4096_d3 h_S_

/-- The exponentials of the scores `X` below `M`. -/
def expo (X : FVec Ideal S4x16x4096x4096 .f32) (M : FVec Ideal S4x16x4096 .f32) : FVec Ideal S4x16x4096x4096 .f32 :=
  Host.exp (subf X (broadcastInDim S4x16x4096x4096 ![0, 1, 2, 3] bcast_S4x16x4096x1_S4x16x4096x4096_0_1_2_3
    (broadcastInDim S4x16x4096x1 ![0, 1, 2] bcast_S4x16x4096_S4x16x4096x1_0_1_2
      (maximumf (broadcastInDim S4x16x4096 ![] bcast_S_S4x16x4096 (constant S_ .f32 0xFF800000#32)) M))))

/-- The attention weights. -/
def weights (E : FVec Ideal S4x16x4096x4096 .f32) : FVec Ideal S4x16x4096x4096 .f32 :=
  Host.divf E (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd E (constant S_ .f32 0x00000000#32) reducesTo_S4x16x4096x4096_S4x16x4096_d3 h_S_)))

/-- The weighted values, by token and column. -/
def mixed (W : FVec Ideal S4x16x4096x4096 .f32) (KV : FVec Ideal S16384x4096 .f32) : FVec Ideal S16384x2048 .bf16 :=
  truncf .bf16 (shapeCast _ (transpose S4x4096x16x128 [0, 3, 1, 2] (Host.dotGeneral dot_S4x4096x16x128_S4x16x4096x4096_S4x16x128x4096_1_3_3_2_02_01 none
    (shapeCast _ (extractStridedSlice S16384x2048 ![0, 2048] KV slices_S16384x4096_S16384x2048_0_2048) shapeCasts_S16384x2048_S4x4096x16x128) W)
    transposes_S4x16x128x4096_S4x4096x16x128_0_3_1_2) shapeCasts_S4x4096x16x128_S16384x2048) bitsLt_bf16_f32

/-- The reference on whole arrays. -/
def ref (Q : FVec Ideal S16384x3072 .f32) (C S : FVec Ideal S16384x32 .f32) (KV : FVec Ideal S16384x4096 .f32) (KR : FVec Ideal S16384x64 .f32) :
    FVec Ideal S16384x2048 .bf16 :=
  mixed (weights (expo (scores Q C S KV KR) (top (scores Q C S KV KR)))) KV

theorem res_eq (m : (ℓ : Loc nD τ sig) → Buf (Elt Ideal) ℓ) (c : Dev nD) : Value.res_out0 m c =
    ref (m ((c : Thread nD τ).loc main_arg0)) (m ((c : Thread nD τ).loc main_arg1)) (m ((c : Thread nD τ).loc main_arg2))
      (m ((c : Thread nD τ).loc main_arg3)) (m ((c : Thread nD τ).loc main_arg4)) := rfl

/-- Query token `r` of batch `r / 4096`. -/
abbrev bat (r : Fin 16384) : Fin 4 := ⟨r.val / 4096, by omega⟩
abbrev tok (r : Fin 16384) : Fin 4096 := ⟨r.val % 4096, by omega⟩
/-- Key token `j` of the batch of query token `r`. -/
abbrev key (r : Fin 16384) (j : Fin 4096) : Fin 16384 := ⟨r.val / 4096 * 4096 + j.val, by omega⟩

theorem mixed_apply (W : FVec Ideal S4x16x4096x4096 .f32) (KV : FVec Ideal S16384x4096 .f32) (r : Fin 16384) (hd : Fin 16) (l : Fin 128) :
    mixed W KV (ix2 r ⟨hd.val * 128 + l.val, by omega⟩)
      = ∑ j : Fin 4096, KV (ix2 (key r j) ⟨2048 + (hd.val * 128 + l.val), by omega⟩) * W (ix4 (bat r) hd (tok r) j) := by
  unfold mixed
  pointwise

theorem weights_apply (E : FVec Ideal S4x16x4096x4096 .f32) (b : Fin 4) (hd : Fin 16) (i j : Fin 4096) :
    weights E (ix4 b hd i j) = Ideal.div (E (ix4 b hd i j)) (∑ k : Fin 4096, E (ix4 b hd i k)) := by
  unfold weights
  pointwise

/-- The word of the maximum's start is minus infinity. -/
theorem bits_bot : Ideal.ofBits .f32 0xFF800000#32 = ⊥ := by
  show Ideal.ieee 8 23 0xFF800000#32 = ⊥
  simp [Ideal.ieee]

theorem top_apply (X : FVec Ideal S4x16x4096x4096 .f32) (b : Fin 4) (hd : Fin 16) (i : Fin 4096) :
    top X (ix3 b hd i) = Finset.univ.fold max ⊥ fun k : Fin 4096 => X (ix4 b hd i k) := by
  unfold top
  pointwise
  rw [bits_bot]

theorem expo_apply (X : FVec Ideal S4x16x4096x4096 .f32) (M : FVec Ideal S4x16x4096 .f32) (b : Fin 4) (hd : Fin 16) (i j : Fin 4096) :
    expo X M (ix4 b hd i j) = Ideal.exp (X (ix4 b hd i j) - M (ix3 b hd i)) := by
  unfold expo
  pointwise
  rw [bits_bot, max_eq_right bot_le]

theorem turned_lo (Q : FVec Ideal S16384x3072 .f32) (C S : FVec Ideal S16384x32 .f32) (r : Fin 16384) (hd : Fin 16) (e : Fin 32) :
    turned Q C S (ix4 (bat r) (tok r) hd ⟨e.val, by omega⟩)
      = Q (ix2 r ⟨hd.val * 192 + (128 + e.val), by omega⟩) * C (ix2 r e) - Q (ix2 r ⟨hd.val * 192 + (128 + (32 + e.val)), by omega⟩) * S (ix2 r e) := by
  unfold turned
  pointwise [half1, half2, heads, angle]

theorem turned_hi (Q : FVec Ideal S16384x3072 .f32) (C S : FVec Ideal S16384x32 .f32) (r : Fin 16384) (hd : Fin 16) (e : Fin 32) :
    turned Q C S (ix4 (bat r) (tok r) hd ⟨32 + e.val, by omega⟩)
      = Q (ix2 r ⟨hd.val * 192 + (128 + (32 + e.val)), by omega⟩) * C (ix2 r e) + Q (ix2 r ⟨hd.val * 192 + (128 + e.val), by omega⟩) * S (ix2 r e) := by
  unfold turned
  pointwise [half1, half2, heads, angle]

/-- The factor of the scores. -/
theorem scale_eq : Ideal.div 1 (Ideal.sqrt (Ideal.ofBits FTy.f32 0x43400000#32)) = (((Real.sqrt 192)⁻¹ : ℝ) : EReal) := by
  have h : Ideal.ofBits FTy.f32 0x43400000#32 = ((192 : ℝ) : EReal) := by
    show Ideal.ieee 8 23 0x43400000#32 = _
    simp [Ideal.ieee, -EReal.coe_mul]
    norm_num
  rw [h, Ideal.sqrt_coe, if_neg (by norm_num), Ideal.div, if_neg (by
    rw [← EReal.coe_zero, EReal.coe_eq_coe_iff]; positivity), one_mul, EReal.coe_inv]

/-- A score, over the arguments. -/
def score (Q : FVec Ideal S16384x3072 .f32) (C S : FVec Ideal S16384x32 .f32) (KV : FVec Ideal S16384x4096 .f32) (KR : FVec Ideal S16384x64 .f32)
    (r : Fin 16384) (hd : Fin 16) (j : Fin 4096) : EReal :=
  (((∑ e : Fin 128, Q (ix2 r ⟨hd.val * 192 + e.val, by omega⟩) * KV (ix2 (key r j) ⟨hd.val * 128 + e.val, by omega⟩))
    + ((∑ e : Fin 32, KR (ix2 (key r j) ⟨e.val, by omega⟩) * (Q (ix2 r ⟨hd.val * 192 + (128 + e.val), by omega⟩) * C (ix2 r e) - Q (ix2 r ⟨hd.val * 192 + (128 + (32 + e.val)), by omega⟩) * S (ix2 r e)))
      + ∑ e : Fin 32, KR (ix2 (key r j) ⟨32 + e.val, by omega⟩) * (Q (ix2 r ⟨hd.val * 192 + (128 + (32 + e.val)), by omega⟩) * C (ix2 r e) + Q (ix2 r ⟨hd.val * 192 + (128 + e.val), by omega⟩) * S (ix2 r e))) : EReal)
    * (((Real.sqrt 192)⁻¹ : ℝ) : EReal) : EReal)

theorem scores_apply (Q : FVec Ideal S16384x3072 .f32) (C S : FVec Ideal S16384x32 .f32) (KV : FVec Ideal S16384x4096 .f32) (KR : FVec Ideal S16384x64 .f32)
    (r : Fin 16384) (hd : Fin 16) (j : Fin 4096) :
    scores Q C S KV KR (ix4 (bat r) hd (tok r) j) = score Q C S KV KR r hd j := by
  unfold scores score
  pointwise [heads, scale]
  rw [scale_eq, Fin.sum_univ_two_halves 32 32 rfl (fun x : Fin 64 => KR _ * turned Q C S _)]
  simp only [turned_lo, turned_hi]

/-- The softmax of the scores `s` applied to the values `v`: each weight a quotient. -/
def soft (s v : Fin 4096 → EReal) : EReal :=
  ∑ j, v j * Ideal.div (Ideal.exp (s j - Finset.univ.fold max ⊥ s)) (∑ k, Ideal.exp (s k - Finset.univ.fold max ⊥ s))

/-- The reference at an index. -/
theorem ref_apply (Q : FVec Ideal S16384x3072 .f32) (C S : FVec Ideal S16384x32 .f32) (KV : FVec Ideal S16384x4096 .f32) (KR : FVec Ideal S16384x64 .f32)
    (r : Fin 16384) (hd : Fin 16) (l : Fin 128) :
    ref Q C S KV KR (ix2 r ⟨hd.val * 128 + l.val, by omega⟩)
      = soft (score Q C S KV KR r hd) fun j => KV (ix2 (key r j) ⟨2048 + (hd.val * 128 + l.val), by omega⟩) := by
  unfold ref
  rw [mixed_apply]
  simp only [weights_apply, expo_apply, top_apply, scores_apply]
  rfl

end Cert.ReferenceIdeal.Attn

end
-- ==== Proof.Soft.lean ====
/- The two forms of the softmax over the extended reals: powers of two of the scores times the binary logarithm of e,
   the weighted sum divided once; and exponentials of the scores, each weight divided. They agree on real scores, whatever
   the values are. -/
module

public import proofs.«01_k».proof.Proof.Head
public import proofs.«01_k».proof.Proof.Ref

@[expose] public section

noncomputable section

namespace Cert.Attn

open Idealize.ShloMosaic

/-- A sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any sum of extended reals. -/
theorem sum_mul_coe {ι : Type*} (s : Finset ι) (f : ι → EReal) (x : ℝ) (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, EReal.right_distrib_of_nonneg_of_ne_top (by exact_mod_cast hx) (EReal.coe_ne_top x), ih]

/-- The maximum of real numbers times a positive factor. -/
theorem fold_max {n : ℕ} [NeZero n] (x : Fin n → ℝ) : ∃ M : ℝ, ∀ L : ℝ, 0 < L →
    Finset.univ.fold max (⊥ : EReal) (fun j => ((x j * L : ℝ) : EReal)) = ((M * L : ℝ) : EReal) := by
  obtain ⟨i, -, hi⟩ := Finset.exists_max_image Finset.univ x ⟨0, Finset.mem_univ _⟩
  refine ⟨x i, fun L hL => ?_⟩
  show Finset.univ.sup (fun j => ((x j * L : ℝ) : EReal)) = _
  refine le_antisymm (Finset.sup_le fun j hj => ?_) (Finset.le_sup (f := fun j => ((x j * L : ℝ) : EReal)) (Finset.mem_univ i))
  exact EReal.coe_le_coe_iff.mpr (mul_le_mul_of_nonneg_right (hi j hj) hL.le)

/-- The two forms agree. -/
theorem soft_eq (x : Fin 4096 → ℝ) (v : Fin 4096 → EReal) :
    KernelIdeal.Attn.soft2 (fun j => ((x j * (Real.log 2)⁻¹ : ℝ) : EReal)) v = ReferenceIdeal.Attn.soft (fun j => (x j : EReal)) v := by
  have h2 : (0 : ℝ) < Real.log 2 := Real.log_pos (by norm_num)
  obtain ⟨M, hM⟩ := fold_max x
  have hM1 : Finset.univ.fold max (⊥ : EReal) (fun j => (x j : EReal)) = (M : EReal) := by simpa using hM 1 one_pos
  have hM2 := hM (Real.log 2)⁻¹ (inv_pos.mpr h2)
  have e2 : ∀ j, Ideal.exp2 (((x j * (Real.log 2)⁻¹ : ℝ) : EReal) - ((M * (Real.log 2)⁻¹ : ℝ) : EReal)) = ((Real.exp (x j - M) : ℝ) : EReal) := by
    intro j
    have hp : Real.rpow 2 (x j * (Real.log 2)⁻¹ - M * (Real.log 2)⁻¹) = Real.exp (x j - M) := by
      refine (Real.rpow_def_of_pos two_pos _).trans (congrArg Real.exp ?_)
      field_simp
    rw [← EReal.coe_sub, Ideal.exp2_coe, hp]
  have e1 : ∀ j, Ideal.exp ((x j : EReal) - (M : EReal)) = ((Real.exp (x j - M) : ℝ) : EReal) := by
    intro j
    rw [← EReal.coe_sub, Ideal.exp_coe]
  have hl : (0 : ℝ) < ∑ j, Real.exp (x j - M) := Finset.sum_pos (fun j _ => Real.exp_pos _) ⟨0, Finset.mem_univ _⟩
  have hne : ¬ (((∑ j, Real.exp (x j - M) : ℝ)) : EReal) = 0 := by
    rw [← EReal.coe_zero, EReal.coe_eq_coe_iff]
    exact hl.ne'
  unfold KernelIdeal.Attn.soft2 ReferenceIdeal.Attn.soft
  simp only [hM1, hM2, e1, e2, ← coe_sum, Ideal.div, if_neg hne, ← EReal.coe_inv]
  rw [sum_mul_coe _ _ _ (inv_nonneg.mpr hl.le)]
  refine Finset.sum_congr rfl fun j _ => ?_
  rw [mul_comm ((Real.exp (x j - M) : ℝ) : EReal) (v j), mul_assoc]

/-- A sum over 128 lanes, by quarters. -/
theorem sum_quarters {M : Type*} [AddCommMonoid M] (f : Fin 128 → M) :
    ∑ e, f e = ((∑ e : Fin 32, f ⟨e.val, by omega⟩) + ∑ e : Fin 32, f ⟨32 + e.val, by omega⟩)
      + ((∑ e : Fin 32, f ⟨64 + e.val, by omega⟩) + ∑ e : Fin 32, f ⟨64 + (32 + e.val), by omega⟩) := by
  rw [Fin.sum_univ_two_halves 64 64 rfl f, Fin.sum_univ_two_halves 32 32 rfl, Fin.sum_univ_two_halves 32 32 rfl]

end Cert.Attn

end
-- ==== Proof.Equation.lean ====
/- The attention kernel's result is the reference's, on finite queries, angles and keys and any values. -/
module

public import proofs.«01_k».proof.Proof.Entry
public import proofs.«01_k».proof.Proof.Soft

@[expose] public section

set_option maxRecDepth 16384

noncomputable section

namespace Cert.Attn

open Cert.KernelIdeal Cert.KernelIdeal.Gen Idealize.ShloMosaic Idealize.ShloMosaic.TcCoe Idealize.SL.Sem
open KernelIdeal.Attn (qflat scaled angles twice)

/-- The kernel's attention over the arrays that the host makes of the arguments. -/
abbrev kern (Q : FVec Ideal S16384x3072 .f32) (C S : FVec Ideal S16384x32 .f32) (KV : FVec Ideal S16384x4096 .f32) (KR : FVec Ideal S16384x64 .f32)
    (r : Fin 16384) (hd : Fin 16) (l : Fin 128) : EReal :=
  KernelIdeal.Attn.attn (qflat Q) (scaled (angles C S)) KV (twice KR) r hd l

/-- The kernel's scores over real arguments are the reference's times the binary logarithm of e. -/
theorem scores_eq (Q : FVec Ideal S16384x3072 .f32) (C S : FVec Ideal S16384x32 .f32) (KV : FVec Ideal S16384x4096 .f32) (KR : FVec Ideal S16384x64 .f32)
    (q : S16384x3072.Idx → ℝ) (cc ss : S16384x32.Idx → ℝ) (k : Fin 16384 → Fin 2048 → ℝ) (kr : S16384x64.Idx → ℝ)
    (hQ : ∀ i, Q i = (q i : EReal)) (hC : ∀ i, C i = (cc i : EReal)) (hS : ∀ i, S i = (ss i : EReal))
    (hK : ∀ r e, KV (ix2 r ⟨e.val, by omega⟩) = (k r e : EReal)) (hR : ∀ i, KR i = (kr i : EReal)) (r : Fin 16384) (hd : Fin 16) :
    ∃ x : Fin 4096 → ℝ, (∀ j, ReferenceIdeal.Attn.score Q C S KV KR r hd j = (x j : EReal)) ∧
      ∀ j, KernelIdeal.Attn.score (fun e => qflat Q (ix2 r ⟨hd.val * 256 + e.val, by omega⟩)) (fun e => qflat Q (ix2 r ⟨hd.val * 256 + (128 + e.val), by omega⟩))
        (fun e => scaled (angles C S) (ix2 r e)) (fun j e => KV (ix2 ⟨r.val / 4096 * 4096 + j.val, by omega⟩ ⟨hd.val * 128 + e.val, by omega⟩))
        (fun j e => twice KR (ix2 ⟨r.val / 4096 * 4096 + j.val, by omega⟩ e)) j = ((x j * (Real.log 2)⁻¹ : ℝ) : EReal) := by
  have hK' : ∀ (r : Fin 16384) (e : Fin 128) , KV (ix2 r ⟨hd.val * 128 + e.val, by omega⟩) = (k r ⟨hd.val * 128 + e.val, by omega⟩ : EReal) :=
    fun r e => hK r ⟨hd.val * 128 + e.val, by omega⟩
  have n0 : ∀ e : Fin 128, qflat Q (ix2 r ⟨hd.val * 256 + e.val, by omega⟩) = (q (ix2 r ⟨hd.val * 192 + e.val, by omega⟩) : EReal) := fun e =>
    (KernelIdeal.Attn.qflat_apply Q r hd ⟨e.val, by omega⟩).trans ((KernelIdeal.Attn.qcat_nope Q r hd e).trans (hQ _))
  have q0 : ∀ e : Fin 32, qflat Q (ix2 r ⟨hd.val * 256 + (128 + e.val), by omega⟩) = (q (ix2 r ⟨hd.val * 192 + (128 + e.val), by omega⟩) : EReal) := fun e =>
    (KernelIdeal.Attn.qflat_apply Q r hd ⟨128 + e.val, by omega⟩).trans ((KernelIdeal.Attn.qcat_0 Q r hd e).trans (hQ _))
  have q1 : ∀ e : Fin 32, qflat Q (ix2 r ⟨hd.val * 256 + (128 + (32 + e.val)), by omega⟩) = (q (ix2 r ⟨hd.val * 192 + (128 + (32 + e.val)), by omega⟩) : EReal) := fun e =>
    (KernelIdeal.Attn.qflat_apply Q r hd ⟨128 + (32 + e.val), by omega⟩).trans ((KernelIdeal.Attn.qcat_1 Q r hd e).trans (hQ _))
  have q2 : ∀ e : Fin 32, qflat Q (ix2 r ⟨hd.val * 256 + (128 + (64 + e.val)), by omega⟩) = (-(q (ix2 r ⟨hd.val * 192 + (128 + (32 + e.val)), by omega⟩)) : EReal) := fun e =>
    (KernelIdeal.Attn.qflat_apply Q r hd ⟨128 + (64 + e.val), by omega⟩).trans ((KernelIdeal.Attn.qcat_2 Q r hd e).trans (congrArg (fun z : EReal => -z) (hQ _)))
  have q3 : ∀ e : Fin 32, qflat Q (ix2 r ⟨hd.val * 256 + (128 + (64 + (32 + e.val))), by omega⟩) = (q (ix2 r ⟨hd.val * 192 + (128 + e.val), by omega⟩) : EReal) := fun e =>
    (KernelIdeal.Attn.qflat_apply Q r hd ⟨128 + (64 + (32 + e.val)), by omega⟩).trans ((KernelIdeal.Attn.qcat_3 Q r hd e).trans (hQ _))
  have t0 : ∀ (r : Fin 16384) (e : Fin 32), twice KR (ix2 r ⟨e.val, by omega⟩) = (kr (ix2 r ⟨e.val, by omega⟩) : EReal) := fun r e =>
    (KernelIdeal.Attn.twice_lo KR r ⟨e.val, by omega⟩).trans (hR _)
  have t1 : ∀ (r : Fin 16384) (e : Fin 32), twice KR (ix2 r ⟨32 + e.val, by omega⟩) = (kr (ix2 r ⟨32 + e.val, by omega⟩) : EReal) := fun r e =>
    (KernelIdeal.Attn.twice_lo KR r ⟨32 + e.val, by omega⟩).trans (hR _)
  have t2 : ∀ (r : Fin 16384) (e : Fin 32), twice KR (ix2 r ⟨64 + e.val, by omega⟩) = (kr (ix2 r ⟨e.val, by omega⟩) : EReal) := fun r e =>
    (KernelIdeal.Attn.twice_hi KR r ⟨e.val, by omega⟩).trans (hR _)
  have t3 : ∀ (r : Fin 16384) (e : Fin 32), twice KR (ix2 r ⟨64 + (32 + e.val), by omega⟩) = (kr (ix2 r ⟨32 + e.val, by omega⟩) : EReal) := fun r e =>
    (KernelIdeal.Attn.twice_hi KR r ⟨32 + e.val, by omega⟩).trans (hR _)
  refine ⟨fun j => ((∑ e : Fin 128, q (ix2 r ⟨hd.val * 192 + e.val, by omega⟩) * k ⟨r.val / 4096 * 4096 + j.val, by omega⟩ ⟨hd.val * 128 + e.val, by omega⟩)
      + ((∑ e : Fin 32, kr (ix2 ⟨r.val / 4096 * 4096 + j.val, by omega⟩ ⟨e.val, by omega⟩)
            * (q (ix2 r ⟨hd.val * 192 + (128 + e.val), by omega⟩) * cc (ix2 r e) - q (ix2 r ⟨hd.val * 192 + (128 + (32 + e.val)), by omega⟩) * ss (ix2 r e)))
        + ∑ e : Fin 32, kr (ix2 ⟨r.val / 4096 * 4096 + j.val, by omega⟩ ⟨32 + e.val, by omega⟩)
            * (q (ix2 r ⟨hd.val * 192 + (128 + (32 + e.val)), by omega⟩) * cc (ix2 r e) + q (ix2 r ⟨hd.val * 192 + (128 + e.val), by omega⟩) * ss (ix2 r e))))
      * (Real.sqrt 192)⁻¹, fun j => ?_, fun j => ?_⟩
  · unfold ReferenceIdeal.Attn.score
    simp only [hQ, hC, hS, hK', hR, ← EReal.coe_mul, ← EReal.coe_add, ← EReal.coe_sub, ← coe_sum]
  · unfold KernelIdeal.Attn.score
    refine (congrArg (_ + ·) (sum_quarters _)).trans ?_
    dsimp only
    simp only [n0, q0, q1, q2, q3, t0, t1, t2, t3, KernelIdeal.Attn.scaled_apply, KernelIdeal.Attn.angles_0, KernelIdeal.Attn.angles_1,
      KernelIdeal.Attn.angles_2, KernelIdeal.Attn.angles_3, hC, hS, hK', ← EReal.coe_neg, ← EReal.coe_mul, ← EReal.coe_add, ← EReal.coe_sub, ← coe_sum]
    rw [EReal.coe_eq_coe_iff]
    simp only [← Finset.sum_add_distrib, add_mul, Finset.sum_mul]
    congr 1
    · exact Finset.sum_congr rfl fun e _ => by ring
    · exact Finset.sum_congr rfl fun e _ => by ring

/-- The kernel's result at an index is the reference's. -/
theorem kern_eq (Q : FVec Ideal S16384x3072 .f32) (C S : FVec Ideal S16384x32 .f32) (KV : FVec Ideal S16384x4096 .f32) (KR : FVec Ideal S16384x64 .f32)
    (q : S16384x3072.Idx → ℝ) (cc ss : S16384x32.Idx → ℝ) (k : Fin 16384 → Fin 2048 → ℝ) (kr : S16384x64.Idx → ℝ)
    (hQ : ∀ i, Q i = (q i : EReal)) (hC : ∀ i, C i = (cc i : EReal)) (hS : ∀ i, S i = (ss i : EReal))
    (hK : ∀ r e, KV (ix2 r ⟨e.val, by omega⟩) = (k r e : EReal)) (hR : ∀ i, KR i = (kr i : EReal)) (r : Fin 16384) (hd : Fin 16) (l : Fin 128) :
    kern Q C S KV KR r hd l = ReferenceIdeal.Attn.ref Q C S KV KR (ix2 r ⟨hd.val * 128 + l.val, by omega⟩) := by
  obtain ⟨x, h1, h2⟩ := scores_eq Q C S KV KR q cc ss k kr hQ hC hS hK hR r hd
  rw [ReferenceIdeal.Attn.ref_apply, show ReferenceIdeal.Attn.score Q C S KV KR r hd = fun j => (x j : EReal) from funext h1]
  unfold kern KernelIdeal.Attn.attn
  rw [show KernelIdeal.Attn.score _ _ _ _ _ = fun j => ((x j * (Real.log 2)⁻¹ : ℝ) : EReal) from funext h2]
  exact soft_eq x _

end Cert.Attn

end
-- ==== Proof.Finite.lean ====
/- What the precondition says: the queries, the angles, the keys' part and the rotary keys are real numbers. -/
module

public import proofs.«01_k».proof.Proof.Gen.KernelIdeal.Frame
public import proofs.«01_k».proof.Proof.Gen.Pre_finite
public import proofs.«01_k».proof.Defs
public import Idealize.ShloMosaic.Lib.ReduceAll
public import Idealize.ShloMosaic.Lib.Pointwise

@[expose] public section

set_option maxRecDepth 16384

noncomputable section

namespace Cert.Attn

open Cert.Pre_finite Idealize.ShloMosaic Idealize.ShloMosaic.TcCoe Idealize.SL.Sem

/-- A number whose absolute value compares below +∞ is real. -/
theorem real_of_abs_lt {x : EReal} (h : FloatOps.cmpf (F := Ideal) (φ := .f32) .olt (FloatOps.hostAbsf (F := Ideal) (φ := .f32) x) (FloatOps.ofBits (F := Ideal) .f32 0x7F800000#32) = 1#1) :
    ∃ y : ℝ, x = (y : EReal) := by
  have ht : FloatOps.ofBits (F := Ideal) .f32 0x7F800000#32 = (⊤ : EReal) := by
    show Ideal.ofBits .f32 0x7F800000#32 = _
    simp [Ideal.ofBits, Ideal.ieee]
  rw [ht] at h
  induction x using EReal.rec with
  | coe y => exact ⟨y, rfl⟩
  | top => exact absurd h (by decide +kernel)
  | bot => exact absurd h (by decide +kernel)

/-- An array whose absolute values all compare below +∞ is real. -/
theorem real_of_all {s : Shape} [h0 : Subsingleton S_.Idx] (x : FVec Ideal s .f32) (hb : S_.BroadcastsInDim s (![] : Fin 0 → Fin s.rank)) (axes : List (Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    ∃ y : ℝ, x i = (y : EReal) :=
  real_of_abs_lt (Host.reduce_andi_all _ _ _ _ j e i)

/-- The precondition at one device: each array's entries are real. -/
theorem finite_reads (Q : FVec Ideal S16384x3072 .f32) (C S : FVec Ideal S16384x32 .f32) (KV : FVec Ideal S16384x4096 .f32) (KR : FVec Ideal S16384x64 .f32)
    (h : Cert.Pre_finite.fn (F := Ideal) Q C S KV KR = fun _ => 1#1) :
    (∀ i, ∃ y : ℝ, Q i = (y : EReal)) ∧ (∀ i, ∃ y : ℝ, C i = (y : EReal)) ∧ (∀ i, ∃ y : ℝ, S i = (y : EReal))
      ∧ (∀ (r : Fin 16384) (e : Fin 2048), ∃ y : ℝ, KV (ix2 r ⟨e.val, by omega⟩) = (y : EReal)) ∧ ∀ i, ∃ y : ℝ, KR i = (y : EReal) := by
  haveI : Subsingleton S_.Idx := ⟨fun a b => funext fun k => k.elim0⟩
  have h := congrFun h (Shape.Idx.first (s := S_) (by decide))
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  refine ⟨real_of_all Q _ _ _ _ _ h1, real_of_all C _ _ _ _ _ h2, real_of_all S _ _ _ _ _ h3, fun r e => ?_, real_of_all KR _ _ _ _ _ h5⟩
  obtain ⟨y, hy⟩ := real_of_all _ _ _ _ _ _ h4 (ix2 r e)
  refine ⟨y, hy ▸ congrArg KV (funext fun k => ?_)⟩
  match k with
  | 0 => exact Fin.ext (by show r.val = _; exact (Nat.zero_add _).symm)
  | 1 => exact Fin.ext (by show e.val = _; exact (Nat.zero_add _).symm)

end Cert.Attn

end
-- ==== Proof.AttnEq.lean ====
/- The attention kernel's result array is the reference's, under the precondition. -/
module

public import proofs.«01_k».proof.Proof.Equation
public import proofs.«01_k».proof.Proof.Finite

@[expose] public section

set_option maxRecDepth 16384

noncomputable section

namespace Cert.Attn

open Idealize.ShloMosaic Idealize.ShloMosaic.TcCoe Idealize.SL.Sem

/-- The kernel's result array, on arguments that the precondition admits, is the reference's. -/
theorem attn_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ReferenceIdeal.Value.res_main_v47 m' c = (KernelIdeal.Gen.dats m 0 c).arrAt 5 KernelIdeal.cfg0.N := by
  rw [KernelIdeal.Attn.result_eq, KernelIdeal.Attn.V_q, KernelIdeal.Attn.V_angles, KernelIdeal.Attn.V_kv, KernelIdeal.Attn.V_kr]
  refine (ReferenceIdeal.Attn.res_eq m' c).trans ?_
  rw [h0, h1, h2, h3, h4]
  obtain ⟨f0, f1, f2, f3, f4⟩ := finite_reads _ _ _ _ _ (hp c)
  choose q hq using f0
  choose cc hc using f1
  choose ss hs using f2
  choose k hk using f3
  choose kr hkr using f4
  funext i
  have e := kern_eq _ _ _ _ _ q cc ss k kr hq hc hs hk hkr (i 0) ⟨(i 1).val / 128, by have := (i 1).isLt; change _ < 2048 at this; omega⟩ ⟨(i 1).val % 128, by omega⟩
  refine Eq.trans (congrArg _ ?_) e.symm
  funext k
  match k with
  | 0 => rfl
  | 1 => exact Fin.ext (by show (i 1).val = (i 1).val / 128 * 128 + (i 1).val % 128; omega)

end Cert.Attn

end
-- ==== Proof.InVal.lean ====
/- The combined projection's large product: the kernel's result array after the run, the reference's result, and their equality. -/
module

public import proofs.«01_k».proof.Proof.Gen.KernelInIdeal.Value
public import proofs.«01_k».proof.Proof.Gen.ReferenceInIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelInIdeal.Prod

open Cert.KernelInIdeal Cert.KernelInIdeal.Gen Idealize.ShloMosaic Idealize.ShloMosaic.TcCoe Idealize.SL.Sem

/-- A block's payload at an index: one row times one column. -/
theorem pay_apply (X : Vec Ideal S1024x4096 .bf16) (W : Vec Ideal S4096x1024 .bf16) (r : Fin 1024) (l : Fin 1024) :
    k0_pay1 X W (ix2 r l) = ∑ k : Fin 4096, X (ix2 r k) * W (ix2 k l) := by
  pointwise [k0_pay1]

/-- The product of two arrays, at an index. -/
def prod (X : S16384x4096.Idx → EReal) (W : S4096x16384.Idx → EReal) (r e : Fin 16384) : EReal := ∑ k : Fin 4096, X (ix2 r k) * W (ix2 k e)

variable (m : (ℓ : Loc nD τ sig) → Buf (Elt Ideal) ℓ)

/-- The blocks of a point: row block and column block. -/
theorem idx (t : Fin cfg0.N) : win0_0.index t = ![t.val / 16, 0] ∧ win0_1.index t = ![0, t.val % 16] ∧ win0_2.index t = ![t.val / 16, t.val % 16] := by
  revert t
  decide +kernel

theorem read0 (c : Dev nD) (t : Fin cfg0.N) (y : Fin 1024) (k : Fin 4096) (r : Fin 16384) (hr : r.val = t.val / 16 * 1024 + y.val) :
    iblk m c 0 t (ix2 y k) = V m c main_v6 (ix2 r k) := by
  blk_ext [iblk, (idx t).1]

theorem read1 (c : Dev nD) (t : Fin cfg0.N) (k : Fin 4096) (l : Fin 1024) (e : Fin 16384) (he : e.val = t.val % 16 * 1024 + l.val) :
    iblk m c 1 t (ix2 k l) = V m c main_v5 (ix2 k e) := by
  blk_ext [iblk, (idx t).2.1]

/-- The output block of a point, at an index, over the arrays. -/
theorem block_apply (c : Dev nD) (t : Fin cfg0.N) (y l : Fin 1024) (r e : Fin 16384) (hr : r.val = t.val / 16 * 1024 + y.val)
    (he : e.val = t.val % 16 * 1024 + l.val) :
    out0_2 (iblk m c 0 t) (iblk m c 1 t) (ix2 y l) = prod (V m c main_v6) (V m c main_v5) r e := by
  have h : out0_2 (iblk m c 0 t) (iblk m c 1 t) = k0_pay1 (iblk m c 0 t) (iblk m c 1 t) := by
    unfold out0_2
    rw [View.canon_unit_zero (by decide), View.ld_unit_zero (by decide), View.ld_unit_zero (by decide)]
  rw [h, pay_apply]
  exact Finset.sum_congr rfl fun k _ => congrArg₂ (· * ·) (read0 m c t y k r hr) (read1 m c t k l e he)

set_option maxHeartbeats 1000000 in
/-- The result array after the run. -/
theorem result_eq (c : Dev nD) : (dats m 0 c).arrAt 2 cfg0.N = fun i : S16384x16384.Idx =>
    prod (V m c main_v6) (V m c main_v5) (i 0) (i 1) := by
  refine (dats m 0 c).arrAt_eq_of_covers 2 _ (by decide +kernel) fun t hf y => ?_
  have i2 := (idx t).2.2
  have e1 : ((((cfg0.win 2).blk t).view.emb y) 1).val = t.val % 16 * 1024 + (y 1).val := by blk_simp [i2]
  have e0 : ((((cfg0.win 2).blk t).view.emb y) 0).val = t.val / 16 * 1024 + (y 0).val := by blk_simp [i2]
  have hv : (dats m 0 c).after 2 t = out0_2 (iblk m c 0 t) (iblk m c 1 t) := after0_2 m c t
  refine Eq.trans (b := out0_2 (iblk m c 0 t) (iblk m c 1 t) (ix2 (y 0) (y 1))) ?_ ?_
  · blk_simp
    rw [hv]
    exact congrArg _ (eq_ix2 y)
  · exact block_apply m c t _ _ _ _ e0 e1

/-- The weight's column that a column of the result is made with. -/
def col (e : Fin 16384) : Fin 18048 :=
  if h : e.val < 6144 then ⟨1600 + e.val, by omega⟩
  else if h : e.val - 6144 < 2048 then ⟨7744 + (e.val - 6144), by omega⟩
  else if h : e.val - 6144 - 2048 < 4096 then ⟨9856 + (e.val - 6144 - 2048), by omega⟩
  else ⟨13952 + (e.val - 6144 - 2048 - 4096), by omega⟩

/-- The kernel's first argument: the activations, rounded. -/
theorem in0 (c : Dev nD) (r : Fin 16384) (k : Fin 4096) :
    (V m c main_v6 : S16384x4096.Idx → EReal) (ix2 r k) = (m ((c.tc.loc main_arg0)) : S16384x4096.Idx → EReal) (ix2 r k) := by
  have h : V m c main_v6 = truncf (F := Ideal) .bf16 (m (c.tc.loc main_arg0) : FVec Ideal S16384x4096 .f32) bitsLt_bf16_f32 := by
    unfold V
    after_results_simp
    try rfl
  rw [h]
  pointwise

/-- Four column blocks of an array side by side. -/
def cols (B : FVec Ideal S4096x18048 .f32) : FVec Ideal S4096x16384 .f32 :=
  concatenate S4096x16384 1
    [⟨S4096x6144, extractStridedSlice S4096x6144 ![0, 1600] B slices_S4096x18048_S4096x6144_0_1600⟩,
      ⟨S4096x2048, extractStridedSlice S4096x2048 ![0, 7744] B slices_S4096x18048_S4096x2048_0_7744⟩,
      ⟨S4096x4096, extractStridedSlice S4096x4096 ![0, 9856] B slices_S4096x18048_S4096x4096_0_9856⟩,
      ⟨S4096x4096, extractStridedSlice S4096x4096 ![0, 13952] B slices_S4096x18048_S4096x4096_0_13952⟩]
    concatenates_S4096x6144_S4096x2048_S4096x4096_S4096x4096_S4096x16384_d1

theorem cols_apply (B : FVec Ideal S4096x18048 .f32) (k : Fin 4096) (e : Fin 16384) : cols B (ix2 k e) = B (ix2 k (col e)) := by
  unfold cols
  pointwise
  unfold col
  split_ifs <;> rfl

theorem in1 (c : Dev nD) (k : Fin 4096) (e : Fin 16384) :
    (V m c main_v5 : S4096x16384.Idx → EReal) (ix2 k e) = (m ((c.tc.loc main_arg1)) : S4096x18048.Idx → EReal) (ix2 k (col e)) := by
  have h : V m c main_v5 = truncf (F := Ideal) .bf16 (cols (m (c.tc.loc main_arg1))) bitsLt_bf16_f32 := by
    unfold V
    after_results_simp
    rfl
  rw [h]
  exact cols_apply _ k e

end Cert.KernelInIdeal.Prod

end
-- ==== Proof.InEq.lean ====
/- The combined projection's large product: the reference's result, and its equality with the kernel's. -/
module

public import proofs.«01_k».proof.Proof.InVal
public import proofs.«01_k».proof.Proof.Gen.ReferenceInIdeal.Run

@[expose] public section

set_option maxRecDepth 16384

noncomputable section

namespace Cert.ReferenceInIdeal.Prod

open Cert.ReferenceInIdeal Cert.ReferenceInIdeal.Gen Idealize.ShloMosaic Idealize.ShloMosaic.TcCoe Idealize.SL.Sem
open Cert.KernelInIdeal.Prod (col prod)

/-- The whole projection. -/
def whole (A : FVec Ideal S16384x4096 .f32) (B : FVec Ideal S4096x18048 .f32) : FVec Ideal S16384x18048 .f32 :=
  Host.dotGeneral dot_S16384x4096_S4096x18048_S16384x18048_1_0_0_1_n_n none A B

/-- Four column blocks of the projection side by side. -/
def parts (P : FVec Ideal S16384x18048 .f32) : FVec Ideal S16384x16384 .f32 :=
  concatenate S16384x16384 1
    [⟨S16384x6144, extractStridedSlice S16384x6144 ![0, 1600] P slices_S16384x18048_S16384x6144_0_1600⟩,
      ⟨S16384x2048, extractStridedSlice S16384x2048 ![0, 7744] P slices_S16384x18048_S16384x2048_0_7744⟩,
      ⟨S16384x4096, extractStridedSlice S16384x4096 ![0, 9856] P slices_S16384x18048_S16384x4096_0_9856⟩,
      ⟨S16384x4096, extractStridedSlice S16384x4096 ![0, 13952] P slices_S16384x18048_S16384x4096_0_13952⟩]
    concatenates_S16384x6144_S16384x2048_S16384x4096_S16384x4096_S16384x16384_d1

/-- The reference's result as a function of its arguments. -/
def result (A : FVec Ideal S16384x4096 .f32) (B : FVec Ideal S4096x18048 .f32) : FVec Ideal S16384x16384 .bf16 :=
  truncf .bf16 (parts (whole A B)) bitsLt_bf16_f32

theorem whole_apply (A : FVec Ideal S16384x4096 .f32) (B : FVec Ideal S4096x18048 .f32) (r : Fin 16384) (e : Fin 18048) :
    whole A B (ix2 r e) = ∑ k : Fin 4096, A (ix2 r k) * B (ix2 k e) := by
  pointwise [whole]

theorem parts_apply (P : FVec Ideal S16384x18048 .f32) (r e : Fin 16384) : parts P (ix2 r e) = P (ix2 r (col e)) := by
  unfold parts
  pointwise
  unfold col
  split_ifs <;> rfl

theorem result_apply (A : FVec Ideal S16384x4096 .f32) (B : FVec Ideal S4096x18048 .f32) (r e : Fin 16384) :
    result A B (ix2 r e) = ∑ k : Fin 4096, A (ix2 r k) * B (ix2 k (col e)) :=
  (parts_apply _ r e).trans (whole_apply A B r (col e))

end Cert.ReferenceInIdeal.Prod

namespace Cert.InProj

open Idealize.ShloMosaic Idealize.ShloMosaic.TcCoe Idealize.SL.Sem

/-- The kernel's result array is the reference's result, at equal arguments. -/
theorem in_eq (m : (ℓ : Loc KernelInIdeal.nD KernelInIdeal.τ KernelInIdeal.sig) → Buf (Elt Ideal) ℓ)
    (m' : (ℓ : Loc ReferenceInIdeal.nD ReferenceInIdeal.τ ReferenceInIdeal.sig) → Buf (Elt Ideal) ℓ) (c : Dev KernelInIdeal.nD)
    (h0 : m' (c.tc.loc ReferenceInIdeal.main_arg0) = m (c.tc.loc KernelInIdeal.main_arg0))
    (h1 : m' (c.tc.loc ReferenceInIdeal.main_arg1) = m (c.tc.loc KernelInIdeal.main_arg1)) :
    ReferenceInIdeal.Prod.result (m' (c.tc.loc ReferenceInIdeal.main_arg0)) (m' (c.tc.loc ReferenceInIdeal.main_arg1))
      = (KernelInIdeal.Gen.dats m 0 c).arrAt 2 KernelInIdeal.cfg0.N := by
  rw [h0, h1, KernelInIdeal.Prod.result_eq m c]
  funext i
  rw [eq_ix2 i]
  refine (ReferenceInIdeal.Prod.result_apply _ _ _ _).trans ?_
  exact Finset.sum_congr rfl fun k _ =>
    congrArg₂ (· * ·) (KernelInIdeal.Prod.in0 m c (i 0) k).symm (KernelInIdeal.Prod.in1 m c k (i 1)).symm

end Cert.InProj

end
-- ==== Proof.MixEq.lean ====
/- The gated sum of two products: the kernel's result array after the run, the reference's result, and their equality. -/
module

public import proofs.«01_k».proof.Proof.Gen.KernelMixIdeal.Value
public import proofs.«01_k».proof.Proof.Gen.ReferenceMixIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelMixIdeal.Prod

open Cert.KernelMixIdeal Cert.KernelMixIdeal.Gen Idealize.ShloMosaic Idealize.ShloMosaic.TcCoe Idealize.SL.Sem

/-- A block's payload at an index: two products, each times the logistic of its gate. -/
theorem pay_apply (A : Vec Ideal S512x2048 .bf16) (P : Vec Ideal S2048x1024 .bf16) (B : Vec Ideal S512x2048 .bf16)
    (Q : Vec Ideal S2048x1024 .bf16) (Y Z : Vec Ideal S512x1024 .bf16) (r : Fin 512) (l : Fin 1024) :
    k0_pay1 A P B Q Y Z (ix2 r l) = Ideal.logistic (Y (ix2 r l)) * (∑ k : Fin 2048, A (ix2 r k) * P (ix2 k l))
      + Ideal.logistic (Z (ix2 r l)) * (∑ k : Fin 2048, B (ix2 r k) * Q (ix2 k l)) := by
  pointwise [k0_pay1]

/-- The gated sum over whole arrays, at an index. -/
def gated (A : S16384x2048.Idx → EReal) (P : S2048x4096.Idx → EReal) (B : S16384x2048.Idx → EReal) (Q : S2048x4096.Idx → EReal)
    (Z : S16384x16384.Idx → EReal) (r : Fin 16384) (e : Fin 4096) : EReal :=
  Ideal.logistic (Z (ix2 r ⟨8192 + e.val, by omega⟩)) * (∑ k : Fin 2048, A (ix2 r k) * P (ix2 k e))
    + Ideal.logistic (Z (ix2 r ⟨12288 + e.val, by omega⟩)) * (∑ k : Fin 2048, B (ix2 r k) * Q (ix2 k e))

variable (m : (ℓ : Loc nD τ sig) → Buf (Elt Ideal) ℓ)

/-- The blocks of a point: row block and column block. -/
theorem idx (t : Fin cfg0.N) : win0_0.index t = ![t.val / 4, 0] ∧ win0_1.index t = ![0, t.val % 4] ∧ win0_2.index t = ![t.val / 4, 8 + t.val % 4]
    ∧ win0_3.index t = ![t.val / 4, 0] ∧ win0_4.index t = ![0, t.val % 4] ∧ win0_5.index t = ![t.val / 4, 12 + t.val % 4]
    ∧ win0_6.index t = ![t.val / 4, t.val % 4] := by
  revert t
  decide +kernel

theorem read0 (c : Dev nD) (t : Fin cfg0.N) (y : Fin 512) (k : Fin 2048) (r : Fin 16384) (hr : r.val = t.val / 4 * 512 + y.val) :
    iblk m c 0 t (ix2 y k) = V m c main_v0 (ix2 r k) := by
  blk_ext [iblk, (idx t).1]

theorem read1 (c : Dev nD) (t : Fin cfg0.N) (k : Fin 2048) (l : Fin 1024) (e : Fin 4096) (he : e.val = t.val % 4 * 1024 + l.val) :
    iblk m c 1 t (ix2 k l) = V m c main_v1 (ix2 k e) := by
  blk_ext [iblk, (idx t).2.1]

theorem read2 (c : Dev nD) (t : Fin cfg0.N) (y : Fin 512) (l : Fin 1024) (r e : Fin 16384)
    (hr : r.val = t.val / 4 * 512 + y.val) (he : e.val = (8 + t.val % 4) * 1024 + l.val) :
    iblk m c 2 t (ix2 y l) = V m c main_v4 (ix2 r e) := by
  blk_ext [iblk, (idx t).2.2.1]

theorem read3 (c : Dev nD) (t : Fin cfg0.N) (y : Fin 512) (k : Fin 2048) (r : Fin 16384) (hr : r.val = t.val / 4 * 512 + y.val) :
    iblk m c 3 t (ix2 y k) = V m c main_v2 (ix2 r k) := by
  blk_ext [iblk, (idx t).2.2.2.1]

theorem read4 (c : Dev nD) (t : Fin cfg0.N) (k : Fin 2048) (l : Fin 1024) (e : Fin 4096) (he : e.val = t.val % 4 * 1024 + l.val) :
    iblk m c 4 t (ix2 k l) = V m c main_v3 (ix2 k e) := by
  blk_ext [iblk, (idx t).2.2.2.2.1]

theorem read5 (c : Dev nD) (t : Fin cfg0.N) (y : Fin 512) (l : Fin 1024) (r e : Fin 16384)
    (hr : r.val = t.val / 4 * 512 + y.val) (he : e.val = (12 + t.val % 4) * 1024 + l.val) :
    iblk m c 5 t (ix2 y l) = V m c main_v4 (ix2 r e) := by
  blk_ext [iblk, (idx t).2.2.2.2.2.1]

/-- What a point leaves in the output block. -/
def left (c : Dev nD) (t : Fin cfg0.N) : Vec Ideal S512x1024 .bf16 :=
  out0_6 (iblk m c 0 t) (iblk m c 1 t) (iblk m c 2 t) (iblk m c 3 t) (iblk m c 4 t) (iblk m c 5 t)

theorem left_eq (c : Dev nD) (t : Fin cfg0.N) : left m c t
    = k0_pay1 (iblk m c 0 t) (iblk m c 1 t) (iblk m c 3 t) (iblk m c 4 t) (iblk m c 2 t) (iblk m c 5 t) := by
  unfold left out0_6
  rw [View.canon_unit_zero (by decide), View.ld_unit_zero (by decide), View.ld_unit_zero (by decide), View.ld_unit_zero (by decide),
    View.ld_unit_zero (by decide), View.ld_unit_zero (by decide), View.ld_unit_zero (by decide)]

/-- The output block of a point, at an index, over the arrays. -/
theorem block_apply (c : Dev nD) (t : Fin cfg0.N) (y : Fin 512) (l : Fin 1024) (r : Fin 16384) (e : Fin 4096)
    (hr : r.val = t.val / 4 * 512 + y.val) (he : e.val = t.val % 4 * 1024 + l.val) :
    left m c t (ix2 y l) = gated (V m c main_v0) (V m c main_v1) (V m c main_v2) (V m c main_v3) (V m c main_v4) r e := by
  rw [left_eq, pay_apply]
  refine congrArg₂ (· + ·) (congrArg₂ (· * ·) (congrArg _ ?_) ?_) (congrArg₂ (· * ·) (congrArg _ ?_) ?_)
  · exact read2 m c t y l r _ hr (by show 8192 + e.val = _; omega)
  · exact Finset.sum_congr rfl fun k _ => congrArg₂ (· * ·) (read0 m c t y k r hr) (read1 m c t k l e he)
  · exact read5 m c t y l r _ hr (by show 12288 + e.val = _; omega)
  · exact Finset.sum_congr rfl fun k _ => congrArg₂ (· * ·) (read3 m c t y k r hr) (read4 m c t k l e he)

set_option maxHeartbeats 1000000 in
/-- The result array after the run. -/
theorem result_eq (c : Dev nD) : (dats m 0 c).arrAt 6 cfg0.N = fun i : S16384x4096.Idx =>
    gated (V m c main_v0) (V m c main_v1) (V m c main_v2) (V m c main_v3) (V m c main_v4) (i 0) (i 1) := by
  refine (dats m 0 c).arrAt_eq_of_covers 6 _ (by decide +kernel) fun t hf y => ?_
  have i6 := (idx t).2.2.2.2.2.2
  have e1 : ((((cfg0.win 6).blk t).view.emb y) 1).val = t.val % 4 * 1024 + (y 1).val := by blk_simp [i6]
  have e0 : ((((cfg0.win 6).blk t).view.emb y) 0).val = t.val / 4 * 512 + (y 0).val := by blk_simp [i6]
  have hv : (dats m 0 c).after 6 t = left m c t := after0_6 m c t
  refine Eq.trans (b := left m c t (ix2 (y 0) (y 1))) ?_ ?_
  · blk_simp
    rw [hv]
    exact congrArg _ (eq_ix2 y)
  · exact block_apply m c t _ _ _ _ e0 e1

/-- The kernel's arguments: rounded. -/
theorem in0 (c : Dev nD) (r : Fin 16384) (k : Fin 2048) :
    (V m c main_v0 : S16384x2048.Idx → EReal) (ix2 r k) = (m (c.tc.loc main_arg0) : S16384x2048.Idx → EReal) (ix2 r k) := by
  have h : V m c main_v0 = truncf (F := Ideal) .bf16 (m (c.tc.loc main_arg0) : FVec Ideal S16384x2048 .f32) bitsLt_bf16_f32 := by
    unfold V
    after_results_simp
    try rfl
  rw [h]
  pointwise

theorem in1 (c : Dev nD) (k : Fin 2048) (e : Fin 4096) :
    (V m c main_v1 : S2048x4096.Idx → EReal) (ix2 k e) = (m (c.tc.loc main_arg1) : S2048x4096.Idx → EReal) (ix2 k e) := by
  have h : V m c main_v1 = truncf (F := Ideal) .bf16 (m (c.tc.loc main_arg1) : FVec Ideal S2048x4096 .f32) bitsLt_bf16_f32 := by
    unfold V
    after_results_simp
    try rfl
  rw [h]
  pointwise

theorem in2 (c : Dev nD) (r : Fin 16384) (k : Fin 2048) :
    (V m c main_v2 : S16384x2048.Idx → EReal) (ix2 r k) = (m (c.tc.loc main_arg2) : S16384x2048.Idx → EReal) (ix2 r k) := by
  have h : V m c main_v2 = truncf (F := Ideal) .bf16 (m (c.tc.loc main_arg2) : FVec Ideal S16384x2048 .f32) bitsLt_bf16_f32 := by
    unfold V
    after_results_simp
    try rfl
  rw [h]
  pointwise

theorem in3 (c : Dev nD) (k : Fin 2048) (e : Fin 4096) :
    (V m c main_v3 : S2048x4096.Idx → EReal) (ix2 k e) = (m (c.tc.loc main_arg3) : S2048x4096.Idx → EReal) (ix2 k e) := by
  have h : V m c main_v3 = truncf (F := Ideal) .bf16 (m (c.tc.loc main_arg3) : FVec Ideal S2048x4096 .f32) bitsLt_bf16_f32 := by
    unfold V
    after_results_simp
    try rfl
  rw [h]
  pointwise

theorem in4 (c : Dev nD) (r e : Fin 16384) :
    (V m c main_v4 : S16384x16384.Idx → EReal) (ix2 r e) = (m (c.tc.loc main_arg4) : S16384x16384.Idx → EReal) (ix2 r e) := by
  have h : V m c main_v4 = truncf (F := Ideal) .bf16 (m (c.tc.loc main_arg4) : FVec Ideal S16384x16384 .f32) bitsLt_bf16_f32 := by
    unfold V
    after_results_simp
    try rfl
  rw [h]
  pointwise

end Cert.KernelMixIdeal.Prod

namespace Cert.ReferenceMixIdeal.Prod

open Cert.ReferenceMixIdeal Cert.ReferenceMixIdeal.Gen Idealize.ShloMosaic Idealize.ShloMosaic.TcCoe Idealize.SL.Sem

/-- The logistic of an array, as the reference writes it. -/
def sigm (X : FVec Ideal S16384x4096 .f32) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32)) (Host.exp (Host.negf X)))

/-- The two gates. -/
def gateA (Z : FVec Ideal S16384x16384 .f32) : FVec Ideal S16384x4096 .f32 := extractStridedSlice S16384x4096 ![0, 8192] Z slices_S16384x16384_S16384x4096_0_8192

def gateB (Z : FVec Ideal S16384x16384 .f32) : FVec Ideal S16384x4096 .f32 := extractStridedSlice S16384x4096 ![0, 12288] Z slices_S16384x16384_S16384x4096_0_12288

/-- A product. -/
def dot (A : FVec Ideal S16384x2048 .f32) (P : FVec Ideal S2048x4096 .f32) : FVec Ideal S16384x4096 .f32 :=
  Host.dotGeneral dot_S16384x2048_S2048x4096_S16384x4096_1_0_0_1_n_n none A P

/-- The reference's result as a function of its arguments. -/
def result (A : FVec Ideal S16384x2048 .f32) (P : FVec Ideal S2048x4096 .f32) (B : FVec Ideal S16384x2048 .f32) (Q : FVec Ideal S2048x4096 .f32)
    (Z : FVec Ideal S16384x16384 .f32) : FVec Ideal S16384x4096 .bf16 :=
  truncf .bf16 (addf (mulf (sigm (gateA Z)) (dot A P)) (mulf (sigm (gateB Z)) (dot B Q))) bitsLt_bf16_f32

theorem sigm_apply (X : FVec Ideal S16384x4096 .f32) (r : Fin 16384) (e : Fin 4096) : sigm X (ix2 r e) = Ideal.logistic (X (ix2 r e)) := by
  pointwise [sigm, Ideal.logistic]

theorem gateA_apply (Z : FVec Ideal S16384x16384 .f32) (r : Fin 16384) (e : Fin 4096) : gateA Z (ix2 r e) = Z (ix2 r ⟨8192 + e.val, by omega⟩) := by
  pointwise [gateA]

theorem gateB_apply (Z : FVec Ideal S16384x16384 .f32) (r : Fin 16384) (e : Fin 4096) : gateB Z (ix2 r e) = Z (ix2 r ⟨12288 + e.val, by omega⟩) := by
  pointwise [gateB]

theorem dot_apply (A : FVec Ideal S16384x2048 .f32) (P : FVec Ideal S2048x4096 .f32) (r : Fin 16384) (e : Fin 4096) :
    dot A P (ix2 r e) = ∑ k : Fin 2048, A (ix2 r k) * P (ix2 k e) := by
  pointwise [dot]

theorem result_apply (A : FVec Ideal S16384x2048 .f32) (P : FVec Ideal S2048x4096 .f32) (B : FVec Ideal S16384x2048 .f32) (Q : FVec Ideal S2048x4096 .f32)
    (Z : FVec Ideal S16384x16384 .f32) (r : Fin 16384) (e : Fin 4096) :
    result A P B Q Z (ix2 r e) = KernelMixIdeal.Prod.gated A P B Q Z r e := by
  have h : result A P B Q Z (ix2 r e) = sigm (gateA Z) (ix2 r e) * dot A P (ix2 r e) + sigm (gateB Z) (ix2 r e) * dot B Q (ix2 r e) := by
    pointwise [result]
  rw [h, sigm_apply, sigm_apply, gateA_apply, gateB_apply, dot_apply, dot_apply]
  rfl

end Cert.ReferenceMixIdeal.Prod

namespace Cert.Mix

open Idealize.ShloMosaic Idealize.ShloMosaic.TcCoe Idealize.SL.Sem

theorem gated_congr {A A' B B' : KernelMixIdeal.S16384x2048.Idx → EReal} {P P' Q Q' : KernelMixIdeal.S2048x4096.Idx → EReal}
    {Z Z' : KernelMixIdeal.S16384x16384.Idx → EReal} (hA : ∀ r k, A (ix2 r k) = A' (ix2 r k)) (hP : ∀ k e, P (ix2 k e) = P' (ix2 k e))
    (hB : ∀ r k, B (ix2 r k) = B' (ix2 r k)) (hQ : ∀ k e, Q (ix2 k e) = Q' (ix2 k e)) (hZ : ∀ r e, Z (ix2 r e) = Z' (ix2 r e))
    (r : Fin 16384) (e : Fin 4096) : KernelMixIdeal.Prod.gated A P B Q Z r e = KernelMixIdeal.Prod.gated A' P' B' Q' Z' r e := by
  unfold KernelMixIdeal.Prod.gated
  simp only [hA, hP, hB, hQ, hZ]

/-- The kernel's result array is the reference's result, at equal arguments. -/
theorem mix_eq (m : (ℓ : Loc KernelMixIdeal.nD KernelMixIdeal.τ KernelMixIdeal.sig) → Buf (Elt Ideal) ℓ)
    (m' : (ℓ : Loc ReferenceMixIdeal.nD ReferenceMixIdeal.τ ReferenceMixIdeal.sig) → Buf (Elt Ideal) ℓ) (c : Dev KernelMixIdeal.nD)
    (h0 : m' (c.tc.loc ReferenceMixIdeal.main_arg0) = m (c.tc.loc KernelMixIdeal.main_arg0))
    (h1 : m' (c.tc.loc ReferenceMixIdeal.main_arg1) = m (c.tc.loc KernelMixIdeal.main_arg1))
    (h2 : m' (c.tc.loc ReferenceMixIdeal.main_arg2) = m (c.tc.loc KernelMixIdeal.main_arg2))
    (h3 : m' (c.tc.loc ReferenceMixIdeal.main_arg3) = m (c.tc.loc KernelMixIdeal.main_arg3))
    (h4 : m' (c.tc.loc ReferenceMixIdeal.main_arg4) = m (c.tc.loc KernelMixIdeal.main_arg4)) :
    ReferenceMixIdeal.Prod.result (m' (c.tc.loc ReferenceMixIdeal.main_arg0)) (m' (c.tc.loc ReferenceMixIdeal.main_arg1))
        (m' (c.tc.loc ReferenceMixIdeal.main_arg2)) (m' (c.tc.loc ReferenceMixIdeal.main_arg3)) (m' (c.tc.loc ReferenceMixIdeal.main_arg4))
      = (KernelMixIdeal.Gen.dats m 0 c).arrAt 6 KernelMixIdeal.cfg0.N := by
  rw [h0, h1, h2, h3, h4, KernelMixIdeal.Prod.result_eq m c]
  funext i
  rw [eq_ix2 i]
  refine (ReferenceMixIdeal.Prod.result_apply _ _ _ _ _ _ _).trans ?_
  exact gated_congr (fun r k => (KernelMixIdeal.Prod.in0 m c r k).symm) (fun k e => (KernelMixIdeal.Prod.in1 m c k e).symm)
    (fun r k => (KernelMixIdeal.Prod.in2 m c r k).symm) (fun k e => (KernelMixIdeal.Prod.in3 m c k e).symm)
    (fun r e => (KernelMixIdeal.Prod.in4 m c r e).symm) (i 0) (i 1)

end Cert.Mix

end
-- ==== Proof.OutEq.lean ====
/- The output projection with its residual: the kernel's result array after the run, the reference's result, and their equality. -/
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelOutIdeal.Prod

open Cert.KernelOutIdeal Cert.KernelOutIdeal.Gen Idealize.ShloMosaic Idealize.ShloMosaic.TcCoe Idealize.SL.Sem

/-- A block's payload at an index: the residual plus one row times one column. -/
theorem pay_apply (H : Vec Ideal S512x1024 .f32) (X : Vec Ideal S512x4096 .bf16) (W : Vec Ideal S4096x1024 .bf16) (r : Fin 512) (l : Fin 1024) :
    k0_pay1 H X W (ix2 r l) = H (ix2 r l) + ∑ k : Fin 4096, X (ix2 r k) * W (ix2 k l) := by
  pointwise [k0_pay1]

/-- The residual plus the product of two arrays, at an index. -/
def prod (X : S16384x4096.Idx → EReal) (W : S4096x4096.Idx → EReal) (H : S16384x4096.Idx → EReal) (r : Fin 16384) (e : Fin 4096) : EReal :=
  H (ix2 r e) + ∑ k : Fin 4096, X (ix2 r k) * W (ix2 k e)

variable (m : (ℓ : Loc nD τ sig) → Buf (Elt Ideal) ℓ)

/-- The blocks of a point: row block and column block. -/
theorem idx (t : Fin cfg0.N) : win0_0.index t = ![t.val / 4, 0] ∧ win0_1.index t = ![0, t.val % 4] ∧ win0_2.index t = ![t.val / 4, t.val % 4]
    ∧ win0_3.index t = ![t.val / 4, t.val % 4] := by
  revert t
  decide +kernel

theorem read0 (c : Dev nD) (t : Fin cfg0.N) (y : Fin 512) (k : Fin 4096) (r : Fin 16384) (hr : r.val = t.val / 4 * 512 + y.val) :
    iblk m c 0 t (ix2 y k) = V m c main_v0 (ix2 r k) := by
  blk_ext [iblk, (idx t).1]

theorem read1 (c : Dev nD) (t : Fin cfg0.N) (k : Fin 4096) (l : Fin 1024) (e : Fin 4096) (he : e.val = t.val % 4 * 1024 + l.val) :
    iblk m c 1 t (ix2 k l) = V m c main_v1 (ix2 k e) := by
  blk_ext [iblk, (idx t).2.1]

theorem read2 (c : Dev nD) (t : Fin cfg0.N) (y : Fin 512) (l : Fin 1024) (r : Fin 16384) (e : Fin 4096)
    (hr : r.val = t.val / 4 * 512 + y.val) (he : e.val = t.val % 4 * 1024 + l.val) :
    iblk m c 2 t (ix2 y l) = V m c main_arg2 (ix2 r e) := by
  blk_ext [iblk, (idx t).2.2.1]

/-- The output block of a point, at an index, over the arrays. -/
theorem block_apply (c : Dev nD) (t : Fin cfg0.N) (y : Fin 512) (l : Fin 1024) (r : Fin 16384) (e : Fin 4096)
    (hr : r.val = t.val / 4 * 512 + y.val) (he : e.val = t.val % 4 * 1024 + l.val) :
    out0_3 (iblk m c 0 t) (iblk m c 1 t) (iblk m c 2 t) (ix2 y l) = prod (V m c main_v0) (V m c main_v1) (V m c main_arg2) r e := by
  have h : out0_3 (iblk m c 0 t) (iblk m c 1 t) (iblk m c 2 t) = k0_pay1 (iblk m c 2 t) (iblk m c 0 t) (iblk m c 1 t) := by
    unfold out0_3
    rw [View.canon_unit_zero (by decide), View.ld_unit_zero (by decide), View.ld_unit_zero (by decide), View.ld_unit_zero (by decide)]
  rw [h, pay_apply]
  exact congrArg₂ (· + ·) (read2 m c t y l r e hr he)
    (Finset.sum_congr rfl fun k _ => congrArg₂ (· * ·) (read0 m c t y k r hr) (read1 m c t k l e he))

set_option maxHeartbeats 1000000 in
/-- The result array after the run. -/
theorem result_eq (c : Dev nD) : (dats m 0 c).arrAt 3 cfg0.N = fun i : S16384x4096.Idx =>
    prod (V m c main_v0) (V m c main_v1) (V m c main_arg2) (i 0) (i 1) := by
  refine (dats m 0 c).arrAt_eq_of_covers 3 _ (by decide +kernel) fun t hf y => ?_
  have i3 := (idx t).2.2.2
  have e1 : ((((cfg0.win 3).blk t).view.emb y) 1).val = t.val % 4 * 1024 + (y 1).val := by blk_simp [i3]
  have e0 : ((((cfg0.win 3).blk t).view.emb y) 0).val = t.val / 4 * 512 + (y 0).val := by blk_simp [i3]
  have hv : (dats m 0 c).after 3 t = out0_3 (iblk m c 0 t) (iblk m c 1 t) (iblk m c 2 t) := after0_3 m c t
  refine Eq.trans (b := out0_3 (iblk m c 0 t) (iblk m c 1 t) (iblk m c 2 t) (ix2 (y 0) (y 1))) ?_ ?_
  · blk_simp
    rw [hv]
    exact congrArg _ (eq_ix2 y)
  · exact block_apply m c t _ _ _ _ e0 e1

/-- The kernel's first two arguments: rounded. -/
theorem in0 (c : Dev nD) (r : Fin 16384) (k : Fin 4096) :
    (V m c main_v0 : S16384x4096.Idx → EReal) (ix2 r k) = (m (c.tc.loc main_arg0) : S16384x4096.Idx → EReal) (ix2 r k) := by
  have h : V m c main_v0 = truncf (F := Ideal) .bf16 (m (c.tc.loc main_arg0) : FVec Ideal S16384x4096 .f32) bitsLt_bf16_f32 := by
    unfold V
    after_results_simp
    try rfl
  rw [h]
  pointwise

theorem in1 (c : Dev nD) (k e : Fin 4096) :
    (V m c main_v1 : S4096x4096.Idx → EReal) (ix2 k e) = (m (c.tc.loc main_arg1) : S4096x4096.Idx → EReal) (ix2 k e) := by
  have h : V m c main_v1 = truncf (F := Ideal) .bf16 (m (c.tc.loc main_arg1) : FVec Ideal S4096x4096 .f32) bitsLt_bf16_f32 := by
    unfold V
    after_results_simp
    try rfl
  rw [h]
  pointwise

end Cert.KernelOutIdeal.Prod

namespace Cert.ReferenceOutIdeal.Prod

open Cert.ReferenceOutIdeal Cert.ReferenceOutIdeal.Gen Idealize.ShloMosaic Idealize.ShloMosaic.TcCoe Idealize.SL.Sem

/-- The reference's result as a function of its arguments. -/
def result (A : FVec Ideal S16384x4096 .f32) (B : FVec Ideal S4096x4096 .f32) (H : FVec Ideal S16384x4096 .f32) : FVec Ideal S16384x4096 .f32 :=
  addf H (Host.dotGeneral dot_S16384x4096_S4096x4096_S16384x4096_1_0_0_1_n_n none A B)

theorem result_apply (A : FVec Ideal S16384x4096 .f32) (B : FVec Ideal S4096x4096 .f32) (H : FVec Ideal S16384x4096 .f32) (r : Fin 16384) (e : Fin 4096) :
    result A B H (ix2 r e) = H (ix2 r e) + ∑ k : Fin 4096, A (ix2 r k) * B (ix2 k e) := by
  pointwise [result]

end Cert.ReferenceOutIdeal.Prod

namespace Cert.OutProj

open Idealize.ShloMosaic Idealize.ShloMosaic.TcCoe Idealize.SL.Sem

/-- The kernel's result array is the reference's result, at equal arguments. -/
theorem out_eq (m : (ℓ : Loc KernelOutIdeal.nD KernelOutIdeal.τ KernelOutIdeal.sig) → Buf (Elt Ideal) ℓ)
    (m' : (ℓ : Loc ReferenceOutIdeal.nD ReferenceOutIdeal.τ ReferenceOutIdeal.sig) → Buf (Elt Ideal) ℓ) (c : Dev KernelOutIdeal.nD)
    (h0 : m' (c.tc.loc ReferenceOutIdeal.main_arg0) = m (c.tc.loc KernelOutIdeal.main_arg0))
    (h1 : m' (c.tc.loc ReferenceOutIdeal.main_arg1) = m (c.tc.loc KernelOutIdeal.main_arg1))
    (h2 : m' (c.tc.loc ReferenceOutIdeal.main_arg2) = m (c.tc.loc KernelOutIdeal.main_arg2)) :
    ReferenceOutIdeal.Prod.result (m' (c.tc.loc ReferenceOutIdeal.main_arg0)) (m' (c.tc.loc ReferenceOutIdeal.main_arg1))
        (m' (c.tc.loc ReferenceOutIdeal.main_arg2))
      = (KernelOutIdeal.Gen.dats m 0 c).arrAt 3 KernelOutIdeal.cfg0.N := by
  rw [h0, h1, h2, KernelOutIdeal.Prod.result_eq m c]
  funext i
  rw [eq_ix2 i]
  refine (ReferenceOutIdeal.Prod.result_apply _ _ _ _ _).trans ?_
  exact congrArg₂ (· + ·) (congrFun (KernelOutIdeal.Gen.V_main_arg2 m c) _).symm (Finset.sum_congr rfl fun k _ =>
    congrArg₂ (· * ·) (KernelOutIdeal.Prod.in0 m c (i 0) k).symm (KernelOutIdeal.Prod.in1 m c k (i 1)).symm)

end Cert.OutProj

end
-- ==== Proof.UpLoop.lean ====
module

public import proofs.«01_k».proof.Proof.Gen.KernelUpIdeal.Launch
public import proofs.«01_k».proof.Proof.Gen.KernelUpIdeal.Skeleton
public import proofs.«01_k».proof.Proof.Gen.KernelUpIdeal.Loops
public import Idealize.ShloMosaic.Lib.Pipeline.FrameBody
public import Idealize.ShloMosaic.Lib.Pipeline.Kit
public import Idealize.ShloMosaic.Lib.Exec
public import Idealize.ShloMosaic.Lib.Pipeline.Value
public import Idealize.ShloMosaic.Lib.Ring
public import Idealize.ShloMosaic.Lib.Tactic
public import Idealize.ShloMosaic.Lib.WordCmp
public import Idealize.ShloMosaic.Lib.Claim

/-! The two counted loops of the expert product's body: sixteen trips round a half of the streamed weights to
bf16 and put it into its half of the columns of the kept block. -/

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The streamed weights' buffer, and the kept bf16 block. -/
abbrev scrM : Memref sig .tc .vmem S2x4096x512 .f32 := Memref.whole cc0_scratch0
abbrev scrW : (scrM).IsWhole := Memref.isWhole_whole _
abbrev wbfM : Memref sig .tc .vmem S4096x1024 .bf16 := Memref.whole cc0_scratch1
abbrev wbfW : (wbfM).IsWhole := Memref.isWhole_whole _

/-- The two halves of the streamed weights' buffer. -/
abbrev half0 : Memref sig .tc .vmem S4096x512 .f32 :=
  (scrM.slice (Rect.unit (s := S2x4096x512) ![0, 0, 0] S1x4096x512.size inb_S2x4096x512_S1x4096x512_0_0_0) (fun _ => rfl)).squeeze S4096x512 squeezes_S1x4096x512_S4096x512
abbrev half1 : Memref sig .tc .vmem S4096x512 .f32 :=
  (scrM.slice (Rect.unit (s := S2x4096x512) ![1, 0, 0] S1x4096x512.size inb_S2x4096x512_S1x4096x512_1_0_0) (fun _ => rfl)).squeeze S4096x512 squeezes_S1x4096x512_S4096x512

/-- The bf16 rounding of one element. -/
def cvt (x : F .f32) : F .bf16 := FloatOps.truncf .bf16 bitsLt_bf16_f32 x

def rc (r : Fin 4096) (k : Fin 512) : S4096x512.Idx := fun | 0 => r | 1 => k
def rk (r : Fin 4096) (k : Fin 1024) : S4096x1024.Idx := fun | 0 => r | 1 => k

theorem off6_eq (k : Fin k0_t1_loop.trips) : k0_off6 k = ![256 * k.val, 0] := by revert k; decide +kernel
theorem off7_eq (k : Fin k0_t1_loop.trips) : k0_off7 k = ![256 * k.val, 0] := by revert k; decide +kernel
theorem off8_eq (k : Fin k0_t2_loop.trips) : k0_off8 k = ![256 * k.val, 0] := by revert k; decide +kernel
theorem off9_eq (k : Fin k0_t2_loop.trips) : k0_off9 k = ![256 * k.val, 512] := by revert k; decide +kernel

def sb (r : Fin 256) (k : Fin 512) : S256x512.Idx := fun | 0 => r | 1 => k

theorem read_wbf (g : S4096x1024.Idx → Elt F .bf16) (y : S4096x1024.Idx) : wbfM.view.read (Elt F) g y = g y := rfl

theorem put_hit (f : S4096x1024.Idx → Elt F .bf16) (off : Fin 2 → ℕ) (inb : ∀ a, off a + S256x512.size a ≤ S4096x1024.size a)
    (w : S256x512.Idx → Elt F .bf16) (a b : ℕ) (e : off = ![a, b]) (r : Fin 4096) (q : Fin 1024) (x : Fin 256) (z : Fin 512)
    (hr : r.val = a + x.val) (hq : q.val = b + z.val) :
    wbfM.view.writes (Elt F) f [⟨Rect.unit (s := S4096x1024) off S256x512.size inb, w⟩] (rk r q) = w (sb x z) := by
  subst e
  rw [← read_wbf (wbfM.view.writes (Elt F) f _)]
  refine View.read_writes_cons_hit_of_coords (Val := Elt F) wbfM.view f (Rect.unit (s := S4096x1024) ![a, b] S256x512.size inb) w [] (sb x z) (rk r q) ?_
  intro i
  fin_cases i
  · show r.val = a + 1 * x.val; omega
  · show q.val = b + 1 * z.val; omega

theorem put_miss (f : S4096x1024.Idx → Elt F .bf16) (off : Fin 2 → ℕ) (inb : ∀ a, off a + S256x512.size a ≤ S4096x1024.size a)
    (w : S256x512.Idx → Elt F .bf16) (a b : ℕ) (e : off = ![a, b]) (r : Fin 4096) (q : Fin 1024)
    (h : r.val < a ∨ a + 256 ≤ r.val ∨ q.val < b ∨ b + 512 ≤ q.val) :
    wbfM.view.writes (Elt F) f [⟨Rect.unit (s := S4096x1024) off S256x512.size inb, w⟩] (rk r q) = f (rk r q) := by
  subst e
  rw [← read_wbf (wbfM.view.writes (Elt F) f _)]
  by_cases hr : r.val < a ∨ a + 256 ≤ r.val
  · exact View.read_writes_cons_miss_of_axis (Val := Elt F) wbfM.view f ⟨Rect.unit (s := S4096x1024) ![a, b] S256x512.size inb, w⟩ [] (rk r q) 0 a 256 rfl rfl rfl hr
  · exact View.read_writes_cons_miss_of_axis (Val := Elt F) wbfM.view f ⟨Rect.unit (s := S4096x1024) ![a, b] S256x512.size inb, w⟩ [] (rk r q) 1 b 512 rfl rfl rfl (by show q.val < b ∨ b + 512 ≤ q.val; omega)

theorem get_at (M : Memref sig .tc .vmem S4096x512 .f32) (X : M.view.ty.Contents (Elt F)) (off : Fin 2 → ℕ) (inb : ∀ a, off a + S256x512.size a ≤ S4096x512.size a)
    (a : ℕ) (e : off = ![a, 0]) (r : Fin 4096) (q : Fin 512) (x : Fin 256) (hr : r.val = a + x.val) :
    M.view.readAt (Elt F) (Rect.unit (s := S4096x512) off S256x512.size inb).toLoadRect X (sb x q) = M.view.read (Elt F) X (rc r q) := by
  subst e
  rw [View.readAt_apply]
  congr 1
  funext i
  fin_cases i
  · apply Fin.ext; show a + 1 * x.val = r.val; omega
  · apply Fin.ext; show 0 + 1 * q.val = q.val; omega

theorem pay3_apply (v : Vec F S256x512 .f32) (y : S256x512.Idx) : k0_pay3 v y = cvt (v y) := by
  unfold k0_pay3
  rw [shapeCast_self]
  rfl
theorem pay4_apply (v : Vec F S256x512 .f32) (y : S256x512.Idx) : k0_pay4 v y = cvt (v y) := by
  unfold k0_pay4
  rw [shapeCast_self]
  rfl

/-- The kept block before trip `k` of the first loop and of the second, from `G`. -/
def part0 (p : S4096x512.Idx → Elt F .f32) (G : S4096x1024.Idx → Elt F .bf16) : ℕ → S4096x1024.Idx → Elt F .bf16
  | 0 => G
  | k + 1 => fun y => if h : (y 1).val < 512 ∧ 256 * k ≤ (y 0).val ∧ (y 0).val < 256 * k + 256
      then cvt (p (rc (y 0) ⟨(y 1).val, h.1⟩)) else part0 p G k y
def part1 (p : S4096x512.Idx → Elt F .f32) (G : S4096x1024.Idx → Elt F .bf16) : ℕ → S4096x1024.Idx → Elt F .bf16
  | 0 => G
  | k + 1 => fun y => if h : 512 ≤ (y 1).val ∧ 256 * k ≤ (y 0).val ∧ (y 0).val < 256 * k + 256
      then cvt (p (rc (y 0) ⟨(y 1).val - 512, by have : (y 1).val < 1024 := (y 1).isLt; omega⟩)) else part1 p G k y

theorem rk_eta (y : S4096x1024.Idx) : y = rk (y 0) (y 1) := by funext a; fin_cases a <;> rfl

theorem part0_step (k : Fin k0_t1_loop.trips) (X : half0.view.ty.Contents (Elt F)) (G f : S4096x1024.Idx → Elt F .bf16)
    (h : f = part0 (half0.view.read (Elt F) X) G k.val) :
    wbfM.view.writes (Elt F) f [⟨Rect.unit (s := S4096x1024) (k0_off7 k) S256x512.size (k0_off7_inb k),
        k0_pay3 (half0.view.readAt (Elt F) (Rect.unit (s := S4096x512) (k0_off6 k) S256x512.size (k0_off6_inb k)).toLoadRect X)⟩]
      = part0 (half0.view.read (Elt F) X) G (k.val + 1) := by
  have hk : k.val < 16 := Nat.lt_of_lt_of_le k.isLt k0_t1_abs.2.1
  funext y
  obtain ⟨r, q, rfl⟩ : ∃ r q, y = rk r q := ⟨_, _, rk_eta y⟩
  by_cases hin : q.val < 512 ∧ 256 * k.val ≤ r.val ∧ r.val < 256 * k.val + 256
  · refine Eq.trans ?_ (dif_pos hin).symm
    refine (put_hit f _ _ _ _ _ (off7_eq k) r q ⟨r.val - 256 * k.val, by omega⟩ ⟨q.val, hin.1⟩ (by simp only; omega) (by simp only; omega)).trans ?_
    rw [pay3_apply, get_at half0 X _ _ _ (off6_eq k) r _ _ (by simp only; omega)]
    rfl
  · refine Eq.trans ?_ (dif_neg hin).symm
    rw [put_miss f _ _ _ _ _ (off7_eq k) r q (by omega), h]

theorem part1_step (k : Fin k0_t2_loop.trips) (X : half1.view.ty.Contents (Elt F)) (G f : S4096x1024.Idx → Elt F .bf16)
    (h : f = part1 (half1.view.read (Elt F) X) G k.val) :
    wbfM.view.writes (Elt F) f [⟨Rect.unit (s := S4096x1024) (k0_off9 k) S256x512.size (k0_off9_inb k),
        k0_pay4 (half1.view.readAt (Elt F) (Rect.unit (s := S4096x512) (k0_off8 k) S256x512.size (k0_off8_inb k)).toLoadRect X)⟩]
      = part1 (half1.view.read (Elt F) X) G (k.val + 1) := by
  have hk : k.val < 16 := Nat.lt_of_lt_of_le k.isLt k0_t2_abs.2.1
  funext y
  obtain ⟨r, q, rfl⟩ : ∃ r q, y = rk r q := ⟨_, _, rk_eta y⟩
  by_cases hin : 512 ≤ q.val ∧ 256 * k.val ≤ r.val ∧ r.val < 256 * k.val + 256
  · refine Eq.trans ?_ (dif_pos hin).symm
    refine (put_hit f _ _ _ _ _ (off9_eq k) r q ⟨r.val - 256 * k.val, by omega⟩ ⟨q.val - 512, by omega⟩ (by simp only; omega) (by simp only; omega)).trans ?_
    rw [pay4_apply, get_at half1 X _ _ _ (off8_eq k) r _ _ (by simp only; omega)]
    rfl
  · refine Eq.trans ?_ (dif_neg hin).symm
    rw [put_miss f _ _ _ _ _ (off9_eq k) r q (by omega), h]

/-- The kept block, both loops done. -/
def kept (p p' : S4096x512.Idx → Elt F .f32) : S4096x1024.Idx → Elt F .bf16 := fun y =>
  if h : (y 1).val < 512 then cvt (p (rc (y 0) ⟨(y 1).val, h⟩)) else cvt (p' (rc (y 0) ⟨(y 1).val - 512, by have : (y 1).val < 1024 := (y 1).isLt; omega⟩))

theorem part0_at (p : S4096x512.Idx → Elt F .f32) (G : S4096x1024.Idx → Elt F .bf16) (k : ℕ) (y : S4096x1024.Idx) :
    part0 p G k y = if h : (y 1).val < 512 ∧ (y 0).val < 256 * k then cvt (p (rc (y 0) ⟨(y 1).val, h.1⟩)) else G y := by
  induction k with
  | zero => rw [dif_neg (by omega)]; rfl
  | succ k ih =>
    refine (show part0 p G (k + 1) y = dite _ _ _ from rfl).trans ?_
    rw [ih]
    split_ifs <;> first | rfl | omega

theorem part1_at (p : S4096x512.Idx → Elt F .f32) (G : S4096x1024.Idx → Elt F .bf16) (k : ℕ) (y : S4096x1024.Idx) :
    part1 p G k y = if h : 512 ≤ (y 1).val ∧ (y 0).val < 256 * k
      then cvt (p (rc (y 0) ⟨(y 1).val - 512, by have : (y 1).val < 1024 := (y 1).isLt; omega⟩)) else G y := by
  induction k with
  | zero => rw [dif_neg (by omega)]; rfl
  | succ k ih =>
    refine (show part1 p G (k + 1) y = dite _ _ _ from rfl).trans ?_
    rw [ih]
    split_ifs <;> first | rfl | omega

theorem kept_of (p p' : S4096x512.Idx → Elt F .f32) (G : S4096x1024.Idx → Elt F .bf16) :
    part1 p' (part0 p G 16) 16 = kept p p' := by
  funext y
  have hy : (y 0).val < 4096 := (y 0).isLt
  rw [part1_at, part0_at]
  unfold kept
  split_ifs <;> first | rfl | omega

set_option warn.classDefReducibility false in
set_option maxHeartbeats 4000000 in
@[sl_loop] def loopA (𝒱 : Variants) (c : Dev nD) (bd : Option 𝒱.V) (E : Set ℕ) (i : grid0.Coords) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S1 .i32) (harg6 : arg6.IsWhole) (arg7 : Memref sig .tc .vmem S512x4096 .bf16) (harg7 : arg7.IsWhole) (arg8 : Memref sig .tc .hbm S32x4096x4096 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S512x512 .bf16) (harg11 : arg11.IsWhole) (arg14 : DmaSems sig S2) (arg0 : BitVec 32) (arg1 : BitVec 32) (v6 : Elt F .i32) (k0_h2 : k0_cond2 v6 = 1#1)
    (X : half0.view.ty.Contents (Elt F)) (G : S4096x1024.Idx → Elt F .bf16) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 scrM scrW wbfM wbfW arg14 arg0 arg1 v6 k0_h2 where
  inv k _ := iprop((half0.view.loc (c : Thread nD τ) ↦[half0.view.set]{fullShare} X)
    ∗ ∃ f, (wbfM.view.loc (c : Thread nD τ) ↦[wbfM.view.set]{fullShare} f) ∗ ⌜f = part0 (half0.view.read (Elt F) X) G k⌝)
  step k acc := by
    have hk : k.val < 16 := Nat.lt_of_lt_of_le k.isLt k0_t1_abs.2.1
    unfold k0_t1_body
    iintro ⟨Hr, ⟨%f, Hw, %hf⟩⟩
    sl_exec
    sl_step
    isplitl [Hr]; · iexact Hr
    iexists _; isplitl [Hw]; · iexact Hw
    ipureintro
    exact part0_step k X G f hf

set_option warn.classDefReducibility false in
set_option maxHeartbeats 4000000 in
@[sl_loop] def loopB (𝒱 : Variants) (c : Dev nD) (bd : Option 𝒱.V) (E : Set ℕ) (i : grid0.Coords) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S1 .i32) (harg6 : arg6.IsWhole) (arg7 : Memref sig .tc .vmem S512x4096 .bf16) (harg7 : arg7.IsWhole) (arg8 : Memref sig .tc .hbm S32x4096x4096 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S512x512 .bf16) (harg11 : arg11.IsWhole) (arg14 : DmaSems sig S2) (arg0 : BitVec 32) (arg1 : BitVec 32) (v6 : Elt F .i32) (k0_h2 : k0_cond2 v6 = 1#1)
    (X : half1.view.ty.Contents (Elt F)) (G : S4096x1024.Idx → Elt F .bf16) :
    LoopInvTy_k0_t2 (F := F) Unit ℕ (Pipeline.UD sig nD τ) ℕ 𝒱 c bd E i arg2 harg2 arg3 harg3 arg4 harg4 arg5 harg5 arg6 harg6 arg7 harg7 arg8 harg8 arg9 harg9 arg10 harg10 arg11 harg11 scrM scrW wbfM wbfW arg14 arg0 arg1 v6 k0_h2 where
  inv k _ := iprop((half1.view.loc (c : Thread nD τ) ↦[half1.view.set]{fullShare} X)
    ∗ ∃ f, (wbfM.view.loc (c : Thread nD τ) ↦[wbfM.view.set]{fullShare} f) ∗ ⌜f = part1 (half1.view.read (Elt F) X) G k⌝)
  step k acc := by
    have hk : k.val < 16 := Nat.lt_of_lt_of_le k.isLt k0_t2_abs.2.1
    unfold k0_t2_body
    iintro ⟨Hr, ⟨%f, Hw, %hf⟩⟩
    sl_exec
    sl_step
    isplitl [Hr]; · iexact Hr
    iexists _; isplitl [Hw]; · iexact Hw
    ipureintro
    exact part1_step k X G f hf

end Cert.KernelUpIdeal.Up
-- ==== Proof.UpStage.lean ====
module

public import proofs.«01_k».proof.Proof.UpLoop
public import Idealize.ShloMosaic.Lib.VecWindow

/-! The expert product's body between grid points: what is kept, what is in flight. -/

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tables as the body is handed them, and the experts' weights. -/
abbrev beM : Memref sig .tc .smem S160 .i32 := Memref.whole main_arg0
abbrev fiM : Memref sig .tc .smem S160 .i32 := Memref.whole main_arg1
abbrev neM : Memref sig .tc .smem S160 .i32 := Memref.whole main_arg2
abbrev laM : Memref sig .tc .smem S160 .i32 := Memref.whole main_arg3
abbrev nuM : Memref sig .tc .smem S1 .i32 := Memref.whole main_arg4
abbrev weM : Memref sig .tc .hbm S32x4096x4096 .f32 := Memref.whole main_arg6

abbrev TB (c : Dev nD) {S : Shape} {e : EltTy} (M : Memref sig .tc .smem S e) : Type := Buf (Elt F) (M.view.loc (c : Thread nD τ))
abbrev tPt (c : Dev nD) {S : Shape} {e : EltTy} (M : Memref sig .tc .smem S e) (f : TB (F := F) c M) : sProp 𝕄 :=
  M.view.loc (c : Thread nD τ) ↦{fullShare.right} f
abbrev WB (c : Dev nD) : Type := Buf (Elt F) ((weM).view.loc (c : Thread nD τ))

def i1 (n : ℕ) : S160.Idx := fun | 0 => (⟨n % 160, Nat.mod_lt _ (by decide)⟩ : Fin 160)

/-- A place of the weights that a transfer reads: 512 columns of one expert. -/
abbrev Inb (off : Fin 3 → ℕ) : Prop := ∀ a, off a + S1x4096x512.size a ≤ S32x4096x4096.size a
abbrev srcO (off : Fin 3 → ℕ) (inb : Inb off) : Memref sig .tc .hbm S4096x512 .f32 :=
  (weM.slice (Rect.unit (s := S32x4096x4096) off S1x4096x512.size inb) (fun _ => rfl)).squeeze S4096x512 squeezes_S1x4096x512_S4096x512

/-- Half `r`'s share of the weights, whole, and with a place lent out. -/
abbrev wPt (c : Dev nD) (q : PosShare TreeShare) (W : WB (F := F) c) : sProp 𝕄 := weM.view.loc (c : Thread nD τ) ↦{q} W
abbrev sPt (c : Dev nD) (q : PosShare TreeShare) (W : WB (F := F) c) (off : Fin 3 → ℕ) (inb : Inb off) : sProp 𝕄 :=
  (srcO off inb).view.loc (c : Thread nD τ) ↦[(srcO off inb).view.set]{q} W
abbrev rPt (c : Dev nD) (q : PosShare TreeShare) (W : WB (F := F) c) (off : Fin 3 → ℕ) (inb : Inb off) : sProp 𝕄 :=
  weM.view.loc (c : Thread nD τ) ↦[Finset.univ \ (srcO off inb).view.set]{q} W

theorem lend (c : Dev nD) (q : PosShare TreeShare) (W : WB (F := F) c) (off : Fin 3 → ℕ) (inb : Inb off) :
    (wPt c q W : sProp 𝕄) ⊣⊢ iprop(sPt c q W off inb ∗ rPt c q W off inb) :=
  pointsTo_split_subset (Finset.subset_univ _)

abbrev hPt (c : Dev nD) (M : Memref sig .tc .vmem S4096x512 .f32) (X : Buf (Elt F) (M.view.loc (c : Thread nD τ))) : sProp 𝕄 :=
  M.view.loc (c : Thread nD τ) ↦[M.view.set]{fullShare} X

/-- A transfer in flight into the half `M` on cell `d`. -/
def Fl (c : Dev nD) (M : Memref sig .tc .vmem S4096x512 .f32) (d : DmaSem sig) (q : PosShare TreeShare) (W : WB (F := F) c) (off : Fin 3 → ℕ) (inb : Inb off) : sProp 𝕄 :=
  iprop((∃ X : Buf (Elt F) (M.view.loc (c : Thread nD τ)), Transfers.Flight (countersEmb (U := Pipeline.UD sig nD τ)) (c : Thread nD τ) (.dma d) default 262144
      iprop(hPt c M (M.view.writes (Elt F) X [⟨Rect.whole S4096x512, (srcO off inb).view.read (Elt F) W⟩]) ∗ sPt c q W off inb)) ∗ rPt c q W off inb)

theorem Fl_congr (c : Dev nD) (M : Memref sig .tc .vmem S4096x512 .f32) (d : DmaSem sig) (q : PosShare TreeShare) (W : WB (F := F) c) {off off' : Fin 3 → ℕ} (e : off = off')
    (inb : Inb off) (inb' : Inb off') : (Fl c M d q W off inb : sProp 𝕄) = Fl c M d q W off' inb' := by
  subst e; rfl

/-- Expert `e`'s columns from `512 b`. -/
def offE (e b : ℕ) : Fin 3 → ℕ := ![min e 31, 0, 512 * min b 7]
theorem inbE (e b : ℕ) : Inb (offE e b) := by
  intro a
  fin_cases a
  · show min e 31 + 1 ≤ 32; omega
  · show 0 + 4096 ≤ 4096; omega
  · show 512 * min b 7 + 512 ≤ 4096; omega
def col {c : Dev nD} (W : WB (F := F) c) (e b : ℕ) : S4096x512.Idx → Elt F .f32 := (srcO (offE e b) (inbE e b)).view.read (Elt F) W

/-- The stream: block `b` of expert `e` in flight in both halves, or all at rest. -/
def Stream (c : Dev nD) (W : WB (F := F) c) (e b : ℕ) : sProp 𝕄 :=
  if b < 4 then
    iprop(Fl c half0 8 fullShare.left W (offE e b) (inbE e b) ∗ Fl c half1 9 fullShare.right W (offE e (4 + b)) (inbE e (4 + b)))
  else
    iprop((∃ X, hPt c half0 X) ∗ (∃ X, hPt c half1 X) ∗ semVal ((c : Thread nD τ), SemLoc.dma 8) 0 ∗ semVal ((c : Thread nD τ), SemLoc.dma 9) 0
      ∗ wPt c fullShare.left W ∗ wPt c fullShare.right W)

theorem stream_busy (c : Dev nD) (W : WB (F := F) c) (e b : ℕ) (h : b < 4) : (Stream c W e b : sProp 𝕄)
    = iprop(Fl c half0 8 fullShare.left W (offE e b) (inbE e b) ∗ Fl c half1 9 fullShare.right W (offE e (4 + b)) (inbE e (4 + b))) := if_pos h
theorem stream_rest (c : Dev nD) (W : WB (F := F) c) (e b : ℕ) (h : 4 ≤ b) : (Stream c W e b : sProp 𝕄)
    = iprop((∃ X, hPt c half0 X) ∗ (∃ X, hPt c half1 X) ∗ semVal ((c : Thread nD τ), SemLoc.dma 8) 0 ∗ semVal ((c : Thread nD τ), SemLoc.dma 9) 0
      ∗ wPt c fullShare.left W ∗ wPt c fullShare.right W) := if_neg (by omega)

abbrev kPt (c : Dev nD) (f : S4096x1024.Idx → Elt F .bf16) : sProp 𝕄 := wbfM.view.loc (c : Thread nD τ) ↦[wbfM.view.set]{fullShare} f

/-- A word of a table, as the body reads it. -/
abbrev w0 {c : Dev nD} (f : TB (F := F) c beM) : BitVec 32 :=
  beM.view.readAt (Elt F) (Rect.unit (s := S160) ![0] S1.size inb_S160_S1_0).toLoadRect f (Shape.Idx.first (numel1_S1.symm ▸ Nat.one_pos))

abbrev Wins (c : Dev nD) (arg7 : Memref sig .tc .vmem S512x4096 .bf16) (arg9 : Memref sig .tc .vmem S1x1x512 .f32) (arg10 : Memref sig .tc .vmem S1x1x512 .f32) (x0 : Vec F S512x4096 .bf16) (x1 x2 : Vec F S1x1x512 .f32) : sProp 𝕄 :=
  iprop(owns (c : Thread nD τ) arg7 fullShare x0 ∗ owns (c : Thread nD τ) arg9 fullShare x1 ∗ owns (c : Thread nD τ) arg10 fullShare x2)

abbrev Tabs (c : Dev nD) (tbe : TB (F := F) c beM) (tfi : TB (F := F) c fiM) (tne : TB (F := F) c neM) (tla : TB (F := F) c laM) (tnu : TB (F := F) c nuM) : sProp 𝕄 :=
  iprop(tPt c beM tbe ∗ tPt c fiM tfi ∗ tPt c neM tne ∗ tPt c laM tla ∗ tPt c nuM tnu)

/-- The words the body reads of the tables at a point. -/
abbrev wfi {c : Dev nD} (i : grid0.Coords) (f : TB (F := F) c fiM) : BitVec 32 :=
  fiM.view.readAt (Elt F) (Rect.unit (s := S160) (k0_off1 i) S1.size (k0_off1_inb i)).toLoadRect f (Shape.Idx.first (numel1_S1.symm ▸ Nat.one_pos))
abbrev wbe {c : Dev nD} (i : grid0.Coords) (f : TB (F := F) c beM) : BitVec 32 :=
  beM.view.readAt (Elt F) (Rect.unit (s := S160) (k0_off4 i) S1.size (k0_off4_inb i)).toLoadRect f (Shape.Idx.first (numel1_S1.symm ▸ Nat.one_pos))
abbrev wla {c : Dev nD} (i : grid0.Coords) (f : TB (F := F) c laM) : BitVec 32 :=
  laM.view.readAt (Elt F) (Rect.unit (s := S160) (k0_off10 i) S1.size (k0_off10_inb i)).toLoadRect f (Shape.Idx.first (numel1_S1.symm ▸ Nat.one_pos))
abbrev wne {c : Dev nD} (i : grid0.Coords) (f : TB (F := F) c neM) : BitVec 32 :=
  neM.view.readAt (Elt F) (Rect.unit (s := S160) (k0_off11 i) S1.size (k0_off11_inb i)).toLoadRect f (Shape.Idx.first (numel1_S1.symm ▸ Nat.one_pos))
abbrev wnu {c : Dev nD} (f : TB (F := F) c nuM) : BitVec 32 :=
  nuM.view.readAt (Elt F) (Rect.unit (s := S1) ![0] S1.size inb_S1_S1_0).toLoadRect f (Shape.Idx.first (numel1_S1.symm ▸ Nat.one_pos))

/-- The result block of a group that is in use. -/
def used (x0 : Vec F S512x4096 .bf16) (x1 x2 : Vec F S1x1x512 .f32) (K : S4096x1024.Idx → Elt F .bf16) : Vec F S512x512 .bf16 :=
  k0_pay1 (View.ld x0 (Rect.unit (s := S512x4096) ![0, 0] S512x2048.size inb_S512x4096_S512x2048_0_0))
    (View.ld x0 (Rect.unit (s := S512x4096) ![0, 2048] S512x2048.size inb_S512x4096_S512x2048_0_2048))
    (View.ld K (Rect.unit (s := S4096x1024) ![0, 0] S2048x1024.size inb_S4096x1024_S2048x1024_0_0))
    (View.ld K (Rect.unit (s := S4096x1024) ![2048, 0] S2048x1024.size inb_S4096x1024_S2048x1024_2048_0))
    (View.ld x1 (Rect.unit (s := S1x1x512) ![0, 0, 0] S1x1x512.size inb_S1x1x512_S1x1x512_0_0_0))
    (View.ld x2 (Rect.unit (s := S1x1x512) ![0, 0, 0] S1x1x512.size inb_S1x1x512_S1x1x512_0_0_0))

/-- What the body leaves in its result block. -/
def outv (i : grid0.Coords) (nu : BitVec 32) (x0 : Vec F S512x4096 .bf16) (x1 x2 : Vec F S1x1x512 .f32) (K : S4096x1024.Idx → Elt F .bf16) : Vec F S512x512 .bf16 :=
  if k0_cond4 i nu = 1#1 then used x0 x1 x2 K else k0_pay2

/-- The kept block after both loops, from whatever the halves held before the transfers. -/
theorem kept_done (c : Dev nD) (W : WB (F := F) c) (off off' : Fin 3 → ℕ) (inb : Inb off) (inb' : Inb off') (X0 : half0.view.ty.Contents (Elt F)) (X1 : half1.view.ty.Contents (Elt F))
    (G : S4096x1024.Idx → Elt F .bf16) :
    (kPt c (part1 (half1.view.read (Elt F) (half1.view.writes (Elt F) X1 [⟨Rect.whole S4096x512, (srcO off' inb').view.read (Elt F) W⟩]))
        (part0 (half0.view.read (Elt F) (half0.view.writes (Elt F) X0 [⟨Rect.whole S4096x512, (srcO off inb).view.read (Elt F) W⟩])) G 16)
        (Scf.trips k0_t2_loop.lb k0_t2_loop.ub k0_t2_loop.st)) : sProp 𝕄)
      ⊢ kPt c (kept ((srcO off inb).view.read (Elt F) W) ((srcO off' inb').view.read (Elt F) W)) := by
  rw [show Scf.trips k0_t2_loop.lb k0_t2_loop.ub k0_t2_loop.st = 16 by decide, kept_of, View.read_writes_whole, View.read_writes_whole]

abbrev Rest (c : Dev nD) (arg7 : Memref sig .tc .vmem S512x4096 .bf16) (arg9 : Memref sig .tc .vmem S1x1x512 .f32) (arg10 : Memref sig .tc .vmem S1x1x512 .f32)
    (x0 : Vec F S512x4096 .bf16) (x1 x2 : Vec F S1x1x512 .f32)
    (tbe : TB (F := F) c beM) (tfi : TB (F := F) c fiM) (tne : TB (F := F) c neM) (tla : TB (F := F) c laM) (tnu : TB (F := F) c nuM) (W : WB (F := F) c) (e b : ℕ) (K : S4096x1024.Idx → Elt F .bf16) : sProp 𝕄 :=
  iprop(Wins c arg7 arg9 arg10 x0 x1 x2 ∗ Tabs c tbe tfi tne tla tnu ∗ Stream c W e b ∗ kPt c K ∗ ∃ Wt, owes (c : Thread nD τ) 0 Wt)

set_option maxHeartbeats 4000000 in
theorem body_run (c : Dev nD) (i : grid0.Coords) (arg7 : Memref sig .tc .vmem S512x4096 .bf16) (harg7 : arg7.IsWhole) (arg9 : Memref sig .tc .vmem S1x1x512 .f32) (harg9 : arg9.IsWhole) (arg10 : Memref sig .tc .vmem S1x1x512 .f32) (harg10 : arg10.IsWhole) (arg11 : Memref sig .tc .vmem S512x512 .bf16) (harg11 : arg11.IsWhole)
    (W : WB (F := F) c) (tbe : TB (F := F) c beM) (tfi : TB (F := F) c fiM) (tne : TB (F := F) c neM) (tla : TB (F := F) c laM) (tnu : TB (F := F) c nuM)
    (x0 : Vec F S512x4096 .bf16) (x1 x2 : Vec F S1x1x512 .f32) (Wt : Waits sig Unit) (Q : PUnit → sProp 𝕄) (e b e1 b1 e2 b2 : ℕ)
    (C : (S4096x1024.Idx → Elt F .bf16) → Prop) (K2 : S4096x1024.Idx → Elt F .bf16)
    (h1 : k0_cond1 i = 1#1 → 4 ≤ b ∧ b1 = 0 ∧ k0_off2 (w0 tbe) = offE e1 0 ∧ k0_off3 (w0 tbe) = offE e1 4)
    (h1' : k0_cond1 i ≠ 1#1 → e = e1 ∧ b = b1)
    (h2 : k0_cond2 (wfi i tfi) = 1#1 → b1 < 4 ∧ K2 = kept (col W e1 b1) (col W e1 (4 + b1))
      ∧ k0_chk2 i (wfi i tfi) (wbe i tbe) ∧ k0_chk3 i (wfi i tfi) (wla i tla)
      ∧ (k0_cond3 i (wla i tla) = 1#1 → b2 < 4 ∧ k0_chk4 i (wfi i tfi) (wla i tla) (wne i tne)
          ∧ k0_off12 i (wla i tla) (wne i tne) 0#32 = offE e2 b2 ∧ k0_off12 i (wla i tla) (wne i tne) 2048#32 = offE e2 (4 + b2))
      ∧ (k0_cond3 i (wla i tla) ≠ 1#1 → 4 ≤ b2))
    (h2' : k0_cond2 (wfi i tfi) ≠ 1#1 → e1 = e2 ∧ b1 = b2 ∧ ∀ f, C f → f = K2)
    (h3 : k0_cond4 i (wnu tnu) = 1#1 → k0_cond5 i (wnu tnu) ≠ 1#1)
    (h3' : k0_cond4 i (wnu tnu) ≠ 1#1 → k0_cond5 i (wnu tnu) = 1#1) :
    iprop(Wins c arg7 arg9 arg10 x0 x1 x2 ∗ (∃ d, owns (c : Thread nD τ) arg11 fullShare d)
      ∗ Tabs c tbe tfi tne tla tnu
      ∗ Stream c W e b ∗ (∃ f, kPt c f ∗ ⌜C f⌝) ∗ owes (c : Thread nD τ) 0 Wt
      ∗ (iprop(Rest c arg7 arg9 arg10 x0 x1 x2 tbe tfi tne tla tnu W e2 b2 K2 ∗ owns (c : Thread nD τ) arg11 fullShare (outv i (wnu tnu) x0 x1 x2 K2)) -∗ Q ⟨⟩))
    ⊢ wp frame (wpE (defs₀ (F := F)) Variants.none c none) Set.univ (cc0_moe_expert_up i beM (Memref.isWhole_whole _) fiM (Memref.isWhole_whole _) neM (Memref.isWhole_whole _) laM (Memref.isWhole_whole _) nuM (Memref.isWhole_whole _) arg7 harg7 weM (Memref.isWhole_whole _) arg9 harg9 arg10 harg10 arg11 harg11 scrM scrW wbfM wbfW cc0_scratch2) Q := by
  simp only [cc0_moe_expert_up_eq_skeleton]; unfold cc0_moe_expert_up_skel
  extract_lets -underBinder arg0 arg1 jp
  have hj : iprop(Wins c arg7 arg9 arg10 x0 x1 x2 ∗ (∃ d, owns (c : Thread nD τ) arg11 fullShare d)
      ∗ Tabs c tbe tfi tne tla tnu
      ∗ Stream c W e1 b1 ∗ (∃ f, kPt c f ∗ ⌜C f⌝) ∗ owes (c : Thread nD τ) 0 Wt
      ∗ (iprop(Rest c arg7 arg9 arg10 x0 x1 x2 tbe tfi tne tla tnu W e2 b2 K2 ∗ owns (c : Thread nD τ) arg11 fullShare (outv i (wnu tnu) x0 x1 x2 K2)) -∗ Q ⟨⟩)) ⊢ wp frame (wpE (defs₀ (F := F)) Variants.none (c : Thread nD τ) none) Set.univ (jp ⟨⟩) Q := by
    unfold jp; beta_reduce
    clear jp
    extract_lets a1 a2 a3 a4 a5 a6 a7 a8 a9 a10 a11 a12
    have hz : iprop(Rest c arg7 arg9 arg10 x0 x1 x2 tbe tfi tne tla tnu W e2 b2 K2 ∗ (∃ d, owns (c : Thread nD τ) arg11 fullShare d)
        ∗ (iprop(Rest c arg7 arg9 arg10 x0 x1 x2 tbe tfi tne tla tnu W e2 b2 K2 ∗ owns (c : Thread nD τ) arg11 fullShare (outv i (wnu tnu) x0 x1 x2 K2)) -∗ Q ⟨⟩))
        ⊢ wp frame (wpE (defs₀ (F := F)) Variants.none (c : Thread nD τ) none) Set.univ (a3 ⟨⟩) Q := by
      simp only [a3, a2, a1]
      unfold Rest Wins owns
      by_cases hc4 : k0_cond4 i (wnu tnu) = 1#1
      · have hc5 := h3 hc4
        iintro ⟨⟨⟨⟨%f0, %hf0, H0⟩, ⟨%f1, %hf1, H1⟩, ⟨%f2, %hf2, H2⟩⟩, ⟨Tbe, Tfi, Tne, Tla, Tnu⟩, Hs, Hk, ⟨%Wz, HW⟩⟩, ⟨%d3, %f3, -, H3⟩, HQ⟩
        obtain rfl := harg7.eq_unread hf0
        obtain rfl := harg9.eq_unread hf1
        obtain rfl := harg10.eq_unread hf2
        sl_exec
        sl_step
        iapply HQ
        isplitr [H3]
        · isplitl [H0 H1 H2]
          · isplitl [H0]
            · iexists _; isplitr; · ipureintro; exact harg7.read_unread _
              iexact H0
            isplitl [H1]
            · iexists _; isplitr; · ipureintro; exact harg9.read_unread _
              iexact H1
            · iexists _; isplitr; · ipureintro; exact harg10.read_unread _
              iexact H2
          isplitl [Tbe Tfi Tne Tla Tnu]
          · isplitl [Tbe]; · iexact Tbe
            isplitl [Tfi]; · iexact Tfi
            isplitl [Tne]; · iexact Tne
            isplitl [Tla]; · iexact Tla
            iexact Tnu
          isplitl [Hs]; · iexact Hs
          isplitl [Hk]; · iexact Hk
          iexists _; iexact HW
        iexists _; isplitr; swap; · iexact H3
        ipureintro
        unfold outv
        rw [if_pos hc4]
        refine (View.read_writes_full arg11.view _ _ _ _).trans ?_
        unfold used
        simp only [View.readAt_eq_ld, harg7.read_unread, harg9.read_unread, harg10.read_unread]
        rfl
      · have hc5 := h3' hc4
        iintro ⟨⟨⟨⟨%f0, %hf0, H0⟩, ⟨%f1, %hf1, H1⟩, ⟨%f2, %hf2, H2⟩⟩, ⟨Tbe, Tfi, Tne, Tla, Tnu⟩, Hs, Hk, ⟨%Wz, HW⟩⟩, ⟨%d3, %f3, -, H3⟩, HQ⟩
        sl_exec
        sl_step
        iapply HQ
        isplitr [H3]
        · isplitl [H0 H1 H2]
          · isplitl [H0]
            · iexists _; isplitr; · ipureintro; exact hf0
              iexact H0
            isplitl [H1]
            · iexists _; isplitr; · ipureintro; exact hf1
              iexact H1
            · iexists _; isplitr; · ipureintro; exact hf2
              iexact H2
          isplitl [Tbe Tfi Tne Tla Tnu]
          · isplitl [Tbe]; · iexact Tbe
            isplitl [Tfi]; · iexact Tfi
            isplitl [Tne]; · iexact Tne
            isplitl [Tla]; · iexact Tla
            iexact Tnu
          isplitl [Hs]; · iexact Hs
          isplitl [Hk]; · iexact Hk
          iexists _; iexact HW
        iexists _; isplitr; swap; · iexact H3
        ipureintro
        unfold outv
        rw [if_neg hc4]
        exact View.read_writes_full arg11.view _ _ _ _
    clear_value a3
    by_cases hc2 : k0_cond2 (wfi i tfi) = 1#1
    · obtain ⟨hb1, hK, hw2, hw3, hA, hB⟩ := h2 hc2
      rw [stream_busy _ _ _ _ hb1]
      simp only [k0_part1_eq_skeleton]; unfold k0_part1_skel
      simp only [bind_assoc, pure_bind]
      unfold Fl
      iintro ⟨Hw, Ho, ⟨Tbe, Tfi, Tne, Tla, Tnu⟩, ⟨⟨⟨%X0, S8⟩, R0⟩, ⟨⟨%X1, S9⟩, R1⟩⟩, ⟨%f, Hk, -⟩, HW, HQ⟩
      by_cases hc3 : k0_cond3 i (wla i tla) = 1#1
      · obtain ⟨hb2, hw4, ho, ho'⟩ := hA hc3
        sl_exec (disch := first | sl_exact hw2 | sl_exact hw3 | sl_exact hw4)
        ihave R0' := (lend c fullShare.left W _ (k0_off12_inb i (wfi i tfi) (wla i tla) (wne i tne) hw4 hc2 hc3 0)).1 $$ R0
        icases R0' with ⟨P0, R0⟩
        ihave R1' := (lend c fullShare.right W _ (k0_off12_inb i (wfi i tfi) (wla i tla) (wne i tne) hw4 hc2 hc3 1)).1 $$ R1
        icases R1' with ⟨P1, R1⟩
        sl_exec (disch := first | sl_exact hw2 | sl_exact hw3 | sl_exact hw4)
        subst hK
        iapply hz
        isplitr [Ho HQ]
        · isplitl [Hw]; · iexact Hw
          isplitl [Tbe Tfi Tne Tla Tnu]
          · isplitl [Tbe]; · iexact Tbe
            isplitl [Tfi]; · iexact Tfi
            isplitl [Tne]; · iexact Tne
            isplitl [Tla]; · iexact Tla
            iexact Tnu
          isplitr [Hk HW]
          · rw [stream_busy _ _ _ _ hb2, ← Fl_congr c half0 8 fullShare.left W ho (k0_off12_inb i (wfi i tfi) (wla i tla) (wne i tne) hw4 hc2 hc3 0), ← Fl_congr c half1 9 fullShare.right W ho' (k0_off12_inb i (wfi i tfi) (wla i tla) (wne i tne) hw4 hc2 hc3 1)]
            unfold Fl
            isplitl [S8 R0]
            · isplitl [S8]
              · iexists _; iexact S8
              · iexact R0
            · isplitl [S9]
              · iexists _; iexact S9
              · iexact R1
          isplitl [Hk]
          · iapply (kept_done c W _ _ (inbE e1 b1) (inbE e1 (4 + b1)) half0.view.junk half1.view.junk f); iexact Hk
          iexists _; iexact HW
        isplitl [Ho]; · iexact Ho
        iexact HQ
      · sl_exec (disch := first | sl_exact hw2 | sl_exact hw3)
        subst hK
        iapply hz
        isplitr [Ho HQ]
        · isplitl [Hw]; · iexact Hw
          isplitl [Tbe Tfi Tne Tla Tnu]
          · isplitl [Tbe]; · iexact Tbe
            isplitl [Tfi]; · iexact Tfi
            isplitl [Tne]; · iexact Tne
            isplitl [Tla]; · iexact Tla
            iexact Tnu
          isplitr [Hk HW]
          · rw [stream_rest _ _ _ _ (hB hc3)]
            isplitl [S8_dst]; · iexists _; iexact S8_dst
            isplitl [S9_dst]; · iexists _; iexact S9_dst
            isplitl [S8]; · iexact S8
            isplitl [S9]; · iexact S9
            isplitl [R0]; · iexact R0
            iexact R1
          isplitl [Hk]
          · iapply (kept_done c W _ _ (inbE e1 b1) (inbE e1 (4 + b1)) half0.view.junk half1.view.junk f); iexact Hk
          iexists _; iexact HW
        isplitl [Ho]; · iexact Ho
        iexact HQ
    · obtain ⟨rfl, rfl, hC⟩ := h2' hc2
      iintro ⟨Hw, Ho, Ht, Hs, ⟨%f, Hk, %hf⟩, HW, HQ⟩
      obtain rfl := hC f hf
      icases Ht with ⟨Tbe, Tfi, Tne, Tla, Tnu⟩
      sl_exec
      iapply hz
      isplitr [Ho HQ]
      · isplitl [Hw]; · iexact Hw
        isplitl [Tbe Tfi Tne Tla Tnu]
        · isplitl [Tbe]; · iexact Tbe
          isplitl [Tfi]; · iexact Tfi
          isplitl [Tne]; · iexact Tne
          isplitl [Tla]; · iexact Tla
          iexact Tnu
        isplitl [Hs]; · iexact Hs
        isplitl [Hk]; · iexact Hk
        iexists _; iexact HW
      isplitl [Ho]; · iexact Ho
      iexact HQ
  clear_value jp
  by_cases hc1 : k0_cond1 i = 1#1
  · obtain ⟨hb, rfl, ho2, ho3⟩ := h1 hc1
    have hchk : k0_chk1 i (w0 tbe) := ⟨fun _ => by rw [ho2]; exact inbE _ _, fun _ => by rw [ho3]; exact inbE _ _⟩
    rw [stream_rest _ _ _ _ hb]
    iintro ⟨Hw, Ho, ⟨Tbe, Tfi, Tne, Tla, Tnu⟩, ⟨⟨%X0, HX0⟩, ⟨%X1, HX1⟩, S8, S9, W0, W1⟩, Hk, HW, HQ⟩
    ihave W0' := (lend c fullShare.left W (k0_off2 (w0 tbe)) (hchk.1 hc1)).1 $$ W0
    icases W0' with ⟨P0, R0⟩
    ihave W1' := (lend c fullShare.right W (k0_off3 (w0 tbe)) (hchk.2 hc1)).1 $$ W1
    icases W1' with ⟨P1, R1⟩
    sl_exec (disch := first | sl_exact hchk)
    iapply hj
    rw [stream_busy _ _ _ _ (by omega)]
    isplitl [Hw]; · iexact Hw
    isplitl [Ho]; · iexact Ho
    isplitl [Tbe Tfi Tne Tla Tnu]
    · isplitl [Tbe]; · iexact Tbe
      isplitl [Tfi]; · iexact Tfi
      isplitl [Tne]; · iexact Tne
      isplitl [Tla]; · iexact Tla
      iexact Tnu
    isplitl [S8 R0 S9 R1]
    · rw [← Fl_congr c half0 8 fullShare.left W ho2 (hchk.1 hc1), ← Fl_congr c half1 9 fullShare.right W ho3 (hchk.2 hc1)]
      simp only [bind_assoc, pure_bind]
      unfold Fl
      isplitl [S8 R0]
      · isplitl [S8]
        · iexists X0; iexact S8
        · iexact R0
      · isplitl [S9]
        · iexists X1; iexact S9
        · iexact R1
    isplitl [Hk]; · iexact Hk
    isplitl [HW]; · iexact HW
    iexact HQ
  · obtain ⟨rfl, rfl⟩ := h1' hc1
    iintro H
    sl_exec
    iapply hj
    iexact H

end Cert.KernelUpIdeal.Up
-- ==== Proof.UpPlan.lean ====
module

public import proofs.«01_k».proof.Proof.UpStage

/-! The tables' words under the precondition, and what follows of the points the body runs at. -/

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

variable {F : FTy → Type} [FloatOps F]

abbrev i0 : S1.Idx := fun | 0 => (0 : Fin 1)

/-- The tables as the host makes them: a group that starts an expert names the next one, and whether it is the last. -/
structure Plan (be fi ne la : S160.Idx → BitVec 32) (nu : S1.Idx → BitVec 32) : Prop where
  nu_pos : 1 ≤ (nu i0).toNat
  nu_le : (nu i0).toNat ≤ 160
  be_lt : ∀ n, (be (i1 n)).toNat < 32
  fi0 : fi (i1 0) = 1#32
  step1 : ∀ n, n < 159 → fi (i1 (n + 1)) = 1#32 → ne (i1 n) = be (i1 (n + 1)) ∧ la (i1 n) = 0#32
  step0 : ∀ n, n < 159 → fi (i1 (n + 1)) ≠ 1#32 → ne (i1 (n + 1)) = ne (i1 n) ∧ la (i1 (n + 1)) = la (i1 n)
  same : ∀ n, n < 159 → fi (i1 (n + 1)) ≠ 1#32 → n + 1 < (nu i0).toNat → be (i1 (n + 1)) = be (i1 n)
  end_ne : ne (i1 159) = be (i1 0)
  end_la : la (i1 159) = 1#32

theorem i1_mod (n : ℕ) : i1 (n % 160) = i1 n := by
  funext a; fin_cases a; exact Fin.ext (Nat.mod_mod n 160)
theorem i1_add (j i : ℕ) : i1 (160 * j + i) = i1 i := by
  funext a; fin_cases a; exact Fin.ext (Nat.mul_add_mod 160 j i)

section
variable {be fi ne la : S160.Idx → BitVec 32} {nu : S1.Idx → BitVec 32} (P : Plan be fi ne la nu)
include P

theorem Plan.back (k : ℕ) (hk : k ≤ 159) : (la (i1 (159 - k)) = 0#32 ∨ la (i1 (159 - k)) = 1#32) ∧ (ne (i1 (159 - k))).toNat < 32 := by
  induction k with
  | zero => exact ⟨Or.inr P.end_la, by rw [show 159 - 0 = 159 from rfl, P.end_ne]; exact P.be_lt 0⟩
  | succ k ih =>
    obtain ⟨h1, h2⟩ := ih (by omega)
    have e : 159 - (k + 1) + 1 = 159 - k := by omega
    by_cases hf : fi (i1 (159 - (k + 1) + 1)) = 1#32
    · obtain ⟨a, b⟩ := P.step1 _ (by omega) hf
      exact ⟨Or.inl b, by rw [a]; exact P.be_lt _⟩
    · obtain ⟨a, b⟩ := P.step0 _ (by omega) hf
      rw [e] at a b
      rw [← a, ← b]
      exact ⟨h1, h2⟩

theorem Plan.la01 (n : ℕ) : la (i1 n) = 0#32 ∨ la (i1 n) = 1#32 := by
  have h := (P.back (159 - n % 160) (by omega)).1
  rwa [show 159 - (159 - n % 160) = n % 160 by omega, i1_mod] at h
theorem Plan.ne_lt (n : ℕ) : (ne (i1 n)).toNat < 32 := by
  have h := (P.back (159 - n % 160) (by omega)).2
  rwa [show 159 - (159 - n % 160) = n % 160 by omega, i1_mod] at h
end

/-- The expert whose columns a block finds kept: that of the last first block, up to it. -/
def held (be fi : S160.Idx → BitVec 32) : ℕ → ℕ
  | 0 => (be (i1 0)).toNat
  | n + 1 => if fi (i1 (n + 1)) = 1#32 then (be (i1 (n + 1))).toNat else held be fi n

theorem held_first (be fi : S160.Idx → BitVec 32) (n : ℕ) (h : fi (i1 n) = 1#32) : held be fi n = (be (i1 n)).toNat := by
  rcases n with _ | n
  · rfl
  · exact if_pos h
theorem held_stay (be fi : S160.Idx → BitVec 32) (n : ℕ) (hn : 0 < n) (h : fi (i1 n) ≠ 1#32) : held be fi (n - 1) = held be fi n := by
  rcases n with _ | n
  · omega
  · exact (if_neg h).symm

/-- A used block finds its own expert's columns. -/
theorem Plan.held_used {be fi ne la : S160.Idx → BitVec 32} {nu : S1.Idx → BitVec 32} (P : Plan be fi ne la nu) (n : ℕ) (h : n < (nu i0).toNat) :
    held be fi n = (be (i1 n)).toNat := by
  induction n with
  | zero => rfl
  | succ n ih =>
    have := P.nu_le
    by_cases hf : fi (i1 (n + 1)) = 1#32
    · exact if_pos hf
    · exact (if_neg hf).trans ((ih (by omega)).trans (congrArg BitVec.toNat (P.same n (by omega) hf h).symm))

/-- Before point `n`: the expert and the block of its columns the stream holds, 4 when it is at rest. -/
def eAt (ne : S160.Idx → BitVec 32) : ℕ → ℕ
  | 0 => 0
  | s + 1 => (ne (i1 s)).toNat
def bAt (la : S160.Idx → BitVec 32) : ℕ → ℕ
  | 0 => 4
  | s + 1 => s / 160 + (la (i1 s)).toNat
/-- The same once the first point has started it. -/
def eAt1 (be ne : S160.Idx → BitVec 32) (n : ℕ) : ℕ := if n = 0 then (be (i1 0)).toNat else eAt ne n
def bAt1 (la : S160.Idx → BitVec 32) (n : ℕ) : ℕ := if n = 0 then 0 else bAt la n

section
variable {be fi ne la : S160.Idx → BitVec 32} {nu : S1.Idx → BitVec 32} (P : Plan be fi ne la nu)
include P

theorem Plan.start (j i : ℕ) (hi : i < 160) (h : fi (i1 i) = 1#32) :
    eAt1 be ne (160 * j + i) = (be (i1 i)).toNat ∧ bAt1 la (160 * j + i) = j := by
  unfold eAt1 bAt1
  rcases i with _ | i
  · rcases j with _ | j
    · exact ⟨if_pos rfl, if_pos rfl⟩
    · rw [if_neg (by omega), if_neg (by omega), show 160 * (j + 1) + 0 = (160 * j + 159) + 1 by omega]
      simp only [eAt, bAt, i1_add]
      rw [P.end_ne, P.end_la]
      exact ⟨rfl, by show (160 * j + 159) / 160 + 1 = j + 1; omega⟩
  · obtain ⟨a, b⟩ := P.step1 i (by omega) h
    rw [if_neg (by omega), if_neg (by omega), ← Nat.add_assoc]
    simp only [eAt, bAt, i1_add]
    rw [a, b]
    exact ⟨rfl, by show (160 * j + i) / 160 + 0 = j; omega⟩

theorem Plan.stay (j i : ℕ) (hi : i < 160) (h : fi (i1 i) ≠ 1#32) :
    0 < i ∧ eAt ne (160 * j + i) = eAt ne (160 * j + i + 1) ∧ bAt la (160 * j + i) = bAt la (160 * j + i + 1) ∧ held be fi (i - 1) = held be fi i := by
  rcases i with _ | i
  · exact absurd P.fi0 h
  · obtain ⟨b, c⟩ := P.step0 i (by omega) h
    refine ⟨by omega, ?_, ?_, held_stay be fi (i + 1) (by omega) h⟩
    · rw [← Nat.add_assoc, show eAt ne (160 * j + i + 1) = (ne (i1 (160 * j + i))).toNat from rfl,
        show eAt ne (160 * j + i + 1 + 1) = (ne (i1 (160 * j + (i + 1)))).toNat from rfl, i1_add, i1_add, b]
    · rw [← Nat.add_assoc, show bAt la (160 * j + i + 1) = (160 * j + i) / 160 + (la (i1 (160 * j + i))).toNat from rfl,
        show bAt la (160 * j + i + 1 + 1) = (160 * j + (i + 1)) / 160 + (la (i1 (160 * j + (i + 1)))).toNat from rfl, i1_add, i1_add, c]
      omega
end

/-! The body's conditions and offsets in closed form. -/

theorem co0 (i : grid0.Coords) : (i 0).val < 4 := (i 0).isLt
theorem co1 (i : grid0.Coords) : (i 1).val < 160 := (i 1).isLt

theorem off1_eq (i : grid0.Coords) : k0_off1 i = ![(i 1).val] := by
  have h := co1 i
  unfold k0_off1
  refine congrArg (fun z => ![z]) ?_
  show (BitVec.ofNat 32 (i 1).val).toNat = (i 1).val
  rw [BitVec.toNat_ofNat]; omega
theorem off4_eq (i : grid0.Coords) : k0_off4 i = ![(i 1).val] := off1_eq i
theorem off10_eq (i : grid0.Coords) : k0_off10 i = ![(i 1).val] := off1_eq i
theorem off11_eq (i : grid0.Coords) : k0_off11 i = ![(i 1).val] := off1_eq i

theorem cond1_iff (i : grid0.Coords) : k0_cond1 i = 1#1 ↔ (i 0).val = 0 ∧ (i 1).val = 0 := by
  unfold k0_cond1
  exact (by decide +kernel : ∀ (a : Fin 4) (b : Fin 160),
    Scalar.cmpi .ne (Scalar.extui (Scalar.andi (Scalar.cmpi .eq (BitVec.ofNat 32 a.val) 0#32) (Scalar.cmpi .eq (BitVec.ofNat 32 b.val) 0#32))) 0#32 = 1#1
      ↔ a.val = 0 ∧ b.val = 0) (i 0) (i 1)

theorem cond2_iff (v : BitVec 32) : k0_cond2 v = 1#1 ↔ v = 1#32 := by
  unfold k0_cond2
  show Scalar.cmpi .ne (Scalar.extui (IntOp.cmpi .eq v 1#32)) 0#32 = 1#1 ↔ _
  rw [WordCmp.cmpi_eq_eq]
  by_cases h : v = 1#32
  · rw [decide_eq_true h]; exact ⟨fun _ => h, fun _ => by decide⟩
  · rw [decide_eq_false h]; exact ⟨fun h' => absurd h' (by decide), fun h' => absurd h' h⟩

theorem cond3_iff (i : grid0.Coords) (v : BitVec 32) (hv : v = 0#32 ∨ v = 1#32) : k0_cond3 i v = 1#1 ↔ (i 0).val + v.toNat < 4 := by
  unfold k0_cond3
  rcases hv with rfl | rfl
  · exact (by decide +kernel : ∀ (a : Fin 4), Scalar.cmpi .ne (Scalar.extui (Scalar.ori (Scalar.cmpi .eq 0#32 0#32) (Scalar.cmpi .slt (Scalar.addi (BitVec.ofNat 32 a.val) 1#32) 4#32))) 0#32 = 1#1 ↔ a.val + (0#32).toNat < 4) (i 0)
  · exact (by decide +kernel : ∀ (a : Fin 4), Scalar.cmpi .ne (Scalar.extui (Scalar.ori (Scalar.cmpi .eq 1#32 0#32) (Scalar.cmpi .slt (Scalar.addi (BitVec.ofNat 32 a.val) 1#32) 4#32))) 0#32 = 1#1 ↔ a.val + (1#32).toNat < 4) (i 0)

theorem toInt_small (v : BitVec 32) (hv : v.toNat ≤ 160) : v.toInt = (v.toNat : ℤ) :=
  WordCmp.toInt_eq_toNat_of_lt_half (by omega)

theorem cond4_iff (i : grid0.Coords) (v : BitVec 32) (hv : v.toNat ≤ 160) : k0_cond4 i v = 1#1 ↔ (i 1).val < v.toNat := by
  have h := co1 i
  have e : (BitVec.ofNat 32 (i 1).val).toNat = (i 1).val := by rw [BitVec.toNat_ofNat]; omega
  unfold k0_cond4
  show Scalar.cmpi .ne (Scalar.extui (IntOp.cmpi .slt (BitVec.ofNat 32 (i 1).val) v)) 0#32 = 1#1 ↔ _
  rw [WordCmp.cmpi_slt_eq, toInt_small v hv, toInt_small _ (by omega), e]
  by_cases h : (i 1).val < v.toNat
  · rw [decide_eq_true (by omega)]; exact ⟨fun _ => h, fun _ => by decide⟩
  · rw [decide_eq_false (by omega)]; exact ⟨fun h' => absurd h' (by decide), fun h' => absurd h' h⟩

theorem cond5_iff (i : grid0.Coords) (v : BitVec 32) (hv : v.toNat ≤ 160) : k0_cond5 i v = 1#1 ↔ ¬ (i 1).val < v.toNat := by
  have h := co1 i
  have e : (BitVec.ofNat 32 (i 1).val).toNat = (i 1).val := by rw [BitVec.toNat_ofNat]; omega
  unfold k0_cond5
  show Scalar.cmpi .ne (Scalar.extui (IntOp.cmpi .sge (BitVec.ofNat 32 (i 1).val) v)) 0#32 = 1#1 ↔ _
  rw [WordCmp.cmpi_sge_eq, toInt_small v hv, toInt_small _ (by omega), e]
  by_cases h : (i 1).val < v.toNat
  · rw [decide_eq_false (by omega)]; exact ⟨fun h' => absurd h' (by decide), fun h' => absurd h h'⟩
  · rw [decide_eq_true (by omega)]; exact ⟨fun _ => h, fun _ => by decide⟩

theorem off2_eq (v : BitVec 32) (hv : v.toNat < 32) : k0_off2 v = offE v.toNat 0 := by
  unfold k0_off2 offE
  rw [Nat.min_eq_left (by omega : v.toNat ≤ 31)]
  rfl
theorem off3_eq (v : BitVec 32) (hv : v.toNat < 32) : k0_off3 v = offE v.toNat 4 := by
  unfold k0_off3 offE
  rw [Nat.min_eq_left (by omega : v.toNat ≤ 31)]
  rfl
theorem off5_eq (i : grid0.Coords) (v : BitVec 32) (hv : v.toNat < 32) (r : Fin 2) : k0_off5 i v (BitVec.ofNat 32 (2048 * r.val)) = offE v.toNat (4 * r.val + (i 0).val) := by
  unfold k0_off5 offE
  rw [Nat.min_eq_left (by omega : v.toNat ≤ 31)]
  refine congrArg (fun z => ![v.toNat, 0, z]) ?_
  exact (by decide +kernel : ∀ (a : Fin 4) (r : Fin 2), (Scalar.addi (BitVec.ofNat 32 (2048 * r.val)) (Scalar.muli (BitVec.ofNat 32 a.val) 512#32)).toNat = 512 * min (4 * r.val + a.val) 7) (i 0) r
theorem off12_eq (i : grid0.Coords) (u v : BitVec 32) (hu : u = 0#32 ∨ u = 1#32) (hb : (i 0).val + u.toNat < 4) (hv : v.toNat < 32) (r : Fin 2) :
    k0_off12 i u v (BitVec.ofNat 32 (2048 * r.val)) = offE v.toNat (4 * r.val + ((i 0).val + u.toNat)) := by
  unfold k0_off12 offE
  rw [Nat.min_eq_left (by omega : v.toNat ≤ 31)]
  refine congrArg (fun z => ![v.toNat, 0, z]) ?_
  rcases hu with rfl | rfl
  · exact (by decide +kernel : ∀ (a : Fin 4) (r : Fin 2), a.val + (0#32).toNat < 4 → (Scalar.addi (BitVec.ofNat 32 (2048 * r.val)) (Scalar.muli (Scalar.addi (BitVec.ofNat 32 a.val) 0#32) 512#32)).toNat = 512 * min (4 * r.val + (a.val + (0#32).toNat)) 7) (i 0) r hb
  · exact (by decide +kernel : ∀ (a : Fin 4) (r : Fin 2), a.val + (1#32).toNat < 4 → (Scalar.addi (BitVec.ofNat 32 (2048 * r.val)) (Scalar.muli (Scalar.addi (BitVec.ofNat 32 a.val) 1#32) 512#32)).toNat = 512 * min (4 * r.val + (a.val + (1#32).toNat)) 7) (i 0) r hb

theorem chk2_of (i : grid0.Coords) (u v : BitVec 32) (hv : v.toNat < 32) : k0_chk2 i u v :=
  fun _ r => by rw [off5_eq i v hv r]; exact inbE _ _
theorem chk3_of (i : grid0.Coords) (u v : BitVec 32) (hv : v = 0#32 ∨ v = 1#32) : k0_chk3 i u v := by
  unfold k0_chk3 k0_mult7 k0_mult8
  rcases hv with rfl | rfl
  · exact ⟨fun _ _ => (by decide +kernel : ∀ a : Fin 4, 512 ∣ (Scalar.addi 0#32 (Scalar.muli (Scalar.addi (BitVec.ofNat 32 a.val) 0#32) 512#32)).toNat) (i 0),
      fun _ _ => (by decide +kernel : ∀ a : Fin 4, 512 ∣ (Scalar.addi 2048#32 (Scalar.muli (Scalar.addi (BitVec.ofNat 32 a.val) 0#32) 512#32)).toNat) (i 0)⟩
  · exact ⟨fun _ _ => (by decide +kernel : ∀ a : Fin 4, 512 ∣ (Scalar.addi 0#32 (Scalar.muli (Scalar.addi (BitVec.ofNat 32 a.val) 1#32) 512#32)).toNat) (i 0),
      fun _ _ => (by decide +kernel : ∀ a : Fin 4, 512 ∣ (Scalar.addi 2048#32 (Scalar.muli (Scalar.addi (BitVec.ofNat 32 a.val) 1#32) 512#32)).toNat) (i 0)⟩
theorem chk4_of (i : grid0.Coords) (w u v : BitVec 32) (hu : u = 0#32 ∨ u = 1#32) (hv : v.toNat < 32) : k0_chk4 i w u v :=
  fun _ h3 r => by rw [off12_eq i u v hu ((cond3_iff i u hu).1 h3) hv r]; exact inbE _ _

/-! The words the body reads. -/

theorem unit_i1 (off : Fin 1 → ℕ) (inb : ∀ a, off a + S1.size a ≤ S160.size a) (n : ℕ) (hn : n < 160) (e : off = ![n]) (z : S1.Idx) :
    (Rect.unit (s := S160) off S1.size inb).idx z = i1 n := by
  subst e
  funext a
  fin_cases a
  have hz : (z 0).val < 1 := (z 0).isLt
  apply Fin.ext
  show n + 1 * (z 0).val = n % 160
  omega

theorem w0_eq {c : Dev nD} (f : TB (F := F) c beM) : w0 f = f (i1 0) :=
  congrArg f (unit_i1 _ _ 0 (by decide) rfl _)
theorem wfi_eq {c : Dev nD} (i : grid0.Coords) (f : TB (F := F) c fiM) : wfi i f = f (i1 (i 1).val) :=
  congrArg f (unit_i1 _ _ _ (co1 i) (off1_eq i) _)
theorem wbe_eq {c : Dev nD} (i : grid0.Coords) (f : TB (F := F) c beM) : wbe i f = f (i1 (i 1).val) :=
  congrArg f (unit_i1 _ _ _ (co1 i) (off4_eq i) _)
theorem wla_eq {c : Dev nD} (i : grid0.Coords) (f : TB (F := F) c laM) : wla i f = f (i1 (i 1).val) :=
  congrArg f (unit_i1 _ _ _ (co1 i) (off10_eq i) _)
theorem wne_eq {c : Dev nD} (i : grid0.Coords) (f : TB (F := F) c neM) : wne i f = f (i1 (i 1).val) :=
  congrArg f (unit_i1 _ _ _ (co1 i) (off11_eq i) _)
theorem wnu_eq {c : Dev nD} (f : TB (F := F) c nuM) : wnu f = f i0 := by
  refine congrArg f ?_
  funext a
  fin_cases a
  exact Subsingleton.elim (α := Fin 1) _ _

end Cert.KernelUpIdeal.Up
-- ==== Proof.UpFrame.lean ====
module

public import proofs.«01_k».proof.Proof.UpPlan
public import proofs.«01_k».proof.Proof.Gen.KernelUpIdeal.Launch
public import Idealize.ShloMosaic.Lib.Pipeline.FrameBody
public import Idealize.ShloMosaic.Lib.ReshapeSlab
public import Idealize.ShloMosaic.Lib.Claim

/-! The launch of the expert product: what holds before each grid point, and the frame. -/

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point -/

/-- Before point `n`: the kept block of columns, rounded, as the last group that started an expert left it. -/
def kAt {c : Dev nD} (W : WB (F := F) c) (be fi : S160.Idx → BitVec 32) : ℕ → S4096x1024.Idx → Elt F .bf16
  | 0 => kept (col W 0 0) (col W 0 4)
  | s + 1 => kept (col W (held be fi (s % 160)) (s / 160)) (col W (held be fi (s % 160)) (4 + s / 160))

set_option maxHeartbeats 1000000 in
theorem body_at (c : Dev nD) (i : grid0.Coords) (n : ℕ) (hn : n = 160 * (i 0).val + (i 1).val)
    (arg7 : Memref sig .tc .vmem S512x4096 .bf16) (harg7 : arg7.IsWhole) (arg9 : Memref sig .tc .vmem S1x1x512 .f32) (harg9 : arg9.IsWhole) (arg10 : Memref sig .tc .vmem S1x1x512 .f32) (harg10 : arg10.IsWhole) (arg11 : Memref sig .tc .vmem S512x512 .bf16) (harg11 : arg11.IsWhole)
    (W : WB (F := F) c) (tbe : TB (F := F) c beM) (tfi : TB (F := F) c fiM) (tne : TB (F := F) c neM) (tla : TB (F := F) c laM) (tnu : TB (F := F) c nuM)
    (P : Plan tbe tfi tne tla tnu)
    (x0 : Vec F S512x4096 .bf16) (x1 x2 : Vec F S1x1x512 .f32) (Wt : Waits sig Unit) (Q : PUnit → sProp 𝕄) :
    iprop(Wins c arg7 arg9 arg10 x0 x1 x2 ∗ (∃ d, owns (c : Thread nD τ) arg11 fullShare d)
      ∗ Tabs c tbe tfi tne tla tnu
      ∗ Stream c W (eAt tne n) (bAt tla n) ∗ (∃ f, kPt c f ∗ ⌜n ≠ 0 → f = kAt W tbe tfi n⌝) ∗ owes (c : Thread nD τ) 0 Wt
      ∗ (iprop(Rest c arg7 arg9 arg10 x0 x1 x2 tbe tfi tne tla tnu W (eAt tne (n + 1)) (bAt tla (n + 1)) (kAt W tbe tfi (n + 1)) ∗ owns (c : Thread nD τ) arg11 fullShare (outv i (tnu i0) x0 x1 x2 (kAt W tbe tfi (n + 1)))) -∗ Q ⟨⟩))
    ⊢ wp frame (wpE (defs₀ (F := F)) Variants.none c none) Set.univ (cc0_moe_expert_up i beM (Memref.isWhole_whole _) fiM (Memref.isWhole_whole _) neM (Memref.isWhole_whole _) laM (Memref.isWhole_whole _) nuM (Memref.isWhole_whole _) arg7 harg7 weM (Memref.isWhole_whole _) arg9 harg9 arg10 harg10 arg11 harg11 scrM scrW wbfM wbfW cc0_scratch2) Q := by
  have g0 := co0 i
  have g1 := co1 i
  have hi1 : i1 n = i1 (i 1).val := by rw [hn, i1_add]
  have hd : n / 160 = (i 0).val := by omega
  have hm : n % 160 = (i 1).val := by omega
  have eE : eAt tne (n + 1) = (tne (i1 (i 1).val)).toNat := by rw [← hi1]; rfl
  have eB : bAt tla (n + 1) = (i 0).val + (tla (i1 (i 1).val)).toNat := by rw [← hi1, ← hd]; rfl
  have eK : kAt W tbe tfi (n + 1) = kept (col W (held tbe tfi (i 1).val) (i 0).val) (col W (held tbe tfi (i 1).val) (4 + (i 0).val)) := by rw [← hm, ← hd]; rfl
  have hla := P.la01 (i 1).val
  have hne := P.ne_lt (i 1).val
  have hr := body_run c i arg7 harg7 arg9 harg9 arg10 harg10 arg11 harg11 W tbe tfi tne tla tnu x0 x1 x2 Wt Q (eAt tne n) (bAt tla n) (eAt1 tbe tne n) (bAt1 tla n)
    (eAt tne (n + 1)) (bAt tla (n + 1)) (fun f => n ≠ 0 → f = kAt W tbe tfi n) (kAt W tbe tfi (n + 1))
    (by
      intro h
      obtain ⟨a, b⟩ := (cond1_iff i).1 h
      obtain rfl : n = 0 := by omega
      rw [w0_eq]
      exact ⟨le_refl 4, rfl, off2_eq _ (P.be_lt 0), off3_eq _ (P.be_lt 0)⟩)
    (by
      intro h
      have : n ≠ 0 := fun e => h ((cond1_iff i).2 (by omega))
      exact ⟨(if_neg this).symm, (if_neg this).symm⟩)
    (by
      rw [wfi_eq, wbe_eq, wla_eq, wne_eq, cond2_iff]
      intro h
      obtain ⟨a, b⟩ := P.start (i 0).val (i 1).val g1 h
      rw [← hn] at a b
      rw [a, b, eK, held_first tbe tfi _ h]
      refine ⟨g0, rfl, chk2_of i _ _ (P.be_lt _), chk3_of i _ _ hla, ?_, ?_⟩
      · intro h3
        have h4 := (cond3_iff i _ hla).1 h3
        refine ⟨by omega, chk4_of i _ _ _ hla hne, ?_, ?_⟩
        · rw [eE, eB]
          exact (off12_eq i _ _ hla h4 hne 0).trans (congrArg _ (Nat.zero_add _))
        · rw [eE, eB]
          exact off12_eq i _ _ hla h4 hne 1
      · intro h3
        have h4 : ¬ (i 0).val + (tla (i1 (i 1).val)).toNat < 4 := fun h => h3 ((cond3_iff i _ hla).2 h)
        rw [eB]; omega)
    (by
      rw [wfi_eq, ne_eq, cond2_iff]
      intro h
      obtain ⟨a, b, d, e⟩ := P.stay (i 0).val (i 1).val g1 h
      rw [← hn] at b d
      have hn0 : n ≠ 0 := by omega
      refine ⟨(if_neg hn0).trans b, (if_neg hn0).trans d, fun f hf => (hf hn0).trans ?_⟩
      rw [eK]
      obtain ⟨s, rfl⟩ : ∃ s, n = s + 1 := ⟨n - 1, by omega⟩
      have hs : s % 160 = (i 1).val - 1 := by omega
      have hs2 : s / 160 = (i 0).val := by omega
      show kept (col W (held tbe tfi (s % 160)) (s / 160)) (col W (held tbe tfi (s % 160)) (4 + s / 160)) = _
      rw [hs, hs2, e])
    (by
      rw [wnu_eq, ne_eq, cond4_iff i _ P.nu_le, cond5_iff i _ P.nu_le]
      exact fun h h' => h' h)
    (by
      rw [wnu_eq, ne_eq, cond4_iff i _ P.nu_le, cond5_iff i _ P.nu_le]
      exact fun h => h)
  rw [wnu_eq] at hr
  exact hr

/-! ## The scratch at rest -/

theorem halves_disjoint : Disjoint (half0.view.set) (half1.view.set) := by
  rw [show half0.view.set = _ from Memref.set_view_squeeze _ _, show half1.view.set = _ from Memref.set_view_squeeze _ _]
  exact View.disjoint_slice_of_sep _ _ _ 0 rfl rfl (Or.inl (by decide))

/-- What the two halves leave of the scratch. -/
abbrev left2 : Finset (scrM.view.ty.Idx) := (Finset.univ \ half0.view.set) \ half1.view.set
abbrev gapPt (c : Dev nD) : sProp 𝕄 := iprop(∃ X : Buf (Elt F) ((c : Thread nD τ).loc cc0_scratch0), ((c : Thread nD τ).loc cc0_scratch0) ↦[left2]{fullShare} X)

theorem half1_sub : half1.view.set ⊆ (Finset.univ \ half0.view.set) := fun x hx =>
  Finset.mem_sdiff.2 ⟨Finset.mem_univ _, fun h => Finset.disjoint_left.1 halves_disjoint h hx⟩

theorem scr_split (c : Dev nD) (X : Buf (Elt F) ((c : Thread nD τ).loc cc0_scratch0)) :
    (((c : Thread nD τ).loc cc0_scratch0) ↦{fullShare} X : sProp 𝕄) ⊢ iprop((∃ X, hPt c half0 X) ∗ (∃ X, hPt c half1 X) ∗ gapPt c) := by
  iintro H
  ihave H2 := (pointsTo_split_subset (Finset.subset_univ (half0.view.set))).1 $$ H
  icases H2 with ⟨Ha, Hb⟩
  ihave H3 := (pointsTo_split_subset half1_sub).1 $$ Hb
  icases H3 with ⟨Hb, Hc⟩
  isplitl [Ha]; · iexists _; iexact Ha
  isplitl [Hb]; · iexists _; iexact Hb
  iexists _; iexact Hc

theorem scr_join (c : Dev nD) :
    (iprop((∃ X, hPt c half0 X) ∗ (∃ X, hPt c half1 X) ∗ gapPt c) : sProp 𝕄) ⊢ iprop(∃ X : Buf (Elt F) ((c : Thread nD τ).loc cc0_scratch0), ((c : Thread nD τ).loc cc0_scratch0) ↦{fullShare} X) := by
  iintro ⟨⟨%X0, H0⟩, ⟨%X1, H1⟩, ⟨%X2, H2⟩⟩
  iexists _
  iapply (pointsTo_join_subset (Finset.subset_univ (half0.view.set)))
  isplitl [H0]; · iexact H0
  iapply (pointsTo_join_subset half1_sub)
  isplitl [H1]; · iexact H1
  iexact H2

variable (m : (ℓ : Loc nD τ sig) → Buf (Elt F) ℓ) (ρ : Dev nD → PrngReg)

/-! ## The host before the launch -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem off_host (b : Ref sig .tc) (h0 : b ≠ main_v0) (h1 : b ≠ main_v1) :
    ∀ op ∈ (hostOps0 : List (HloOp τ sig (Elt F))), Proc.devRef (τ := τ) .tc b ∉ op.writes := List.forall_iff_forall_mem.mp (by
  simp only [hostOps0, List.Forall, StableHlo.unary_writes, StableHlo.reshape_writes, Finset.mem_singleton]
  exact ⟨StableHlo.devRef_ne_of_ne h0, StableHlo.devRef_ne_of_ne h1⟩)
theorem V_main_arg0 (c : Dev nD) : V m c main_arg0 = m ((c : Thread nD τ).loc main_arg0) :=
  StableHlo.after_of_forall_not_mem (b := Proc.devRef .tc main_arg0) _ _ (off_host main_arg0 (by decide) (by decide))
theorem V_main_arg1 (c : Dev nD) : V m c main_arg1 = m ((c : Thread nD τ).loc main_arg1) :=
  StableHlo.after_of_forall_not_mem (b := Proc.devRef .tc main_arg1) _ _ (off_host main_arg1 (by decide) (by decide))
theorem V_main_arg2 (c : Dev nD) : V m c main_arg2 = m ((c : Thread nD τ).loc main_arg2) :=
  StableHlo.after_of_forall_not_mem (b := Proc.devRef .tc main_arg2) _ _ (off_host main_arg2 (by decide) (by decide))
theorem V_main_arg3 (c : Dev nD) : V m c main_arg3 = m ((c : Thread nD τ).loc main_arg3) :=
  StableHlo.after_of_forall_not_mem (b := Proc.devRef .tc main_arg3) _ _ (off_host main_arg3 (by decide) (by decide))
theorem V_main_arg4 (c : Dev nD) : V m c main_arg4 = m ((c : Thread nD τ).loc main_arg4) :=
  StableHlo.after_of_forall_not_mem (b := Proc.devRef .tc main_arg4) _ _ (off_host main_arg4 (by decide) (by decide))
theorem V_main_arg5 (c : Dev nD) : V m c main_arg5 = m ((c : Thread nD τ).loc main_arg5) :=
  StableHlo.after_of_forall_not_mem (b := Proc.devRef .tc main_arg5) _ _ (off_host main_arg5 (by decide) (by decide))
theorem V_main_arg6 (c : Dev nD) : V m c main_arg6 = m ((c : Thread nD τ).loc main_arg6) :=
  StableHlo.after_of_forall_not_mem (b := Proc.devRef .tc main_arg6) _ _ (off_host main_arg6 (by decide) (by decide))
theorem V_main_arg7 (c : Dev nD) : V m c main_arg7 = m ((c : Thread nD τ).loc main_arg7) :=
  StableHlo.after_of_forall_not_mem (b := Proc.devRef .tc main_arg7) _ _ (off_host main_arg7 (by decide) (by decide))

/-! ## The tables -/

def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev Planned : Prop := Plan (tbl m 0) (tbl m 1) (tbl m 2) (tbl m 3) (tbl m 4)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = Tabs c (tbl m 0) (tbl m 1) (tbl m 2) (tbl m 3) (tbl m 4) := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-! ## What the launch hands over -/

abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg6}
theorem H0_sub : H0 ⊆ Pipeline.restRefsP sig pre0 spec0 := by decide
abbrev Wm (c : Dev nD) : WB (F := F) c := V m c main_arg6
theorem hbmPts0_eq (c : Dev nD) :
    (bigSep H0 (fun b => ((c : Thread nD τ).loc b) ↦{fullShare} V m c b) : sProp 𝕄) = wPt c fullShare (Wm m c) := by
  rw [BI.bigSep_eq_bigSepL_of_eq [main_arg6] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ iprop(semVal ((c : Thread nD τ), SemLoc.dma 8) 0 ∗ semVal ((c : Thread nD τ), SemLoc.dma 9) 0) ∗ wPt c fullShare (Wm m c)) := by
  rw [Pipeline.ΦD_eq, scopedRest0_eq, ownSems00_eq, hbmPts0_eq]

/-- What holds before point `n`. -/
def Phi (c : Dev nD) (n : ℕ) : sProp 𝕄 :=
  iprop(Tabs c (tbl m 0) (tbl m 1) (tbl m 2) (tbl m 3) (tbl m 4) ∗ Stream c (Wm m c) (eAt (tbl m 2) n) (bAt (tbl m 3) n)
    ∗ (∃ f, kPt c f ∗ ⌜n ≠ 0 → f = kAt (Wm m c) (tbl m 0) (tbl m 1) n⌝) ∗ gapPt c ∗ ∃ r, prngReg c r)

theorem wbf_set : (wbfM.view.set) = Finset.univ := View.set_whole _

theorem Phi_in (c : Dev nD) : iprop(Pipeline.ΦD osem0 spec0 H0 (V m) c ∗ Pipeline.ΦT pre0 (tbl m) c) ⊢ Phi m c 0 := by
  unfold Phi
  rw [PhiD0_eq, PhiT0_eq, stream_rest c (Wm m c) (eAt (tbl m 2) 0) (bAt (tbl m 3) 0) (le_refl 4)]
  iintro ⟨⟨⟨⟨%X, HX⟩, ⟨%f, Hf⟩⟩, Hg, ⟨Hq, Hq'⟩, Hw⟩, HT⟩
  ihave HS := scr_split c X $$ HX
  icases HS with ⟨Ha, Hb, Hc⟩
  ihave HW2 := (pointsTo_share (PosShare.mem_left_op_right fullShare)).1 $$ Hw
  icases HW2 with ⟨Hw, Hw'⟩
  isplitl [HT]; · iexact HT
  isplitl [Ha Hb Hq Hq' Hw Hw']
  · isplitl [Ha]; · iexact Ha
    isplitl [Hb]; · iexact Hb
    isplitl [Hq]; · iexact Hq
    isplitl [Hq']; · iexact Hq'
    isplitl [Hw]; · iexact Hw
    iexact Hw'
  isplitl [Hf]
  · iexists f
    isplitl [Hf]
    · unfold kPt; rw [wbf_set]; iexact Hf
    ipureintro; exact fun h => absurd rfl h
  isplitl [Hc]; · iexact Hc
  iexact Hg

theorem Phi_out (hP : Planned m) (c : Dev nD) : Phi m c 640 ⊢ Pipeline.ΦD osem0 spec0 H0 (V m) c := by
  have hb : 4 ≤ bAt (tbl m 3) 640 := by
    show 4 ≤ 639 / 160 + (tbl m 3 (i1 639)).toNat
    rw [show i1 639 = i1 159 from i1_add 3 159, hP.end_la]
    decide
  unfold Phi
  rw [PhiD0_eq, stream_rest c (Wm m c) (eAt (tbl m 2) 640) (bAt (tbl m 3) 640) hb]
  iintro ⟨HT, ⟨Ha, Hb, Hq, Hq', Hw, Hw'⟩, ⟨%f, Hf, -⟩, Hc, Hg⟩
  isplitl [Ha Hb Hc Hf]
  · isplitl [Ha Hb Hc]
    · iapply scr_join c
      isplitl [Ha]; · iexact Ha
      isplitl [Hb]; · iexact Hb
      iexact Hc
    iexists f
    unfold kPt; rw [wbf_set]; iexact Hf
  isplitl [Hg]; · iexact Hg
  isplitl [Hq Hq']
  · isplitl [Hq]; · iexact Hq
    iexact Hq'
  iapply (pointsTo_share (PosShare.mem_left_op_right fullShare)).2
  isplitl [Hw]; · iexact Hw
  iexact Hw'

attribute [irreducible] Phi

/-! ## The blocks and the proof data -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outv (grid0.coords t) (tbl m 4 i0) (iblk m hO c 0 t) (iblk m hO c 1 t) (iblk m hO c 2 t) (kAt (Wm m c) (tbl m 0) (tbl m 1) (t.val + 1))
  Φ t := Phi m c t.val
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t
    = outv (grid0.coords t) (tbl m 4 i0) (iblk m hO c 0 t) (iblk m hO c 1 t) (iblk m hO c 2 t) (kAt (Wm m c) (tbl m 0) (tbl m 1) (t.val + 1)) := by dsimp only [dats]; try rfl
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

abbrev ms0_0 (hO : Ok m) (t : Fin (cfgM m hO).N) : Memref sig .tc .vmem S512x4096 .bf16 := spec0_0.stage ((cfgM m hO).slots t 0)
abbrev ms0_1 (hO : Ok m) (t : Fin (cfgM m hO).N) : Memref sig .tc .vmem S1x1x512 .f32 := spec0_1.stage ((cfgM m hO).slots t 1)
abbrev ms0_2 (hO : Ok m) (t : Fin (cfgM m hO).N) : Memref sig .tc .vmem S1x1x512 .f32 := spec0_2.stage ((cfgM m hO).slots t 2)
abbrev ms0_3 (hO : Ok m) (t : Fin (cfgM m hO).N) : Memref sig .tc .vmem S512x512 .bf16 := spec0_3.stage ((cfgM m hO).slots t 3)

abbrev bodyAt0 (hO : Ok m) (t : Fin (cfgM m hO).N) : Prog (TpuEff nD τ sig (Elt F) Λ₀ .tc) PUnit :=
  cc0_moe_expert_up (grid0.coords t) beM (Memref.isWhole_whole _) fiM (Memref.isWhole_whole _) neM (Memref.isWhole_whole _) laM (Memref.isWhole_whole _) nuM (Memref.isWhole_whole _)
    (ms0_0 m hO t) (hstage0_0 (((cfgM m hO).slots t 0).cast nbuf0_0)) weM (Memref.isWhole_whole _) (ms0_1 m hO t) (hstage0_1 (((cfgM m hO).slots t 1).cast nbuf0_1))
    (ms0_2 m hO t) (hstage0_2 (((cfgM m hO).slots t 2).cast nbuf0_2)) (ms0_3 m hO t) (hstage0_3 (((cfgM m hO).slots t 3).cast nbuf0_3)) scrM scrW wbfM wbfW cc0_scratch2

/-- The grid's points in order: columns outermost, groups inside. -/
theorem coords_at : ∀ t : Fin grid0.N, t.val = 160 * (grid0.coords t 0).val + (grid0.coords t 1).val := by decide +kernel

theorem nu_word : (tbl m).atD 4 ![0] = tbl m 4 i0 :=
  (dif_pos (by decide)).trans (congrArg (tbl m 4) (by funext a; fin_cases a; rfl))

theorem idle_word (i : grid0.Coords) (v w : BitVec 32) (e : w = v) (hv : v.toNat ≤ 160) : (!(k0_cond4 i w == 1#1) && !(k0_cond5 i w == 1#1)) = false := by
  subst e
  by_cases h : (i 1).val < w.toNat
  · rw [(cond4_iff i _ hv).2 h]; rfl
  · rw [(cond5_iff i _ hv).2 h, Bool.and_comm]; rfl

theorem idle_fun (hO : Ok m) : (cfgM m hO).idle = idle0 (tbl m) := rfl
theorem idle0_3 (pf : pre0.Contents (Elt F)) (i : grid0.Coords) : idle0 pf 3 i = (!(k0_cond4 i (pf.atD 4 ![0]) == 1#1) && !(k0_cond5 i (pf.atD 4 ![0]) == 1#1)) := rfl
theorem nu_le' (hP : Planned m) : (tbl m 4 i0).toNat ≤ 160 := hP.nu_le

/-- Some branch stores the result at every point. -/
theorem idle3 (hO : Ok m) (hP : Planned m) (i : grid0.Coords) : (cfgM m hO).idle 3 i = false :=
  (congrFun (congrFun (idle_fun m hO) 3) i).trans ((idle0_3 (tbl m) i).trans (idle_word i (tbl m 4 i0) _ (nu_word m) (nu_le' m hP)))

theorem of_idle (b f : Bool) (hb : b = false) (A B C : sProp 𝕄) :
    C ⊢ (match b with | true => (match f with | false => A | true => B) | false => C) := by subst hb; exact .rfl

theorem Phi_at (hO : Ok m) (c : Dev nD) (t) : (dats m hO 0 c).Φ t = Phi m c t.val := by dsimp only [dats]

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 1000000 in
theorem sound_body (hO : Ok m) (hP : Planned m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2]
  rw [after0_0, after0_1, after0_2, after0_3]
  rw [Phi_at, Phi_at, Fin.val_castSucc, Fin.val_succ]
  unfold Phi Dat.owesAt Pipeline.owesWithin
  rw [show (dats m hO 0 c).owed t.castSucc = 0 from rfl, show (dats m hO 0 c).owed t.succ = 0 from rfl]
  iintro ⟨⟨HT, HS, HK, HG, Hg⟩, ⟨%Wt, -, HW⟩, ⟨%d0, H0⟩, ⟨%d1, H1⟩, ⟨%d2, H2⟩, ⟨%d3, H3⟩⟩
  iapply (body_at c (grid0.coords t) t.val (coords_at t) _ _ _ _ _ _ _ _ (Wm m c) (tbl m 0) (tbl m 1) (tbl m 2) (tbl m 3) (tbl m 4) hP (iblk m hO c 0 t) (iblk m hO c 1 t) (iblk m hO c 2 t) Wt _)
  isplitl [H0 H1 H2]
  · isplitl [H0]; · iexact H0
    isplitl [H1]; · iexact H1
    iexact H2
  isplitl [H3]; · iexists _; iexact H3
  isplitl [HT]; · iexact HT
  isplitl [HS]; · iexact HS
  isplitl [HK]; · iexact HK
  isplitl [HW]; · iexact HW
  iintro ⟨⟨⟨H0, H1, H2⟩, HT, HS, HK, ⟨%W', HW⟩⟩, H3⟩
  isplitl [HT HS HK HG Hg]
  · isplitl [HT]; · iexact HT
    isplitl [HS]; · iexact HS
    isplitl [HK]
    · iexists _
      isplitl [HK]; · iexact HK
      ipureintro; exact fun _ => rfl
    isplitl [HG]; · iexact HG
    iexact Hg
  isplitl [HW]
  · iexists W'; isplitr; · ipureintro; exact fun _ _ => Or.inl trivial
    iexact HW
  isplitl [H0]; · iexact H0
  isplitl [H1]; · iexact H1
  isplitl [H2]; · iexact H2
  iexact H3

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

set_option maxHeartbeats 1000000 in
theorem body_obligation (hO : Ok m) (hP : Planned m) (c : Dev nD) : BodyObligation (dats (F := F) m hO 0 c) (defs₀ (F := F)) Variants.none () Set.univ := fun t => by
  rw [bigSep_W0, bigSep_W0, defs₀_row m hO]
  refine triple_restated (sound_body m hO hP c t) rfl .rfl fun _ => ?_
  have h3 := idle3 m hO hP ((cfgM m hO).grid.coords t)
  unfold bodyPost
  refine sep_mono .rfl (sep_mono .rfl (sep_mono .rfl (sep_mono .rfl (sep_mono .rfl ?_))))
  beta_reduce
  split
  · next h => exact absurd h (by decide)
  next =>
  split
  · next h => exact absurd (h.symm.trans h3) (by decide)
  exact .rfl

/-! ## The run and the frame -/

set_option backward.isDefEq.respectTransparency.types false in
theorem run_main_quiescent (hO : Ok m) (hP : Planned m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_dma_shared (Q' := _) pcfgs (fun _ => adm m hO) (dats m hO) (0 : Fin 1) launch₀0 osem0 defs₀ Variants.none ownSemFacts0 H0 H0_sub m ρ main
    (hbody := fun c => (body_obligation m hO hP c).loose) (hq := fun _ _ _ => rfl)
    (howed := fun _ _ => rfl) (V := V m) (hmain := hmain m Variants.none) (hA := A_eq m hO) (hpf := V_pre m) (hin := fun c => Phi_in m c) (hout := fun c => Phi_out m hP c)

theorem run_main (hO : Ok m) (hP : Planned m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO hP)

theorem kept_args (hO : Ok m) (hP : Planned m) (r : PUnit × MemSt nD τ sig (Elt F)) (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c)⟩

/-- The program ends with every argument as it was and every semaphore at zero. -/
theorem frame (hO : Ok m) (hP : Planned m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept_args m hO hP r h.1 c, h.2⟩) (run_main_quiescent m ρ hO hP)

end Cert.KernelUpIdeal.Up
-- ==== Proof.UpPre.lean ====
module

public import proofs.«01_k».proof.Proof.UpFrame
public import proofs.«01_k».proof.Proof.Gen.Pre_plan_up
public import Idealize.ShloMosaic.Lib.StableHlo.Predicate
public import Idealize.ShloMosaic.Lib.ReduceAll

/-! The precondition's words as a plan, and the windows' blocks inside their arrays under it. -/

@[expose] public section

set_option maxRecDepth 16384

noncomputable section

namespace Cert.KernelUpIdeal.Up

open Cert.KernelUpIdeal Cert.KernelUpIdeal.Gen
open Idealize.ShloMosaic Idealize.ShloMosaic.TcCoe Idealize.ShloMosaic.Tactic

variable {F : FTy → Type} [FloatOps F]

/-! ## The precondition read -/

theorem and_split {s : Shape} {x y : IVec s 1} {z : s.Idx} (h : andi x y z = 1#1) : x z = 1#1 ∧ y z = 1#1 := by
  have h' : IntOp.andi (x z) (y z) = 1#1 := h
  generalize x z = a at h' ⊢
  generalize y z = b at h' ⊢
  revert a b
  decide

abbrev z0 : Cert.Pre_plan_up.S_.Idx := fun a => a.elim0
abbrev n0 (n : Fin 159) : Cert.Pre_plan_up.S159.Idx := fun | 0 => n
instance : Subsingleton Cert.Pre_plan_up.S_.Idx := ⟨fun a b => funext fun i => i.elim0⟩

theorem one_word (x : IVec Cert.Pre_plan_up.S1 32) (h) : shapeCast Cert.Pre_plan_up.S_ x h z0 = x i0 := by
  refine congrArg x ?_
  funext a
  fin_cases a
  exact Subsingleton.elim (α := Fin 1) _ _
theorem cut1 (x : IVec Cert.Pre_plan_up.S160 32) (k : ℕ) (hk : k < 160) (h) : extractStridedSlice Cert.Pre_plan_up.S1 ![k] x h i0 = x (i1 k) := by
  refine congrArg x ?_
  funext a
  fin_cases a
  refine Fin.ext ?_
  show k + 0 = k % 160
  omega
theorem cut159 (x : IVec Cert.Pre_plan_up.S160 32) (k : ℕ) (hk : k ≤ 1) (h) (n : Fin 159) : extractStridedSlice Cert.Pre_plan_up.S159 ![k] x h (n0 n) = x (i1 (n.val + k)) := by
  refine congrArg x ?_
  funext a
  fin_cases a
  refine Fin.ext ?_
  show k + n.val = (n.val + k) % 160
  omega

theorem word_range (v : BitVec 32) (k : ℕ) (hk : k < 2 ^ 31) (h0 : IntOp.cmpi .sge v 0#32 = 1#1) (h1 : IntOp.cmpi .slt v (BitVec.ofNat 32 k) = 1#1) : v.toNat < k := by
  rw [WordCmp.cmpi_sge_eq, StableHlo.Predicate.ofBool_eq_one_iff, decide_eq_true_eq] at h0
  rw [WordCmp.cmpi_slt_eq, StableHlo.Predicate.ofBool_eq_one_iff, decide_eq_true_eq, StableHlo.Predicate.toInt_ofNat_small k hk] at h1
  have h0' : (0 : ℤ) ≤ v.toInt := h0
  rw [BitVec.toInt_eq_toNat_cond] at h0' h1
  split at h0' <;> omega

theorem word_range1 (v : BitVec 32) (h0 : IntOp.cmpi .sge v 1#32 = 1#1) (h1 : IntOp.cmpi .sle v 160#32 = 1#1) : 1 ≤ v.toNat ∧ v.toNat ≤ 160 := by
  rw [WordCmp.cmpi_sge_eq, StableHlo.Predicate.ofBool_eq_one_iff, decide_eq_true_eq] at h0
  unfold IntOp.cmpi at h1
  rw [StableHlo.Predicate.ofBool_eq_one_iff, BitVec.sle, decide_eq_true_eq] at h1
  have h0' : (1 : ℤ) ≤ v.toInt := h0
  have h1' : v.toInt ≤ 160 := h1
  rw [BitVec.toInt_eq_toNat_cond] at h0' h1'
  split at h0' <;> omega

theorem or_split {s : Shape} {x y : IVec s 1} {z : s.Idx} (h : ori x y z = 1#1) : x z = 1#1 ∨ y z = 1#1 := by
  have h' : IntOp.ori (x z) (y z) = 1#1 := h
  generalize x z = a at h' ⊢
  generalize y z = b at h' ⊢
  revert a b
  decide

theorem past_word (nu : IVec Cert.Pre_plan_up.S1 32) (n : Fin 159) (h1 h1' h2) (hn : (nu i0).toNat ≤ 160)
    (h : cmpi .sge (addi (broadcastInDim Cert.Pre_plan_up.S159 ![] h1 (constantI Cert.Pre_plan_up.S_ 32 1#32)) (iotaInDim Cert.Pre_plan_up.S159 32 0))
      (broadcastInDim Cert.Pre_plan_up.S159 ![] h1' (shapeCast Cert.Pre_plan_up.S_ nu h2)) (n0 n) = 1#1) : (nu i0).toNat ≤ n.val + 1 := by
  have e : IntOp.cmpi .sge (1#32 + BitVec.ofNat 32 n.val) (shapeCast Cert.Pre_plan_up.S_ nu h2 z0) = 1#1 :=
    (congrArg (fun w => IntOp.cmpi .sge (1#32 + BitVec.ofNat 32 n.val) (shapeCast Cert.Pre_plan_up.S_ nu h2 w)) (Subsingleton.elim _ _)).trans h
  rw [one_word, WordCmp.cmpi_sge_eq, StableHlo.Predicate.ofBool_eq_one_iff, decide_eq_true_eq] at e
  have e1 : (1#32 + BitVec.ofNat 32 n.val).toNat = n.val + 1 := by
    rw [BitVec.toNat_add, BitVec.toNat_ofNat, BitVec.toNat_ofNat]; omega
  rw [BitVec.toInt_eq_toNat_cond, BitVec.toInt_eq_toNat_cond, e1] at e
  rw [if_pos (by omega), if_pos (by omega)] at e
  omega

theorem plan_of (be fi ne la : IVec Cert.Pre_plan_up.S160 32) (nu : IVec Cert.Pre_plan_up.S1 32) (x : FVec F Cert.Pre_plan_up.S81920x4096 .f32)
    (w : FVec F Cert.Pre_plan_up.S32x4096x4096 .f32) (b : FVec F Cert.Pre_plan_up.S32x4096 .f32)
    (h : Cert.Pre_plan_up.fn (F := F) be fi ne la nu x w b z0 = 1#1) : Plan be fi ne la nu := by
  dsimp only [Cert.Pre_plan_up.fn, Cert.Pre_plan_up.fn_part1, Cert.Pre_plan_up.fn_part2, Cert.Pre_plan_up.fn_where] at h
  obtain ⟨h, hla⟩ := and_split h
  obtain ⟨h, hne⟩ := and_split h
  obtain ⟨h, hst⟩ := and_split h
  obtain ⟨h, hfi⟩ := and_split h
  obtain ⟨h, hbe⟩ := and_split h
  obtain ⟨hn1, hn2⟩ := and_split h
  have hla' := StableHlo.Predicate.cmpi_eq_iff.1 hla
  have hne' := StableHlo.Predicate.cmpi_eq_iff.1 hne
  have hfi' := StableHlo.Predicate.cmpi_eq_iff.1 hfi
  rw [one_word, cut1 _ _ (by decide)] at hla' hfi'
  rw [one_word, one_word, cut1 _ _ (by decide), cut1 _ _ (by decide)] at hne'
  have hbe' := fun n => Host.reduce_andi_all _ _ _ _ _ hbe n
  have hst' := fun n => Host.reduce_andi_all _ _ _ _ _ hst (n0 n)
  have hnu := word_range1 (nu i0) (by rw [← one_word nu]; exact hn1) (by rw [← one_word nu]; exact hn2)
  have step : ∀ n : Fin 159, (if fi (i1 (n.val + 1)) = 1#32 then ne (i1 n.val) = be (i1 (n.val + 1)) ∧ la (i1 n.val) = 0#32
      else (n.val + 1 < (nu i0).toNat → be (i1 (n.val + 1)) = be (i1 n.val)) ∧ ne (i1 (n.val + 1)) = ne (i1 n.val) ∧ la (i1 (n.val + 1)) = la (i1 n.val)) := by
    intro n
    have e := hst' n
    by_cases hf : fi (i1 (n.val + 1)) = 1#32
    · rw [if_pos hf]
      have c : IntOp.cmpi .eq (extractStridedSlice Cert.Pre_plan_up.S159 ![1] fi Cert.Pre_plan_up.Facts.slices_S160_S159_1 (n0 n)) 1#32 = 1#1 := by
        rw [cut159 _ _ (by decide)]; exact StableHlo.Predicate.cmpi_eq_iff.2 hf
      have e2 := (if_pos c).symm.trans e
      obtain ⟨a, b⟩ := and_split e2
      have a' := StableHlo.Predicate.cmpi_eq_iff.1 a
      have b' := StableHlo.Predicate.cmpi_eq_iff.1 b
      rw [cut159 _ _ (by decide), cut159 _ _ (by decide)] at a'
      rw [cut159 _ _ (by decide)] at b'
      exact ⟨a', b'⟩
    · rw [if_neg hf]
      have c : ¬ IntOp.cmpi .eq (extractStridedSlice Cert.Pre_plan_up.S159 ![1] fi Cert.Pre_plan_up.Facts.slices_S160_S159_1 (n0 n)) 1#32 = 1#1 := by
        rw [cut159 _ _ (by decide)]; exact fun h => hf (StableHlo.Predicate.cmpi_eq_iff.1 h)
      have e2 := (if_neg c).symm.trans e
      obtain ⟨a, d⟩ := and_split e2
      obtain ⟨a, b⟩ := and_split a
      have b' := StableHlo.Predicate.cmpi_eq_iff.1 b
      have d' := StableHlo.Predicate.cmpi_eq_iff.1 d
      rw [cut159 _ _ (by decide), cut159 _ _ (by decide)] at b' d'
      refine ⟨fun hu => ?_, b', d'⟩
      rcases or_split a with a | a
      · have a' := StableHlo.Predicate.cmpi_eq_iff.1 a
        rw [cut159 _ _ (by decide), cut159 _ _ (by decide)] at a'
        exact a'
      · have := past_word nu n _ _ _ hnu.2 a
        omega
  refine ⟨hnu.1, hnu.2, ?_, hfi', ?_, ?_, ?_, hne', hla'⟩
  · intro n
    obtain ⟨a, b⟩ := and_split (hbe' (i1 n))
    exact word_range (be (i1 n)) 32 (by decide) a b
  · intro n hn hf
    have := step ⟨n, hn⟩
    rw [if_pos hf] at this
    exact this
  · intro n hn hf
    have := step ⟨n, hn⟩
    rw [if_neg hf] at this
    exact this.2
  · intro n hn hf
    have := step ⟨n, hn⟩
    rw [if_neg hf] at this
    exact this.1

/-! ## The windows' blocks -/

variable (m : (ℓ : Loc nD τ sig) → Buf (Elt F) ℓ)

theorem min_word : ∀ (a : Fin 160) (k : Fin 161), 1 ≤ k.val →
    (Scalar.minsi (BitVec.ofNat 32 a.val) (Scalar.subi (BitVec.ofNat 32 k.val) 1#32)).toNat = min a.val (k.val - 1) := by decide +kernel

theorem tr0_eq {be fi ne la : S160.Idx → BitVec 32} (pf : pre0.Contents (Elt F)) (P : Plan be fi ne la (pf 4)) (i : grid0.Coords) :
    cc0_transform_0 inb_S1_S1_0 numel1_S1 pf i = ![min (i 1).val ((pf 4 i0).toNat - 1), 0] := by
  have hw : pf.at 4 (Rect.unit (s := S1) ![0] S1.size inb_S1_S1_0) numel1_S1 = pf 4 i0 := by
    refine congrArg (pf 4) ?_
    funext a
    fin_cases a
    exact Subsingleton.elim (α := Fin 1) _ _
  have hk : BitVec.ofNat 32 (pf 4 i0 : BitVec 32).toNat = (pf 4 i0 : BitVec 32) :=
    BitVec.eq_of_toNat_eq (by rw [BitVec.toNat_ofNat]; exact Nat.mod_eq_of_lt (pf 4 i0 : BitVec 32).isLt)
  unfold cc0_transform_0
  rw [hw]
  have h1 := P.nu_pos
  have h2 := P.nu_le
  have := min_word (i 1) ⟨(pf 4 i0).toNat, by omega⟩ h1
  refine congrArg (fun z => ![z, 0]) ?_
  refine Eq.trans ?_ this
  show _ = (Scalar.minsi (BitVec.ofNat 32 (i 1).val) (Scalar.subi (BitVec.ofNat 32 (pf 4 i0).toNat) 1#32)).toNat
  rw [hk]

theorem be_word (pf : pre0.Contents (Elt F)) (i : grid0.Coords) (h1) :
    pf.at 0 (Rect.unit (s := S160) (k0_off1 i) S1.size (k0_off1_inb i)) h1 = pf 0 (i1 (i 1).val) :=
  congrArg (pf 0) (unit_i1 _ _ _ (co1 i) (off1_eq i) _)

theorem tr2_eq (pf : pre0.Contents (Elt F)) (i : grid0.Coords) :
    cc0_transform_2 k0_off1_inb numel1_S1 pf i = ![(pf 0 (i1 (i 1).val) : BitVec 32).toNat, 0, (i 0).val] := by
  have h := co0 i
  unfold cc0_transform_2
  have e : (BitVec.ofNat 32 (i 0).val).toNat = (i 0).val := by rw [BitVec.toNat_ofNat]; omega
  refine (congrArg (fun z : BitVec 32 => ![z.toNat, 0, (BitVec.ofNat 32 (i 0).val).toNat]) (be_word pf i numel1_S1)).trans ?_
  rw [e]

theorem tr3_eq (pf : pre0.Contents (Elt F)) (i : grid0.Coords) :
    cc0_transform_3 k0_off1_inb numel1_S1 pf i = ![(pf 0 (i1 (i 1).val) : BitVec 32).toNat, 0, 4 + (i 0).val] := by
  have h := co0 i
  unfold cc0_transform_3
  have e : (Scalar.addi 4#32 (BitVec.ofNat 32 (i 0).val)).toNat = 4 + (i 0).val :=
    (by decide +kernel : ∀ a : Fin 4, (Scalar.addi 4#32 (BitVec.ofNat 32 a.val)).toNat = 4 + a.val) (i 0)
  refine (congrArg (fun z : BitVec 32 => ![z.toNat, 0, (Scalar.addi 4#32 (BitVec.ofNat 32 (i 0).val)).toNat]) (be_word pf i numel1_S1)).trans ?_
  rw [e]

theorem tr4_eq (i : grid0.Coords) : cc0_transform_4 i = ![(i 1).val, (i 0).val] := by
  have h0 := co0 i
  have h1 := co1 i
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_4
  show ![(BitVec.ofNat 32 (i 1).val).toNat, (BitVec.ofNat 32 (i 0).val).toNat] = _
  rw [e0, e1]

theorem ok_of {fi ne la : S160.Idx → BitVec 32} (pf : pre0.Contents (Elt F)) (P : Plan (pf 0) fi ne la (pf 4)) : ok0 pf := by
  refine ⟨fun i => ?_, fun i => ?_, fun i => ?_⟩
  · have h1 := co1 i
    refine ⟨?_, Or.inr (Or.inl (Or.inr ⟨by decide, rfl, Or.inl ⟨?_, ?_⟩⟩))⟩
    · rw [tr0_eq pf P i]
      intro a
      fin_cases a
      · show (min (i 1).val ((pf 4 i0).toNat - 1) + 1) * 512 ≤ 81920
        omega
      · show (0 + 1) * 4096 ≤ 4096
        omega
    · show 2 ∣ (cc0_transform_0 inb_S1_S1_0 numel1_S1 pf i 0) * 512
      exact Dvd.dvd.mul_left (by decide) _
    · show 2 ∣ 512
      decide
  · have h0 := co0 i
    have hb := P.be_lt (i 1).val
    refine ⟨?_, Or.inl rfl⟩
    rw [tr2_eq pf i]
    intro a
    fin_cases a
    · show ((pf 0 (i1 (i 1).val) : BitVec 32).toNat + 1) * 1 ≤ 32
      omega
    · show (0 + 1) * 1 ≤ 1
      omega
    · show ((i 0).val + 1) * 512 ≤ 4096
      omega
  · have h0 := co0 i
    have hb := P.be_lt (i 1).val
    refine ⟨?_, Or.inl rfl⟩
    rw [tr3_eq pf i]
    intro a
    fin_cases a
    · show ((pf 0 (i1 (i 1).val) : BitVec 32).toNat + 1) * 1 ≤ 32
      omega
    · show (0 + 1) * 1 ≤ 1
      omega
    · show (4 + (i 0).val + 1) * 512 ≤ 4096
      omega

theorem planned (h : Cert.Pre_plan_up.fn (F := F) (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6))
    (m (((0 : Dev nD).tc : Thread nD τ).loc main_arg7)) = fun _ => 1#1) : Planned m := by
  have P := plan_of _ _ _ _ _ _ _ _ (congrFun h z0)
  have e0 : tbl m 0 = m (((0 : Dev nD).tc : Thread nD τ).loc main_arg0) := V_main_arg0 m 0
  have e1 : tbl m 1 = m (((0 : Dev nD).tc : Thread nD τ).loc main_arg1) := V_main_arg1 m 0
  have e2 : tbl m 2 = m (((0 : Dev nD).tc : Thread nD τ).loc main_arg2) := V_main_arg2 m 0
  have e3 : tbl m 3 = m (((0 : Dev nD).tc : Thread nD τ).loc main_arg3) := V_main_arg3 m 0
  have e4 : tbl m 4 = m (((0 : Dev nD).tc : Thread nD τ).loc main_arg4) := V_main_arg4 m 0
  unfold Planned
  rw [e0, e1, e2, e3, e4]
  exact P

theorem ok_planned (hP : Planned m) : Ok m := ok_of (tbl m) hP

end Cert.KernelUpIdeal.Up
-- ==== Proof.UpRef.lean ====
/- The expert projection's reference: its result at an index. -/
module

public import proofs.«01_k».proof.Proof.Gen.ReferenceUpIdeal.Run
public import Idealize.ShloMosaic.Lib.Pipeline.ValueKit
public import Idealize.ShloMosaic.Lib.Pointwise
public import Idealize.ShloMosaic.Lib.Routing.Ops
public import Idealize.ShloMosaic.Lib.WordCmp

@[expose] public section

set_option maxRecDepth 16384

noncomputable section

namespace Cert.Swi

open Idealize.ShloMosaic

/-- The gated activation of a gate and a linear value, both clamped. -/
def act (g u : EReal) : EReal :=
  (min (Ideal.ofBits .f32 0x40E00000#32) (max (Ideal.ofBits .f32 0xC0E00000#32) u) + Ideal.ofBits .f32 0x3F800000#32)
    * min g (Ideal.ofBits .f32 0x40E00000#32) * Ideal.logistic (Ideal.ofBits .f32 0x3FD9DB23#32 * min g (Ideal.ofBits .f32 0x40E00000#32))

end Cert.Swi

namespace Cert.ReferenceUpIdeal.Prod

open Cert.ReferenceUpIdeal Cert.ReferenceUpIdeal.Gen Idealize.ShloMosaic Idealize.ShloMosaic.TcCoe Idealize.SL.Sem

/-- The expert of each row group, as an index array. -/
def experts (be : IVec S160 32) : IVec S160x1 32 :=
  broadcastInDim S160x1 ![0] bcast_S160_S160x1_0 (select (cmpi .slt be (broadcastInDim S160 ![] bcast_S_S160 (constantI S_ 32 0#32)))
    (addi be (broadcastInDim S160 ![] bcast_S_S160 (constantI S_ 32 32#32))) be)

/-- Each row group's weight and bias. -/
def weights (W : FVec Ideal S32x4096x4096 .f32) (E : IVec S160x1 32) : FVec Ideal S160x4096x4096 .f32 :=
  Host.gather gather_S32x4096x4096_S160x1_S160x4096x4096_12_0_n_n_0_1_140964096 W E

def biases (B : FVec Ideal S32x4096 .f32) (E : IVec S160x1 32) : FVec Ideal S160x4096 .f32 :=
  Host.gather gather_S32x4096_S160x1_S160x4096_1_0_n_n_0_1_14096 B E

/-- The projection with its bias. -/
def proj (X : FVec Ideal S81920x4096 .f32) (W : FVec Ideal S160x4096x4096 .f32) (B : FVec Ideal S160x4096 .f32) : FVec Ideal S160x512x4096 .f32 :=
  addf (Host.dotGeneral dot_S160x512x4096_S160x4096x4096_S160x512x4096_2_1_1_2_0_0 none (shapeCast _ X shapeCasts_S81920x4096_S160x512x4096) W)
    (broadcastInDim S160x512x4096 ![0, 1, 2] bcast_S160x1x4096_S160x512x4096_0_1_2 (broadcastInDim S160x1x4096 ![0, 2] bcast_S160x4096_S160x1x4096_0_2 B))

def gate (G : FVec Ideal S160x512x4096 .f32) : FVec Ideal S160x512x2048 .f32 :=
  minimumf (extractStridedSlice S160x512x2048 ![0, 0, 0] G slices_S160x512x4096_S160x512x2048_0_0_0) (broadcastInDim S160x512x2048 ![] bcast_S_S160x512x2048 (constant S_ .f32 0x40E00000#32))

def up (G : FVec Ideal S160x512x4096 .f32) : FVec Ideal S160x512x2048 .f32 :=
  minimumf (broadcastInDim S160x512x2048 ![] bcast_S_S160x512x2048 (id (constant S_ .f32 0x40E00000#32)))
    (maximumf (broadcastInDim S160x512x2048 ![] bcast_S_S160x512x2048 (id (constant S_ .f32 0xC0E00000#32))) (extractStridedSlice S160x512x2048 ![0, 0, 2048] G slices_S160x512x4096_S160x512x2048_0_0_2048))

/-- The logistic of an array, as the reference writes it. -/
def sigm (X : FVec Ideal S160x512x2048 .f32) : FVec Ideal S160x512x2048 .f32 :=
  Host.divf (broadcastInDim S160x512x2048 ![] bcast_S_S160x512x2048 (constant S_ .f32 0x3F800000#32))
    (addf (broadcastInDim S160x512x2048 ![] bcast_S_S160x512x2048 (constant S_ .f32 0x3F800000#32)) (Host.exp (Host.negf X)))

def acts (G : FVec Ideal S160x512x4096 .f32) : FVec Ideal S160x512x2048 .f32 :=
  mulf (mulf (addf (up G) (broadcastInDim S160x512x2048 ![] bcast_S_S160x512x2048 (constant S_ .f32 0x3F800000#32))) (gate G))
    (sigm (mulf (broadcastInDim S160x512x2048 ![] bcast_S_S160x512x2048 (constant S_ .f32 0x3FD9DB23#32)) (gate G)))

/-- Which row groups are used. -/
def live (nu : IVec S1 32) : IVec S160x512x2048 1 :=
  broadcastInDim S160x512x2048 ![0, 1, 2] bcast_S160x1x1_S160x512x2048_0_1_2 (broadcastInDim S160x1x1 ![0] bcast_S160_S160x1x1_0
    (cmpi .slt (iotaInDim S160 32 0) (broadcastInDim S160 ![] bcast_S_S160 (shapeCast _ nu shapeCasts_S1_S_))))

/-- The reference's result as a function of its arguments. -/
def result (be : IVec S160 32) (nu : IVec S1 32) (X : FVec Ideal S81920x4096 .f32) (W : FVec Ideal S32x4096x4096 .f32) (B : FVec Ideal S32x4096 .f32) :
    FVec Ideal S81920x2048 .bf16 :=
  truncf .bf16 (shapeCast _ (select (live nu) (acts (proj X (weights W (experts be)) (biases B (experts be))))
    (broadcastInDim S160x512x2048 ![] bcast_S_S160x512x2048 (id (constant S_ .f32 0x00000000#32)))) shapeCasts_S160x512x2048_S81920x2048) bitsLt_bf16_f32

theorem res_eq (m : (ℓ : Loc nD τ sig) → Buf (Elt Ideal) ℓ) (c : Dev nD) : Value.res_main_v43 m c
    = result (m (c.tc.loc main_arg0)) (m (c.tc.loc main_arg4)) (m (c.tc.loc main_arg5)) (m (c.tc.loc main_arg6)) (m (c.tc.loc main_arg7)) := rfl

theorem sigm_apply (X : FVec Ideal S160x512x2048 .f32) (b : Fin 160) (y : Fin 512) (e : Fin 2048) : sigm X (ix3 b y e) = Ideal.logistic (X (ix3 b y e)) := by
  pointwise [sigm, Ideal.logistic]

theorem gate_apply (G : FVec Ideal S160x512x4096 .f32) (b : Fin 160) (y : Fin 512) (e : Fin 2048) :
    gate G (ix3 b y e) = min (G (ix3 b y ⟨e.val, by omega⟩)) (Ideal.ofBits .f32 0x40E00000#32) := by
  pointwise [gate]

theorem up_apply (G : FVec Ideal S160x512x4096 .f32) (b : Fin 160) (y : Fin 512) (e : Fin 2048) :
    up G (ix3 b y e) = min (Ideal.ofBits .f32 0x40E00000#32) (max (Ideal.ofBits .f32 0xC0E00000#32) (G (ix3 b y ⟨2048 + e.val, by omega⟩))) := by
  pointwise [up]
  rfl

theorem acts_apply (G : FVec Ideal S160x512x4096 .f32) (b : Fin 160) (y : Fin 512) (e : Fin 2048) :
    acts G (ix3 b y e) = Swi.act (G (ix3 b y ⟨e.val, by omega⟩)) (G (ix3 b y ⟨2048 + e.val, by omega⟩)) := by
  have h : acts G (ix3 b y e) = (up G (ix3 b y e) + Ideal.ofBits .f32 0x3F800000#32) * gate G (ix3 b y e)
      * sigm (mulf (broadcastInDim S160x512x2048 ![] bcast_S_S160x512x2048 (constant S_ .f32 0x3FD9DB23#32)) (gate G)) (ix3 b y e) := by
    pointwise [acts]
  have h2 : mulf (broadcastInDim S160x512x2048 ![] bcast_S_S160x512x2048 (constant (F := Ideal) S_ .f32 0x3FD9DB23#32)) (gate G) (ix3 b y e)
      = Ideal.ofBits .f32 0x3FD9DB23#32 * gate G (ix3 b y e) := by pointwise
  rw [h, sigm_apply, h2, up_apply, gate_apply]
  rfl

theorem live_apply (nu : IVec S1 32) (b : Fin 160) (y : Fin 512) (e : Fin 2048) :
    live nu (ix3 b y e) = IntOp.cmpi .slt (BitVec.ofNat 32 b.val) (nu (ix1 0)) := by
  pointwise [live]

theorem experts_apply (be : IVec S160 32) (b : Fin 160) (h : (be (ix1 b)).toNat < 32) : experts be (ix2 b (0 : Fin 1)) = be (ix1 b) := by
  have h' : experts be (ix2 b (0 : Fin 1)) = if IntOp.cmpi .slt (be (ix1 b)) 0#32 = 1#1 then IntOp.addi (be (ix1 b)) 32#32 else be (ix1 b) := by
    pointwise [experts]
    rfl
  rw [h', if_neg]
  rw [WordCmp.cmpi_slt_eq, StableHlo.Predicate.ofBool_eq_one_iff, decide_eq_true_eq, BitVec.toInt_eq_toNat_cond]
  have : (0#32).toInt = 0 := rfl
  rw [this]
  split <;> omega

theorem biases_apply (B : FVec Ideal S32x4096 .f32) (E : IVec S160x1 32) (b : Fin 160) (f : Fin 4096) (x : Fin 32)
    (h : E (ix2 b (0 : Fin 1)) = BitVec.ofNat 32 x.val) : biases B E (ix2 b f) = B (ix2 x f) :=
  Routing.gather_row _ rfl rfl rfl rfl rfl B E b f x h (by decide)

abbrev wdims : GatherDims S32x4096x4096 S160x1 S160x4096x4096 := gather_S32x4096x4096_S160x1_S160x4096x4096_12_0_n_n_0_1_140964096

theorem toNat_word (x : Fin 32) : min (BitVec.ofNat 32 x.val).toInt.toNat (32 - 1) = x.val := by
  revert x
  decide

theorem weights_apply (W : FVec Ideal S32x4096x4096 .f32) (E : IVec S160x1 32) (b : Fin 160) (k f : Fin 4096) (x : Fin 32)
    (h : E (ix2 b (0 : Fin 1)) = BitVec.ofNat 32 x.val) : weights W E (ix3 b k f) = W (ix3 x k f) := by
  have hk : (0 : Fin 3) ∉ wdims.sKept := by decide
  have hm : (0 : Fin 3) ∈ wdims.startIndexMap := by decide
  have hs : wdims.siIdx (ix3 b k f) ⟨wdims.startIndexMap.idxOf 0, List.idxOf_lt_length_iff.2 hm⟩ = ix2 b (0 : Fin 1) := by
    funext j
    refine Fin.ext ?_
    match j with
    | ⟨0, _⟩ => rfl
    | ⟨1, _⟩ => rfl
  have s0 : wdims.start (ix3 b k f) E (0 : Fin 3) = x.val := by
    unfold GatherDims.start
    rw [dif_pos hm, hs, h]
    exact toNat_word x
  have s1 : wdims.start (ix3 b k f) E (1 : Fin 3) = 0 := by
    unfold GatherDims.start
    exact dif_neg (by decide)
  have s2 : wdims.start (ix3 b k f) E (2 : Fin 3) = 0 := by
    unfold GatherDims.start
    exact dif_neg (by decide)
  have o0 : wdims.offCoord (ix3 b k f) (0 : Fin 3) = 0 := wdims.offCoord_eq_zero _ _ hk
  have o1 : wdims.offCoord (ix3 b k f) (1 : Fin 3) = k.val := by
    unfold GatherDims.offCoord
    rw [dif_pos (show (1 : Fin 3) ∈ wdims.sKept by decide)]
    rfl
  have o2 : wdims.offCoord (ix3 b k f) (2 : Fin 3) = f.val := by
    unfold GatherDims.offCoord
    rw [dif_pos (show (2 : Fin 3) ∈ wdims.sKept by decide)]
    rfl
  have bt : ∀ a : Fin 3, wdims.batchCoord (ix3 b k f) a = 0 := fun a => wdims.batchCoord_eq_zero _ _ List.not_mem_nil
  unfold weights Host.gather
  refine congrArg W (funext fun a => Fin.ext ?_)
  show wdims.start (ix3 b k f) E a + wdims.batchCoord (ix3 b k f) a + wdims.offCoord (ix3 b k f) a = _
  match a with
  | ⟨0, _⟩ => exact congrArg₂ (· + ·) (congrArg₂ (· + ·) s0 (bt 0)) o0
  | ⟨1, _⟩ => exact (congrArg₂ (· + ·) (congrArg₂ (· + ·) s1 (bt 1)) o1).trans (Nat.zero_add _)
  | ⟨2, _⟩ => exact (congrArg₂ (· + ·) (congrArg₂ (· + ·) s2 (bt 2)) o2).trans (Nat.zero_add _)

theorem proj_apply (X : FVec Ideal S81920x4096 .f32) (W : FVec Ideal S160x4096x4096 .f32) (B : FVec Ideal S160x4096 .f32) (b : Fin 160) (y : Fin 512) (f : Fin 4096)
    (r : Fin 81920) (hr : r.val = b.val * 512 + y.val) :
    proj X W B (ix3 b y f) = (∑ k : Fin 4096, X (ix2 r k) * W (ix3 b k f)) + B (ix2 b f) := by
  have h1 : ∀ k : Fin 4096, shapeCast S160x512x4096 X shapeCasts_S81920x4096_S160x512x4096 (ix3 b y k) = X (ix2 r k) := fun k => by
    have e : (⟨b.val * 512 + y.val, by have := b.isLt; have := y.isLt; omega⟩ : Fin 81920) = r := Fin.ext hr.symm
    rw [← e]
    pointwise
  have h : proj X W B (ix3 b y f) = (∑ k : Fin 4096, shapeCast S160x512x4096 X shapeCasts_S81920x4096_S160x512x4096 (ix3 b y k) * W (ix3 b k f)) + B (ix2 b f) := by
    pointwise [proj]
  rw [h]
  simp only [h1]

/-- The reference's result at an index: the activation of the row's own expert where its group is used, else zero. -/
theorem result_apply (be : IVec S160 32) (nu : IVec S1 32) (X : FVec Ideal S81920x4096 .f32) (W : FVec Ideal S32x4096x4096 .f32) (B : FVec Ideal S32x4096 .f32)
    (r : Fin 81920) (e : Fin 2048) (b : Fin 160) (hb : b.val = r.val / 512) (x : Fin 32) (hx : be (ix1 b) = BitVec.ofNat 32 x.val) (hn : (nu (ix1 0)).toNat ≤ 160) :
    result be nu X W B (ix2 r e) = if b.val < (nu (ix1 0)).toNat then
      Swi.act ((∑ k : Fin 4096, X (ix2 r k) * W (ix3 x k ⟨e.val, by omega⟩)) + B (ix2 x ⟨e.val, by omega⟩))
        ((∑ k : Fin 4096, X (ix2 r k) * W (ix3 x k ⟨2048 + e.val, by omega⟩)) + B (ix2 x ⟨2048 + e.val, by omega⟩)) else 0 := by
  have hbe : (be (ix1 b)).toNat < 32 := by rw [hx, BitVec.toNat_ofNat]; omega
  have hE : experts be (ix2 b (0 : Fin 1)) = BitVec.ofNat 32 x.val := (experts_apply be b hbe).trans hx
  have h : result be nu X W B (ix2 r e) = Scalar.select (live nu (ix3 b ⟨r.val % 512, by omega⟩ e))
      (acts (proj X (weights W (experts be)) (biases B (experts be))) (ix3 b ⟨r.val % 512, by omega⟩ e)) (0 : EReal) := by
    unfold result
    generalize live nu = L
    generalize acts _ = A
    have eb : (⟨r.val / 512, by have := r.isLt; omega⟩ : Fin 160) = b := Fin.ext hb.symm
    rw [← eb]
    pointwise
    have z : (constant (F := Ideal) S_ .f32 0x00000000#32) ix0 = (0 : EReal) := by pointwise
    exact congrArg (Scalar.select _ _) z
  rw [h, live_apply, acts_apply, proj_apply _ _ _ b _ _ r (by show r.val = b.val * 512 + r.val % 512; omega),
    proj_apply _ _ _ b _ _ r (by show r.val = b.val * 512 + r.val % 512; omega), biases_apply B _ b _ x hE, biases_apply B _ b _ x hE]
  simp only [weights_apply W _ b _ _ x hE]
  have hc : (IntOp.cmpi .slt (BitVec.ofNat 32 b.val) (nu (ix1 0)) = 1#1) ↔ b.val < (nu (ix1 0)).toNat := by
    rw [WordCmp.cmpi_slt_eq, StableHlo.Predicate.ofBool_eq_one_iff, decide_eq_true_eq, BitVec.toInt_eq_toNat_cond, BitVec.toInt_eq_toNat_cond,
      BitVec.toNat_ofNat]
    have := b.isLt
    split <;> split <;> omega
  by_cases hlt : b.val < (nu (ix1 0)).toNat
  · rw [if_pos hlt, hc.2 hlt]
    rfl
  · rw [if_neg hlt]
    exact if_neg fun h => hlt (hc.1 h)

end Cert.ReferenceUpIdeal.Prod

end
-- ==== Proof.UpVal.lean ====
/- The expert projection: the kernel's result array after the run, at an index, and its equality with the reference's result. -/
module

public import proofs.«01_k».proof.Proof.UpPre
public import proofs.«01_k».proof.Proof.UpRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelUpIdeal.Up

open Cert.KernelUpIdeal Cert.KernelUpIdeal.Gen Idealize.ShloMosaic Idealize.ShloMosaic.TcCoe Idealize.SL.Sem

/-! ## A block's payload -/

/-- The two half products of a payload, added. -/
def prod2 (x x' : FVec Ideal S512x2048 .bf16) (K K' : FVec Ideal S2048x1024 .bf16) : FVec Ideal S512x1024 .f32 :=
  addf (matmul dot_S512x2048_S2048x1024_S512x1024_1_0_0_1_n_n none (shapeCast S512x2048 x shapeCasts_S512x2048_S512x2048) K (constant S512x1024 .f32 0x00000000#32))
    (matmul dot_S512x2048_S2048x1024_S512x1024_1_0_0_1_n_n none (shapeCast S512x2048 x' shapeCasts_S512x2048_S512x2048) K' (constant S512x1024 .f32 0x00000000#32))

theorem prod2_apply (x x' : FVec Ideal S512x2048 .bf16) (K K' : FVec Ideal S2048x1024 .bf16) (y : Fin 512) (l : Fin 1024) :
    prod2 x x' K K' (ix2 y l) = (∑ k : Fin 2048, x (ix2 y k) * K (ix2 k l)) + ∑ k : Fin 2048, x' (ix2 y k) * K' (ix2 k l) := by
  pointwise [prod2]

theorem pay_apply (x x' : Vec Ideal S512x2048 .bf16) (K K' : Vec Ideal S2048x1024 .bf16) (g u : Vec Ideal S1x1x512 .f32) (y l : Fin 512) :
    k0_pay1 x x' K K' g u (ix2 y l)
      = Swi.act (prod2 x x' K K' (ix2 y ⟨l.val, by omega⟩) + g (ix3 0 0 l)) (prod2 x x' K K' (ix2 y ⟨512 + l.val, by omega⟩) + u (ix3 0 0 l)) := by
  unfold k0_pay1
  change truncf .bf16 (mulf (mulf (addf (minimumf _ (maximumf _ (addf (extractStridedSlice S512x512 ![0, 512] (prod2 x x' K K') _) _))) _)
    (minimumf (addf (extractStridedSlice S512x512 ![0, 0] (prod2 x x' K K') _) _) _)) (logistic (mulf _ (minimumf (addf (extractStridedSlice S512x512 ![0, 0] (prod2 x x' K K') _) _) _)))) _ (ix2 y l) = _
  generalize prod2 x x' K K' = P
  unfold Swi.act
  pointwise

theorem zero_apply (y l : Fin 512) : (k0_pay2 (F := Ideal)) (ix2 y l) = (0 : EReal) := by
  pointwise [k0_pay2]

/-- A sum in two halves. -/
theorem halves (f : Fin 4096 → EReal) : ∑ k, f k = (∑ k : Fin 2048, f ⟨k.val, by omega⟩) + ∑ k : Fin 2048, f ⟨2048 + k.val, by omega⟩ :=
  Fin.sum_univ_add (a := 2048) (b := 2048) f

/-! ## The kept block -/

theorem col_apply {c : Dev nD} (W : WB (F := Ideal) c) (e b : ℕ) (k : Fin 4096) (l : Fin 512) (x : Fin 32) (f : Fin 4096) (hx : x.val = e) (hf : f.val = 512 * b + l.val)
    (hb : b ≤ 7) : col W e b (rc k l) = (W : S32x4096x4096.Idx → EReal) (ix3 x k f) := by
  have h1 : col W e b (rc k l) = (W : S32x4096x4096.Idx → EReal) ((Rect.unit (s := S32x4096x4096) (offE e b) S1x4096x512.size (inbE e b)).emb
      (Shape.reshapeEquiv squeezes_S1x4096x512_S4096x512.numel_eq (rc k l))) := rfl
  rw [h1]
  refine congrArg W (funext fun a => Fin.ext ?_)
  rw [show Shape.reshapeEquiv squeezes_S1x4096x512_S4096x512.numel_eq (rc k l) = (Fin.cons ⟨0, Nat.one_pos⟩ (rc k l)) from Shape.reshapeEquiv_cons_one _ _, Rect.emb_apply]
  match a with
  | ⟨0, _⟩ => show min e 31 + 1 * 0 = x.val; omega
  | ⟨1, _⟩ => show 0 + 1 * k.val = k.val; omega
  | ⟨2, _⟩ => show 512 * min b 7 + 1 * l.val = f.val; omega

/-- A used point's block, at an index, over its reads. -/
theorem used_apply (x0 : Vec Ideal S512x4096 .bf16) (x1 x2 : Vec Ideal S1x1x512 .f32) (K : S4096x1024.Idx → Elt Ideal .bf16) (y l : Fin 512) :
    used x0 x1 x2 K (ix2 y l) = Swi.act ((∑ k : Fin 4096, x0 (ix2 y k) * K (ix2 k ⟨l.val, by omega⟩)) + x1 (ix3 0 0 l))
      ((∑ k : Fin 4096, x0 (ix2 y k) * K (ix2 k ⟨512 + l.val, by omega⟩)) + x2 (ix3 0 0 l)) := by
  unfold used
  rw [pay_apply, prod2_apply, prod2_apply, View.ld_unit_zero (by decide), View.ld_unit_zero (by decide)]
  have hx : ∀ k : Fin 2048, View.ld x0 (Rect.unit (s := S512x4096) ![0, 0] S512x2048.size inb_S512x4096_S512x2048_0_0) (ix2 y k) = x0 (ix2 y ⟨k.val, by omega⟩) := fun k => by
    rw [View.ld_apply]
    refine congrArg x0 (funext fun a => Fin.ext ?_)
    match a with
    | ⟨0, _⟩ => show 0 + 1 * y.val = y.val; omega
    | ⟨1, _⟩ => show 0 + 1 * k.val = k.val; omega
  have hx' : ∀ k : Fin 2048, View.ld x0 (Rect.unit (s := S512x4096) ![0, 2048] S512x2048.size inb_S512x4096_S512x2048_0_2048) (ix2 y k) = x0 (ix2 y ⟨2048 + k.val, by omega⟩) := fun k => by
    rw [View.ld_apply]
    refine congrArg x0 (funext fun a => Fin.ext ?_)
    match a with
    | ⟨0, _⟩ => show 0 + 1 * y.val = y.val; omega
    | ⟨1, _⟩ => show 2048 + 1 * k.val = 2048 + k.val; omega
  have hk : ∀ (k : Fin 2048) (q : Fin 1024), View.ld K (Rect.unit (s := S4096x1024) ![0, 0] S2048x1024.size inb_S4096x1024_S2048x1024_0_0) (ix2 k q) = K (ix2 ⟨k.val, by omega⟩ q) := fun k q => by
    rw [View.ld_apply]
    refine congrArg K (funext fun a => Fin.ext ?_)
    match a with
    | ⟨0, _⟩ => show 0 + 1 * k.val = k.val; omega
    | ⟨1, _⟩ => show 0 + 1 * q.val = q.val; omega
  have hk' : ∀ (k : Fin 2048) (q : Fin 1024), View.ld K (Rect.unit (s := S4096x1024) ![2048, 0] S2048x1024.size inb_S4096x1024_S2048x1024_2048_0) (ix2 k q) = K (ix2 ⟨2048 + k.val, by omega⟩ q) := fun k q => by
    rw [View.ld_apply]
    refine congrArg K (funext fun a => Fin.ext ?_)
    match a with
    | ⟨0, _⟩ => show 2048 + 1 * k.val = 2048 + k.val; omega
    | ⟨1, _⟩ => show 0 + 1 * q.val = q.val; omega
  simp only [hx, hx', hk, hk']
  rw [halves (fun k => x0 (ix2 y k) * K (ix2 k ⟨l.val, by omega⟩)), halves (fun k => x0 (ix2 y k) * K (ix2 k ⟨512 + l.val, by omega⟩))]

theorem cvt_ideal (x : EReal) : cvt (F := Ideal) x = x := rfl

theorem kept_gate (p p' : S4096x512.Idx → Elt Ideal .f32) (k : Fin 4096) (l : Fin 512) : kept p p' (ix2 k ⟨l.val, by omega⟩) = p (rc k l) :=
  dif_pos l.isLt

theorem kept_up (p p' : S4096x512.Idx → Elt Ideal .f32) (k : Fin 4096) (l : Fin 512) : kept p p' (ix2 k ⟨512 + l.val, by omega⟩) = p' (rc k l) := by
  refine (dif_neg (by show ¬ (512 + l.val < 512); omega)).trans ?_
  refine (cvt_ideal _).trans (congrArg p' (congrArg (rc k) (Fin.ext ?_)))
  show 512 + l.val - 512 = l.val
  omega

/-! ## The arrays -/

variable (m : (ℓ : Loc nD τ sig) → Buf (Elt Ideal) ℓ)

/-- The rows, rounded. -/
theorem in0 (c : Dev nD) (r : Fin 81920) (k : Fin 4096) :
    (V m c main_v0 : S81920x4096.Idx → EReal) (ix2 r k) = (m (c.tc.loc main_arg5) : S81920x4096.Idx → EReal) (ix2 r k) := by
  have h : V m c main_v0 = truncf (F := Ideal) .bf16 (m (c.tc.loc main_arg5) : FVec Ideal S81920x4096 .f32) bitsLt_bf16_f32 := by
    unfold V
    after_results_simp
    try rfl
  rw [h]
  pointwise

set_option maxRecDepth 100000 in
/-- The biases, one row to an expert. -/
theorem in1 (c : Dev nD) (x : Fin 32) (f : Fin 4096) :
    (V m c main_v1 : S32x1x4096.Idx → EReal) (ix3 x 0 f) = (m (c.tc.loc main_arg7) : S32x4096.Idx → EReal) (ix2 x f) := by
  have h : V m c main_v1 = shapeCast S32x1x4096 (m (c.tc.loc main_arg7) : FVec Ideal S32x4096 .f32) shapeCasts_S32x4096_S32x1x4096 := by
    unfold V
    after_results_simp
    try rfl
  rw [h]
  pointwise

/-- The blocks of a point. -/
theorem idx0 (hO : Ok m) (hP : Planned m) (t : Fin (cfgM m hO).N) :
    ((cfgM m hO).win 0).index t = ![min (grid0.coords t 1).val ((tbl m 4 i0 : BitVec 32).toNat - 1), 0] := tr0_eq (tbl m) hP (grid0.coords t)
theorem idx1 (hO : Ok m) (t : Fin (cfgM m hO).N) :
    ((cfgM m hO).win 1).index t = ![(tbl m 0 (i1 (grid0.coords t 1).val) : BitVec 32).toNat, 0, (grid0.coords t 0).val] := tr2_eq (tbl m) (grid0.coords t)
theorem idx2 (hO : Ok m) (t : Fin (cfgM m hO).N) :
    ((cfgM m hO).win 2).index t = ![(tbl m 0 (i1 (grid0.coords t 1).val) : BitVec 32).toNat, 0, 4 + (grid0.coords t 0).val] := tr3_eq (tbl m) (grid0.coords t)
theorem idx3 (hO : Ok m) (t : Fin (cfgM m hO).N) :
    ((cfgM m hO).win 3).index t = ![(grid0.coords t 1).val, (grid0.coords t 0).val] := tr4_eq (grid0.coords t)

theorem emb0 (hO : Ok m) (t : Fin (cfgM m hO).N) (y : S512x4096.Idx) (a : Fin 2) :
    ((((((cfgM m hO).win 0).blk t).view.emb y) : S81920x4096.Idx) a).val = ((cfgM m hO).win 0).index t a * S512x4096.size a + (y a).val :=
  ((cfgM m hO).win 0).rect_emb_val t y a
theorem emb1 (hO : Ok m) (t : Fin (cfgM m hO).N) (y : S1x1x512.Idx) (a : Fin 3) :
    ((((((cfgM m hO).win 1).blk t).view.emb y) : S32x1x4096.Idx) a).val = ((cfgM m hO).win 1).index t a * S1x1x512.size a + (y a).val :=
  ((cfgM m hO).win 1).rect_emb_val t y a
theorem emb2 (hO : Ok m) (t : Fin (cfgM m hO).N) (y : S1x1x512.Idx) (a : Fin 3) :
    ((((((cfgM m hO).win 2).blk t).view.emb y) : S32x1x4096.Idx) a).val = ((cfgM m hO).win 2).index t a * S1x1x512.size a + (y a).val :=
  ((cfgM m hO).win 2).rect_emb_val t y a
theorem emb3 (hO : Ok m) (t : Fin (cfgM m hO).N) (y : S512x512.Idx) (a : Fin 2) :
    ((((((cfgM m hO).win 3).blk t).view.emb y) : S81920x2048.Idx) a).val = ((cfgM m hO).win 3).index t a * S512x512.size a + (y a).val :=
  ((cfgM m hO).win 3).rect_emb_val t y a

theorem read0 (hO : Ok m) (hP : Planned m) (c : Dev nD) (t : Fin (cfgM m hO).N) (y : Fin 512) (k : Fin 4096) (r : Fin 81920)
    (hr : r.val = min (grid0.coords t 1).val ((tbl m 4 i0 : BitVec 32).toNat - 1) * 512 + y.val) :
    iblk m hO c 0 t (ix2 y k) = V m c main_v0 (ix2 r k) := by
  refine congrArg (V m c main_v0) (funext fun a => Fin.ext ?_)
  refine (emb0 m hO t (ix2 y k) a).trans ?_
  rw [idx0 m hO hP t]
  match a with
  | ⟨0, _⟩ => exact hr.symm
  | ⟨1, _⟩ => show 0 * 4096 + k.val = k.val; omega

theorem read1 (hO : Ok m) (c : Dev nD) (t : Fin (cfgM m hO).N) (l : Fin 512) (x : Fin 32) (f : Fin 4096)
    (hx : x.val = (tbl m 0 (i1 (grid0.coords t 1).val) : BitVec 32).toNat) (hf : f.val = (grid0.coords t 0).val * 512 + l.val) :
    iblk m hO c 1 t (ix3 0 0 l) = V m c main_v1 (ix3 x 0 f) := by
  refine congrArg (V m c main_v1) (funext fun a => Fin.ext ?_)
  refine (emb1 m hO t (ix3 0 0 l) a).trans ?_
  rw [idx1 m hO t]
  match a with
  | ⟨0, _⟩ => exact (Nat.mul_one _).trans hx.symm
  | ⟨1, _⟩ => rfl
  | ⟨2, _⟩ => exact hf.symm

theorem read2 (hO : Ok m) (c : Dev nD) (t : Fin (cfgM m hO).N) (l : Fin 512) (x : Fin 32) (f : Fin 4096)
    (hx : x.val = (tbl m 0 (i1 (grid0.coords t 1).val) : BitVec 32).toNat) (hf : f.val = (4 + (grid0.coords t 0).val) * 512 + l.val) :
    iblk m hO c 2 t (ix3 0 0 l) = V m c main_v1 (ix3 x 0 f) := by
  refine congrArg (V m c main_v1) (funext fun a => Fin.ext ?_)
  refine (emb2 m hO t (ix3 0 0 l) a).trans ?_
  rw [idx2 m hO t]
  match a with
  | ⟨0, _⟩ => exact (Nat.mul_one _).trans hx.symm
  | ⟨1, _⟩ => rfl
  | ⟨2, _⟩ => exact hf.symm

theorem flush3 (hO : Ok m) (t : Fin (cfgM m hO).N) : ((cfgM m hO).win 3).flush t = true := by
  have h : ∀ t : Fin grid0.N, Pipeline.Window.flushOf grid0 true cc0_transform_4 t = true := by decide +kernel
  exact (Pipeline.Window.flush_eq_flushOf _ t).trans (h t)

theorem covers3 (hO : Ok m) : ((cfgM m hO).win 3).Covers := by
  refine ⟨fun a => ?_, fun β => ?_⟩
  · match a with
    | ⟨0, _⟩ => show 0 < 512; decide
    | ⟨1, _⟩ => show 0 < 512; decide
  · have h0 : (β (0 : Fin 2)).val < 160 := Nat.lt_of_lt_of_le (β (0 : Fin 2)).isLt (by show (81920 + 512 - 1) / 512 ≤ 160; decide)
    have h1 : (β (1 : Fin 2)).val < 4 := Nat.lt_of_lt_of_le (β (1 : Fin 2)).isLt (by show (2048 + 512 - 1) / 512 ≤ 4; decide)
    let t : Fin grid0.N := ⟨160 * (β (1 : Fin 2)).val + (β (0 : Fin 2)).val, by rw [show grid0.N = 640 from by decide]; omega⟩
    have ht := coords_at t
    have hc := co1 (grid0.coords t)
    have hv : t.val = 160 * (β (1 : Fin 2)).val + (β (0 : Fin 2)).val := rfl
    refine ⟨t, flush3 m hO t, fun a => ⟨?_, Or.inl ?_⟩⟩
    · rw [idx3 m hO t]
      match a with
      | ⟨0, _⟩ => show (grid0.coords t 1).val = (β (0 : Fin 2)).val; omega
      | ⟨1, _⟩ => show (grid0.coords t 0).val = (β (1 : Fin 2)).val; omega
    · match a with
      | ⟨0, _⟩ => rfl
      | ⟨1, _⟩ => rfl

/-! ## The result -/

/-- A point's block of the result, at an index: the reference's result there. -/
theorem left_apply (hO : Ok m) (hP : Planned m) (c : Dev nD) (t : Fin (cfgM m hO).N) (y l : Fin 512) (r : Fin 81920) (e : Fin 2048)
    (e0 : r.val = (grid0.coords t 1).val * 512 + y.val) (e1 : e.val = (grid0.coords t 0).val * 512 + l.val) :
    outv (grid0.coords t) (tbl m 4 i0) (iblk m hO c 0 t) (iblk m hO c 1 t) (iblk m hO c 2 t) (kAt (Wm m c) (tbl m 0) (tbl m 1) (t.val + 1)) (ix2 y l)
      = Cert.ReferenceUpIdeal.Prod.result (tbl m 0) (tbl m 4) (m (c.tc.loc main_arg5)) (Wm m c) (m (c.tc.loc main_arg7)) (ix2 r e) := by
  have c0 := co0 (grid0.coords t)
  have c1 := co1 (grid0.coords t)
  have ht := coords_at t
  have hl := l.isLt
  have hy := y.isLt
  have hbe := hP.be_lt (grid0.coords t 1).val
  have hn1 := hP.nu_pos
  have hn := hP.nu_le
  have E : (ix1 (⟨(grid0.coords t 1).val, c1⟩ : Fin 160) : S160.Idx) = i1 (grid0.coords t 1).val := by
    funext a
    match a with
    | ⟨0, _⟩ => exact Fin.ext (Nat.mod_eq_of_lt c1).symm
  have E0 : (ix1 (0 : Fin 1) : S1.Idx) = i0 := by
    funext a
    match a with
    | ⟨0, _⟩ => rfl
  have hb8 : t.val / 160 = (grid0.coords t 0).val := by omega
  have hb1 : t.val % 160 = (grid0.coords t 1).val := by omega
  have hr := Cert.ReferenceUpIdeal.Prod.result_apply (tbl m 0) (tbl m 4) (m (c.tc.loc main_arg5)) (Wm m c) (m (c.tc.loc main_arg7)) r e
    ⟨(grid0.coords t 1).val, c1⟩ (by show (grid0.coords t 1).val = r.val / 512; omega)
    ⟨(tbl m 0 (i1 (grid0.coords t 1).val) : BitVec 32).toNat, hbe⟩ (by rw [E]; exact ((BitVec.ofNat_toNat 32 _).trans (BitVec.setWidth_eq _)).symm) (by rw [E0]; exact hn)
  rw [E0] at hr
  refine Eq.trans ?_ hr.symm
  unfold outv
  by_cases h : (grid0.coords t 1).val < (tbl m 4 i0 : BitVec 32).toNat
  · rw [if_pos ((cond4_iff _ _ hn).2 h), if_pos h]
    refine (used_apply _ _ _ _ y l).trans ?_
    have hx0 : ∀ k : Fin 4096, iblk m hO c 0 t (ix2 y k) = (m (c.tc.loc main_arg5) : S81920x4096.Idx → EReal) (ix2 r k) := fun k =>
      (read0 m hO hP c t y k r (by rw [Nat.min_eq_left (by omega)]; exact e0)).trans (in0 m c r k)
    have hg : ∀ k : Fin 4096, kAt (Wm m c) (tbl m 0) (tbl m 1) (t.val + 1) (ix2 k ⟨l.val, by omega⟩)
        = Wm m c (ix3 (⟨(tbl m 0 (i1 (grid0.coords t 1).val) : BitVec 32).toNat, hbe⟩ : Fin 32) k (⟨e.val, by omega⟩ : Fin 4096)) := fun k => by
      refine (kept_gate _ _ k l).trans ?_
      rw [hb1, hb8, hP.held_used _ h]
      exact col_apply (Wm m c) _ _ k l _ _ rfl (by show e.val = _; omega) (by omega)
    have hu : ∀ k : Fin 4096, kAt (Wm m c) (tbl m 0) (tbl m 1) (t.val + 1) (ix2 k ⟨512 + l.val, by omega⟩)
        = Wm m c (ix3 (⟨(tbl m 0 (i1 (grid0.coords t 1).val) : BitVec 32).toNat, hbe⟩ : Fin 32) k (⟨2048 + e.val, by omega⟩ : Fin 4096)) := fun k => by
      refine (kept_up _ _ k l).trans ?_
      rw [hb1, hb8, hP.held_used _ h]
      exact col_apply (Wm m c) _ _ k l _ _ rfl (by show 2048 + e.val = _; omega) (by omega)
    refine congrArg₂ Swi.act (congrArg₂ (· + ·) ?_ ?_) (congrArg₂ (· + ·) ?_ ?_)
    · exact Finset.sum_congr rfl fun k _ => congrArg₂ (· * ·) (hx0 k) (hg k)
    · exact (read1 m hO c t l ⟨_, hbe⟩ ⟨e.val, by omega⟩ rfl e1).trans (in1 m c _ _)
    · exact Finset.sum_congr rfl fun k _ => congrArg₂ (· * ·) (hx0 k) (hu k)
    · exact (read2 m hO c t l ⟨_, hbe⟩ ⟨2048 + e.val, by omega⟩ rfl (by show 2048 + e.val = _; omega)).trans (in1 m c _ _)
  · rw [if_neg fun h' => h ((cond4_iff _ _ hn).1 h'), if_neg h]
    exact zero_apply y l

set_option maxHeartbeats 1000000 in
/-- The result array after the run. -/
theorem result_eq (hO : Ok m) (hP : Planned m) (c : Dev nD) : (dats m hO 0 c).arrAt 3 (cfgM m hO).N
    = Cert.ReferenceUpIdeal.Prod.result (tbl m 0) (tbl m 4) (m (c.tc.loc main_arg5)) (Wm m c) (m (c.tc.loc main_arg7)) := by
  refine (dats m hO 0 c).arrAt_eq_of_covers 3 _ (covers3 m hO) fun t hf y => ?_
  have key : ∀ y : S512x512.Idx, outv (grid0.coords t) (tbl m 4 i0) (iblk m hO c 0 t) (iblk m hO c 1 t) (iblk m hO c 2 t) (kAt (Wm m c) (tbl m 0) (tbl m 1) (t.val + 1)) y
      = Cert.ReferenceUpIdeal.Prod.result (tbl m 0) (tbl m 4) (m (c.tc.loc main_arg5)) (Wm m c) (m (c.tc.loc main_arg7))
        ((((cfgM m hO).win 3).blk t).view.emb y : S81920x2048.Idx) := fun y => by
    have e0 := emb3 m hO t y 0
    have e1 := emb3 m hO t y 1
    rw [idx3 m hO t] at e0 e1
    have h := left_apply m hO hP c t (y 0) (y 1) _ _ e0 e1
    rw [← eq_ix2 y] at h
    exact h.trans (congrArg _ (eq_ix2 _).symm)
  exact (congrFun (after0_3 m hO c t) _).trans (key y)

end Cert.KernelUpIdeal.Up

namespace Cert.Swi

open Idealize.ShloMosaic Cert.KernelUpIdeal Cert.KernelUpIdeal.Gen Cert.KernelUpIdeal.Up

/-- The reference and the kernel compute one array from equal arguments. -/
theorem up_eq (m : (ℓ : Loc Cert.KernelUpIdeal.nD Cert.KernelUpIdeal.τ Cert.KernelUpIdeal.sig) → Buf (Elt Ideal) ℓ)
    (m' : (ℓ : Loc Cert.ReferenceUpIdeal.nD Cert.ReferenceUpIdeal.τ Cert.ReferenceUpIdeal.sig) → Buf (Elt Ideal) ℓ)
    (hO : Ok m) (hP : Planned m) (c : Dev Cert.KernelUpIdeal.nD)
    (h0 : m' (c.tc.loc Cert.ReferenceUpIdeal.main_arg0) = m (c.tc.loc main_arg0))
    (h4 : m' (c.tc.loc Cert.ReferenceUpIdeal.main_arg4) = m (c.tc.loc main_arg4))
    (h5 : m' (c.tc.loc Cert.ReferenceUpIdeal.main_arg5) = m (c.tc.loc main_arg5))
    (h6 : m' (c.tc.loc Cert.ReferenceUpIdeal.main_arg6) = m (c.tc.loc main_arg6))
    (h7 : m' (c.tc.loc Cert.ReferenceUpIdeal.main_arg7) = m (c.tc.loc main_arg7)) :
    Cert.ReferenceUpIdeal.Value.res_main_v43 m' c = (dats m hO 0 c).arrAt 3 (cfgM m hO).N := by
  obtain rfl : c = 0 := Subsingleton.elim _ _
  have t0 : tbl m 0 = m (((0 : Dev nD).tc : Thread nD τ).loc main_arg0) := V_main_arg0 m 0
  have t4 : tbl m 4 = m (((0 : Dev nD).tc : Thread nD τ).loc main_arg4) := V_main_arg4 m 0
  have t6 : Wm m 0 = m (((0 : Dev nD).tc : Thread nD τ).loc main_arg6) := V_main_arg6 m 0
  rw [Cert.ReferenceUpIdeal.Prod.res_eq, result_eq m hO hP, h0, h4, h5, h6, h7, t0, t4, t6]

end Cert.Swi

end
-- ==== Proof.DownLoop.lean ====
module

public import proofs.«01_k».proof.Proof.Gen.KernelDownIdeal.Launch
public import proofs.«01_k».proof.Proof.Gen.KernelDownIdeal.Skeleton
public import proofs.«01_k».proof.Proof.Gen.KernelDownIdeal.Loops
public import Idealize.ShloMosaic.Lib.Pipeline.FrameBody
public import Idealize.ShloMosaic.Lib.Pipeline.Kit
public import Idealize.ShloMosaic.Lib.Exec
public import Idealize.ShloMosaic.Lib.Pipeline.Value
public import Idealize.ShloMosaic.Lib.Ring
public import Idealize.ShloMosaic.Lib.Tactic
public import Idealize.ShloMosaic.Lib.WordCmp
public import Idealize.ShloMosaic.Lib.Claim

/-! The counted loop of the second expert product's body: eight trips round the streamed weights to bf16 and put
them into the kept block. -/

@[expose] public section

set_option maxRecDepth 16384

noncomputable section

namespace Cert.KernelDownIdeal.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The streamed weights' buffer, and the kept bf16 block. -/
abbrev scrM : Memref sig .tc .vmem S2048x2048 .f32 := Memref.whole cc0_scratch0
abbrev scrW : (scrM).IsWhole := Memref.isWhole_whole _
abbrev wbfM : Memref sig .tc .vmem S2048x2048 .bf16 := Memref.whole cc0_scratch1
abbrev wbfW : (wbfM).IsWhole := Memref.isWhole_whole _

/-- The bf16 rounding of one element. -/
def cvt (x : F .f32) : F .bf16 := FloatOps.truncf .bf16 bitsLt_bf16_f32 x

def rk (r k : Fin 2048) : S2048x2048.Idx := fun | 0 => r | 1 => k
def sb (r : Fin 256) (k : Fin 2048) : S256x2048.Idx := fun | 0 => r | 1 => k

theorem rk_eta (y : S2048x2048.Idx) : y = rk (y 0) (y 1) := by funext a; fin_cases a <;> rfl
theorem off5_eq (k : Fin k0_t1_loop.trips) : k0_off5 k = ![256 * k.val, 0] := by revert k; decide +kernel

theorem read_wbf (g : S2048x2048.Idx → Elt F .bf16) (y : S2048x2048.Idx) : wbfM.view.read (Elt F) g y = g y := rfl

theorem put_hit (f : S2048x2048.Idx → Elt F .bf16) (off : Fin 2 → ℕ) (inb : ∀ a, off a + S256x2048.size a ≤ S2048x2048.size a)
    (w : S256x2048.Idx → Elt F .bf16) (a : ℕ) (e : off = ![a, 0]) (r q : Fin 2048) (x : Fin 256) (hr : r.val = a + x.val) :
    wbfM.view.writes (Elt F) f [⟨Rect.unit (s := S2048x2048) off S256x2048.size inb, w⟩] (rk r q) = w (sb x q) := by
  subst e
  rw [← read_wbf (wbfM.view.writes (Elt F) f _)]
  refine View.read_writes_cons_hit_of_coords (Val := Elt F) wbfM.view f (Rect.unit (s := S2048x2048) ![a, 0] S256x2048.size inb) w [] (sb x q) (rk r q) ?_
  intro i
  fin_cases i
  · show r.val = a + 1 * x.val; omega
  · show q.val = 0 + 1 * q.val; omega

theorem put_miss (f : S2048x2048.Idx → Elt F .bf16) (off : Fin 2 → ℕ) (inb : ∀ a, off a + S256x2048.size a ≤ S2048x2048.size a)
    (w : S256x2048.Idx → Elt F .bf16) (a : ℕ) (e : off = ![a, 0]) (r q : Fin 2048) (h : r.val < a ∨ a + 256 ≤ r.val) :
    wbfM.view.writes (Elt F) f [⟨Rect.unit (s := S2048x2048) off S256x2048.size inb, w⟩] (rk r q) = f (rk r q) := by
  subst e
  rw [← read_wbf (wbfM.view.writes (Elt F) f _)]
  exact View.read_writes_cons_miss_of_axis (Val := Elt F) wbfM.view f ⟨Rect.unit (s := S2048x2048) ![a, 0] S256x2048.size inb, w⟩ [] (rk r q) 0 a 256 rfl rfl rfl h

theorem get_at (X : scrM.view.ty.Contents (Elt F)) (off : Fin 2 → ℕ) (inb : ∀ a, off a + S256x2048.size a ≤ S2048x2048.size a)
    (a : ℕ) (e : off = ![a, 0]) (r q : Fin 2048) (x : Fin 256) (hr : r.val = a + x.val) :
    scrM.view.readAt (Elt F) (Rect.unit (s := S2048x2048) off S256x2048.size inb).toLoadRect X (sb x q) = scrM.view.read (Elt F) X (rk r q) := by
  subst e
  rw [View.readAt_apply]
  congr 1
  funext i
  fin_cases i
  · apply Fin.ext; show a + 1 * x.val = r.val; omega
  · apply Fin.ext; show 0 + 1 * q.val = q.val; omega

theorem pay1_apply (v : Vec F S256x2048 .f32) (y : S256x2048.Idx) : k0_pay1 v y = cvt (v y) := by
  unfold k0_pay1
  rw [shapeCast_self]
  rfl

/-- The kept block before trip `k`, from `G`. -/
def part (p : S2048x2048.Idx → Elt F .f32) (G : S2048x2048.Idx → Elt F .bf16) (k : ℕ) : S2048x2048.Idx → Elt F .bf16 := fun y =>
  if (y 0).val < 256 * k then cvt (p y) else G y

theorem part_step (k : Fin k0_t1_loop.trips) (X : scrM.view.ty.Contents (Elt F)) (G f : S2048x2048.Idx → Elt F .bf16)
    (h : f = part (scrM.view.read (Elt F) X) G k.val) :
    wbfM.view.writes (Elt F) f [⟨Rect.unit (s := S2048x2048) (k0_off5 k) S256x2048.size (k0_off5_inb k),
        k0_pay1 (scrM.view.readAt (Elt F) (Rect.unit (s := S2048x2048) (k0_off5 k) S256x2048.size (k0_off5_inb k)).toLoadRect X)⟩]
      = part (scrM.view.read (Elt F) X) G (k.val + 1) := by
  funext y
  obtain ⟨r, q, rfl⟩ : ∃ r q, y = rk r q := ⟨_, _, rk_eta y⟩
  by_cases hin : 256 * k.val ≤ r.val ∧ r.val < 256 * k.val + 256
  · refine Eq.trans ?_ (if_pos (show r.val < 256 * (k.val + 1) by omega)).symm
    refine (put_hit f _ _ _ _ (off5_eq k) r q ⟨r.val - 256 * k.val, by omega⟩ (by simp only; omega)).trans ?_
    rw [pay1_apply, get_at X _ _ _ (off5_eq k) r _ _ (by simp only; omega)]
  · rw [put_miss f _ _ _ _ (off5_eq k) r q (by omega), h]
    unfold part
    by_cases hr : r.val < 256 * k.val
    · exact (if_pos hr).trans (if_pos (show r.val < 256 * (k.val + 1) by omega)).symm
    · exact (if_neg hr).trans (if_neg (show ¬ r.val < 256 * (k.val + 1) by omega)).symm

/-- The kept block, the loop done. -/
def kept (p : S2048x2048.Idx → Elt F .f32) : S2048x2048.Idx → Elt F .bf16 := fun y => cvt (p y)

theorem kept_of (p : S2048x2048.Idx → Elt F .f32) (G : S2048x2048.Idx → Elt F .bf16) : part p G 8 = kept p := by
  funext y
  have hy : (y 0).val < 2048 := (y 0).isLt
  exact if_pos (by omega)

set_option warn.classDefReducibility false in
set_option maxHeartbeats 4000000 in
@[sl_loop] def loopA (𝒱 : Variants) (c : Dev nD) (bd : Option 𝒱.V) (E : Set ℕ) (i : grid0.Coords) (arg2 : Memref sig .tc .smem S160 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .smem S1 .i32) (harg6 : arg6.IsWhole) (arg7 : Memref sig .tc .vmem S512x2048 .bf16) (harg7 : arg7.IsWhole) (arg8 : Memref sig .tc .hbm S32x2048x4096 .f32) (harg8 : arg8.IsWhole) (arg9 : Memref sig .tc .vmem S1x1x2048 .f32) (harg9 : arg9.IsWhole) (arg10 : Memref sig .tc .vmem S512x2048 .bf16) (harg10 : arg10.IsWhole) (arg13 : DmaSems sig S1)
    (X : scrM.view.ty.Contents (Elt F)) (G : S2048x2048.Idx → Elt F .bf16) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 scrM scrW wbfM wbfW arg13 where
  inv k _ := iprop((scrM.view.loc (c : Thread nD τ) ↦[scrM.view.set]{fullShare} X)
    ∗ ∃ f, (wbfM.view.loc (c : Thread nD τ) ↦[wbfM.view.set]{fullShare} f) ∗ ⌜f = part (scrM.view.read (Elt F) X) G k⌝)
  step k acc := by
    have hk : k.val < 8 := Nat.lt_of_lt_of_le k.isLt k0_t1_abs.2.1
    unfold k0_t1_body
    iintro ⟨Hr, ⟨%f, Hw, %hf⟩⟩
    sl_exec
    sl_step
    isplitl [Hr]; · iexact Hr
    iexists _; isplitl [Hw]; · iexact Hw
    ipureintro
    exact part_step k X G f hf

end Cert.KernelDownIdeal.Down
-- ==== Proof.DownStage.lean ====
module

public import proofs.«01_k».proof.Proof.DownLoop
public import Idealize.ShloMosaic.Lib.VecWindow

/-! The second expert product's body between grid points: what is kept, what is in flight. -/

@[expose] public section

set_option maxRecDepth 16384

noncomputable section

namespace Cert.KernelDownIdeal.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tables as the body is handed them, and the experts' weights. -/
abbrev beM : Memref sig .tc .smem S160 .i32 := Memref.whole main_arg0
abbrev fiM : Memref sig .tc .smem S160 .i32 := Memref.whole main_arg1
abbrev neM : Memref sig .tc .smem S160 .i32 := Memref.whole main_arg2
abbrev laM : Memref sig .tc .smem S160 .i32 := Memref.whole main_arg3
abbrev nuM : Memref sig .tc .smem S1 .i32 := Memref.whole main_arg4
abbrev weM : Memref sig .tc .hbm S32x2048x4096 .f32 := Memref.whole main_arg6

abbrev TB (c : Dev nD) {S : Shape} {e : EltTy} (M : Memref sig .tc .smem S e) : Type := Buf (Elt F) (M.view.loc (c : Thread nD τ))
abbrev tPt (c : Dev nD) {S : Shape} {e : EltTy} (M : Memref sig .tc .smem S e) (f : TB (F := F) c M) : sProp 𝕄 :=
  M.view.loc (c : Thread nD τ) ↦{fullShare.right} f
abbrev WB (c : Dev nD) : Type := Buf (Elt F) ((weM).view.loc (c : Thread nD τ))

def i1 (n : ℕ) : S160.Idx := fun | 0 => (⟨n % 160, Nat.mod_lt _ (by decide)⟩ : Fin 160)

/-- A place of the weights that a transfer reads: 2048 columns of one expert. -/
abbrev Inb (off : Fin 3 → ℕ) : Prop := ∀ a, off a + S1x2048x2048.size a ≤ S32x2048x4096.size a
abbrev srcO (off : Fin 3 → ℕ) (inb : Inb off) : Memref sig .tc .hbm S2048x2048 .f32 :=
  (weM.slice (Rect.unit (s := S32x2048x4096) off S1x2048x2048.size inb) (fun _ => rfl)).squeeze S2048x2048 squeezes_S1x2048x2048_S2048x2048

/-- A share of the weights, whole, and with a place lent out. -/
abbrev wPt (c : Dev nD) (q : PosShare TreeShare) (W : WB (F := F) c) : sProp 𝕄 := weM.view.loc (c : Thread nD τ) ↦{q} W
abbrev sPt (c : Dev nD) (q : PosShare TreeShare) (W : WB (F := F) c) (off : Fin 3 → ℕ) (inb : Inb off) : sProp 𝕄 :=
  (srcO off inb).view.loc (c : Thread nD τ) ↦[(srcO off inb).view.set]{q} W
abbrev rPt (c : Dev nD) (q : PosShare TreeShare) (W : WB (F := F) c) (off : Fin 3 → ℕ) (inb : Inb off) : sProp 𝕄 :=
  weM.view.loc (c : Thread nD τ) ↦[Finset.univ \ (srcO off inb).view.set]{q} W

theorem lend (c : Dev nD) (q : PosShare TreeShare) (W : WB (F := F) c) (off : Fin 3 → ℕ) (inb : Inb off) :
    (wPt c q W : sProp 𝕄) ⊣⊢ iprop(sPt c q W off inb ∗ rPt c q W off inb) :=
  pointsTo_split_subset (Finset.subset_univ _)

abbrev hPt (c : Dev nD) (M : Memref sig .tc .vmem S2048x2048 .f32) (X : Buf (Elt F) (M.view.loc (c : Thread nD τ))) : sProp 𝕄 :=
  M.view.loc (c : Thread nD τ) ↦[M.view.set]{fullShare} X

/-- A transfer in flight into the buffer `M` on cell `d`. -/
def Fl (c : Dev nD) (M : Memref sig .tc .vmem S2048x2048 .f32) (d : DmaSem sig) (q : PosShare TreeShare) (W : WB (F := F) c) (off : Fin 3 → ℕ) (inb : Inb off) : sProp 𝕄 :=
  iprop((∃ X : Buf (Elt F) (M.view.loc (c : Thread nD τ)), Transfers.Flight (countersEmb (U := Pipeline.UD sig nD τ)) (c : Thread nD τ) (.dma d) default 524288
      iprop(hPt c M (M.view.writes (Elt F) X [⟨Rect.whole S2048x2048, (srcO off inb).view.read (Elt F) W⟩]) ∗ sPt c q W off inb)) ∗ rPt c q W off inb)

theorem Fl_congr (c : Dev nD) (M : Memref sig .tc .vmem S2048x2048 .f32) (d : DmaSem sig) (q : PosShare TreeShare) (W : WB (F := F) c) {off off' : Fin 3 → ℕ} (e : off = off')
    (inb : Inb off) (inb' : Inb off') : (Fl c M d q W off inb : sProp 𝕄) = Fl c M d q W off' inb' := by
  subst e; rfl

/-- Expert `e`'s columns from `2048 b`. -/
def offE (e b : ℕ) : Fin 3 → ℕ := ![min e 31, 0, 2048 * min b 1]
theorem inbE (e b : ℕ) : Inb (offE e b) := by
  intro a
  fin_cases a
  · show min e 31 + 1 ≤ 32; omega
  · show 0 + 2048 ≤ 2048; omega
  · show 2048 * min b 1 + 2048 ≤ 4096; omega
def col {c : Dev nD} (W : WB (F := F) c) (e b : ℕ) : S2048x2048.Idx → Elt F .f32 := (srcO (offE e b) (inbE e b)).view.read (Elt F) W

/-- The stream: block `b` of expert `e` in flight, or all at rest. -/
def Stream (c : Dev nD) (W : WB (F := F) c) (e b : ℕ) : sProp 𝕄 :=
  if b < 2 then Fl c scrM 6 fullShare W (offE e b) (inbE e b)
  else iprop((∃ X, hPt c scrM X) ∗ semVal ((c : Thread nD τ), SemLoc.dma 6) 0 ∗ wPt c fullShare W)

theorem stream_busy (c : Dev nD) (W : WB (F := F) c) (e b : ℕ) (h : b < 2) : (Stream c W e b : sProp 𝕄)
    = Fl c scrM 6 fullShare W (offE e b) (inbE e b) := if_pos h
theorem stream_rest (c : Dev nD) (W : WB (F := F) c) (e b : ℕ) (h : 2 ≤ b) : (Stream c W e b : sProp 𝕄)
    = iprop((∃ X, hPt c scrM X) ∗ semVal ((c : Thread nD τ), SemLoc.dma 6) 0 ∗ wPt c fullShare W) := if_neg (by omega)

abbrev kPt (c : Dev nD) (f : S2048x2048.Idx → Elt F .bf16) : sProp 𝕄 := wbfM.view.loc (c : Thread nD τ) ↦[wbfM.view.set]{fullShare} f

/-- A word of a table, as the body reads it. -/
abbrev w0 {c : Dev nD} (f : TB (F := F) c beM) : BitVec 32 :=
  beM.view.readAt (Elt F) (Rect.unit (s := S160) ![0] S1.size inb_S160_S1_0).toLoadRect f (Shape.Idx.first (numel1_S1.symm ▸ Nat.one_pos))

abbrev Wins (c : Dev nD) (arg7 : Memref sig .tc .vmem S512x2048 .bf16) (arg9 : Memref sig .tc .vmem S1x1x2048 .f32) (x0 : Vec F S512x2048 .bf16) (x1 : Vec F S1x1x2048 .f32) : sProp 𝕄 :=
  iprop(owns (c : Thread nD τ) arg7 fullShare x0 ∗ owns (c : Thread nD τ) arg9 fullShare x1)

abbrev Tabs (c : Dev nD) (tbe : TB (F := F) c beM) (tfi : TB (F := F) c fiM) (tne : TB (F := F) c neM) (tla : TB (F := F) c laM) (tnu : TB (F := F) c nuM) : sProp 𝕄 :=
  iprop(tPt c beM tbe ∗ tPt c fiM tfi ∗ tPt c neM tne ∗ tPt c laM tla ∗ tPt c nuM tnu)

/-- The words the body reads of the tables at a point. -/
abbrev wfi {c : Dev nD} (i : grid0.Coords) (f : TB (F := F) c fiM) : BitVec 32 :=
  fiM.view.readAt (Elt F) (Rect.unit (s := S160) (k0_off1 i) S1.size (k0_off1_inb i)).toLoadRect f (Shape.Idx.first (numel1_S1.symm ▸ Nat.one_pos))
abbrev wbe {c : Dev nD} (i : grid0.Coords) (f : TB (F := F) c beM) : BitVec 32 :=
  beM.view.readAt (Elt F) (Rect.unit (s := S160) (k0_off3 i) S1.size (k0_off3_inb i)).toLoadRect f (Shape.Idx.first (numel1_S1.symm ▸ Nat.one_pos))
abbrev wla {c : Dev nD} (i : grid0.Coords) (f : TB (F := F) c laM) : BitVec 32 :=
  laM.view.readAt (Elt F) (Rect.unit (s := S160) (k0_off6 i) S1.size (k0_off6_inb i)).toLoadRect f (Shape.Idx.first (numel1_S1.symm ▸ Nat.one_pos))
abbrev wne {c : Dev nD} (i : grid0.Coords) (f : TB (F := F) c neM) : BitVec 32 :=
  neM.view.readAt (Elt F) (Rect.unit (s := S160) (k0_off7 i) S1.size (k0_off7_inb i)).toLoadRect f (Shape.Idx.first (numel1_S1.symm ▸ Nat.one_pos))
abbrev wnu {c : Dev nD} (f : TB (F := F) c nuM) : BitVec 32 :=
  nuM.view.readAt (Elt F) (Rect.unit (s := S1) ![0] S1.size inb_S1_S1_0).toLoadRect f (Shape.Idx.first (numel1_S1.symm ▸ Nat.one_pos))

/-- The result block of a group that is in use. -/
def used (x0 : Vec F S512x2048 .bf16) (x1 : Vec F S1x1x2048 .f32) (K : S2048x2048.Idx → Elt F .bf16) : Vec F S512x2048 .bf16 :=
  k0_pay2 (View.ld x0 (Rect.unit (s := S512x2048) ![0, 0] S512x2048.size inb_S512x2048_S512x2048_0_0))
    (View.ld K (Rect.unit (s := S2048x2048) ![0, 0] S2048x2048.size inb_S2048x2048_S2048x2048_0_0))
    (View.ld x1 (Rect.unit (s := S1x1x2048) ![0, 0, 0] S1x1x2048.size inb_S1x1x2048_S1x1x2048_0_0_0))

/-- What the body leaves in its result block. -/
def outv (i : grid0.Coords) (nu : BitVec 32) (x0 : Vec F S512x2048 .bf16) (x1 : Vec F S1x1x2048 .f32) (K : S2048x2048.Idx → Elt F .bf16) : Vec F S512x2048 .bf16 :=
  if k0_cond4 i nu = 1#1 then used x0 x1 K else k0_pay3

/-- The kept block after the loop, from whatever the buffer held before the transfer. -/
theorem kept_done (c : Dev nD) (W : WB (F := F) c) (off : Fin 3 → ℕ) (inb : Inb off) (X0 : scrM.view.ty.Contents (Elt F)) (G : S2048x2048.Idx → Elt F .bf16) :
    (kPt c (part (scrM.view.read (Elt F) (scrM.view.writes (Elt F) X0 [⟨Rect.whole S2048x2048, (srcO off inb).view.read (Elt F) W⟩])) G
        (Scf.trips k0_t1_loop.lb k0_t1_loop.ub k0_t1_loop.st)) : sProp 𝕄)
      ⊢ kPt c (kept ((srcO off inb).view.read (Elt F) W)) := by
  rw [show Scf.trips k0_t1_loop.lb k0_t1_loop.ub k0_t1_loop.st = 8 by decide, kept_of, View.read_writes_whole]

abbrev Rest (c : Dev nD) (arg7 : Memref sig .tc .vmem S512x2048 .bf16) (arg9 : Memref sig .tc .vmem S1x1x2048 .f32)
    (x0 : Vec F S512x2048 .bf16) (x1 : Vec F S1x1x2048 .f32)
    (tbe : TB (F := F) c beM) (tfi : TB (F := F) c fiM) (tne : TB (F := F) c neM) (tla : TB (F := F) c laM) (tnu : TB (F := F) c nuM) (W : WB (F := F) c) (e b : ℕ) (K : S2048x2048.Idx → Elt F .bf16) : sProp 𝕄 :=
  iprop(Wins c arg7 arg9 x0 x1 ∗ Tabs c tbe tfi tne tla tnu ∗ Stream c W e b ∗ kPt c K ∗ ∃ Wt, owes (c : Thread nD τ) 0 Wt)

set_option maxHeartbeats 4000000 in
theorem body_run (c : Dev nD) (i : grid0.Coords) (arg7 : Memref sig .tc .vmem S512x2048 .bf16) (harg7 : arg7.IsWhole) (arg9 : Memref sig .tc .vmem S1x1x2048 .f32) (harg9 : arg9.IsWhole) (arg10 : Memref sig .tc .vmem S512x2048 .bf16) (harg10 : arg10.IsWhole)
    (W : WB (F := F) c) (tbe : TB (F := F) c beM) (tfi : TB (F := F) c fiM) (tne : TB (F := F) c neM) (tla : TB (F := F) c laM) (tnu : TB (F := F) c nuM)
    (x0 : Vec F S512x2048 .bf16) (x1 : Vec F S1x1x2048 .f32) (Wt : Waits sig Unit) (Q : PUnit → sProp 𝕄) (e b e1 b1 e2 b2 : ℕ)
    (C : (S2048x2048.Idx → Elt F .bf16) → Prop) (K2 : S2048x2048.Idx → Elt F .bf16)
    (h1 : k0_cond1 i = 1#1 → 2 ≤ b ∧ b1 = 0 ∧ k0_off2 (w0 tbe) = offE e1 0)
    (h1' : k0_cond1 i ≠ 1#1 → e = e1 ∧ b = b1)
    (h2 : k0_cond2 (wfi i tfi) = 1#1 → b1 < 2 ∧ K2 = kept (col W e1 b1)
      ∧ k0_chk2 i (wfi i tfi) (wbe i tbe) ∧ k0_chk3 i (wfi i tfi) (wla i tla)
      ∧ (k0_cond3 i (wla i tla) = 1#1 → b2 < 2 ∧ k0_chk4 i (wfi i tfi) (wla i tla) (wne i tne) ∧ k0_off8 i (wla i tla) (wne i tne) = offE e2 b2)
      ∧ (k0_cond3 i (wla i tla) ≠ 1#1 → 2 ≤ b2))
    (h2' : k0_cond2 (wfi i tfi) ≠ 1#1 → e1 = e2 ∧ b1 = b2 ∧ ∀ f, C f → f = K2)
    (h3 : k0_cond4 i (wnu tnu) = 1#1 → k0_cond5 i (wnu tnu) ≠ 1#1)
    (h3' : k0_cond4 i (wnu tnu) ≠ 1#1 → k0_cond5 i (wnu tnu) = 1#1) :
    iprop(Wins c arg7 arg9 x0 x1 ∗ (∃ d, owns (c : Thread nD τ) arg10 fullShare d)
      ∗ Tabs c tbe tfi tne tla tnu
      ∗ Stream c W e b ∗ (∃ f, kPt c f ∗ ⌜C f⌝) ∗ owes (c : Thread nD τ) 0 Wt
      ∗ (iprop(Rest c arg7 arg9 x0 x1 tbe tfi tne tla tnu W e2 b2 K2 ∗ owns (c : Thread nD τ) arg10 fullShare (outv i (wnu tnu) x0 x1 K2)) -∗ Q ⟨⟩))
    ⊢ wp frame (wpE (defs₀ (F := F)) Variants.none c none) Set.univ (cc0_moe_expert_down i beM (Memref.isWhole_whole _) fiM (Memref.isWhole_whole _) neM (Memref.isWhole_whole _) laM (Memref.isWhole_whole _) nuM (Memref.isWhole_whole _) arg7 harg7 weM (Memref.isWhole_whole _) arg9 harg9 arg10 harg10 scrM scrW wbfM wbfW cc0_scratch2) Q := by
  simp only [cc0_moe_expert_down_eq_skeleton]; unfold cc0_moe_expert_down_skel
  extract_lets -underBinder jp
  have hj : iprop(Wins c arg7 arg9 x0 x1 ∗ (∃ d, owns (c : Thread nD τ) arg10 fullShare d)
      ∗ Tabs c tbe tfi tne tla tnu
      ∗ Stream c W e1 b1 ∗ (∃ f, kPt c f ∗ ⌜C f⌝) ∗ owes (c : Thread nD τ) 0 Wt
      ∗ (iprop(Rest c arg7 arg9 x0 x1 tbe tfi tne tla tnu W e2 b2 K2 ∗ owns (c : Thread nD τ) arg10 fullShare (outv i (wnu tnu) x0 x1 K2)) -∗ Q ⟨⟩)) ⊢ wp frame (wpE (defs₀ (F := F)) Variants.none (c : Thread nD τ) none) Set.univ (jp ⟨⟩) Q := by
    unfold jp; beta_reduce
    clear jp
    extract_lets a1 a2 a3 a4 a5 a6 a7 a8 a9 a10 a11 a12
    have hz : iprop(Rest c arg7 arg9 x0 x1 tbe tfi tne tla tnu W e2 b2 K2 ∗ (∃ d, owns (c : Thread nD τ) arg10 fullShare d)
        ∗ (iprop(Rest c arg7 arg9 x0 x1 tbe tfi tne tla tnu W e2 b2 K2 ∗ owns (c : Thread nD τ) arg10 fullShare (outv i (wnu tnu) x0 x1 K2)) -∗ Q ⟨⟩))
        ⊢ wp frame (wpE (defs₀ (F := F)) Variants.none (c : Thread nD τ) none) Set.univ (a3 ⟨⟩) Q := by
      simp only [a3, a2, a1]
      unfold Rest Wins owns
      by_cases hc4 : k0_cond4 i (wnu tnu) = 1#1
      · have hc5 := h3 hc4
        iintro ⟨⟨⟨⟨%f0, %hf0, H0⟩, ⟨%f1, %hf1, H1⟩⟩, ⟨Tbe, Tfi, Tne, Tla, Tnu⟩, Hs, Hk, ⟨%Wz, HW⟩⟩, ⟨%d3, %f3, -, H3⟩, HQ⟩
        obtain rfl := harg7.eq_unread hf0
        obtain rfl := harg9.eq_unread hf1
        sl_exec
        sl_step
        iapply HQ
        isplitr [H3]
        · isplitl [H0 H1]
          · isplitl [H0]
            · iexists _; isplitr; · ipureintro; exact harg7.read_unread _
              iexact H0
            · iexists _; isplitr; · ipureintro; exact harg9.read_unread _
              iexact H1
          isplitl [Tbe Tfi Tne Tla Tnu]
          · isplitl [Tbe]; · iexact Tbe
            isplitl [Tfi]; · iexact Tfi
            isplitl [Tne]; · iexact Tne
            isplitl [Tla]; · iexact Tla
            iexact Tnu
          isplitl [Hs]; · iexact Hs
          isplitl [Hk]; · iexact Hk
          iexists _; iexact HW
        iexists _; isplitr; swap; · iexact H3
        ipureintro
        unfold outv
        rw [if_pos hc4]
        refine (View.read_writes_full arg10.view _ _ _ _).trans ?_
        unfold used
        simp only [View.readAt_eq_ld, harg7.read_unread, harg9.read_unread]
        rfl
      · have hc5 := h3' hc4
        iintro ⟨⟨⟨⟨%f0, %hf0, H0⟩, ⟨%f1, %hf1, H1⟩⟩, ⟨Tbe, Tfi, Tne, Tla, Tnu⟩, Hs, Hk, ⟨%Wz, HW⟩⟩, ⟨%d3, %f3, -, H3⟩, HQ⟩
        sl_exec
        sl_step
        iapply HQ
        isplitr [H3]
        · isplitl [H0 H1]
          · isplitl [H0]
            · iexists _; isplitr; · ipureintro; exact hf0
              iexact H0
            · iexists _; isplitr; · ipureintro; exact hf1
              iexact H1
          isplitl [Tbe Tfi Tne Tla Tnu]
          · isplitl [Tbe]; · iexact Tbe
            isplitl [Tfi]; · iexact Tfi
            isplitl [Tne]; · iexact Tne
            isplitl [Tla]; · iexact Tla
            iexact Tnu
          isplitl [Hs]; · iexact Hs
          isplitl [Hk]; · iexact Hk
          iexists _; iexact HW
        iexists _; isplitr; swap; · iexact H3
        ipureintro
        unfold outv
        rw [if_neg hc4]
        exact View.read_writes_full arg10.view _ _ _ _
    clear_value a3
    by_cases hc2 : k0_cond2 (wfi i tfi) = 1#1
    · obtain ⟨hb1, hK, hw2, hw3, hA, hB⟩ := h2 hc2
      rw [stream_busy _ _ _ _ hb1]
      unfold Fl
      iintro ⟨Hw, Ho, ⟨Tbe, Tfi, Tne, Tla, Tnu⟩, ⟨⟨%X0, S8⟩, R0⟩, ⟨%f, Hk, -⟩, HW, HQ⟩
      by_cases hc3 : k0_cond3 i (wla i tla) = 1#1
      · obtain ⟨hb2, hw4, ho⟩ := hA hc3
        sl_exec (disch := first | sl_exact hw2 | sl_exact hw3 | sl_exact hw4)
        ihave R0' := (lend c fullShare W _ (k0_off8_inb i (wfi i tfi) (wla i tla) (wne i tne) hw4 hc2 hc3)).1 $$ R0
        icases R0' with ⟨P0, R0⟩
        sl_exec (disch := first | sl_exact hw2 | sl_exact hw3 | sl_exact hw4)
        subst hK
        iapply hz
        isplitr [Ho HQ]
        · isplitl [Hw]; · iexact Hw
          isplitl [Tbe Tfi Tne Tla Tnu]
          · isplitl [Tbe]; · iexact Tbe
            isplitl [Tfi]; · iexact Tfi
            isplitl [Tne]; · iexact Tne
            isplitl [Tla]; · iexact Tla
            iexact Tnu
          isplitr [Hk HW]
          · rw [stream_busy _ _ _ _ hb2, ← Fl_congr c scrM 6 fullShare W ho (k0_off8_inb i (wfi i tfi) (wla i tla) (wne i tne) hw4 hc2 hc3)]
            unfold Fl
            isplitl [S8]
            · iexists _; iexact S8
            · iexact R0
          isplitl [Hk]
          · iapply (kept_done c W _ (inbE e1 b1) scrM.view.junk f); iexact Hk
          iexists _; iexact HW
        isplitl [Ho]; · iexact Ho
        iexact HQ
      · sl_exec (disch := first | sl_exact hw2 | sl_exact hw3)
        subst hK
        iapply hz
        isplitr [Ho HQ]
        · isplitl [Hw]; · iexact Hw
          isplitl [Tbe Tfi Tne Tla Tnu]
          · isplitl [Tbe]; · iexact Tbe
            isplitl [Tfi]; · iexact Tfi
            isplitl [Tne]; · iexact Tne
            isplitl [Tla]; · iexact Tla
            iexact Tnu
          isplitr [Hk HW]
          · rw [stream_rest _ _ _ _ (hB hc3)]
            isplitl [S8_dst]; · iexists _; iexact S8_dst
            isplitl [S8]; · iexact S8
            iexact R0
          isplitl [Hk]
          · iapply (kept_done c W _ (inbE e1 b1) scrM.view.junk f); iexact Hk
          iexists _; iexact HW
        isplitl [Ho]; · iexact Ho
        iexact HQ
    · obtain ⟨rfl, rfl, hC⟩ := h2' hc2
      iintro ⟨Hw, Ho, Ht, Hs, ⟨%f, Hk, %hf⟩, HW, HQ⟩
      obtain rfl := hC f hf
      icases Ht with ⟨Tbe, Tfi, Tne, Tla, Tnu⟩
      sl_exec
      iapply hz
      isplitr [Ho HQ]
      · isplitl [Hw]; · iexact Hw
        isplitl [Tbe Tfi Tne Tla Tnu]
        · isplitl [Tbe]; · iexact Tbe
          isplitl [Tfi]; · iexact Tfi
          isplitl [Tne]; · iexact Tne
          isplitl [Tla]; · iexact Tla
          iexact Tnu
        isplitl [Hs]; · iexact Hs
        isplitl [Hk]; · iexact Hk
        iexists _; iexact HW
      isplitl [Ho]; · iexact Ho
      iexact HQ
  clear_value jp
  by_cases hc1 : k0_cond1 i = 1#1
  · obtain ⟨hb, rfl, ho2⟩ := h1 hc1
    have hchk : k0_chk1 i (w0 tbe) := fun _ => by rw [ho2]; exact inbE _ _
    rw [stream_rest _ _ _ _ hb]
    iintro ⟨Hw, Ho, ⟨Tbe, Tfi, Tne, Tla, Tnu⟩, ⟨⟨%X0, HX0⟩, S8, W0⟩, Hk, HW, HQ⟩
    ihave W0' := (lend c fullShare W (k0_off2 (w0 tbe)) (hchk hc1)).1 $$ W0
    icases W0' with ⟨P0, R0⟩
    sl_exec (disch := first | sl_exact hchk)
    iapply hj
    rw [stream_busy _ _ _ _ (by omega)]
    isplitl [Hw]; · iexact Hw
    isplitl [Ho]; · iexact Ho
    isplitl [Tbe Tfi Tne Tla Tnu]
    · isplitl [Tbe]; · iexact Tbe
      isplitl [Tfi]; · iexact Tfi
      isplitl [Tne]; · iexact Tne
      isplitl [Tla]; · iexact Tla
      iexact Tnu
    isplitl [S8 R0]
    · rw [← Fl_congr c scrM 6 fullShare W ho2 (hchk hc1)]
      unfold Fl
      isplitl [S8]
      · iexists X0; iexact S8
      · iexact R0
    isplitl [Hk]; · iexact Hk
    isplitl [HW]; · iexact HW
    iexact HQ
  · obtain ⟨rfl, rfl⟩ := h1' hc1
    iintro H
    sl_exec
    iapply hj
    iexact H

end Cert.KernelDownIdeal.Down
-- ==== Proof.DownPlan.lean ====
module

public import proofs.«01_k».proof.Proof.DownStage

/-! The tables' words under the precondition, and what follows of the points the body runs at. -/

@[expose] public section

set_option maxRecDepth 16384

noncomputable section

namespace Cert.KernelDownIdeal.Down

open Cert.KernelDownIdeal Cert.KernelDownIdeal.Gen
open Idealize.ShloMosaic Idealize.ShloMosaic.TcCoe Idealize.ShloMosaic.Tactic

variable {F : FTy → Type} [FloatOps F]

abbrev i0 : S1.Idx := fun | 0 => (0 : Fin 1)

/-- The tables as the host makes them: a group that starts an expert names the next one, and whether it is the last. -/
structure Plan (be fi ne la : S160.Idx → BitVec 32) (nu : S1.Idx → BitVec 32) : Prop where
  nu_pos : 1 ≤ (nu i0).toNat
  nu_le : (nu i0).toNat ≤ 160
  be_lt : ∀ n, (be (i1 n)).toNat < 32
  fi0 : fi (i1 0) = 1#32
  step1 : ∀ n, n < 159 → fi (i1 (n + 1)) = 1#32 → ne (i1 n) = be (i1 (n + 1)) ∧ la (i1 n) = 0#32
  step0 : ∀ n, n < 159 → fi (i1 (n + 1)) ≠ 1#32 → ne (i1 (n + 1)) = ne (i1 n) ∧ la (i1 (n + 1)) = la (i1 n)
  same : ∀ n, n < 159 → fi (i1 (n + 1)) ≠ 1#32 → n + 1 < (nu i0).toNat → be (i1 (n + 1)) = be (i1 n)
  end_ne : ne (i1 159) = be (i1 0)
  end_la : la (i1 159) = 1#32

theorem i1_mod (n : ℕ) : i1 (n % 160) = i1 n := by
  funext a; fin_cases a; exact Fin.ext (Nat.mod_mod n 160)
theorem i1_add (j i : ℕ) : i1 (160 * j + i) = i1 i := by
  funext a; fin_cases a; exact Fin.ext (Nat.mul_add_mod 160 j i)

section
variable {be fi ne la : S160.Idx → BitVec 32} {nu : S1.Idx → BitVec 32} (P : Plan be fi ne la nu)
include P

theorem Plan.back (k : ℕ) (hk : k ≤ 159) : (la (i1 (159 - k)) = 0#32 ∨ la (i1 (159 - k)) = 1#32) ∧ (ne (i1 (159 - k))).toNat < 32 := by
  induction k with
  | zero => exact ⟨Or.inr P.end_la, by rw [show 159 - 0 = 159 from rfl, P.end_ne]; exact P.be_lt 0⟩
  | succ k ih =>
    obtain ⟨h1, h2⟩ := ih (by omega)
    have e : 159 - (k + 1) + 1 = 159 - k := by omega
    by_cases hf : fi (i1 (159 - (k + 1) + 1)) = 1#32
    · obtain ⟨a, b⟩ := P.step1 _ (by omega) hf
      exact ⟨Or.inl b, by rw [a]; exact P.be_lt _⟩
    · obtain ⟨a, b⟩ := P.step0 _ (by omega) hf
      rw [e] at a b
      rw [← a, ← b]
      exact ⟨h1, h2⟩

theorem Plan.la01 (n : ℕ) : la (i1 n) = 0#32 ∨ la (i1 n) = 1#32 := by
  have h := (P.back (159 - n % 160) (by omega)).1
  rwa [show 159 - (159 - n % 160) = n % 160 by omega, i1_mod] at h
theorem Plan.ne_lt (n : ℕ) : (ne (i1 n)).toNat < 32 := by
  have h := (P.back (159 - n % 160) (by omega)).2
  rwa [show 159 - (159 - n % 160) = n % 160 by omega, i1_mod] at h
end

/-- The expert whose columns a block finds kept: that of the last first block, up to it. -/
def held (be fi : S160.Idx → BitVec 32) : ℕ → ℕ
  | 0 => (be (i1 0)).toNat
  | n + 1 => if fi (i1 (n + 1)) = 1#32 then (be (i1 (n + 1))).toNat else held be fi n

theorem held_first (be fi : S160.Idx → BitVec 32) (n : ℕ) (h : fi (i1 n) = 1#32) : held be fi n = (be (i1 n)).toNat := by
  rcases n with _ | n
  · rfl
  · exact if_pos h
theorem held_stay (be fi : S160.Idx → BitVec 32) (n : ℕ) (hn : 0 < n) (h : fi (i1 n) ≠ 1#32) : held be fi (n - 1) = held be fi n := by
  rcases n with _ | n
  · omega
  · exact (if_neg h).symm

/-- A used block finds its own expert's columns. -/
theorem Plan.held_used {be fi ne la : S160.Idx → BitVec 32} {nu : S1.Idx → BitVec 32} (P : Plan be fi ne la nu) (n : ℕ) (h : n < (nu i0).toNat) :
    held be fi n = (be (i1 n)).toNat := by
  induction n with
  | zero => rfl
  | succ n ih =>
    have := P.nu_le
    by_cases hf : fi (i1 (n + 1)) = 1#32
    · exact if_pos hf
    · exact (if_neg hf).trans ((ih (by omega)).trans (congrArg BitVec.toNat (P.same n (by omega) hf h).symm))

/-- Before point `n`: the expert and the block of its columns the stream holds, 2 when it is at rest. -/
def eAt (ne : S160.Idx → BitVec 32) : ℕ → ℕ
  | 0 => 0
  | s + 1 => (ne (i1 s)).toNat
def bAt (la : S160.Idx → BitVec 32) : ℕ → ℕ
  | 0 => 2
  | s + 1 => s / 160 + (la (i1 s)).toNat
/-- The same once the first point has started it. -/
def eAt1 (be ne : S160.Idx → BitVec 32) (n : ℕ) : ℕ := if n = 0 then (be (i1 0)).toNat else eAt ne n
def bAt1 (la : S160.Idx → BitVec 32) (n : ℕ) : ℕ := if n = 0 then 0 else bAt la n

section
variable {be fi ne la : S160.Idx → BitVec 32} {nu : S1.Idx → BitVec 32} (P : Plan be fi ne la nu)
include P

theorem Plan.start (j i : ℕ) (hi : i < 160) (h : fi (i1 i) = 1#32) :
    eAt1 be ne (160 * j + i) = (be (i1 i)).toNat ∧ bAt1 la (160 * j + i) = j := by
  unfold eAt1 bAt1
  rcases i with _ | i
  · rcases j with _ | j
    · exact ⟨if_pos rfl, if_pos rfl⟩
    · rw [if_neg (by omega), if_neg (by omega), show 160 * (j + 1) + 0 = (160 * j + 159) + 1 by omega]
      simp only [eAt, bAt, i1_add]
      rw [P.end_ne, P.end_la]
      exact ⟨rfl, by show (160 * j + 159) / 160 + 1 = j + 1; omega⟩
  · obtain ⟨a, b⟩ := P.step1 i (by omega) h
    rw [if_neg (by omega), if_neg (by omega), ← Nat.add_assoc]
    simp only [eAt, bAt, i1_add]
    rw [a, b]
    exact ⟨rfl, by show (160 * j + i) / 160 + 0 = j; omega⟩

theorem Plan.stay (j i : ℕ) (hi : i < 160) (h : fi (i1 i) ≠ 1#32) :
    0 < i ∧ eAt ne (160 * j + i) = eAt ne (160 * j + i + 1) ∧ bAt la (160 * j + i) = bAt la (160 * j + i + 1) ∧ held be fi (i - 1) = held be fi i := by
  rcases i with _ | i
  · exact absurd P.fi0 h
  · obtain ⟨b, c⟩ := P.step0 i (by omega) h
    refine ⟨by omega, ?_, ?_, held_stay be fi (i + 1) (by omega) h⟩
    · rw [← Nat.add_assoc, show eAt ne (160 * j + i + 1) = (ne (i1 (160 * j + i))).toNat from rfl,
        show eAt ne (160 * j + i + 1 + 1) = (ne (i1 (160 * j + (i + 1)))).toNat from rfl, i1_add, i1_add, b]
    · rw [← Nat.add_assoc, show bAt la (160 * j + i + 1) = (160 * j + i) / 160 + (la (i1 (160 * j + i))).toNat from rfl,
        show bAt la (160 * j + i + 1 + 1) = (160 * j + (i + 1)) / 160 + (la (i1 (160 * j + (i + 1)))).toNat from rfl, i1_add, i1_add, c]
      omega
end

/-! The body's conditions and offsets in closed form. -/

theorem co0 (i : grid0.Coords) : (i 0).val < 2 := (i 0).isLt
theorem co1 (i : grid0.Coords) : (i 1).val < 160 := (i 1).isLt

theorem off1_eq (i : grid0.Coords) : k0_off1 i = ![(i 1).val] := by
  have h := co1 i
  unfold k0_off1
  refine congrArg (fun z => ![z]) ?_
  show (BitVec.ofNat 32 (i 1).val).toNat = (i 1).val
  rw [BitVec.toNat_ofNat]; omega
theorem off3_eq (i : grid0.Coords) : k0_off3 i = ![(i 1).val] := off1_eq i
theorem off6_eq (i : grid0.Coords) : k0_off6 i = ![(i 1).val] := off1_eq i
theorem off7_eq (i : grid0.Coords) : k0_off7 i = ![(i 1).val] := off1_eq i

theorem cond1_iff (i : grid0.Coords) : k0_cond1 i = 1#1 ↔ (i 0).val = 0 ∧ (i 1).val = 0 := by
  unfold k0_cond1
  exact (by decide +kernel : ∀ (a : Fin 2) (b : Fin 160),
    Scalar.cmpi .ne (Scalar.extui (Scalar.andi (Scalar.cmpi .eq (BitVec.ofNat 32 a.val) 0#32) (Scalar.cmpi .eq (BitVec.ofNat 32 b.val) 0#32))) 0#32 = 1#1
      ↔ a.val = 0 ∧ b.val = 0) (i 0) (i 1)

theorem cond2_iff (v : BitVec 32) : k0_cond2 v = 1#1 ↔ v = 1#32 := by
  unfold k0_cond2
  show Scalar.cmpi .ne (Scalar.extui (IntOp.cmpi .eq v 1#32)) 0#32 = 1#1 ↔ _
  rw [WordCmp.cmpi_eq_eq]
  by_cases h : v = 1#32
  · rw [decide_eq_true h]; exact ⟨fun _ => h, fun _ => by decide⟩
  · rw [decide_eq_false h]; exact ⟨fun h' => absurd h' (by decide), fun h' => absurd h' h⟩

theorem cond3_iff (i : grid0.Coords) (v : BitVec 32) (hv : v = 0#32 ∨ v = 1#32) : k0_cond3 i v = 1#1 ↔ (i 0).val + v.toNat < 2 := by
  unfold k0_cond3
  rcases hv with rfl | rfl
  · exact (by decide +kernel : ∀ (a : Fin 2), Scalar.cmpi .ne (Scalar.extui (Scalar.ori (Scalar.cmpi .eq 0#32 0#32) (Scalar.cmpi .slt (Scalar.addi (BitVec.ofNat 32 a.val) 1#32) 2#32))) 0#32 = 1#1 ↔ a.val + (0#32).toNat < 2) (i 0)
  · exact (by decide +kernel : ∀ (a : Fin 2), Scalar.cmpi .ne (Scalar.extui (Scalar.ori (Scalar.cmpi .eq 1#32 0#32) (Scalar.cmpi .slt (Scalar.addi (BitVec.ofNat 32 a.val) 1#32) 2#32))) 0#32 = 1#1 ↔ a.val + (1#32).toNat < 2) (i 0)

theorem toInt_small (v : BitVec 32) (hv : v.toNat ≤ 160) : v.toInt = (v.toNat : ℤ) :=
  WordCmp.toInt_eq_toNat_of_lt_half (by omega)

theorem cond4_iff (i : grid0.Coords) (v : BitVec 32) (hv : v.toNat ≤ 160) : k0_cond4 i v = 1#1 ↔ (i 1).val < v.toNat := by
  have h := co1 i
  have e : (BitVec.ofNat 32 (i 1).val).toNat = (i 1).val := by rw [BitVec.toNat_ofNat]; omega
  unfold k0_cond4
  show Scalar.cmpi .ne (Scalar.extui (IntOp.cmpi .slt (BitVec.ofNat 32 (i 1).val) v)) 0#32 = 1#1 ↔ _
  rw [WordCmp.cmpi_slt_eq, toInt_small v hv, toInt_small _ (by omega), e]
  by_cases h : (i 1).val < v.toNat
  · rw [decide_eq_true (by omega)]; exact ⟨fun _ => h, fun _ => by decide⟩
  · rw [decide_eq_false (by omega)]; exact ⟨fun h' => absurd h' (by decide), fun h' => absurd h' h⟩

theorem cond5_iff (i : grid0.Coords) (v : BitVec 32) (hv : v.toNat ≤ 160) : k0_cond5 i v = 1#1 ↔ ¬ (i 1).val < v.toNat := by
  have h := co1 i
  have e : (BitVec.ofNat 32 (i 1).val).toNat = (i 1).val := by rw [BitVec.toNat_ofNat]; omega
  unfold k0_cond5
  show Scalar.cmpi .ne (Scalar.extui (IntOp.cmpi .sge (BitVec.ofNat 32 (i 1).val) v)) 0#32 = 1#1 ↔ _
  rw [WordCmp.cmpi_sge_eq, toInt_small v hv, toInt_small _ (by omega), e]
  by_cases h : (i 1).val < v.toNat
  · rw [decide_eq_false (by omega)]; exact ⟨fun h' => absurd h' (by decide), fun h' => absurd h h'⟩
  · rw [decide_eq_true (by omega)]; exact ⟨fun _ => h, fun _ => by decide⟩

theorem off2_eq (v : BitVec 32) (hv : v.toNat < 32) : k0_off2 v = offE v.toNat 0 := by
  unfold k0_off2 offE
  rw [Nat.min_eq_left (by omega : v.toNat ≤ 31)]
  rfl
theorem off4_eq (i : grid0.Coords) (v : BitVec 32) (hv : v.toNat < 32) : k0_off4 i v = offE v.toNat (i 0).val := by
  unfold k0_off4 offE
  rw [Nat.min_eq_left (by omega : v.toNat ≤ 31)]
  refine congrArg (fun z => ![v.toNat, 0, z]) ?_
  exact (by decide +kernel : ∀ a : Fin 2, (Scalar.muli (BitVec.ofNat 32 a.val) 2048#32).toNat = 2048 * min a.val 1) (i 0)
theorem off8_eq (i : grid0.Coords) (u v : BitVec 32) (hu : u = 0#32 ∨ u = 1#32) (hb : (i 0).val + u.toNat < 2) (hv : v.toNat < 32) :
    k0_off8 i u v = offE v.toNat ((i 0).val + u.toNat) := by
  unfold k0_off8 offE
  rw [Nat.min_eq_left (by omega : v.toNat ≤ 31)]
  refine congrArg (fun z => ![v.toNat, 0, z]) ?_
  rcases hu with rfl | rfl
  · exact (by decide +kernel : ∀ a : Fin 2, a.val + (0#32).toNat < 2 → (Scalar.muli (Scalar.addi (BitVec.ofNat 32 a.val) 0#32) 2048#32).toNat = 2048 * min (a.val + (0#32).toNat) 1) (i 0) hb
  · exact (by decide +kernel : ∀ a : Fin 2, a.val + (1#32).toNat < 2 → (Scalar.muli (Scalar.addi (BitVec.ofNat 32 a.val) 1#32) 2048#32).toNat = 2048 * min (a.val + (1#32).toNat) 1) (i 0) hb

theorem chk2_of (i : grid0.Coords) (u v : BitVec 32) (hv : v.toNat < 32) : k0_chk2 i u v :=
  fun _ => by rw [off4_eq i v hv]; exact inbE _ _
theorem chk3_of (i : grid0.Coords) (u v : BitVec 32) (hv : v = 0#32 ∨ v = 1#32) : k0_chk3 i u v := by
  unfold k0_chk3 k0_mult4
  rcases hv with rfl | rfl
  · exact fun _ _ => (by decide +kernel : ∀ a : Fin 2, 2048 ∣ (Scalar.muli (Scalar.addi (BitVec.ofNat 32 a.val) 0#32) 2048#32).toNat) (i 0)
  · exact fun _ _ => (by decide +kernel : ∀ a : Fin 2, 2048 ∣ (Scalar.muli (Scalar.addi (BitVec.ofNat 32 a.val) 1#32) 2048#32).toNat) (i 0)
theorem chk4_of (i : grid0.Coords) (w u v : BitVec 32) (hu : u = 0#32 ∨ u = 1#32) (hv : v.toNat < 32) : k0_chk4 i w u v :=
  fun _ h3 => by rw [off8_eq i u v hu ((cond3_iff i u hu).1 h3) hv]; exact inbE _ _

/-! The words the body reads. -/

theorem unit_i1 (off : Fin 1 → ℕ) (inb : ∀ a, off a + S1.size a ≤ S160.size a) (n : ℕ) (hn : n < 160) (e : off = ![n]) (z : S1.Idx) :
    (Rect.unit (s := S160) off S1.size inb).idx z = i1 n := by
  subst e
  funext a
  fin_cases a
  have hz : (z 0).val < 1 := (z 0).isLt
  apply Fin.ext
  show n + 1 * (z 0).val = n % 160
  omega

theorem w0_eq {c : Dev nD} (f : TB (F := F) c beM) : w0 f = f (i1 0) :=
  congrArg f (unit_i1 _ _ 0 (by decide) rfl _)
theorem wfi_eq {c : Dev nD} (i : grid0.Coords) (f : TB (F := F) c fiM) : wfi i f = f (i1 (i 1).val) :=
  congrArg f (unit_i1 _ _ _ (co1 i) (off1_eq i) _)
theorem wbe_eq {c : Dev nD} (i : grid0.Coords) (f : TB (F := F) c beM) : wbe i f = f (i1 (i 1).val) :=
  congrArg f (unit_i1 _ _ _ (co1 i) (off3_eq i) _)
theorem wla_eq {c : Dev nD} (i : grid0.Coords) (f : TB (F := F) c laM) : wla i f = f (i1 (i 1).val) :=
  congrArg f (unit_i1 _ _ _ (co1 i) (off6_eq i) _)
theorem wne_eq {c : Dev nD} (i : grid0.Coords) (f : TB (F := F) c neM) : wne i f = f (i1 (i 1).val) :=
  congrArg f (unit_i1 _ _ _ (co1 i) (off7_eq i) _)
theorem wnu_eq {c : Dev nD} (f : TB (F := F) c nuM) : wnu f = f i0 := by
  refine congrArg f ?_
  funext a
  fin_cases a
  exact Subsingleton.elim (α := Fin 1) _ _

end Cert.KernelDownIdeal.Down
-- ==== Proof.DownFrame.lean ====
module

public import proofs.«01_k».proof.Proof.DownPlan
public import proofs.«01_k».proof.Proof.Gen.KernelDownIdeal.Launch
public import Idealize.ShloMosaic.Lib.Pipeline.FrameBody
public import Idealize.ShloMosaic.Lib.ReshapeSlab
public import Idealize.ShloMosaic.Lib.Claim

/-! The launch of the second expert product: what holds before each grid point, and the frame. -/

@[expose] public section

set_option maxRecDepth 16384

noncomputable section

namespace Cert.KernelDownIdeal.Down

open Cert.KernelDownIdeal Cert.KernelDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point -/

/-- Before point `n`: the kept block of columns, rounded, as the last group that started an expert left it. -/
def kAt {c : Dev nD} (W : WB (F := F) c) (be fi : S160.Idx → BitVec 32) : ℕ → S2048x2048.Idx → Elt F .bf16
  | 0 => kept (col W 0 0)
  | s + 1 => kept (col W (held be fi (s % 160)) (s / 160))

set_option maxHeartbeats 1000000 in
theorem body_at (c : Dev nD) (i : grid0.Coords) (n : ℕ) (hn : n = 160 * (i 0).val + (i 1).val)
    (arg7 : Memref sig .tc .vmem S512x2048 .bf16) (harg7 : arg7.IsWhole) (arg9 : Memref sig .tc .vmem S1x1x2048 .f32) (harg9 : arg9.IsWhole) (arg10 : Memref sig .tc .vmem S512x2048 .bf16) (harg10 : arg10.IsWhole)
    (W : WB (F := F) c) (tbe : TB (F := F) c beM) (tfi : TB (F := F) c fiM) (tne : TB (F := F) c neM) (tla : TB (F := F) c laM) (tnu : TB (F := F) c nuM)
    (P : Plan tbe tfi tne tla tnu)
    (x0 : Vec F S512x2048 .bf16) (x1 : Vec F S1x1x2048 .f32) (Wt : Waits sig Unit) (Q : PUnit → sProp 𝕄) :
    iprop(Wins c arg7 arg9 x0 x1 ∗ (∃ d, owns (c : Thread nD τ) arg10 fullShare d)
      ∗ Tabs c tbe tfi tne tla tnu
      ∗ Stream c W (eAt tne n) (bAt tla n) ∗ (∃ f, kPt c f ∗ ⌜n ≠ 0 → f = kAt W tbe tfi n⌝) ∗ owes (c : Thread nD τ) 0 Wt
      ∗ (iprop(Rest c arg7 arg9 x0 x1 tbe tfi tne tla tnu W (eAt tne (n + 1)) (bAt tla (n + 1)) (kAt W tbe tfi (n + 1)) ∗ owns (c : Thread nD τ) arg10 fullShare (outv i (tnu i0) x0 x1 (kAt W tbe tfi (n + 1)))) -∗ Q ⟨⟩))
    ⊢ wp frame (wpE (defs₀ (F := F)) Variants.none c none) Set.univ (cc0_moe_expert_down i beM (Memref.isWhole_whole _) fiM (Memref.isWhole_whole _) neM (Memref.isWhole_whole _) laM (Memref.isWhole_whole _) nuM (Memref.isWhole_whole _) arg7 harg7 weM (Memref.isWhole_whole _) arg9 harg9 arg10 harg10 scrM scrW wbfM wbfW cc0_scratch2) Q := by
  have g0 := co0 i
  have g1 := co1 i
  have hi1 : i1 n = i1 (i 1).val := by rw [hn, i1_add]
  have hd : n / 160 = (i 0).val := by omega
  have hm : n % 160 = (i 1).val := by omega
  have eE : eAt tne (n + 1) = (tne (i1 (i 1).val)).toNat := by rw [← hi1]; rfl
  have eB : bAt tla (n + 1) = (i 0).val + (tla (i1 (i 1).val)).toNat := by rw [← hi1, ← hd]; rfl
  have eK : kAt W tbe tfi (n + 1) = kept (col W (held tbe tfi (i 1).val) (i 0).val) := by rw [← hm, ← hd]; rfl
  have hla := P.la01 (i 1).val
  have hne := P.ne_lt (i 1).val
  have hr := body_run c i arg7 harg7 arg9 harg9 arg10 harg10 W tbe tfi tne tla tnu x0 x1 Wt Q (eAt tne n) (bAt tla n) (eAt1 tbe tne n) (bAt1 tla n)
    (eAt tne (n + 1)) (bAt tla (n + 1)) (fun f => n ≠ 0 → f = kAt W tbe tfi n) (kAt W tbe tfi (n + 1))
    (by
      intro h
      obtain ⟨a, b⟩ := (cond1_iff i).1 h
      obtain rfl : n = 0 := by omega
      rw [w0_eq]
      exact ⟨le_refl 2, rfl, off2_eq _ (P.be_lt 0)⟩)
    (by
      intro h
      have : n ≠ 0 := fun e => h ((cond1_iff i).2 (by omega))
      exact ⟨(if_neg this).symm, (if_neg this).symm⟩)
    (by
      rw [wfi_eq, wbe_eq, wla_eq, wne_eq, cond2_iff]
      intro h
      obtain ⟨a, b⟩ := P.start (i 0).val (i 1).val g1 h
      rw [← hn] at a b
      rw [a, b, eK, held_first tbe tfi _ h]
      refine ⟨g0, rfl, chk2_of i _ _ (P.be_lt _), chk3_of i _ _ hla, ?_, ?_⟩
      · intro h3
        have h4 := (cond3_iff i _ hla).1 h3
        refine ⟨by omega, chk4_of i _ _ _ hla hne, ?_⟩
        rw [eE, eB]
        exact off8_eq i _ _ hla h4 hne
      · intro h3
        have h4 : ¬ (i 0).val + (tla (i1 (i 1).val)).toNat < 2 := fun h => h3 ((cond3_iff i _ hla).2 h)
        rw [eB]; omega)
    (by
      rw [wfi_eq, ne_eq, cond2_iff]
      intro h
      obtain ⟨a, b, d, e⟩ := P.stay (i 0).val (i 1).val g1 h
      rw [← hn] at b d
      have hn0 : n ≠ 0 := by omega
      refine ⟨(if_neg hn0).trans b, (if_neg hn0).trans d, fun f hf => (hf hn0).trans ?_⟩
      rw [eK]
      obtain ⟨s, rfl⟩ : ∃ s, n = s + 1 := ⟨n - 1, by omega⟩
      have hs : s % 160 = (i 1).val - 1 := by omega
      have hs2 : s / 160 = (i 0).val := by omega
      show kept (col W (held tbe tfi (s % 160)) (s / 160)) = _
      rw [hs, hs2, e])
    (by
      rw [wnu_eq, ne_eq, cond4_iff i _ P.nu_le, cond5_iff i _ P.nu_le]
      exact fun h h' => h' h)
    (by
      rw [wnu_eq, ne_eq, cond4_iff i _ P.nu_le, cond5_iff i _ P.nu_le]
      exact fun h => h)
  rw [wnu_eq] at hr
  exact hr

variable (m : (ℓ : Loc nD τ sig) → Buf (Elt F) ℓ) (ρ : Dev nD → PrngReg)

/-! ## The host before the launch -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem off_host (b : Ref sig .tc) (h0 : b ≠ main_v0) (h1 : b ≠ main_v1) :
    ∀ op ∈ (hostOps0 : List (HloOp τ sig (Elt F))), Proc.devRef (τ := τ) .tc b ∉ op.writes := List.forall_iff_forall_mem.mp (by
  simp only [hostOps0, List.Forall, StableHlo.unary_writes, StableHlo.reshape_writes, Finset.mem_singleton]
  exact ⟨StableHlo.devRef_ne_of_ne h0, StableHlo.devRef_ne_of_ne h1⟩)
theorem V_main_arg0 (c : Dev nD) : V m c main_arg0 = m ((c : Thread nD τ).loc main_arg0) :=
  StableHlo.after_of_forall_not_mem (b := Proc.devRef .tc main_arg0) _ _ (off_host main_arg0 (by decide) (by decide))
theorem V_main_arg1 (c : Dev nD) : V m c main_arg1 = m ((c : Thread nD τ).loc main_arg1) :=
  StableHlo.after_of_forall_not_mem (b := Proc.devRef .tc main_arg1) _ _ (off_host main_arg1 (by decide) (by decide))
theorem V_main_arg2 (c : Dev nD) : V m c main_arg2 = m ((c : Thread nD τ).loc main_arg2) :=
  StableHlo.after_of_forall_not_mem (b := Proc.devRef .tc main_arg2) _ _ (off_host main_arg2 (by decide) (by decide))
theorem V_main_arg3 (c : Dev nD) : V m c main_arg3 = m ((c : Thread nD τ).loc main_arg3) :=
  StableHlo.after_of_forall_not_mem (b := Proc.devRef .tc main_arg3) _ _ (off_host main_arg3 (by decide) (by decide))
theorem V_main_arg4 (c : Dev nD) : V m c main_arg4 = m ((c : Thread nD τ).loc main_arg4) :=
  StableHlo.after_of_forall_not_mem (b := Proc.devRef .tc main_arg4) _ _ (off_host main_arg4 (by decide) (by decide))
theorem V_main_arg5 (c : Dev nD) : V m c main_arg5 = m ((c : Thread nD τ).loc main_arg5) :=
  StableHlo.after_of_forall_not_mem (b := Proc.devRef .tc main_arg5) _ _ (off_host main_arg5 (by decide) (by decide))
theorem V_main_arg6 (c : Dev nD) : V m c main_arg6 = m ((c : Thread nD τ).loc main_arg6) :=
  StableHlo.after_of_forall_not_mem (b := Proc.devRef .tc main_arg6) _ _ (off_host main_arg6 (by decide) (by decide))
theorem V_main_arg7 (c : Dev nD) : V m c main_arg7 = m ((c : Thread nD τ).loc main_arg7) :=
  StableHlo.after_of_forall_not_mem (b := Proc.devRef .tc main_arg7) _ _ (off_host main_arg7 (by decide) (by decide))

/-! ## The tables -/

def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev Planned : Prop := Plan (tbl m 0) (tbl m 1) (tbl m 2) (tbl m 3) (tbl m 4)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = Tabs c (tbl m 0) (tbl m 1) (tbl m 2) (tbl m 3) (tbl m 4) := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide), bigSep_singleton]
  rfl

/-! ## What the launch hands over -/

abbrev osem0 : Fin 1 → SemLoc sig := fun j => (![SemLoc.dma 6] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 6) 0 := by
  rw [Pipeline.ownSems0_eq_of_list c osem0 [0] (by decide) (by decide)]; rfl
def H0 : Finset (Ref sig .tc) := {main_arg6}
theorem H0_sub : H0 ⊆ Pipeline.restRefsP sig pre0 spec0 := by decide
abbrev Wm (c : Dev nD) : WB (F := F) c := V m c main_arg6
theorem hbmPts0_eq (c : Dev nD) :
    (bigSep H0 (fun b => ((c : Thread nD τ).loc b) ↦{fullShare} V m c b) : sProp 𝕄) = wPt c fullShare (Wm m c) := by
  rw [BI.bigSep_eq_bigSepL_of_eq [main_arg6] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ (∃ r, prngReg c r) ∗ semVal ((c : Thread nD τ), SemLoc.dma 6) 0 ∗ wPt c fullShare (Wm m c)) := by
  rw [Pipeline.ΦD_eq, scopedRest0_eq, ownSems00_eq, hbmPts0_eq]

/-- What holds before point `n`. -/
def Phi (c : Dev nD) (n : ℕ) : sProp 𝕄 :=
  iprop(Tabs c (tbl m 0) (tbl m 1) (tbl m 2) (tbl m 3) (tbl m 4) ∗ Stream c (Wm m c) (eAt (tbl m 2) n) (bAt (tbl m 3) n)
    ∗ (∃ f, kPt c f ∗ ⌜n ≠ 0 → f = kAt (Wm m c) (tbl m 0) (tbl m 1) n⌝) ∗ ∃ r, prngReg c r)

theorem scr_set : (scrM.view.set) = Finset.univ := View.set_whole _
theorem wbf_set : (wbfM.view.set) = Finset.univ := View.set_whole _

theorem Phi_in (c : Dev nD) : iprop(Pipeline.ΦD osem0 spec0 H0 (V m) c ∗ Pipeline.ΦT pre0 (tbl m) c) ⊢ Phi m c 0 := by
  unfold Phi
  rw [PhiD0_eq, PhiT0_eq, stream_rest c (Wm m c) (eAt (tbl m 2) 0) (bAt (tbl m 3) 0) (le_refl 2)]
  iintro ⟨⟨⟨⟨%X, HX⟩, ⟨%f, Hf⟩⟩, Hg, Hq, Hw⟩, HT⟩
  isplitl [HT]; · iexact HT
  isplitl [HX Hq Hw]
  · isplitl [HX]
    · iexists X
      unfold hPt; rw [scr_set]; iexact HX
    isplitl [Hq]; · iexact Hq
    iexact Hw
  isplitl [Hf]
  · iexists f
    isplitl [Hf]
    · unfold kPt; rw [wbf_set]; iexact Hf
    ipureintro; exact fun h => absurd rfl h
  iexact Hg

theorem Phi_out (hP : Planned m) (c : Dev nD) : Phi m c 320 ⊢ Pipeline.ΦD osem0 spec0 H0 (V m) c := by
  have hb : 2 ≤ bAt (tbl m 3) 320 := by
    show 2 ≤ 319 / 160 + (tbl m 3 (i1 319)).toNat
    rw [show i1 319 = i1 159 from i1_add 1 159, hP.end_la]
    decide
  unfold Phi
  rw [PhiD0_eq, stream_rest c (Wm m c) (eAt (tbl m 2) 320) (bAt (tbl m 3) 320) hb]
  iintro ⟨HT, ⟨⟨%X, HX⟩, Hq, Hw⟩, ⟨%f, Hf, -⟩, Hg⟩
  isplitl [HX Hf]
  · isplitl [HX]
    · iexists X
      unfold hPt; rw [scr_set]; iexact HX
    iexists f
    unfold kPt; rw [wbf_set]; iexact Hf
  isplitl [Hg]; · iexact Hg
  isplitl [Hq]; · iexact Hq
  iexact Hw

attribute [irreducible] Phi

/-! ## The blocks and the proof data -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outv (grid0.coords t) (tbl m 4 i0) (iblk m hO c 0 t) (iblk m hO c 1 t) (kAt (Wm m c) (tbl m 0) (tbl m 1) (t.val + 1))
  Φ t := Phi m c t.val
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t
    = outv (grid0.coords t) (tbl m 4 i0) (iblk m hO c 0 t) (iblk m hO c 1 t) (kAt (Wm m c) (tbl m 0) (tbl m 1) (t.val + 1)) := by dsimp only [dats]; try rfl
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

abbrev ms0_0 (hO : Ok m) (t : Fin (cfgM m hO).N) : Memref sig .tc .vmem S512x2048 .bf16 := spec0_0.stage ((cfgM m hO).slots t 0)
abbrev ms0_1 (hO : Ok m) (t : Fin (cfgM m hO).N) : Memref sig .tc .vmem S1x1x2048 .f32 := spec0_1.stage ((cfgM m hO).slots t 1)
abbrev ms0_2 (hO : Ok m) (t : Fin (cfgM m hO).N) : Memref sig .tc .vmem S512x2048 .bf16 := spec0_2.stage ((cfgM m hO).slots t 2)

abbrev bodyAt0 (hO : Ok m) (t : Fin (cfgM m hO).N) : Prog (TpuEff nD τ sig (Elt F) Λ₀ .tc) PUnit :=
  cc0_moe_expert_down (grid0.coords t) beM (Memref.isWhole_whole _) fiM (Memref.isWhole_whole _) neM (Memref.isWhole_whole _) laM (Memref.isWhole_whole _) nuM (Memref.isWhole_whole _)
    (ms0_0 m hO t) (hstage0_0 (((cfgM m hO).slots t 0).cast nbuf0_0)) weM (Memref.isWhole_whole _) (ms0_1 m hO t) (hstage0_1 (((cfgM m hO).slots t 1).cast nbuf0_1))
    (ms0_2 m hO t) (hstage0_2 (((cfgM m hO).slots t 2).cast nbuf0_2)) scrM scrW wbfM wbfW cc0_scratch2

/-- The grid's points in order: columns outermost, groups inside. -/
theorem coords_at : ∀ t : Fin grid0.N, t.val = 160 * (grid0.coords t 0).val + (grid0.coords t 1).val := by decide +kernel

theorem nu_word : (tbl m).atD 4 ![0] = tbl m 4 i0 :=
  (dif_pos (by decide)).trans (congrArg (tbl m 4) (by funext a; fin_cases a; rfl))

theorem idle_word (i : grid0.Coords) (v w : BitVec 32) (e : w = v) (hv : v.toNat ≤ 160) : (!(k0_cond4 i w == 1#1) && !(k0_cond5 i w == 1#1)) = false := by
  subst e
  by_cases h : (i 1).val < w.toNat
  · rw [(cond4_iff i _ hv).2 h]; rfl
  · rw [(cond5_iff i _ hv).2 h, Bool.and_comm]; rfl

theorem idle_fun (hO : Ok m) : (cfgM m hO).idle = idle0 (tbl m) := rfl
theorem idle0_2 (pf : pre0.Contents (Elt F)) (i : grid0.Coords) : idle0 pf 2 i = (!(k0_cond4 i (pf.atD 4 ![0]) == 1#1) && !(k0_cond5 i (pf.atD 4 ![0]) == 1#1)) := rfl
theorem nu_le' (hP : Planned m) : (tbl m 4 i0).toNat ≤ 160 := hP.nu_le

/-- Some branch stores the result at every point. -/
theorem idle2 (hO : Ok m) (hP : Planned m) (i : grid0.Coords) : (cfgM m hO).idle 2 i = false :=
  (congrFun (congrFun (idle_fun m hO) 2) i).trans ((idle0_2 (tbl m) i).trans (idle_word i (tbl m 4 i0) _ (nu_word m) (nu_le' m hP)))

theorem of_idle (b f : Bool) (hb : b = false) (A B C : sProp 𝕄) :
    C ⊢ (match b with | true => (match f with | false => A | true => B) | false => C) := by subst hb; exact .rfl

theorem Phi_at (hO : Ok m) (c : Dev nD) (t) : (dats m hO 0 c).Φ t = Phi m c t.val := by dsimp only [dats]

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 1000000 in
theorem sound_body (hO : Ok m) (hP : Planned m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1]
  rw [after0_0, after0_1, after0_2]
  rw [Phi_at, Phi_at, Fin.val_castSucc, Fin.val_succ]
  unfold Phi Dat.owesAt Pipeline.owesWithin
  rw [show (dats m hO 0 c).owed t.castSucc = 0 from rfl, show (dats m hO 0 c).owed t.succ = 0 from rfl]
  iintro ⟨⟨HT, HS, HK, Hg⟩, ⟨%Wt, -, HW⟩, ⟨%d0, H0⟩, ⟨%d1, H1⟩, ⟨%d3, H3⟩⟩
  iapply (body_at c (grid0.coords t) t.val (coords_at t) _ _ _ _ _ _ (Wm m c) (tbl m 0) (tbl m 1) (tbl m 2) (tbl m 3) (tbl m 4) hP (iblk m hO c 0 t) (iblk m hO c 1 t) Wt _)
  isplitl [H0 H1]
  · isplitl [H0]; · iexact H0
    iexact H1
  isplitl [H3]; · iexists _; iexact H3
  isplitl [HT]; · iexact HT
  isplitl [HS]; · iexact HS
  isplitl [HK]; · iexact HK
  isplitl [HW]; · iexact HW
  iintro ⟨⟨⟨H0, H1⟩, HT, HS, HK, ⟨%W', HW⟩⟩, H3⟩
  isplitl [HT HS HK Hg]
  · isplitl [HT]; · iexact HT
    isplitl [HS]; · iexact HS
    isplitl [HK]
    · iexists _
      isplitl [HK]; · iexact HK
      ipureintro; exact fun _ => rfl
    iexact Hg
  isplitl [HW]
  · iexists W'; isplitr; · ipureintro; exact fun _ _ => Or.inl trivial
    iexact HW
  isplitl [H0]; · iexact H0
  isplitl [H1]; · iexact H1
  iexact H3

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

set_option maxHeartbeats 1000000 in
theorem body_obligation (hO : Ok m) (hP : Planned m) (c : Dev nD) : BodyObligation (dats (F := F) m hO 0 c) (defs₀ (F := F)) Variants.none () Set.univ := fun t => by
  rw [bigSep_W0, bigSep_W0, defs₀_row m hO]
  refine triple_restated (sound_body m hO hP c t) rfl .rfl fun _ => ?_
  have h3 := idle2 m hO hP ((cfgM m hO).grid.coords t)
  unfold bodyPost
  refine sep_mono .rfl (sep_mono .rfl (sep_mono .rfl (sep_mono .rfl ?_)))
  beta_reduce
  split
  · next h => exact absurd h (by decide)
  next =>
  split
  · next h => exact absurd (h.symm.trans h3) (by decide)
  exact .rfl

/-! ## The run and the frame -/

set_option backward.isDefEq.respectTransparency.types false in
theorem run_main_quiescent (hO : Ok m) (hP : Planned m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_dma_shared (Q' := _) pcfgs (fun _ => adm m hO) (dats m hO) (0 : Fin 1) launch0.to₀ osem0 defs₀ Variants.none ownSemFacts0 H0 H0_sub m ρ main
    (hbody := fun c => (body_obligation m hO hP c).loose) (hq := fun _ _ _ => rfl)
    (howed := fun _ _ => rfl) (V := V m) (hmain := hmain m Variants.none) (hA := A_eq m hO) (hpf := V_pre m) (hin := fun c => Phi_in m c) (hout := fun c => Phi_out m hP c)

theorem run_main (hO : Ok m) (hP : Planned m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO hP)

theorem kept_args (hO : Ok m) (hP : Planned m) (r : PUnit × MemSt nD τ sig (Elt F)) (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c)⟩

/-- The program ends with every argument as it was and every semaphore at zero. -/
theorem frame (hO : Ok m) (hP : Planned m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept_args m hO hP r h.1 c, h.2⟩) (run_main_quiescent m ρ hO hP)

end Cert.KernelDownIdeal.Down
-- ==== Proof.DownPre.lean ====
module

public import proofs.«01_k».proof.Proof.DownFrame
public import proofs.«01_k».proof.Proof.Gen.Pre_plan_down
public import Idealize.ShloMosaic.Lib.StableHlo.Predicate
public import Idealize.ShloMosaic.Lib.ReduceAll

/-! The precondition's words as a plan, and the windows' blocks inside their arrays under it. -/

@[expose] public section

set_option maxRecDepth 16384

noncomputable section

namespace Cert.KernelDownIdeal.Down

open Cert.KernelDownIdeal Cert.KernelDownIdeal.Gen
open Idealize.ShloMosaic Idealize.ShloMosaic.TcCoe Idealize.ShloMosaic.Tactic

variable {F : FTy → Type} [FloatOps F]

/-! ## The precondition read -/

theorem and_split {s : Shape} {x y : IVec s 1} {z : s.Idx} (h : andi x y z = 1#1) : x z = 1#1 ∧ y z = 1#1 := by
  have h' : IntOp.andi (x z) (y z) = 1#1 := h
  generalize x z = a at h' ⊢
  generalize y z = b at h' ⊢
  revert a b
  decide

abbrev z0 : Cert.Pre_plan_down.S_.Idx := fun a => a.elim0
abbrev n0 (n : Fin 159) : Cert.Pre_plan_down.S159.Idx := fun | 0 => n
instance : Subsingleton Cert.Pre_plan_down.S_.Idx := ⟨fun a b => funext fun i => i.elim0⟩

theorem one_word (x : IVec Cert.Pre_plan_down.S1 32) (h) : shapeCast Cert.Pre_plan_down.S_ x h z0 = x i0 := by
  refine congrArg x ?_
  funext a
  fin_cases a
  exact Subsingleton.elim (α := Fin 1) _ _
theorem cut1 (x : IVec Cert.Pre_plan_down.S160 32) (k : ℕ) (hk : k < 160) (h) : extractStridedSlice Cert.Pre_plan_down.S1 ![k] x h i0 = x (i1 k) := by
  refine congrArg x ?_
  funext a
  fin_cases a
  refine Fin.ext ?_
  show k + 0 = k % 160
  omega
theorem cut159 (x : IVec Cert.Pre_plan_down.S160 32) (k : ℕ) (hk : k ≤ 1) (h) (n : Fin 159) : extractStridedSlice Cert.Pre_plan_down.S159 ![k] x h (n0 n) = x (i1 (n.val + k)) := by
  refine congrArg x ?_
  funext a
  fin_cases a
  refine Fin.ext ?_
  show k + n.val = (n.val + k) % 160
  omega

theorem word_range (v : BitVec 32) (k : ℕ) (hk : k < 2 ^ 31) (h0 : IntOp.cmpi .sge v 0#32 = 1#1) (h1 : IntOp.cmpi .slt v (BitVec.ofNat 32 k) = 1#1) : v.toNat < k := by
  rw [WordCmp.cmpi_sge_eq, StableHlo.Predicate.ofBool_eq_one_iff, decide_eq_true_eq] at h0
  rw [WordCmp.cmpi_slt_eq, StableHlo.Predicate.ofBool_eq_one_iff, decide_eq_true_eq, StableHlo.Predicate.toInt_ofNat_small k hk] at h1
  have h0' : (0 : ℤ) ≤ v.toInt := h0
  rw [BitVec.toInt_eq_toNat_cond] at h0' h1
  split at h0' <;> omega

theorem word_range1 (v : BitVec 32) (h0 : IntOp.cmpi .sge v 1#32 = 1#1) (h1 : IntOp.cmpi .sle v 160#32 = 1#1) : 1 ≤ v.toNat ∧ v.toNat ≤ 160 := by
  rw [WordCmp.cmpi_sge_eq, StableHlo.Predicate.ofBool_eq_one_iff, decide_eq_true_eq] at h0
  unfold IntOp.cmpi at h1
  rw [StableHlo.Predicate.ofBool_eq_one_iff, BitVec.sle, decide_eq_true_eq] at h1
  have h0' : (1 : ℤ) ≤ v.toInt := h0
  have h1' : v.toInt ≤ 160 := h1
  rw [BitVec.toInt_eq_toNat_cond] at h0' h1'
  split at h0' <;> omega

theorem or_split {s : Shape} {x y : IVec s 1} {z : s.Idx} (h : ori x y z = 1#1) : x z = 1#1 ∨ y z = 1#1 := by
  have h' : IntOp.ori (x z) (y z) = 1#1 := h
  generalize x z = a at h' ⊢
  generalize y z = b at h' ⊢
  revert a b
  decide

theorem past_word (nu : IVec Cert.Pre_plan_down.S1 32) (n : Fin 159) (h1 h1' h2) (hn : (nu i0).toNat ≤ 160)
    (h : cmpi .sge (addi (broadcastInDim Cert.Pre_plan_down.S159 ![] h1 (constantI Cert.Pre_plan_down.S_ 32 1#32)) (iotaInDim Cert.Pre_plan_down.S159 32 0))
      (broadcastInDim Cert.Pre_plan_down.S159 ![] h1' (shapeCast Cert.Pre_plan_down.S_ nu h2)) (n0 n) = 1#1) : (nu i0).toNat ≤ n.val + 1 := by
  have e : IntOp.cmpi .sge (1#32 + BitVec.ofNat 32 n.val) (shapeCast Cert.Pre_plan_down.S_ nu h2 z0) = 1#1 :=
    (congrArg (fun w => IntOp.cmpi .sge (1#32 + BitVec.ofNat 32 n.val) (shapeCast Cert.Pre_plan_down.S_ nu h2 w)) (Subsingleton.elim _ _)).trans h
  rw [one_word, WordCmp.cmpi_sge_eq, StableHlo.Predicate.ofBool_eq_one_iff, decide_eq_true_eq] at e
  have e1 : (1#32 + BitVec.ofNat 32 n.val).toNat = n.val + 1 := by
    rw [BitVec.toNat_add, BitVec.toNat_ofNat, BitVec.toNat_ofNat]; omega
  rw [BitVec.toInt_eq_toNat_cond, BitVec.toInt_eq_toNat_cond, e1] at e
  rw [if_pos (by omega), if_pos (by omega)] at e
  omega

theorem plan_of (be fi ne la : IVec Cert.Pre_plan_down.S160 32) (nu : IVec Cert.Pre_plan_down.S1 32) (x : FVec F Cert.Pre_plan_down.S81920x2048 .f32)
    (w : FVec F Cert.Pre_plan_down.S32x2048x4096 .f32) (b : FVec F Cert.Pre_plan_down.S32x4096 .f32)
    (h : Cert.Pre_plan_down.fn (F := F) be fi ne la nu x w b z0 = 1#1) : Plan be fi ne la nu := by
  dsimp only [Cert.Pre_plan_down.fn, Cert.Pre_plan_down.fn_part1, Cert.Pre_plan_down.fn_part2, Cert.Pre_plan_down.fn_where] at h
  obtain ⟨h, hla⟩ := and_split h
  obtain ⟨h, hne⟩ := and_split h
  obtain ⟨h, hst⟩ := and_split h
  obtain ⟨h, hfi⟩ := and_split h
  obtain ⟨h, hbe⟩ := and_split h
  obtain ⟨hn1, hn2⟩ := and_split h
  have hla' := StableHlo.Predicate.cmpi_eq_iff.1 hla
  have hne' := StableHlo.Predicate.cmpi_eq_iff.1 hne
  have hfi' := StableHlo.Predicate.cmpi_eq_iff.1 hfi
  rw [one_word, cut1 _ _ (by decide)] at hla' hfi'
  rw [one_word, one_word, cut1 _ _ (by decide), cut1 _ _ (by decide)] at hne'
  have hbe' := fun n => Host.reduce_andi_all _ _ _ _ _ hbe n
  have hst' := fun n => Host.reduce_andi_all _ _ _ _ _ hst (n0 n)
  have hnu := word_range1 (nu i0) (by rw [← one_word nu]; exact hn1) (by rw [← one_word nu]; exact hn2)
  have step : ∀ n : Fin 159, (if fi (i1 (n.val + 1)) = 1#32 then ne (i1 n.val) = be (i1 (n.val + 1)) ∧ la (i1 n.val) = 0#32
      else (n.val + 1 < (nu i0).toNat → be (i1 (n.val + 1)) = be (i1 n.val)) ∧ ne (i1 (n.val + 1)) = ne (i1 n.val) ∧ la (i1 (n.val + 1)) = la (i1 n.val)) := by
    intro n
    have e := hst' n
    by_cases hf : fi (i1 (n.val + 1)) = 1#32
    · rw [if_pos hf]
      have c : IntOp.cmpi .eq (extractStridedSlice Cert.Pre_plan_down.S159 ![1] fi Cert.Pre_plan_down.Facts.slices_S160_S159_1 (n0 n)) 1#32 = 1#1 := by
        rw [cut159 _ _ (by decide)]; exact StableHlo.Predicate.cmpi_eq_iff.2 hf
      have e2 := (if_pos c).symm.trans e
      obtain ⟨a, b⟩ := and_split e2
      have a' := StableHlo.Predicate.cmpi_eq_iff.1 a
      have b' := StableHlo.Predicate.cmpi_eq_iff.1 b
      rw [cut159 _ _ (by decide), cut159 _ _ (by decide)] at a'
      rw [cut159 _ _ (by decide)] at b'
      exact ⟨a', b'⟩
    · rw [if_neg hf]
      have c : ¬ IntOp.cmpi .eq (extractStridedSlice Cert.Pre_plan_down.S159 ![1] fi Cert.Pre_plan_down.Facts.slices_S160_S159_1 (n0 n)) 1#32 = 1#1 := by
        rw [cut159 _ _ (by decide)]; exact fun h => hf (StableHlo.Predicate.cmpi_eq_iff.1 h)
      have e2 := (if_neg c).symm.trans e
      obtain ⟨a, d⟩ := and_split e2
      obtain ⟨a, b⟩ := and_split a
      have b' := StableHlo.Predicate.cmpi_eq_iff.1 b
      have d' := StableHlo.Predicate.cmpi_eq_iff.1 d
      rw [cut159 _ _ (by decide), cut159 _ _ (by decide)] at b' d'
      refine ⟨fun hu => ?_, b', d'⟩
      rcases or_split a with a | a
      · have a' := StableHlo.Predicate.cmpi_eq_iff.1 a
        rw [cut159 _ _ (by decide), cut159 _ _ (by decide)] at a'
        exact a'
      · have := past_word nu n _ _ _ hnu.2 a
        omega
  refine ⟨hnu.1, hnu.2, ?_, hfi', ?_, ?_, ?_, hne', hla'⟩
  · intro n
    obtain ⟨a, b⟩ := and_split (hbe' (i1 n))
    exact word_range (be (i1 n)) 32 (by decide) a b
  · intro n hn hf
    have := step ⟨n, hn⟩
    rw [if_pos hf] at this
    exact this
  · intro n hn hf
    have := step ⟨n, hn⟩
    rw [if_neg hf] at this
    exact this.2
  · intro n hn hf
    have := step ⟨n, hn⟩
    rw [if_neg hf] at this
    exact this.1

/-! ## The windows' blocks -/

variable (m : (ℓ : Loc nD τ sig) → Buf (Elt F) ℓ)

theorem min_word : ∀ (a : Fin 160) (k : Fin 161), 1 ≤ k.val →
    (Scalar.minsi (BitVec.ofNat 32 a.val) (Scalar.subi (BitVec.ofNat 32 k.val) 1#32)).toNat = min a.val (k.val - 1) := by decide +kernel

theorem tr0_eq {be fi ne la : S160.Idx → BitVec 32} (pf : pre0.Contents (Elt F)) (P : Plan be fi ne la (pf 4)) (i : grid0.Coords) :
    cc0_transform_0 inb_S1_S1_0 numel1_S1 pf i = ![min (i 1).val ((pf 4 i0).toNat - 1), 0] := by
  have hw : pf.at 4 (Rect.unit (s := S1) ![0] S1.size inb_S1_S1_0) numel1_S1 = pf 4 i0 := by
    refine congrArg (pf 4) ?_
    funext a
    fin_cases a
    exact Subsingleton.elim (α := Fin 1) _ _
  have hk : BitVec.ofNat 32 (pf 4 i0 : BitVec 32).toNat = (pf 4 i0 : BitVec 32) :=
    BitVec.eq_of_toNat_eq (by rw [BitVec.toNat_ofNat]; exact Nat.mod_eq_of_lt (pf 4 i0 : BitVec 32).isLt)
  unfold cc0_transform_0
  rw [hw]
  have h1 := P.nu_pos
  have h2 := P.nu_le
  have := min_word (i 1) ⟨(pf 4 i0).toNat, by omega⟩ h1
  refine congrArg (fun z => ![z, 0]) ?_
  refine Eq.trans ?_ this
  show _ = (Scalar.minsi (BitVec.ofNat 32 (i 1).val) (Scalar.subi (BitVec.ofNat 32 (pf 4 i0).toNat) 1#32)).toNat
  rw [hk]

theorem be_word (pf : pre0.Contents (Elt F)) (i : grid0.Coords) (h1) :
    pf.at 0 (Rect.unit (s := S160) (k0_off1 i) S1.size (k0_off1_inb i)) h1 = pf 0 (i1 (i 1).val) :=
  congrArg (pf 0) (unit_i1 _ _ _ (co1 i) (off1_eq i) _)

theorem tr2_eq (pf : pre0.Contents (Elt F)) (i : grid0.Coords) :
    cc0_transform_2 k0_off1_inb numel1_S1 pf i = ![(pf 0 (i1 (i 1).val) : BitVec 32).toNat, 0, (i 0).val] := by
  have h := co0 i
  unfold cc0_transform_2
  have e : (BitVec.ofNat 32 (i 0).val).toNat = (i 0).val := by rw [BitVec.toNat_ofNat]; omega
  refine (congrArg (fun z : BitVec 32 => ![z.toNat, 0, (BitVec.ofNat 32 (i 0).val).toNat]) (be_word pf i numel1_S1)).trans ?_
  rw [e]

theorem tr3_eq (i : grid0.Coords) : cc0_transform_3 i = ![(i 1).val, (i 0).val] := by
  have h0 := co0 i
  have h1 := co1 i
  have e0 : (BitVec.ofNat 32 (i 0).val).toNat = (i 0).val := by rw [BitVec.toNat_ofNat]; omega
  have e1 : (BitVec.ofNat 32 (i 1).val).toNat = (i 1).val := by rw [BitVec.toNat_ofNat]; omega
  unfold cc0_transform_3
  show ![(BitVec.ofNat 32 (i 1).val).toNat, (BitVec.ofNat 32 (i 0).val).toNat] = _
  rw [e0, e1]

theorem ok_of {fi ne la : S160.Idx → BitVec 32} (pf : pre0.Contents (Elt F)) (P : Plan (pf 0) fi ne la (pf 4)) : ok0 pf := by
  refine ⟨fun i => ?_, fun i => ?_⟩
  · have h1 := co1 i
    refine ⟨?_, Or.inr (Or.inl (Or.inr ⟨by decide, rfl, Or.inl ⟨?_, ?_⟩⟩))⟩
    · rw [tr0_eq pf P i]
      intro a
      fin_cases a
      · show (min (i 1).val ((pf 4 i0).toNat - 1) + 1) * 512 ≤ 81920
        omega
      · show (0 + 1) * 2048 ≤ 2048
        omega
    · show 2 ∣ (cc0_transform_0 inb_S1_S1_0 numel1_S1 pf i 0) * 512
      exact Dvd.dvd.mul_left (by decide) _
    · show 2 ∣ 512
      decide
  · have h0 := co0 i
    have hb := P.be_lt (i 1).val
    refine ⟨?_, Or.inl rfl⟩
    rw [tr2_eq pf i]
    intro a
    fin_cases a
    · show ((pf 0 (i1 (i 1).val) : BitVec 32).toNat + 1) * 1 ≤ 32
      omega
    · show (0 + 1) * 1 ≤ 1
      omega
    · show ((i 0).val + 1) * 2048 ≤ 4096
      omega

theorem planned (h : Cert.Pre_plan_down.fn (F := F) (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) (m (((0 : Dev nD).tc : Thread nD τ).loc main_arg6))
    (m (((0 : Dev nD).tc : Thread nD τ).loc main_arg7)) = fun _ => 1#1) : Planned m := by
  have P := plan_of _ _ _ _ _ _ _ _ (congrFun h z0)
  have e0 : tbl m 0 = m (((0 : Dev nD).tc : Thread nD τ).loc main_arg0) := V_main_arg0 m 0
  have e1 : tbl m 1 = m (((0 : Dev nD).tc : Thread nD τ).loc main_arg1) := V_main_arg1 m 0
  have e2 : tbl m 2 = m (((0 : Dev nD).tc : Thread nD τ).loc main_arg2) := V_main_arg2 m 0
  have e3 : tbl m 3 = m (((0 : Dev nD).tc : Thread nD τ).loc main_arg3) := V_main_arg3 m 0
  have e4 : tbl m 4 = m (((0 : Dev nD).tc : Thread nD τ).loc main_arg4) := V_main_arg4 m 0
  unfold Planned
  rw [e0, e1, e2, e3, e4]
  exact P

theorem ok_planned (hP : Planned m) : Ok m := ok_of (tbl m) hP

end Cert.KernelDownIdeal.Down
-- ==== Proof.DownRef.lean ====
/- The second expert projection's reference: its result at an index. -/
module

public import proofs.«01_k».proof.Proof.Gen.ReferenceDownIdeal.Run
public import Idealize.ShloMosaic.Lib.Pipeline.ValueKit
public import Idealize.ShloMosaic.Lib.Pointwise
public import Idealize.ShloMosaic.Lib.Routing.Ops
public import Idealize.ShloMosaic.Lib.WordCmp

@[expose] public section

set_option maxRecDepth 16384

noncomputable section

namespace Cert.ReferenceDownIdeal.Prod

open Cert.ReferenceDownIdeal Cert.ReferenceDownIdeal.Gen Idealize.ShloMosaic Idealize.ShloMosaic.TcCoe Idealize.SL.Sem

/-- The expert of each row group, as an index array. -/
def experts (be : IVec S160 32) : IVec S160x1 32 :=
  broadcastInDim S160x1 ![0] bcast_S160_S160x1_0 (select (cmpi .slt be (broadcastInDim S160 ![] bcast_S_S160 (constantI S_ 32 0#32)))
    (addi be (broadcastInDim S160 ![] bcast_S_S160 (constantI S_ 32 32#32))) be)

/-- Each row group's weight and bias. -/
def weights (W : FVec Ideal S32x2048x4096 .f32) (E : IVec S160x1 32) : FVec Ideal S160x2048x4096 .f32 :=
  Host.gather gather_S32x2048x4096_S160x1_S160x2048x4096_12_0_n_n_0_1_120484096 W E

def biases (B : FVec Ideal S32x4096 .f32) (E : IVec S160x1 32) : FVec Ideal S160x4096 .f32 :=
  Host.gather gather_S32x4096_S160x1_S160x4096_1_0_n_n_0_1_14096 B E

/-- The projection with its bias. -/
def proj (X : FVec Ideal S81920x2048 .f32) (W : FVec Ideal S160x2048x4096 .f32) (B : FVec Ideal S160x4096 .f32) : FVec Ideal S160x512x4096 .f32 :=
  addf (Host.dotGeneral dot_S160x512x2048_S160x2048x4096_S160x512x4096_2_1_1_2_0_0 none (shapeCast _ X shapeCasts_S81920x2048_S160x512x2048) W)
    (broadcastInDim S160x512x4096 ![0, 1, 2] bcast_S160x1x4096_S160x512x4096_0_1_2 (broadcastInDim S160x1x4096 ![0, 2] bcast_S160x4096_S160x1x4096_0_2 B))

/-- Which row groups are used. -/
def live (nu : IVec S1 32) : IVec S160x512x4096 1 :=
  broadcastInDim S160x512x4096 ![0, 1, 2] bcast_S160x1x1_S160x512x4096_0_1_2 (broadcastInDim S160x1x1 ![0] bcast_S160_S160x1x1_0
    (cmpi .slt (iotaInDim S160 32 0) (broadcastInDim S160 ![] bcast_S_S160 (shapeCast _ nu shapeCasts_S1_S_))))

/-- The reference's result as a function of its arguments. -/
def result (be : IVec S160 32) (nu : IVec S1 32) (X : FVec Ideal S81920x2048 .f32) (W : FVec Ideal S32x2048x4096 .f32) (B : FVec Ideal S32x4096 .f32) :
    FVec Ideal S81920x4096 .bf16 :=
  truncf .bf16 (shapeCast _ (select (live nu) (proj X (weights W (experts be)) (biases B (experts be)))
    (broadcastInDim S160x512x4096 ![] bcast_S_S160x512x4096 (id (constant S_ .f32 0x00000000#32)))) shapeCasts_S160x512x4096_S81920x4096) bitsLt_bf16_f32

theorem live_apply (nu : IVec S1 32) (b : Fin 160) (y : Fin 512) (e : Fin 4096) :
    live nu (ix3 b y e) = IntOp.cmpi .slt (BitVec.ofNat 32 b.val) (nu (ix1 0)) := by
  pointwise [live]

theorem experts_apply (be : IVec S160 32) (b : Fin 160) (h : (be (ix1 b)).toNat < 32) : experts be (ix2 b (0 : Fin 1)) = be (ix1 b) := by
  have h' : experts be (ix2 b (0 : Fin 1)) = if IntOp.cmpi .slt (be (ix1 b)) 0#32 = 1#1 then IntOp.addi (be (ix1 b)) 32#32 else be (ix1 b) := by
    pointwise [experts]
    rfl
  rw [h', if_neg]
  rw [WordCmp.cmpi_slt_eq, StableHlo.Predicate.ofBool_eq_one_iff, decide_eq_true_eq, BitVec.toInt_eq_toNat_cond]
  have : (0#32).toInt = 0 := rfl
  rw [this]
  split <;> omega

theorem biases_apply (B : FVec Ideal S32x4096 .f32) (E : IVec S160x1 32) (b : Fin 160) (f : Fin 4096) (x : Fin 32)
    (h : E (ix2 b (0 : Fin 1)) = BitVec.ofNat 32 x.val) : biases B E (ix2 b f) = B (ix2 x f) :=
  Routing.gather_row _ rfl rfl rfl rfl rfl B E b f x h (by decide)

abbrev wdims : GatherDims S32x2048x4096 S160x1 S160x2048x4096 := gather_S32x2048x4096_S160x1_S160x2048x4096_12_0_n_n_0_1_120484096

theorem toNat_word (x : Fin 32) : min (BitVec.ofNat 32 x.val).toInt.toNat (32 - 1) = x.val := by
  revert x
  decide

theorem weights_apply (W : FVec Ideal S32x2048x4096 .f32) (E : IVec S160x1 32) (b : Fin 160) (k : Fin 2048) (f : Fin 4096) (x : Fin 32)
    (h : E (ix2 b (0 : Fin 1)) = BitVec.ofNat 32 x.val) : weights W E (ix3 b k f) = W (ix3 x k f) := by
  have hk : (0 : Fin 3) ∉ wdims.sKept := by decide
  have hm : (0 : Fin 3) ∈ wdims.startIndexMap := by decide
  have hs : wdims.siIdx (ix3 b k f) ⟨wdims.startIndexMap.idxOf 0, List.idxOf_lt_length_iff.2 hm⟩ = ix2 b (0 : Fin 1) := by
    funext j
    refine Fin.ext ?_
    match j with
    | ⟨0, _⟩ => rfl
    | ⟨1, _⟩ => rfl
  have s0 : wdims.start (ix3 b k f) E (0 : Fin 3) = x.val := by
    unfold GatherDims.start
    rw [dif_pos hm, hs, h]
    exact toNat_word x
  have s1 : wdims.start (ix3 b k f) E (1 : Fin 3) = 0 := by
    unfold GatherDims.start
    exact dif_neg (by decide)
  have s2 : wdims.start (ix3 b k f) E (2 : Fin 3) = 0 := by
    unfold GatherDims.start
    exact dif_neg (by decide)
  have o0 : wdims.offCoord (ix3 b k f) (0 : Fin 3) = 0 := wdims.offCoord_eq_zero _ _ hk
  have o1 : wdims.offCoord (ix3 b k f) (1 : Fin 3) = k.val := by
    unfold GatherDims.offCoord
    rw [dif_pos (show (1 : Fin 3) ∈ wdims.sKept by decide)]
    rfl
  have o2 : wdims.offCoord (ix3 b k f) (2 : Fin 3) = f.val := by
    unfold GatherDims.offCoord
    rw [dif_pos (show (2 : Fin 3) ∈ wdims.sKept by decide)]
    rfl
  have bt : ∀ a : Fin 3, wdims.batchCoord (ix3 b k f) a = 0 := fun a => wdims.batchCoord_eq_zero _ _ List.not_mem_nil
  unfold weights Host.gather
  refine congrArg W (funext fun a => Fin.ext ?_)
  show wdims.start (ix3 b k f) E a + wdims.batchCoord (ix3 b k f) a + wdims.offCoord (ix3 b k f) a = _
  match a with
  | ⟨0, _⟩ => exact congrArg₂ (· + ·) (congrArg₂ (· + ·) s0 (bt 0)) o0
  | ⟨1, _⟩ => exact (congrArg₂ (· + ·) (congrArg₂ (· + ·) s1 (bt 1)) o1).trans (Nat.zero_add _)
  | ⟨2, _⟩ => exact (congrArg₂ (· + ·) (congrArg₂ (· + ·) s2 (bt 2)) o2).trans (Nat.zero_add _)

theorem proj_apply (X : FVec Ideal S81920x2048 .f32) (W : FVec Ideal S160x2048x4096 .f32) (B : FVec Ideal S160x4096 .f32) (b : Fin 160) (y : Fin 512) (f : Fin 4096)
    (r : Fin 81920) (hr : r.val = b.val * 512 + y.val) :
    proj X W B (ix3 b y f) = (∑ k : Fin 2048, X (ix2 r k) * W (ix3 b k f)) + B (ix2 b f) := by
  have h1 : ∀ k : Fin 2048, shapeCast S160x512x2048 X shapeCasts_S81920x2048_S160x512x2048 (ix3 b y k) = X (ix2 r k) := fun k => by
    have e : (⟨b.val * 512 + y.val, by have := b.isLt; have := y.isLt; omega⟩ : Fin 81920) = r := Fin.ext hr.symm
    rw [← e]
    pointwise
  have h : proj X W B (ix3 b y f) = (∑ k : Fin 2048, shapeCast S160x512x2048 X shapeCasts_S81920x2048_S160x512x2048 (ix3 b y k) * W (ix3 b k f)) + B (ix2 b f) := by
    pointwise [proj]
  rw [h]
  simp only [h1]

/-- The reference's result at an index: the product with the row's own expert where its group is used, else zero. -/
theorem result_apply (be : IVec S160 32) (nu : IVec S1 32) (X : FVec Ideal S81920x2048 .f32) (W : FVec Ideal S32x2048x4096 .f32) (B : FVec Ideal S32x4096 .f32)
    (r : Fin 81920) (e : Fin 4096) (b : Fin 160) (hb : b.val = r.val / 512) (x : Fin 32) (hx : be (ix1 b) = BitVec.ofNat 32 x.val) (hn : (nu (ix1 0)).toNat ≤ 160) :
    result be nu X W B (ix2 r e) = if b.val < (nu (ix1 0)).toNat then (∑ k : Fin 2048, X (ix2 r k) * W (ix3 x k e)) + B (ix2 x e) else 0 := by
  have hbe : (be (ix1 b)).toNat < 32 := by rw [hx, BitVec.toNat_ofNat]; omega
  have hE : experts be (ix2 b (0 : Fin 1)) = BitVec.ofNat 32 x.val := (experts_apply be b hbe).trans hx
  have h : result be nu X W B (ix2 r e) = Scalar.select (live nu (ix3 b ⟨r.val % 512, by omega⟩ e))
      (proj X (weights W (experts be)) (biases B (experts be)) (ix3 b ⟨r.val % 512, by omega⟩ e)) (0 : EReal) := by
    unfold result
    generalize live nu = L
    generalize proj _ _ _ = A
    have eb : (⟨r.val / 512, by have := r.isLt; omega⟩ : Fin 160) = b := Fin.ext hb.symm
    rw [← eb]
    pointwise
    have z : (constant (F := Ideal) S_ .f32 0x00000000#32) ix0 = (0 : EReal) := by pointwise
    exact congrArg (Scalar.select _ _) z
  rw [h, live_apply, proj_apply _ _ _ b _ _ r (by show r.val = b.val * 512 + r.val % 512; omega), biases_apply B _ b _ x hE]
  simp only [weights_apply W _ b _ _ x hE]
  have hc : (IntOp.cmpi .slt (BitVec.ofNat 32 b.val) (nu (ix1 0)) = 1#1) ↔ b.val < (nu (ix1 0)).toNat := by
    rw [WordCmp.cmpi_slt_eq, StableHlo.Predicate.ofBool_eq_one_iff, decide_eq_true_eq, BitVec.toInt_eq_toNat_cond, BitVec.toInt_eq_toNat_cond,
      BitVec.toNat_ofNat]
    have := b.isLt
    split <;> split <;> omega
  by_cases hlt : b.val < (nu (ix1 0)).toNat
  · rw [if_pos hlt, hc.2 hlt]
    rfl
  · rw [if_neg hlt]
    exact if_neg fun h => hlt (hc.1 h)

end Cert.ReferenceDownIdeal.Prod

end
-- ==== Proof.DownVal.lean ====
/- The second expert projection: the kernel's result array after the run, at an index, and its equality with the reference's result. -/
module

public import proofs.«01_k».proof.Proof.DownPre
public import proofs.«01_k».proof.Proof.DownRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelDownIdeal.Down

open Cert.KernelDownIdeal Cert.KernelDownIdeal.Gen Idealize.ShloMosaic Idealize.ShloMosaic.TcCoe Idealize.SL.Sem

/-! ## A block's payload -/

/-- The product of a payload. -/
def prod1 (x : FVec Ideal S512x2048 .bf16) (K : FVec Ideal S2048x2048 .bf16) : FVec Ideal S512x2048 .f32 :=
  matmul dot_S512x2048_S2048x2048_S512x2048_1_0_0_1_n_n none (shapeCast S512x2048 x shapeCasts_S512x2048_S512x2048) K (constant S512x2048 .f32 0x00000000#32)

theorem prod1_apply (x : FVec Ideal S512x2048 .bf16) (K : FVec Ideal S2048x2048 .bf16) (y : Fin 512) (l : Fin 2048) :
    prod1 x K (ix2 y l) = ∑ k : Fin 2048, x (ix2 y k) * K (ix2 k l) := by
  pointwise [prod1]

theorem pay_apply (x : Vec Ideal S512x2048 .bf16) (K : Vec Ideal S2048x2048 .bf16) (g : Vec Ideal S1x1x2048 .f32) (y : Fin 512) (l : Fin 2048) :
    k0_pay2 x K g (ix2 y l) = prod1 x K (ix2 y l) + g (ix3 0 0 l) := by
  unfold k0_pay2
  change truncf .bf16 (addf (prod1 x K) _) _ _ = _
  generalize prod1 x K = P
  pointwise

theorem zero_apply (y : Fin 512) (l : Fin 2048) : (k0_pay3 (F := Ideal)) (ix2 y l) = (0 : EReal) := by
  pointwise [k0_pay3]

/-- A used point's block, at an index, over its reads. -/
theorem used_apply (x0 : Vec Ideal S512x2048 .bf16) (x1 : Vec Ideal S1x1x2048 .f32) (K : S2048x2048.Idx → Elt Ideal .bf16) (y : Fin 512) (l : Fin 2048) :
    used x0 x1 K (ix2 y l) = (∑ k : Fin 2048, x0 (ix2 y k) * K (ix2 k l)) + x1 (ix3 0 0 l) := by
  unfold used
  rw [pay_apply, prod1_apply, View.ld_unit_zero (by decide), View.ld_unit_zero (by decide), View.ld_unit_zero (by decide)]

/-! ## The kept block -/

theorem col_apply {c : Dev nD} (W : WB (F := Ideal) c) (e b : ℕ) (k l : Fin 2048) (x : Fin 32) (f : Fin 4096) (hx : x.val = e) (hf : f.val = 2048 * b + l.val)
    (hb : b ≤ 1) : col W e b (rk k l) = (W : S32x2048x4096.Idx → EReal) (ix3 x k f) := by
  have h1 : col W e b (rk k l) = (W : S32x2048x4096.Idx → EReal) ((Rect.unit (s := S32x2048x4096) (offE e b) S1x2048x2048.size (inbE e b)).emb
      (Shape.reshapeEquiv squeezes_S1x2048x2048_S2048x2048.numel_eq (rk k l))) := rfl
  rw [h1]
  refine congrArg W (funext fun a => Fin.ext ?_)
  rw [show Shape.reshapeEquiv squeezes_S1x2048x2048_S2048x2048.numel_eq (rk k l) = (Fin.cons ⟨0, Nat.one_pos⟩ (rk k l)) from Shape.reshapeEquiv_cons_one _ _, Rect.emb_apply]
  match a with
  | ⟨0, _⟩ => show min e 31 + 1 * 0 = x.val; omega
  | ⟨1, _⟩ => show 0 + 1 * k.val = k.val; omega
  | ⟨2, _⟩ => show 2048 * min b 1 + 1 * l.val = f.val; omega

theorem kept_apply (p : S2048x2048.Idx → Elt Ideal .f32) (k l : Fin 2048) : kept p (ix2 k l) = p (rk k l) :=
  congrArg p (funext fun a => by
    match a with
    | ⟨0, _⟩ => rfl
    | ⟨1, _⟩ => rfl)

/-! ## The arrays -/

variable (m : (ℓ : Loc nD τ sig) → Buf (Elt Ideal) ℓ)

/-- The rows, rounded. -/
theorem in0 (c : Dev nD) (r : Fin 81920) (k : Fin 2048) :
    (V m c main_v0 : S81920x2048.Idx → EReal) (ix2 r k) = (m (c.tc.loc main_arg5) : S81920x2048.Idx → EReal) (ix2 r k) := by
  have h : V m c main_v0 = truncf (F := Ideal) .bf16 (m (c.tc.loc main_arg5) : FVec Ideal S81920x2048 .f32) bitsLt_bf16_f32 := by
    unfold V
    after_results_simp
    try rfl
  rw [h]
  pointwise

set_option maxRecDepth 100000 in
/-- The biases, one row to an expert. -/
theorem in1 (c : Dev nD) (x : Fin 32) (f : Fin 4096) :
    (V m c main_v1 : S32x1x4096.Idx → EReal) (ix3 x 0 f) = (m (c.tc.loc main_arg7) : S32x4096.Idx → EReal) (ix2 x f) := by
  have h : V m c main_v1 = shapeCast S32x1x4096 (m (c.tc.loc main_arg7) : FVec Ideal S32x4096 .f32) shapeCasts_S32x4096_S32x1x4096 := by
    unfold V
    after_results_simp
    try rfl
  rw [h]
  pointwise

/-- The blocks of a point. -/
theorem idx0 (hO : Ok m) (hP : Planned m) (t : Fin (cfgM m hO).N) :
    ((cfgM m hO).win 0).index t = ![min (grid0.coords t 1).val ((tbl m 4 i0 : BitVec 32).toNat - 1), 0] := tr0_eq (tbl m) hP (grid0.coords t)
theorem idx1 (hO : Ok m) (t : Fin (cfgM m hO).N) :
    ((cfgM m hO).win 1).index t = ![(tbl m 0 (i1 (grid0.coords t 1).val) : BitVec 32).toNat, 0, (grid0.coords t 0).val] := tr2_eq (tbl m) (grid0.coords t)
theorem idx2 (hO : Ok m) (t : Fin (cfgM m hO).N) :
    ((cfgM m hO).win 2).index t = ![(grid0.coords t 1).val, (grid0.coords t 0).val] := tr3_eq (grid0.coords t)

theorem emb0 (hO : Ok m) (t : Fin (cfgM m hO).N) (y : S512x2048.Idx) (a : Fin 2) :
    ((((((cfgM m hO).win 0).blk t).view.emb y) : S81920x2048.Idx) a).val = ((cfgM m hO).win 0).index t a * S512x2048.size a + (y a).val :=
  ((cfgM m hO).win 0).rect_emb_val t y a
theorem emb1 (hO : Ok m) (t : Fin (cfgM m hO).N) (y : S1x1x2048.Idx) (a : Fin 3) :
    ((((((cfgM m hO).win 1).blk t).view.emb y) : S32x1x4096.Idx) a).val = ((cfgM m hO).win 1).index t a * S1x1x2048.size a + (y a).val :=
  ((cfgM m hO).win 1).rect_emb_val t y a
theorem emb2 (hO : Ok m) (t : Fin (cfgM m hO).N) (y : S512x2048.Idx) (a : Fin 2) :
    ((((((cfgM m hO).win 2).blk t).view.emb y) : S81920x4096.Idx) a).val = ((cfgM m hO).win 2).index t a * S512x2048.size a + (y a).val :=
  ((cfgM m hO).win 2).rect_emb_val t y a

theorem read0 (hO : Ok m) (hP : Planned m) (c : Dev nD) (t : Fin (cfgM m hO).N) (y : Fin 512) (k : Fin 2048) (r : Fin 81920)
    (hr : r.val = min (grid0.coords t 1).val ((tbl m 4 i0 : BitVec 32).toNat - 1) * 512 + y.val) :
    iblk m hO c 0 t (ix2 y k) = V m c main_v0 (ix2 r k) := by
  refine congrArg (V m c main_v0) (funext fun a => Fin.ext ?_)
  refine (emb0 m hO t (ix2 y k) a).trans ?_
  rw [idx0 m hO hP t]
  match a with
  | ⟨0, _⟩ => exact hr.symm
  | ⟨1, _⟩ => show 0 * 2048 + k.val = k.val; omega

theorem read1 (hO : Ok m) (c : Dev nD) (t : Fin (cfgM m hO).N) (l : Fin 2048) (x : Fin 32) (f : Fin 4096)
    (hx : x.val = (tbl m 0 (i1 (grid0.coords t 1).val) : BitVec 32).toNat) (hf : f.val = (grid0.coords t 0).val * 2048 + l.val) :
    iblk m hO c 1 t (ix3 0 0 l) = V m c main_v1 (ix3 x 0 f) := by
  refine congrArg (V m c main_v1) (funext fun a => Fin.ext ?_)
  refine (emb1 m hO t (ix3 0 0 l) a).trans ?_
  rw [idx1 m hO t]
  match a with
  | ⟨0, _⟩ => exact (Nat.mul_one _).trans hx.symm
  | ⟨1, _⟩ => rfl
  | ⟨2, _⟩ => exact hf.symm

theorem flush2 (hO : Ok m) (t : Fin (cfgM m hO).N) : ((cfgM m hO).win 2).flush t = true := by
  have h : ∀ t : Fin grid0.N, Pipeline.Window.flushOf grid0 true cc0_transform_3 t = true := by decide +kernel
  exact (Pipeline.Window.flush_eq_flushOf _ t).trans (h t)

theorem covers2 (hO : Ok m) : ((cfgM m hO).win 2).Covers := by
  refine ⟨fun a => ?_, fun β => ?_⟩
  · match a with
    | ⟨0, _⟩ => show 0 < 512; decide
    | ⟨1, _⟩ => show 0 < 2048; decide
  · have h0 : (β (0 : Fin 2)).val < 160 := Nat.lt_of_lt_of_le (β (0 : Fin 2)).isLt (by show (81920 + 512 - 1) / 512 ≤ 160; decide)
    have h1 : (β (1 : Fin 2)).val < 2 := Nat.lt_of_lt_of_le (β (1 : Fin 2)).isLt (by show (4096 + 2048 - 1) / 2048 ≤ 2; decide)
    let t : Fin grid0.N := ⟨160 * (β (1 : Fin 2)).val + (β (0 : Fin 2)).val, by rw [show grid0.N = 320 from by decide]; omega⟩
    have ht := coords_at t
    have hc := co1 (grid0.coords t)
    have hv : t.val = 160 * (β (1 : Fin 2)).val + (β (0 : Fin 2)).val := rfl
    refine ⟨t, flush2 m hO t, fun a => ⟨?_, Or.inl ?_⟩⟩
    · rw [idx2 m hO t]
      match a with
      | ⟨0, _⟩ => show (grid0.coords t 1).val = (β (0 : Fin 2)).val; omega
      | ⟨1, _⟩ => show (grid0.coords t 0).val = (β (1 : Fin 2)).val; omega
    · match a with
      | ⟨0, _⟩ => rfl
      | ⟨1, _⟩ => rfl

/-! ## The result -/

/-- A point's block of the result, at an index: the reference's result there. -/
theorem left_apply (hO : Ok m) (hP : Planned m) (c : Dev nD) (t : Fin (cfgM m hO).N) (y : Fin 512) (l : Fin 2048) (r : Fin 81920) (e : Fin 4096)
    (e0 : r.val = (grid0.coords t 1).val * 512 + y.val) (e1 : e.val = (grid0.coords t 0).val * 2048 + l.val) :
    outv (grid0.coords t) (tbl m 4 i0) (iblk m hO c 0 t) (iblk m hO c 1 t) (kAt (Wm m c) (tbl m 0) (tbl m 1) (t.val + 1)) (ix2 y l)
      = Cert.ReferenceDownIdeal.Prod.result (tbl m 0) (tbl m 4) (m (c.tc.loc main_arg5)) (Wm m c) (m (c.tc.loc main_arg7)) (ix2 r e) := by
  have c0 := co0 (grid0.coords t)
  have c1 := co1 (grid0.coords t)
  have ht := coords_at t
  have hl := l.isLt
  have hy := y.isLt
  have hbe := hP.be_lt (grid0.coords t 1).val
  have hn1 := hP.nu_pos
  have hn := hP.nu_le
  have E : (ix1 (⟨(grid0.coords t 1).val, c1⟩ : Fin 160) : S160.Idx) = i1 (grid0.coords t 1).val := by
    funext a
    match a with
    | ⟨0, _⟩ => exact Fin.ext (Nat.mod_eq_of_lt c1).symm
  have E0 : (ix1 (0 : Fin 1) : S1.Idx) = i0 := by
    funext a
    match a with
    | ⟨0, _⟩ => rfl
  have hb8 : t.val / 160 = (grid0.coords t 0).val := by omega
  have hb1 : t.val % 160 = (grid0.coords t 1).val := by omega
  have hr := Cert.ReferenceDownIdeal.Prod.result_apply (tbl m 0) (tbl m 4) (m (c.tc.loc main_arg5)) (Wm m c) (m (c.tc.loc main_arg7)) r e
    ⟨(grid0.coords t 1).val, c1⟩ (by show (grid0.coords t 1).val = r.val / 512; omega)
    ⟨(tbl m 0 (i1 (grid0.coords t 1).val) : BitVec 32).toNat, hbe⟩ (by rw [E]; exact ((BitVec.ofNat_toNat 32 _).trans (BitVec.setWidth_eq _)).symm) (by rw [E0]; exact hn)
  rw [E0] at hr
  refine Eq.trans ?_ hr.symm
  unfold outv
  by_cases h : (grid0.coords t 1).val < (tbl m 4 i0 : BitVec 32).toNat
  · rw [if_pos ((cond4_iff _ _ hn).2 h), if_pos h]
    refine (used_apply _ _ _ y l).trans ?_
    have hx0 : ∀ k : Fin 2048, iblk m hO c 0 t (ix2 y k) = (m (c.tc.loc main_arg5) : S81920x2048.Idx → EReal) (ix2 r k) := fun k =>
      (read0 m hO hP c t y k r (by rw [Nat.min_eq_left (by omega)]; exact e0)).trans (in0 m c r k)
    have hg : ∀ k : Fin 2048, kAt (Wm m c) (tbl m 0) (tbl m 1) (t.val + 1) (ix2 k l)
        = Wm m c (ix3 (⟨(tbl m 0 (i1 (grid0.coords t 1).val) : BitVec 32).toNat, hbe⟩ : Fin 32) k e) := fun k => by
      refine (kept_apply _ k l).trans ?_
      rw [hb1, hb8, hP.held_used _ h]
      exact col_apply (Wm m c) _ _ k l _ _ rfl (by omega) (by omega)
    refine congrArg₂ (· + ·) ?_ ?_
    · exact Finset.sum_congr rfl fun k _ => congrArg₂ (· * ·) (hx0 k) (hg k)
    · exact (read1 m hO c t l ⟨_, hbe⟩ e rfl e1).trans (in1 m c _ _)
  · rw [if_neg fun h' => h ((cond4_iff _ _ hn).1 h'), if_neg h]
    exact zero_apply y l

set_option maxHeartbeats 1000000 in
/-- The result array after the run. -/
theorem result_eq (hO : Ok m) (hP : Planned m) (c : Dev nD) : (dats m hO 0 c).arrAt 2 (cfgM m hO).N
    = Cert.ReferenceDownIdeal.Prod.result (tbl m 0) (tbl m 4) (m (c.tc.loc main_arg5)) (Wm m c) (m (c.tc.loc main_arg7)) := by
  refine (dats m hO 0 c).arrAt_eq_of_covers 2 _ (covers2 m hO) fun t hf y => ?_
  have key : ∀ y : S512x2048.Idx, outv (grid0.coords t) (tbl m 4 i0) (iblk m hO c 0 t) (iblk m hO c 1 t) (kAt (Wm m c) (tbl m 0) (tbl m 1) (t.val + 1)) y
      = Cert.ReferenceDownIdeal.Prod.result (tbl m 0) (tbl m 4) (m (c.tc.loc main_arg5)) (Wm m c) (m (c.tc.loc main_arg7))
        ((((cfgM m hO).win 2).blk t).view.emb y : S81920x4096.Idx) := fun y => by
    have e0 := emb2 m hO t y 0
    have e1 := emb2 m hO t y 1
    rw [idx2 m hO t] at e0 e1
    have h := left_apply m hO hP c t (y 0) (y 1) _ _ e0 e1
    rw [← eq_ix2 y] at h
    exact h.trans (congrArg _ (eq_ix2 _).symm)
  exact (congrFun (after0_2 m hO c t) _).trans (key y)

end Cert.KernelDownIdeal.Down

namespace Cert.Dn

open Idealize.ShloMosaic Cert.KernelDownIdeal Cert.KernelDownIdeal.Gen Cert.KernelDownIdeal.Down

/-- The reference and the kernel compute one array from equal arguments. -/
theorem down_eq (m : (ℓ : Loc Cert.KernelDownIdeal.nD Cert.KernelDownIdeal.τ Cert.KernelDownIdeal.sig) → Buf (Elt Ideal) ℓ)
    (m' : (ℓ : Loc Cert.ReferenceDownIdeal.nD Cert.ReferenceDownIdeal.τ Cert.ReferenceDownIdeal.sig) → Buf (Elt Ideal) ℓ)
    (hO : Ok m) (hP : Planned m) (c : Dev Cert.KernelDownIdeal.nD)
    (h0 : m' (c.tc.loc Cert.ReferenceDownIdeal.main_arg0) = m (c.tc.loc main_arg0))
    (h4 : m' (c.tc.loc Cert.ReferenceDownIdeal.main_arg4) = m (c.tc.loc main_arg4))
    (h5 : m' (c.tc.loc Cert.ReferenceDownIdeal.main_arg5) = m (c.tc.loc main_arg5))
    (h6 : m' (c.tc.loc Cert.ReferenceDownIdeal.main_arg6) = m (c.tc.loc main_arg6))
    (h7 : m' (c.tc.loc Cert.ReferenceDownIdeal.main_arg7) = m (c.tc.loc main_arg7)) :
    Cert.ReferenceDownIdeal.Prod.result (m' (c.tc.loc Cert.ReferenceDownIdeal.main_arg0)) (m' (c.tc.loc Cert.ReferenceDownIdeal.main_arg4)) (m' (c.tc.loc Cert.ReferenceDownIdeal.main_arg5))
      (m' (c.tc.loc Cert.ReferenceDownIdeal.main_arg6)) (m' (c.tc.loc Cert.ReferenceDownIdeal.main_arg7)) = (dats m hO 0 c).arrAt 2 (cfgM m hO).N := by
  obtain rfl : c = 0 := Subsingleton.elim _ _
  have t0 : tbl m 0 = m (((0 : Dev nD).tc : Thread nD τ).loc main_arg0) := V_main_arg0 m 0
  have t4 : tbl m 4 = m (((0 : Dev nD).tc : Thread nD τ).loc main_arg4) := V_main_arg4 m 0
  have t6 : Wm m 0 = m (((0 : Dev nD).tc : Thread nD τ).loc main_arg6) := V_main_arg6 m 0
  rw [result_eq m hO hP, h0, h4, h5, h6, h7, t0, t4, t6]

end Cert.Dn

end
-- ==== Proof.SmallVal.lean ====
/- The combined projection's small product: the kernel's result array after the run. -/
module

public import proofs.«01_k».proof.Proof.Gen.KernelSmallIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelSmallIdeal.Prod

open Cert.KernelSmallIdeal Cert.KernelSmallIdeal.Gen Idealize.ShloMosaic Idealize.ShloMosaic.TcCoe Idealize.SL.Sem

/-- A block's payload at an index: one row times one column. -/
theorem pay_apply (X : Vec Ideal S1024x4096 .bf16) (W : Vec Ideal S4096x1024 .bf16) (r : Fin 1024) (l : Fin 1024) :
    k0_pay1 X W (ix2 r l) = ∑ k : Fin 4096, X (ix2 r k) * W (ix2 k l) := by
  pointwise [k0_pay1]

/-- The product of two arrays, at an index. -/
def prod (X : S16384x4096.Idx → EReal) (W : S4096x2048.Idx → EReal) (r : Fin 16384) (e : Fin 2048) : EReal := ∑ k : Fin 4096, X (ix2 r k) * W (ix2 k e)

variable (m : (ℓ : Loc nD τ sig) → Buf (Elt Ideal) ℓ)

/-- The blocks of a point: row block and column block. -/
theorem idx (t : Fin cfg0.N) : win0_0.index t = ![t.val / 2, 0] ∧ win0_1.index t = ![0, t.val % 2] ∧ win0_2.index t = ![t.val / 2, t.val % 2] := by
  revert t
  decide +kernel

theorem read0 (c : Dev nD) (t : Fin cfg0.N) (y : Fin 1024) (k : Fin 4096) (r : Fin 16384) (hr : r.val = t.val / 2 * 1024 + y.val) :
    iblk m c 0 t (ix2 y k) = V m c main_v10 (ix2 r k) := by
  blk_ext [iblk, (idx t).1]

theorem read1 (c : Dev nD) (t : Fin cfg0.N) (k : Fin 4096) (l : Fin 1024) (e : Fin 2048) (he : e.val = t.val % 2 * 1024 + l.val) :
    iblk m c 1 t (ix2 k l) = V m c main_v9 (ix2 k e) := by
  blk_ext [iblk, (idx t).2.1]

/-- The output block of a point, at an index, over the arrays. -/
theorem block_apply (c : Dev nD) (t : Fin cfg0.N) (y l : Fin 1024) (r : Fin 16384) (e : Fin 2048) (hr : r.val = t.val / 2 * 1024 + y.val)
    (he : e.val = t.val % 2 * 1024 + l.val) :
    out0_2 (iblk m c 0 t) (iblk m c 1 t) (ix2 y l) = prod (V m c main_v10) (V m c main_v9) r e := by
  have h : out0_2 (iblk m c 0 t) (iblk m c 1 t) = k0_pay1 (iblk m c 0 t) (iblk m c 1 t) := by
    unfold out0_2
    rw [View.canon_unit_zero (by decide), View.ld_unit_zero (by decide), View.ld_unit_zero (by decide)]
  rw [h, pay_apply]
  exact Finset.sum_congr rfl fun k _ => congrArg₂ (· * ·) (read0 m c t y k r hr) (read1 m c t k l e he)

set_option maxHeartbeats 1000000 in
/-- The result array after the run. -/
theorem result_eq (c : Dev nD) : (dats m 0 c).arrAt 2 cfg0.N = fun i : S16384x2048.Idx =>
    prod (V m c main_v10) (V m c main_v9) (i 0) (i 1) := by
  refine (dats m 0 c).arrAt_eq_of_covers 2 _ (by decide +kernel) fun t hf y => ?_
  have i2 := (idx t).2.2
  have e1 : ((((cfg0.win 2).blk t).view.emb y) 1).val = t.val % 2 * 1024 + (y 1).val := by blk_simp [i2]
  have e0 : ((((cfg0.win 2).blk t).view.emb y) 0).val = t.val / 2 * 1024 + (y 0).val := by blk_simp [i2]
  have hv : (dats m 0 c).after 2 t = out0_2 (iblk m c 0 t) (iblk m c 1 t) := after0_2 m c t
  refine Eq.trans (b := out0_2 (iblk m c 0 t) (iblk m c 1 t) (ix2 (y 0) (y 1))) ?_ ?_
  · blk_simp
    rw [hv]
    exact congrArg _ (eq_ix2 y)
  · exact block_apply m c t _ _ _ _ e0 e1

/-- The entry of a row of the combined array that a column of the small one is made of: latents, the rotary key twice, its quarter
    turn twice, the recurrence's gates, zeros. -/
def pick (e : Fin 2048) (f : Fin 18048 → EReal) : EReal :=
  if h : e.val < 1600 then f ⟨e.val, by omega⟩
  else if h : e.val < 1664 then f ⟨e.val - 64, by omega⟩
  else if h : e.val < 1696 then - f ⟨e.val - 96, by omega⟩
  else if h : e.val < 1728 then f ⟨e.val - 160, by omega⟩
  else if h : e.val < 1760 then - f ⟨e.val - 160, by omega⟩
  else if h : e.val < 1792 then f ⟨e.val - 224, by omega⟩
  else if h : e.val < 1856 then f ⟨e.val + 8000, by omega⟩
  else 0

/-- A column that is picked as it is. -/
theorem pick_pos (e : Fin 2048) (f : Fin 18048 → EReal) (d : Fin 18048)
    (h : e.val < 1600 ∧ d.val = e.val
      ∨ 1600 ≤ e.val ∧ e.val < 1664 ∧ d.val = e.val - 64
      ∨ 1696 ≤ e.val ∧ e.val < 1728 ∧ d.val = e.val - 160
      ∨ 1760 ≤ e.val ∧ e.val < 1792 ∧ d.val = e.val - 224
      ∨ 1792 ≤ e.val ∧ e.val < 1856 ∧ d.val = e.val + 8000) :
    pick e f = f d := by
  have eq : ∀ a : Fin 18048, a.val = d.val → f a = f d := fun a h => congrArg f (Fin.ext h)
  rcases h with h | h | h | h | h
  · rw [pick, dif_pos (show e.val < 1600 by omega)]
    exact eq _ (by dsimp only; omega)
  · rw [pick, dif_neg (show ¬ e.val < 1600 by omega), dif_pos (show e.val < 1664 by omega)]
    exact eq _ (by dsimp only; omega)
  · rw [pick, dif_neg (show ¬ e.val < 1600 by omega), dif_neg (show ¬ e.val < 1664 by omega), dif_neg (show ¬ e.val < 1696 by omega), dif_pos (show e.val < 1728 by omega)]
    exact eq _ (by dsimp only; omega)
  · rw [pick, dif_neg (show ¬ e.val < 1600 by omega), dif_neg (show ¬ e.val < 1664 by omega), dif_neg (show ¬ e.val < 1696 by omega), dif_neg (show ¬ e.val < 1728 by omega), dif_neg (show ¬ e.val < 1760 by omega), dif_pos (show e.val < 1792 by omega)]
    exact eq _ (by dsimp only; omega)
  · rw [pick, dif_neg (show ¬ e.val < 1600 by omega), dif_neg (show ¬ e.val < 1664 by omega), dif_neg (show ¬ e.val < 1696 by omega), dif_neg (show ¬ e.val < 1728 by omega), dif_neg (show ¬ e.val < 1760 by omega), dif_neg (show ¬ e.val < 1792 by omega), dif_pos (show e.val < 1856 by omega)]
    exact eq _ (by dsimp only; omega)

/-- A column that is picked with its sign turned. -/
theorem pick_neg (e : Fin 2048) (f : Fin 18048 → EReal) (d : Fin 18048)
    (h : 1664 ≤ e.val ∧ e.val < 1696 ∧ d.val = e.val - 96
      ∨ 1728 ≤ e.val ∧ e.val < 1760 ∧ d.val = e.val - 160) :
    pick e f = - f d := by
  have eq : ∀ a : Fin 18048, a.val = d.val → f a = f d := fun a h => congrArg f (Fin.ext h)
  rcases h with h | h
  · rw [pick, dif_neg (show ¬ e.val < 1600 by omega), dif_neg (show ¬ e.val < 1664 by omega), dif_pos (show e.val < 1696 by omega)]
    exact congrArg Neg.neg (eq _ (by dsimp only; omega))
  · rw [pick, dif_neg (show ¬ e.val < 1600 by omega), dif_neg (show ¬ e.val < 1664 by omega), dif_neg (show ¬ e.val < 1696 by omega), dif_neg (show ¬ e.val < 1728 by omega), dif_pos (show e.val < 1760 by omega)]
    exact congrArg Neg.neg (eq _ (by dsimp only; omega))

/-- The columns past the used ones. -/
theorem pick_zero (e : Fin 2048) (f : Fin 18048 → EReal) (h : 1856 ≤ e.val) : pick e f = 0 := by
  rw [pick, dif_neg (show ¬ e.val < 1600 by omega), dif_neg (show ¬ e.val < 1664 by omega), dif_neg (show ¬ e.val < 1696 by omega), dif_neg (show ¬ e.val < 1728 by omega), dif_neg (show ¬ e.val < 1760 by omega), dif_neg (show ¬ e.val < 1792 by omega), dif_neg (show ¬ e.val < 1856 by omega)]

/-- The kernel's first argument: the activations, rounded. -/
theorem in0 (c : Dev nD) (r : Fin 16384) (k : Fin 4096) :
    (V m c main_v10 : S16384x4096.Idx → EReal) (ix2 r k) = (m ((c.tc.loc main_arg0)) : S16384x4096.Idx → EReal) (ix2 r k) := by
  have h : V m c main_v10 = truncf (F := Ideal) .bf16 (m (c.tc.loc main_arg0) : FVec Ideal S16384x4096 .f32) bitsLt_bf16_f32 := by
    unfold V
    after_results_simp
    try rfl
  rw [h]
  pointwise

/-- The rotary key's columns. -/
def key (B : FVec Ideal S4096x18048 .f32) : FVec Ideal S4096x64 .f32 :=
  extractStridedSlice S4096x64 ![0, 1536] B slices_S4096x18048_S4096x64_0_1536

/-- Their quarter turn. -/
def turn (B : FVec Ideal S4096x18048 .f32) : FVec Ideal S4096x64 .f32 :=
  concatenate S4096x64 1
    [⟨S4096x32, Host.negf (extractStridedSlice S4096x32 ![0, 32] (key B) slices_S4096x64_S4096x32_0_32)⟩,
      ⟨S4096x32, extractStridedSlice S4096x32 ![0, 0] (key B) slices_S4096x64_S4096x32_0_0⟩]
    concatenates_S4096x32_S4096x32_S4096x64_d1

/-- The weight's columns as the call takes them. -/
def cols (B : FVec Ideal S4096x18048 .f32) : FVec Ideal S4096x2048 .f32 :=
  concatenate S4096x2048 1
    [⟨S4096x1536, extractStridedSlice S4096x1536 ![0, 0] B slices_S4096x18048_S4096x1536_0_0⟩,
      ⟨S4096x64, key B⟩, ⟨S4096x64, key B⟩, ⟨S4096x64, turn B⟩, ⟨S4096x64, turn B⟩,
      ⟨S4096x64, extractStridedSlice S4096x64 ![0, 9792] B slices_S4096x18048_S4096x64_0_9792⟩,
      ⟨S4096x192, broadcastInDim S4096x192 ![] bcast_S_S4096x192 (constant (F := Ideal) S_ .f32 0x00000000#32)⟩]
    concatenates_S4096x1536_S4096x64_S4096x64_S4096x64_S4096x64_S4096x64_S4096x192_S4096x2048_d1

theorem key_apply (B : FVec Ideal S4096x18048 .f32) (k : Fin 4096) (e : Fin 64) : key B (ix2 k e) = B (ix2 k ⟨1536 + e.val, by omega⟩) := by
  pointwise [key]

theorem turn_apply (B : FVec Ideal S4096x18048 .f32) (k : Fin 4096) (e : Fin 64) :
    turn B (ix2 k e) = if h : e.val < 32 then - key B (ix2 k ⟨32 + e.val, by omega⟩) else key B (ix2 k ⟨e.val - 32, by omega⟩) := by
  unfold turn
  pointwise

set_option maxHeartbeats 1000000 in
theorem cols_apply (B : FVec Ideal S4096x18048 .f32) (k : Fin 4096) (e : Fin 2048) : cols B (ix2 k e) = pick e fun c => B (ix2 k c) := by
  unfold cols
  pointwise
  simp only [key_apply, turn_apply]
  split_ifs <;> first
    | exact (pick_pos e (fun c => B (ix2 k c)) _ (by dsimp only; omega)).symm
    | exact (pick_neg e (fun c => B (ix2 k c)) _ (by dsimp only; omega)).symm
    | exact (pick_zero e _ (by omega)).symm

theorem in1 (c : Dev nD) (k : Fin 4096) (e : Fin 2048) :
    (V m c main_v9 : S4096x2048.Idx → EReal) (ix2 k e)
      = pick e fun d => (m ((c.tc.loc main_arg1)) : S4096x18048.Idx → EReal) (ix2 k d) := by
  have h : V m c main_v9 = truncf (F := Ideal) .bf16 (cols (m (c.tc.loc main_arg1))) bitsLt_bf16_f32 := by
    unfold V
    after_results_simp
    rfl
  rw [h]
  exact cols_apply _ k e

end Cert.KernelSmallIdeal.Prod

end
-- ==== Proof.SmallEq.lean ====
/- The combined projection's small product: the reference's result, and its equality with the kernel's. -/
module

public import proofs.«01_k».proof.Proof.SmallVal
public import proofs.«01_k».proof.Proof.Finite
public import proofs.«01_k».proof.Proof.Soft
public import proofs.«01_k».proof.Proof.Gen.Pre_finite_small
public import proofs.«01_k».proof.Proof.Gen.ReferenceSmallIdeal.Run

@[expose] public section

set_option maxRecDepth 16384

noncomputable section

namespace Cert.ReferenceSmallIdeal.Prod

open Cert.ReferenceSmallIdeal Cert.ReferenceSmallIdeal.Gen Idealize.ShloMosaic Idealize.ShloMosaic.TcCoe Idealize.SL.Sem
open Cert.KernelSmallIdeal.Prod (pick pick_pos pick_neg pick_zero)

/-- The whole projection. -/
def whole (A : FVec Ideal S16384x4096 .f32) (B : FVec Ideal S4096x18048 .f32) : FVec Ideal S16384x18048 .f32 :=
  Host.dotGeneral dot_S16384x4096_S4096x18048_S16384x18048_1_0_0_1_n_n none A B

/-- The rotary key. -/
def key (P : FVec Ideal S16384x18048 .f32) : FVec Ideal S16384x64 .f32 :=
  extractStridedSlice S16384x64 ![0, 1536] P slices_S16384x18048_S16384x64_0_1536

/-- Its quarter turn. -/
def turn (P : FVec Ideal S16384x18048 .f32) : FVec Ideal S16384x64 .f32 :=
  concatenate S16384x64 1
    [⟨S16384x32, Host.negf (extractStridedSlice S16384x32 ![0, 32] (key P) slices_S16384x64_S16384x32_0_32)⟩,
      ⟨S16384x32, extractStridedSlice S16384x32 ![0, 0] (key P) slices_S16384x64_S16384x32_0_0⟩]
    concatenates_S16384x32_S16384x32_S16384x64_d1

/-- The pieces of the projection side by side. -/
def parts (P : FVec Ideal S16384x18048 .f32) : FVec Ideal S16384x2048 .f32 :=
  concatenate S16384x2048 1
    [⟨S16384x1024, extractStridedSlice S16384x1024 ![0, 0] P slices_S16384x18048_S16384x1024_0_0⟩,
      ⟨S16384x512, extractStridedSlice S16384x512 ![0, 1024] P slices_S16384x18048_S16384x512_0_1024⟩,
      ⟨S16384x64, key P⟩, ⟨S16384x64, key P⟩, ⟨S16384x64, turn P⟩, ⟨S16384x64, turn P⟩,
      ⟨S16384x64, extractStridedSlice S16384x64 ![0, 9792] P slices_S16384x18048_S16384x64_0_9792⟩,
      ⟨S16384x192, broadcastInDim S16384x192 ![] bcast_S_S16384x192 (constant (F := Ideal) S_ .f32 0x00000000#32)⟩]
    concatenates_S16384x1024_S16384x512_S16384x64_S16384x64_S16384x64_S16384x64_S16384x64_S16384x192_S16384x2048_d1

/-- The reference's result as a function of its arguments. -/
def result (A : FVec Ideal S16384x4096 .f32) (B : FVec Ideal S4096x18048 .f32) : FVec Ideal S16384x2048 .f32 := parts (whole A B)

theorem whole_apply (A : FVec Ideal S16384x4096 .f32) (B : FVec Ideal S4096x18048 .f32) (r : Fin 16384) (e : Fin 18048) :
    whole A B (ix2 r e) = ∑ k : Fin 4096, A (ix2 r k) * B (ix2 k e) := by
  pointwise [whole]

theorem key_apply (P : FVec Ideal S16384x18048 .f32) (r : Fin 16384) (e : Fin 64) : key P (ix2 r e) = P (ix2 r ⟨1536 + e.val, by omega⟩) := by
  pointwise [key]

theorem turn_apply (P : FVec Ideal S16384x18048 .f32) (r : Fin 16384) (e : Fin 64) :
    turn P (ix2 r e) = if h : e.val < 32 then - key P (ix2 r ⟨32 + e.val, by omega⟩) else key P (ix2 r ⟨e.val - 32, by omega⟩) := by
  unfold turn
  pointwise

set_option maxHeartbeats 1000000 in
theorem parts_apply (P : FVec Ideal S16384x18048 .f32) (r : Fin 16384) (e : Fin 2048) : parts P (ix2 r e) = pick e fun c => P (ix2 r c) := by
  unfold parts
  pointwise
  simp only [key_apply, turn_apply]
  split_ifs <;> first
    | exact (pick_pos e (fun c => P (ix2 r c)) _ (by dsimp only; omega)).symm
    | exact (pick_neg e (fun c => P (ix2 r c)) _ (by dsimp only; omega)).symm
    | exact (pick_zero e _ (by omega)).symm

theorem result_apply (A : FVec Ideal S16384x4096 .f32) (B : FVec Ideal S4096x18048 .f32) (r : Fin 16384) (e : Fin 2048) :
    result A B (ix2 r e) = pick e fun c => ∑ k : Fin 4096, A (ix2 r k) * B (ix2 k c) :=
  (parts_apply _ r e).trans (congrArg (pick e) (funext fun c => whole_apply A B r c))

end Cert.ReferenceSmallIdeal.Prod

namespace Cert.SmallProj

open Idealize.ShloMosaic Idealize.ShloMosaic.TcCoe Idealize.SL.Sem
open Cert.KernelSmallIdeal.Prod (pick)

/-- The precondition at one device: the activations and the rotary key's weights are real. -/
theorem finite_reads (A : FVec Ideal Cert.Pre_finite_small.S16384x4096 .f32) (B : FVec Ideal Cert.Pre_finite_small.S4096x18048 .f32)
    (h : Cert.Pre_finite_small.fn (F := Ideal) A B = fun _ => 1#1) :
    (∀ i, ∃ y : ℝ, A i = (y : EReal)) ∧ ∀ (k : Fin 4096) (e : Fin 64), ∃ y : ℝ, B (ix2 k ⟨1536 + e.val, by omega⟩) = (y : EReal) := by
  haveI : Subsingleton Cert.Pre_finite.S_.Idx := ⟨fun a b => funext fun k => k.elim0⟩
  have h := congrFun h (Shape.Idx.first (s := Cert.Pre_finite_small.S_) (by decide))
  obtain ⟨h1, h2⟩ := IntOp.andi_eq_one.1 h
  refine ⟨Cert.Attn.real_of_all A _ _ _ _ _ h1, fun k e => ?_⟩
  obtain ⟨y, hy⟩ := Cert.Attn.real_of_all _ _ _ _ _ _ h2 (ix2 k e)
  refine ⟨y, hy ▸ congrArg B (funext fun j => ?_)⟩
  match j with
  | 0 => exact Fin.ext (by show k.val = _; exact (Nat.zero_add _).symm)
  | 1 => rfl

/-- A sum of real products with one factor negated. -/
theorem sum_neg (a b : Fin 4096 → EReal) (ha : ∀ k, ∃ y : ℝ, a k = (y : EReal)) (hb : ∀ k, ∃ y : ℝ, b k = (y : EReal)) :
    ∑ k, a k * - b k = - ∑ k, a k * b k := by
  choose a' ha using ha
  choose b' hb using hb
  have e1 : ∀ k, a k * - b k = ((a' k * - b' k : ℝ) : EReal) := fun k => by rw [ha, hb]; norm_cast
  have e2 : ∀ k, a k * b k = ((a' k * b' k : ℝ) : EReal) := fun k => by rw [ha, hb]; norm_cast
  simp only [e1, e2]
  rw [← Cert.Attn.coe_sum, ← Cert.Attn.coe_sum, ← EReal.coe_neg]
  simp only [mul_neg, Finset.sum_neg_distrib]

/-- A sum of products with picked columns is the picked sum of products. -/
theorem sum_pick (e : Fin 2048) (a : Fin 4096 → EReal) (b : Fin 4096 → Fin 18048 → EReal) (ha : ∀ k, ∃ y : ℝ, a k = (y : EReal))
    (hb : ∀ k (d : Fin 64), ∃ y : ℝ, b k ⟨1536 + d.val, by omega⟩ = (y : EReal)) :
    ∑ k, a k * pick e (b k) = pick e fun c => ∑ k, a k * b k c := by
  have hn : ∀ c : Fin 18048, 1536 ≤ c.val → c.val < 1600 → ∑ k, a k * - b k c = - ∑ k, a k * b k c := fun c h0 h1 =>
    sum_neg a (fun k => b k c) ha fun k => by
      obtain ⟨y, hy⟩ := hb k ⟨c.val - 1536, by omega⟩
      exact ⟨y, hy ▸ congrArg (b k) (Fin.ext (by dsimp only; omega))⟩
  unfold pick
  split_ifs
  all_goals first
    | rfl
    | exact hn _ (by dsimp only; omega) (by dsimp only; omega)
    | simp only [mul_zero, Finset.sum_const_zero]

/-- The kernel's result array is the reference's result, at equal arguments that meet the precondition. -/
theorem small_eq (m : (ℓ : Loc KernelSmallIdeal.nD KernelSmallIdeal.τ KernelSmallIdeal.sig) → Buf (Elt Ideal) ℓ)
    (m' : (ℓ : Loc ReferenceSmallIdeal.nD ReferenceSmallIdeal.τ ReferenceSmallIdeal.sig) → Buf (Elt Ideal) ℓ) (c : Dev KernelSmallIdeal.nD)
    (hp : Cert.Pre_KernelSmallIdeal_finite_small m)
    (h0 : m' (c.tc.loc ReferenceSmallIdeal.main_arg0) = m (c.tc.loc KernelSmallIdeal.main_arg0))
    (h1 : m' (c.tc.loc ReferenceSmallIdeal.main_arg1) = m (c.tc.loc KernelSmallIdeal.main_arg1)) :
    ReferenceSmallIdeal.Prod.result (m' (c.tc.loc ReferenceSmallIdeal.main_arg0)) (m' (c.tc.loc ReferenceSmallIdeal.main_arg1))
      = (KernelSmallIdeal.Gen.dats m 0 c).arrAt 2 KernelSmallIdeal.cfg0.N := by
  obtain ⟨f0, f1⟩ := finite_reads _ _ (hp c)
  rw [h0, h1, KernelSmallIdeal.Prod.result_eq m c]
  funext i
  rw [eq_ix2 i]
  refine (ReferenceSmallIdeal.Prod.result_apply _ _ _ _).trans ?_
  refine (sum_pick (i 1) _ _ (fun k => f0 (ix2 (i 0) k)) f1).symm.trans ?_
  exact Finset.sum_congr rfl fun k _ =>
    congrArg₂ (· * ·) (KernelSmallIdeal.Prod.in0 m c (i 0) k).symm (KernelSmallIdeal.Prod.in1 m c k (i 1)).symm

end Cert.SmallProj

end
-- ==== Proof.KvVal.lean ====
/- The keys' and values' up-projection: the kernel's result array after the run. -/
module

public import proofs.«01_k».proof.Proof.Gen.KernelKvIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.KernelKvIdeal.Prod

open Cert.KernelKvIdeal Cert.KernelKvIdeal.Gen Idealize.ShloMosaic Idealize.ShloMosaic.TcCoe Idealize.SL.Sem

/-- A row of 512 entries over its root mean square, times a gain, at an entry. -/
def rms (x g : Fin 512 → EReal) (k : Fin 512) : EReal :=
  x k * Ideal.rsqrt (Ideal.div (∑ j, x j * x j) (Ideal.ofBits .f32 0x44000000#32) + Ideal.ofBits .f32 0x358637BD#32) * g k

/-- A trip's payload at an index: one normalised row. -/
theorem pay1_apply (X : Vec Ideal S32x512 .f32) (G : Vec Ideal S1x512 .f32) (r : Fin 32) (k : Fin 512) :
    k0_pay1 X G (ix2 r k) = rms (fun j => X (ix2 r j)) (fun j => G (ix2 0 j)) k := by
  pointwise [k0_pay1, rms]

/-- A block's payload at an index: one row times one column. -/
theorem pay2_apply (X : Vec Ideal S1024x512 .bf16) (W : Vec Ideal S512x1024 .bf16) (r : Fin 1024) (l : Fin 1024) :
    k0_pay2 X W (ix2 r l) = ∑ k : Fin 512, X (ix2 r k) * W (ix2 k l) := by
  pointwise [k0_pay2]

theorem off1_eq (k : Fin k0_t1_loop.trips) : k0_off1 k = ![32 * k.val, 0] := by revert k; decide +kernel

/-- A block of normalised rows. -/
def rows (X : Vec Ideal S1024x512 .f32) (G : Vec Ideal S1x512 .f32) : S1024x512.Idx → EReal := fun y =>
  rms (fun j => X (ix2 (y 0) j)) (fun j => G (ix2 0 j)) (y 1)

section Loop

variable (c : Dev nD) (i : grid0.Coords) (arg2 : Memref sig .tc .vmem S1024x512 .f32) (harg2 : arg2.IsWhole) (arg3 : Memref sig .tc .vmem S1x512 .f32)
  (harg3 : arg3.IsWhole) (arg4 : Memref sig .tc .vmem S512x1024 .bf16) (harg4 : arg4.IsWhole) (arg5 : Memref sig .tc .vmem S1024x1024 .bf16)
  (harg5 : arg5.IsWhole) (arg6 : Memref sig .tc .vmem S1024x512 .bf16) (harg6 : arg6.IsWhole) (k0_h1 : k0_cond1 i = 1#1)

/-- One trip's store. -/
theorem trip_eq (X2 : BufTy.Contents (Elt Ideal) arg2.view.ty) (X3 : BufTy.Contents (Elt Ideal) arg3.view.ty) (k : Fin k0_t1_loop.trips) :
    tripL_k0_t1 (F := Ideal) Variants.none c none i arg2 harg2 arg3 harg3 arg4 harg4 arg5 harg5 arg6 harg6 k0_h1 X2 X3 k
      = [⟨Rect.unit (s := S1024x512) (k0_off1 k) S32x512.size (k0_off1_inb i k k0_h1),
          k0_pay1 (arg2.view.readAt (Elt Ideal) (Rect.unit (s := S1024x512) (k0_off1 k) S32x512.size (k0_off1_inb i k k0_h1)).toLoadRect X2)
            (arg3.view.readAt (Elt Ideal) (Rect.unit (s := S1x512) ![0, 0] S1x512.size inb_S1x512_S1x512_0_0).toLoadRect X3)⟩] := by
  unfold tripL_k0_t1 trip_k0_t1
  rfl

/-- It is a block of the normalised rows. -/
theorem trip_at (X : Vec Ideal S1024x512 .f32) (G : Vec Ideal S1x512 .f32) (off : Fin 2 → ℕ) (inb : ∀ a, off a + S32x512.size a ≤ S1024x512.size a)
    (a : ℕ) (e : off = ![a, 0]) (x : S32x512.Idx) :
    k0_pay1 (View.ld X (Rect.unit (s := S1024x512) off S32x512.size inb)) G x
      = rows X G ((Rect.unit (s := S1024x512) off S32x512.size inb).emb x) := by
  subst e
  obtain ⟨r, k, rfl⟩ : ∃ (r : Fin 32) (k : Fin 512), x = ix2 r k := ⟨_, _, eq_ix2 x⟩
  refine (pay1_apply _ _ r k).trans ?_
  have h0 : ∀ j : Fin 512, View.ld X (Rect.unit (s := S1024x512) ![a, 0] S32x512.size inb) (ix2 r j)
      = X (ix2 (((Rect.unit (s := S1024x512) ![a, 0] S32x512.size inb).emb (ix2 r k)) 0) j) := fun j => by
    rw [View.ld_apply]
    refine congrArg X (funext fun b => ?_)
    match b with
    | 0 => rfl
    | 1 => exact Fin.ext (by show 0 + 1 * j.val = j.val; omega)
  have h1 : k = (((Rect.unit (s := S1024x512) ![a, 0] S32x512.size inb).emb (ix2 r k)) 1 : Fin 512) :=
    Fin.ext (by show k.val = 0 + 1 * k.val; omega)
  exact congrArg₂ (fun f e => rms f (fun j => G (ix2 0 j)) e) (funext h0) h1

/-- The stores of the trips before any one are blocks of the normalised rows. -/
theorem pieces (X : Vec Ideal S1024x512 .f32) (G : Vec Ideal S1x512 .f32) (n : ℕ) (hn : n ≤ k0_t1_loop.trips) :
    View.PiecesOf (rows X G) (pb_k0_t1 (F := Ideal) Variants.none c none i arg2 harg2 arg3 harg3 arg4 harg4 arg5 harg5 arg6 harg6 k0_h1
      (harg2.unread X) (harg3.unread G) n) := by
  induction n with
  | zero => rw [pb_k0_t1.eq_1]; trivial
  | succ n ih =>
    rw [pb_k0_t1_succ (F := Ideal) Variants.none c none i arg2 harg2 arg3 harg3 arg4 harg4 arg5 harg5 arg6 harg6 k0_h1 _ _ ⟨n, hn⟩, trip_eq]
    refine ⟨fun x => ?_, ih (by omega)⟩
    have h2 : ∀ r : Rect S1024x512, arg2.view.readAt (Elt Ideal) r.toLoadRect (harg2.unread X) = View.ld X r := fun r => by
      funext j
      rw [View.readAt_apply, harg2.read_unread]
    have h3 : arg3.view.readAt (Elt Ideal) (Rect.unit (s := S1x512) ![0, 0] S1x512.size inb_S1x512_S1x512_0_0).toLoadRect (harg3.unread G) = G := by
      funext j
      rw [View.readAt_apply, harg3.read_unread]
      show View.ld G (Rect.unit (s := S1x512) ![0, 0] S1x512.size inb_S1x512_S1x512_0_0) j = G j
      rw [View.ld_unit_zero (by decide)]
    dsimp only
    rw [h2, h3]
    exact trip_at X G _ _ _ (off1_eq _) x

end Loop

variable (m : (ℓ : Loc nD τ sig) → Buf (Elt Ideal) ℓ)

/-- The blocks of a point: row block, gain, column block. -/
theorem idx (t : Fin cfg0.N) : win0_0.index t = ![t.val / 4, 2] ∧ win0_1.index t = ![0, 0] ∧ win0_2.index t = ![0, t.val % 4] ∧ win0_3.index t = ![t.val / 4, t.val % 4] := by
  revert t
  decide +kernel

theorem read0 (c : Dev nD) (t : Fin cfg0.N) (y : Fin 1024) (k : Fin 512) (r : Fin 16384) (hr : r.val = t.val / 4 * 1024 + y.val) :
    iblk m c 0 t (ix2 y k) = V m c main_arg0 (ix2 r ⟨1024 + k.val, by omega⟩) := by
  blk_ext [iblk, (idx t).1]

theorem read1 (c : Dev nD) (t : Fin cfg0.N) (k : Fin 512) : iblk m c 1 t (ix2 0 k) = V m c main_v7 (ix2 0 k) := by
  blk_ext [iblk, (idx t).2.1]

theorem read2 (c : Dev nD) (t : Fin cfg0.N) (k : Fin 512) (l : Fin 1024) (e : Fin 4096) (he : e.val = t.val % 4 * 1024 + l.val) :
    iblk m c 2 t (ix2 k l) = V m c main_v6 (ix2 k e) := by
  blk_ext [iblk, (idx t).2.2.1]

/-- The normalised rows of a point's row block. -/
def held (c : Dev nD) (t : Fin cfg0.N) : S1024x512.Idx → EReal := rows (iblk m c 0 t) (iblk m c 1 t)

/-- Over the arrays. -/
theorem held_apply (c : Dev nD) (t : Fin cfg0.N) (y : Fin 1024) (k : Fin 512) (r : Fin 16384) (hr : r.val = t.val / 4 * 1024 + y.val) :
    held m c t (ix2 y k) = rms (fun j => V m c main_arg0 (ix2 r ⟨1024 + j.val, by omega⟩)) (fun j => V m c main_v7 (ix2 0 j)) k := by
  have h0 := fun j => read0 m c t y j r hr
  have h1 := fun j => read1 m c t j
  exact congrArg₂ (fun f g => rms f g k) (funext h0) (funext h1)

theorem held_run (c : Dev nD) (t u : Fin cfg0.N) (h : t.val / 4 = u.val / 4) : held m c t = held m c u := by
  have hN : cfg0.N = 64 := rfl
  have ht := t.isLt
  funext y
  have hy : (y 0).val < 1024 := (y 0).isLt
  rw [eq_ix2 y]
  exact (held_apply m c t (y 0) (y 1) ⟨t.val / 4 * 1024 + (y 0).val, by omega⟩ rfl).trans
    (held_apply m c u (y 0) (y 1) ⟨t.val / 4 * 1024 + (y 0).val, by omega⟩ (by dsimp only; rw [h])).symm

theorem first (c : Dev nD) (t : Fin cfg0.N) (h : t.val % 4 = 0) (y : S1024x512.Idx) : (outsAt0 m c t.val t.isLt).2 y = held m c t y := by
  have hc := scover0_A_0 (F := Ideal) c (grid0.coords t) (ms0_0 t) (hs0_0 t) (ms0_1 t) (hs0_1 t) (ms0_2 t) (hs0_2 t) (ms0_3 t) (hs0_3 t) scM0_0
    (Memref.isWhole_whole _) ((hcond0_0 t).mpr h) (iblk m c 0 t) (iblk m c 1 t) (iblk m c 2 t) y
  rw [outsAt0_A m c t h]
  frame_out
  refine (congrArg (fun L => View.canon L y) (List.append_nil _).symm).trans ?_
  exact View.canon_append_of_piecesOf (held m c t) [] _ (pieces _ _ _ _ _ _ _ _ _ _ _ _ _ _ _ _ (by decide)) y hc

/-- After every point the scratch holds the normalised rows of the point's row block. -/
theorem scratch_eq (c : Dev nD) (t : Fin cfg0.N) : (outsAt0 m c t.val t.isLt).2 = held m c t := by
  have e := Pipeline.eq_of_write_hold (fun n h => (outsAt0 m c n h).2) 4 (held m c)
    (fun t h => funext (first m c t h)) (fun t h => by rw [outsAt0_B m c t h]; rfl) t
  rw [e]
  exact held_run m c _ _ (by show 4 * (t.val / 4) / 4 = _; omega)

/-- At every point the output block is the product of those rows and the point's columns. -/
theorem block_eq (c : Dev nD) (t : Fin cfg0.N) : (outsAt0 m c t.val t.isLt).1 = k0_pay2 (held m c t) (iblk m c 2 t) := by
  by_cases h : t.val % 4 = 0
  · rw [← scratch_eq m c t, outsAt0_A m c t h]
    frame_out
    simp only [View.readCov_eq_canon']
    refine congrArg (fun f => k0_pay2 f (iblk m c 2 t)) (funext fun j => ?_)
    show View.ld _ (Rect.unit (s := S1024x512) ![0, 0] S1024x512.size inb_S1024x512_S1024x512_0_0) j = _
    rw [View.ld_unit_zero (by decide)]
  · have hk : (outsAt0 m c (t.val - 1) (Nat.lt_of_le_of_lt (Nat.sub_le _ _) t.isLt)).2 = held m c t :=
      (scratch_eq m c ⟨t.val - 1, Nat.lt_of_le_of_lt (Nat.sub_le _ _) t.isLt⟩).trans
        (held_run m c _ _ (by show (t.val - 1) / 4 = _; omega))
    rw [outsAt0_B m c t h]
    frame_out
    try simp only [read_unread_whole]
    rw [hk]

/-- The normalised rows times the columns. -/
def prod (X : S16384x2048.Idx → EReal) (G : S1x512.Idx → EReal) (W : S512x4096.Idx → EReal) (r : Fin 16384) (e : Fin 4096) : EReal :=
  ∑ k : Fin 512, rms (fun j => X (ix2 r ⟨1024 + j.val, by omega⟩)) (fun j => G (ix2 0 j)) k * W (ix2 k e)

theorem block_apply (c : Dev nD) (t : Fin cfg0.N) (y l : Fin 1024) (r : Fin 16384) (e : Fin 4096) (hr : r.val = t.val / 4 * 1024 + y.val)
    (he : e.val = t.val % 4 * 1024 + l.val) :
    (outsAt0 m c t.val t.isLt).1 (ix2 y l) = prod (V m c main_arg0) (V m c main_v7) (V m c main_v6) r e := by
  rw [block_eq, pay2_apply]
  exact Finset.sum_congr rfl fun k _ => congrArg₂ (· * ·) (held_apply m c t y k r hr) (read2 m c t k l e he)

set_option maxHeartbeats 1000000 in
/-- The result array after the run. -/
theorem result_eq (c : Dev nD) : (dats m 0 c).arrAt 3 cfg0.N = fun i : S16384x4096.Idx =>
    prod (V m c main_arg0) (V m c main_v7) (V m c main_v6) (i 0) (i 1) := by
  refine (dats m 0 c).arrAt_eq_of_covers 3 _ (by decide +kernel) fun t hf y => ?_
  have i3 := (idx t).2.2.2
  have e1 : ((((cfg0.win 3).blk t).view.emb y) 1).val = t.val % 4 * 1024 + (y 1).val := by blk_simp [i3]
  have e0 : ((((cfg0.win 3).blk t).view.emb y) 0).val = t.val / 4 * 1024 + (y 0).val := by blk_simp [i3]
  have hv : (dats m 0 c).after 3 t = (outsAt0 m c t.val t.isLt).1 := after0_3 m c t
  refine Eq.trans (b := (outsAt0 m c t.val t.isLt).1 (ix2 (y 0) (y 1))) ?_ ?_
  · blk_simp
    rw [hv]
    exact congrArg _ (eq_ix2 y)
  · exact block_apply m c t _ _ _ _ e0 e1

/-- The weight's column that a result column is made of: all heads' keys, then all heads' values. -/
def col (e : Fin 4096) : Fin 4096 :=
  if h : e.val < 2048 then ⟨e.val / 128 * 256 + e.val % 128, by omega⟩
  else ⟨(e.val - 2048) / 128 * 256 + (128 + (e.val - 2048) % 128), by omega⟩

theorem in0 (c : Dev nD) : V m c main_arg0 = m (c.tc.loc main_arg0) := V_main_arg0 m c

theorem in1 (c : Dev nD) (k : Fin 512) :
    (V m c main_v7 : S1x512.Idx → EReal) (ix2 0 k) = (m ((c.tc.loc main_arg1)) : S512.Idx → EReal) (ix1 k) := by
  have h : V m c main_v7 = (shapeCast S1x512 (m (c.tc.loc main_arg1) : FVec Ideal S512 .f32) shapeCasts_S512_S1x512 : FVec Ideal S1x512 .f32) := by
    unfold V
    after_results_simp
    rfl
  rw [h]
  pointwise

/-- The weight's columns as the call takes them. -/
def cols (B : FVec Ideal S512x4096 .f32) : FVec Ideal S512x4096 .f32 :=
  concatenate S512x4096 1
    [⟨S512x2048, shapeCast S512x2048 (extractStridedSlice S512x16x128 ![0, 0, 0] (shapeCast S512x16x256 B shapeCasts_S512x4096_S512x16x256) slices_S512x16x256_S512x16x128_0_0_0) shapeCasts_S512x16x128_S512x2048⟩,
      ⟨S512x2048, shapeCast S512x2048 (extractStridedSlice S512x16x128 ![0, 0, 128] (shapeCast S512x16x256 B shapeCasts_S512x4096_S512x16x256) slices_S512x16x256_S512x16x128_0_0_128) shapeCasts_S512x16x128_S512x2048⟩]
    concatenates_S512x2048_S512x2048_S512x4096_d1

theorem cols_apply (B : FVec Ideal S512x4096 .f32) (k : Fin 512) (e : Fin 4096) : cols B (ix2 k e) = B (ix2 k (col e)) := by
  unfold cols col
  pointwise
  split_ifs <;> rfl

theorem in2 (c : Dev nD) (k : Fin 512) (e : Fin 4096) :
    (V m c main_v6 : S512x4096.Idx → EReal) (ix2 k e) = (m ((c.tc.loc main_arg2)) : S512x4096.Idx → EReal) (ix2 k (col e)) := by
  have h : V m c main_v6 = truncf (F := Ideal) .bf16 (cols (m (c.tc.loc main_arg2))) bitsLt_bf16_f32 := by
    unfold V
    after_results_simp
    rfl
  rw [h]
  exact cols_apply _ k e

end Cert.KernelKvIdeal.Prod

end
-- ==== Proof.KvEq.lean ====
/- The keys' and values' up-projection: the reference's result, and its equality with the kernel's. -/
module

public import proofs.«01_k».proof.Proof.KvVal
public import proofs.«01_k».proof.Proof.Gen.ReferenceKvIdeal.Run

@[expose] public section

set_option maxRecDepth 16384

noncomputable section

namespace Cert.ReferenceKvIdeal.Prod

open Cert.ReferenceKvIdeal Cert.ReferenceKvIdeal.Gen Idealize.ShloMosaic Idealize.ShloMosaic.TcCoe Idealize.SL.Sem
open Cert.KernelKvIdeal.Prod (rms col)

/-- The latents. -/
def lat (A : FVec Ideal S16384x2048 .f32) : FVec Ideal S16384x512 .f32 :=
  extractStridedSlice S16384x512 ![0, 1024] A slices_S16384x2048_S16384x512_0_1024

/-- Their rows, normalised. -/
def rows (X : FVec Ideal S16384x512 .f32) (G : FVec Ideal S512 .f32) : FVec Ideal S16384x512 .f32 :=
  mulf (mulf X (broadcastInDim S16384x512 ![0, 1] bcast_S16384x1_S16384x512_0_1 (Host.rsqrt (addf (Host.divf (broadcastInDim S16384x1 ![0] bcast_S16384_S16384x1_0 (Host.reduceAdd (mulf X X) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 G))

/-- The product with the weight. -/
def whole (N : FVec Ideal S16384x512 .f32) (B : FVec Ideal S512x4096 .f32) : FVec Ideal S16384x4096 .f32 :=
  Host.dotGeneral dot_S16384x512_S512x4096_S16384x4096_1_0_0_1_n_n none N B

/-- All heads' keys beside all heads' values. -/
def parts (P : FVec Ideal S16384x4096 .f32) : FVec Ideal S16384x4096 .f32 :=
  concatenate S16384x4096 1
    [⟨S16384x2048, shapeCast _ (extractStridedSlice S16384x16x128 ![0, 0, 0] (shapeCast _ P shapeCasts_S16384x4096_S16384x16x256) slices_S16384x16x256_S16384x16x128_0_0_0) shapeCasts_S16384x16x128_S16384x2048⟩,
      ⟨S16384x2048, shapeCast _ (extractStridedSlice S16384x16x128 ![0, 0, 128] (shapeCast _ P shapeCasts_S16384x4096_S16384x16x256) slices_S16384x16x256_S16384x16x128_0_0_128) shapeCasts_S16384x16x128_S16384x2048⟩]
    concatenates_S16384x2048_S16384x2048_S16384x4096_d1

/-- The reference's result as a function of its arguments. -/
def result (A : FVec Ideal S16384x2048 .f32) (G : FVec Ideal S512 .f32) (B : FVec Ideal S512x4096 .f32) : FVec Ideal S16384x4096 .bf16 :=
  truncf .bf16 (parts (whole (rows (lat A) G) B)) bitsLt_bf16_f32

theorem lat_apply (A : FVec Ideal S16384x2048 .f32) (r : Fin 16384) (k : Fin 512) : lat A (ix2 r k) = A (ix2 r ⟨1024 + k.val, by omega⟩) := by
  pointwise [lat]

theorem rows_apply (X : FVec Ideal S16384x512 .f32) (G : FVec Ideal S512 .f32) (r : Fin 16384) (k : Fin 512) :
    rows X G (ix2 r k) = rms (fun j => X (ix2 r j)) (fun j => G (ix1 j)) k := by
  pointwise [rows, rms]

theorem whole_apply (N : FVec Ideal S16384x512 .f32) (B : FVec Ideal S512x4096 .f32) (r : Fin 16384) (e : Fin 4096) :
    whole N B (ix2 r e) = ∑ k : Fin 512, N (ix2 r k) * B (ix2 k e) := by
  pointwise [whole]

theorem parts_apply (P : FVec Ideal S16384x4096 .f32) (r : Fin 16384) (e : Fin 4096) : parts P (ix2 r e) = P (ix2 r (col e)) := by
  unfold parts col
  pointwise
  split_ifs <;> rfl

theorem result_apply (A : FVec Ideal S16384x2048 .f32) (G : FVec Ideal S512 .f32) (B : FVec Ideal S512x4096 .f32) (r : Fin 16384) (e : Fin 4096) :
    result A G B (ix2 r e)
      = ∑ k : Fin 512, rms (fun j => A (ix2 r ⟨1024 + j.val, by omega⟩)) (fun j => G (ix1 j)) k * B (ix2 k (col e)) := by
  refine (parts_apply _ r e).trans ((whole_apply _ _ r _).trans (Finset.sum_congr rfl fun k _ => ?_))
  rw [rows_apply]
  exact congrArg (fun f => rms f (fun j => G (ix1 j)) k * B (ix2 k (col e))) (funext fun j => lat_apply A r j)

end Cert.ReferenceKvIdeal.Prod

namespace Cert.KvProj

open Idealize.ShloMosaic Idealize.ShloMosaic.TcCoe Idealize.SL.Sem
open Cert.KernelKvIdeal.Prod (rms)

/-- The kernel's result array is the reference's result, at equal arguments. -/
theorem kv_eq (m : (ℓ : Loc KernelKvIdeal.nD KernelKvIdeal.τ KernelKvIdeal.sig) → Buf (Elt Ideal) ℓ)
    (m' : (ℓ : Loc ReferenceKvIdeal.nD ReferenceKvIdeal.τ ReferenceKvIdeal.sig) → Buf (Elt Ideal) ℓ) (c : Dev KernelKvIdeal.nD)
    (h0 : m' (c.tc.loc ReferenceKvIdeal.main_arg0) = m (c.tc.loc KernelKvIdeal.main_arg0))
    (h1 : m' (c.tc.loc ReferenceKvIdeal.main_arg1) = m (c.tc.loc KernelKvIdeal.main_arg1))
    (h2 : m' (c.tc.loc ReferenceKvIdeal.main_arg2) = m (c.tc.loc KernelKvIdeal.main_arg2)) :
    ReferenceKvIdeal.Prod.result (m' (c.tc.loc ReferenceKvIdeal.main_arg0)) (m' (c.tc.loc ReferenceKvIdeal.main_arg1))
        (m' (c.tc.loc ReferenceKvIdeal.main_arg2))
      = (KernelKvIdeal.Gen.dats m 0 c).arrAt 3 KernelKvIdeal.cfg0.N := by
  rw [h0, h1, h2, KernelKvIdeal.Prod.result_eq m c]
  funext i
  rw [eq_ix2 i]
  refine (ReferenceKvIdeal.Prod.result_apply _ _ _ _ _).trans ?_
  unfold KernelKvIdeal.Prod.prod
  refine Finset.sum_congr rfl fun k _ => congrArg₂ (· * ·) ?_ (KernelKvIdeal.Prod.in2 m c k (i 1)).symm
  rw [KernelKvIdeal.Prod.in0 m c]
  exact congrArg (fun g => rms _ g k) (funext fun j => (KernelKvIdeal.Prod.in1 m c j).symm)

end Cert.KvProj

end
-- ==== Proof.QVal.lean ====
/- The queries' up-projection: the kernel's result array after the run. -/
module

public import proofs.«01_k».proof.Proof.Gen.KernelQIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.KernelQIdeal.Prod

open Cert.KernelQIdeal Cert.KernelQIdeal.Gen Idealize.ShloMosaic Idealize.ShloMosaic.TcCoe Idealize.SL.Sem

/-- A row of 1024 entries over its root mean square, times a gain, at an entry. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- A trip's payload at an index: one normalised row. -/
theorem pay1_apply (X : Vec Ideal S32x1024 .f32) (G : Vec Ideal S1x1024 .f32) (r : Fin 32) (k : Fin 1024) :
    k0_pay1 X G (ix2 r k) = rms (fun j => X (ix2 r j)) (fun j => G (ix2 0 j)) k := by
  pointwise [k0_pay1, rms]

/-- A block's payload at an index: one row times one column. -/
theorem pay2_apply (X : Vec Ideal S1024x1024 .bf16) (W : Vec Ideal S1024x1024 .bf16) (r : Fin 1024) (l : Fin 1024) :
    k0_pay2 X W (ix2 r l) = ∑ k : Fin 1024, X (ix2 r k) * W (ix2 k l) := by
  pointwise [k0_pay2]

theorem off1_eq (k : Fin k0_t1_loop.trips) : k0_off1 k = ![32 * k.val, 0] := by revert k; decide +kernel

/-- A block of normalised rows. -/
def rows (X : Vec Ideal S1024x1024 .f32) (G : Vec Ideal S1x1024 .f32) : S1024x1024.Idx → EReal := fun y =>
  rms (fun j => X (ix2 (y 0) j)) (fun j => G (ix2 0 j)) (y 1)

section Loop

variable (c : Dev nD) (i : grid0.Coords) (arg2 : Memref sig .tc .vmem S1024x1024 .f32) (harg2 : arg2.IsWhole) (arg3 : Memref sig .tc .vmem S1x1024 .f32)
  (harg3 : arg3.IsWhole) (arg4 : Memref sig .tc .vmem S1024x1024 .bf16) (harg4 : arg4.IsWhole) (arg5 : Memref sig .tc .vmem S1024x1024 .bf16)
  (harg5 : arg5.IsWhole) (arg6 : Memref sig .tc .vmem S1024x1024 .bf16) (harg6 : arg6.IsWhole) (k0_h1 : k0_cond1 i = 1#1)

/-- One trip's store. -/
theorem trip_eq (X2 : BufTy.Contents (Elt Ideal) arg2.view.ty) (X3 : BufTy.Contents (Elt Ideal) arg3.view.ty) (k : Fin k0_t1_loop.trips) :
    tripL_k0_t1 (F := Ideal) Variants.none c none i arg2 harg2 arg3 harg3 arg4 harg4 arg5 harg5 arg6 harg6 k0_h1 X2 X3 k
      = [⟨Rect.unit (s := S1024x1024) (k0_off1 k) S32x1024.size (k0_off1_inb i k k0_h1),
          k0_pay1 (arg2.view.readAt (Elt Ideal) (Rect.unit (s := S1024x1024) (k0_off1 k) S32x1024.size (k0_off1_inb i k k0_h1)).toLoadRect X2)
            (arg3.view.readAt (Elt Ideal) (Rect.unit (s := S1x1024) ![0, 0] S1x1024.size inb_S1x1024_S1x1024_0_0).toLoadRect X3)⟩] := by
  unfold tripL_k0_t1 trip_k0_t1
  rfl

/-- It is a block of the normalised rows. -/
theorem trip_at (X : Vec Ideal S1024x1024 .f32) (G : Vec Ideal S1x1024 .f32) (off : Fin 2 → ℕ) (inb : ∀ a, off a + S32x1024.size a ≤ S1024x1024.size a)
    (a : ℕ) (e : off = ![a, 0]) (x : S32x1024.Idx) :
    k0_pay1 (View.ld X (Rect.unit (s := S1024x1024) off S32x1024.size inb)) G x
      = rows X G ((Rect.unit (s := S1024x1024) off S32x1024.size inb).emb x) := by
  subst e
  obtain ⟨r, k, rfl⟩ : ∃ (r : Fin 32) (k : Fin 1024), x = ix2 r k := ⟨_, _, eq_ix2 x⟩
  refine (pay1_apply _ _ r k).trans ?_
  have h0 : ∀ j : Fin 1024, View.ld X (Rect.unit (s := S1024x1024) ![a, 0] S32x1024.size inb) (ix2 r j)
      = X (ix2 (((Rect.unit (s := S1024x1024) ![a, 0] S32x1024.size inb).emb (ix2 r k)) 0) j) := fun j => by
    rw [View.ld_apply]
    refine congrArg X (funext fun b => ?_)
    match b with
    | 0 => rfl
    | 1 => exact Fin.ext (by show 0 + 1 * j.val = j.val; omega)
  have h1 : k = (((Rect.unit (s := S1024x1024) ![a, 0] S32x1024.size inb).emb (ix2 r k)) 1 : Fin 1024) :=
    Fin.ext (by show k.val = 0 + 1 * k.val; omega)
  exact congrArg₂ (fun f e => rms f (fun j => G (ix2 0 j)) e) (funext h0) h1

/-- The stores of the trips before any one are blocks of the normalised rows. -/
theorem pieces (X : Vec Ideal S1024x1024 .f32) (G : Vec Ideal S1x1024 .f32) (n : ℕ) (hn : n ≤ k0_t1_loop.trips) :
    View.PiecesOf (rows X G) (pb_k0_t1 (F := Ideal) Variants.none c none i arg2 harg2 arg3 harg3 arg4 harg4 arg5 harg5 arg6 harg6 k0_h1
      (harg2.unread X) (harg3.unread G) n) := by
  induction n with
  | zero => rw [pb_k0_t1.eq_1]; trivial
  | succ n ih =>
    rw [pb_k0_t1_succ (F := Ideal) Variants.none c none i arg2 harg2 arg3 harg3 arg4 harg4 arg5 harg5 arg6 harg6 k0_h1 _ _ ⟨n, hn⟩, trip_eq]
    refine ⟨fun x => ?_, ih (by omega)⟩
    have h2 : ∀ r : Rect S1024x1024, arg2.view.readAt (Elt Ideal) r.toLoadRect (harg2.unread X) = View.ld X r := fun r => by
      funext j
      rw [View.readAt_apply, harg2.read_unread]
    have h3 : arg3.view.readAt (Elt Ideal) (Rect.unit (s := S1x1024) ![0, 0] S1x1024.size inb_S1x1024_S1x1024_0_0).toLoadRect (harg3.unread G) = G := by
      funext j
      rw [View.readAt_apply, harg3.read_unread]
      show View.ld G (Rect.unit (s := S1x1024) ![0, 0] S1x1024.size inb_S1x1024_S1x1024_0_0) j = G j
      rw [View.ld_unit_zero (by decide)]
    dsimp only
    rw [h2, h3]
    exact trip_at X G _ _ _ (off1_eq _) x

end Loop

variable (m : (ℓ : Loc nD τ sig) → Buf (Elt Ideal) ℓ)

/-- The blocks of a point: row block, gain, column block. -/
theorem idx (t : Fin cfg0.N) : win0_0.index t = ![t.val / 4, 0] ∧ win0_1.index t = ![0, 0] ∧ win0_2.index t = ![0, t.val % 4] ∧ win0_3.index t = ![t.val / 4, t.val % 4] := by
  revert t
  decide +kernel

theorem read0 (c : Dev nD) (t : Fin cfg0.N) (y : Fin 1024) (k : Fin 1024) (r : Fin 16384) (hr : r.val = t.val / 4 * 1024 + y.val) :
    iblk m c 0 t (ix2 y k) = V m c main_arg0 (ix2 r ⟨k.val, by omega⟩) := by
  blk_ext [iblk, (idx t).1]

theorem read1 (c : Dev nD) (t : Fin cfg0.N) (k : Fin 1024) : iblk m c 1 t (ix2 0 k) = V m c main_v10 (ix2 0 k) := by
  blk_ext [iblk, (idx t).2.1]

theorem read2 (c : Dev nD) (t : Fin cfg0.N) (k : Fin 1024) (l : Fin 1024) (e : Fin 4096) (he : e.val = t.val % 4 * 1024 + l.val) :
    iblk m c 2 t (ix2 k l) = V m c main_v9 (ix2 k e) := by
  blk_ext [iblk, (idx t).2.2.1]

/-- The normalised rows of a point's row block. -/
def held (c : Dev nD) (t : Fin cfg0.N) : S1024x1024.Idx → EReal := rows (iblk m c 0 t) (iblk m c 1 t)

/-- Over the arrays. -/
theorem held_apply (c : Dev nD) (t : Fin cfg0.N) (y : Fin 1024) (k : Fin 1024) (r : Fin 16384) (hr : r.val = t.val / 4 * 1024 + y.val) :
    held m c t (ix2 y k) = rms (fun j => V m c main_arg0 (ix2 r ⟨j.val, by omega⟩)) (fun j => V m c main_v10 (ix2 0 j)) k := by
  have h0 := fun j => read0 m c t y j r hr
  have h1 := fun j => read1 m c t j
  exact congrArg₂ (fun f g => rms f g k) (funext h0) (funext h1)

theorem held_run (c : Dev nD) (t u : Fin cfg0.N) (h : t.val / 4 = u.val / 4) : held m c t = held m c u := by
  have hN : cfg0.N = 64 := rfl
  have ht := t.isLt
  funext y
  have hy : (y 0).val < 1024 := (y 0).isLt
  rw [eq_ix2 y]
  exact (held_apply m c t (y 0) (y 1) ⟨t.val / 4 * 1024 + (y 0).val, by omega⟩ rfl).trans
    (held_apply m c u (y 0) (y 1) ⟨t.val / 4 * 1024 + (y 0).val, by omega⟩ (by dsimp only; rw [h])).symm

theorem first (c : Dev nD) (t : Fin cfg0.N) (h : t.val % 4 = 0) (y : S1024x1024.Idx) : (outsAt0 m c t.val t.isLt).2 y = held m c t y := by
  have hc := scover0_A_0 (F := Ideal) c (grid0.coords t) (ms0_0 t) (hs0_0 t) (ms0_1 t) (hs0_1 t) (ms0_2 t) (hs0_2 t) (ms0_3 t) (hs0_3 t) scM0_0
    (Memref.isWhole_whole _) ((hcond0_0 t).mpr h) (iblk m c 0 t) (iblk m c 1 t) (iblk m c 2 t) y
  rw [outsAt0_A m c t h]
  frame_out
  refine (congrArg (fun L => View.canon L y) (List.append_nil _).symm).trans ?_
  exact View.canon_append_of_piecesOf (held m c t) [] _ (pieces _ _ _ _ _ _ _ _ _ _ _ _ _ _ _ _ (by decide)) y hc

/-- After every point the scratch holds the normalised rows of the point's row block. -/
theorem scratch_eq (c : Dev nD) (t : Fin cfg0.N) : (outsAt0 m c t.val t.isLt).2 = held m c t := by
  have e := Pipeline.eq_of_write_hold (fun n h => (outsAt0 m c n h).2) 4 (held m c)
    (fun t h => funext (first m c t h)) (fun t h => by rw [outsAt0_B m c t h]; rfl) t
  rw [e]
  exact held_run m c _ _ (by show 4 * (t.val / 4) / 4 = _; omega)

/-- At every point the output block is the product of those rows and the point's columns. -/
theorem block_eq (c : Dev nD) (t : Fin cfg0.N) : (outsAt0 m c t.val t.isLt).1 = k0_pay2 (held m c t) (iblk m c 2 t) := by
  by_cases h : t.val % 4 = 0
  · rw [← scratch_eq m c t, outsAt0_A m c t h]
    frame_out
    simp only [View.readCov_eq_canon']
    refine congrArg (fun f => k0_pay2 f (iblk m c 2 t)) (funext fun j => ?_)
    show View.ld _ (Rect.unit (s := S1024x1024) ![0, 0] S1024x1024.size inb_S1024x1024_S1024x1024_0_0) j = _
    rw [View.ld_unit_zero (by decide)]
  · have hk : (outsAt0 m c (t.val - 1) (Nat.lt_of_le_of_lt (Nat.sub_le _ _) t.isLt)).2 = held m c t :=
      (scratch_eq m c ⟨t.val - 1, Nat.lt_of_le_of_lt (Nat.sub_le _ _) t.isLt⟩).trans
        (held_run m c _ _ (by show (t.val - 1) / 4 = _; omega))
    rw [outsAt0_B m c t h]
    frame_out
    try simp only [read_unread_whole]
    rw [hk]

/-- The normalised rows times the columns. -/
def prod (X : S16384x2048.Idx → EReal) (G : S1x1024.Idx → EReal) (W : S1024x4096.Idx → EReal) (r : Fin 16384) (e : Fin 4096) : EReal :=
  ∑ k : Fin 1024, rms (fun j => X (ix2 r ⟨j.val, by omega⟩)) (fun j => G (ix2 0 j)) k * W (ix2 k e)

theorem block_apply (c : Dev nD) (t : Fin cfg0.N) (y l : Fin 1024) (r : Fin 16384) (e : Fin 4096) (hr : r.val = t.val / 4 * 1024 + y.val)
    (he : e.val = t.val % 4 * 1024 + l.val) :
    (outsAt0 m c t.val t.isLt).1 (ix2 y l) = prod (V m c main_arg0) (V m c main_v10) (V m c main_v9) r e := by
  rw [block_eq, pay2_apply]
  exact Finset.sum_congr rfl fun k _ => congrArg₂ (· * ·) (held_apply m c t y k r hr) (read2 m c t k l e he)

set_option maxHeartbeats 1000000 in
/-- The result array after the run. -/
theorem result_eq (c : Dev nD) : (dats m 0 c).arrAt 3 cfg0.N = fun i : S16384x4096.Idx =>
    prod (V m c main_arg0) (V m c main_v10) (V m c main_v9) (i 0) (i 1) := by
  refine (dats m 0 c).arrAt_eq_of_covers 3 _ (by decide +kernel) fun t hf y => ?_
  have i3 := (idx t).2.2.2
  have e1 : ((((cfg0.win 3).blk t).view.emb y) 1).val = t.val % 4 * 1024 + (y 1).val := by blk_simp [i3]
  have e0 : ((((cfg0.win 3).blk t).view.emb y) 0).val = t.val / 4 * 1024 + (y 0).val := by blk_simp [i3]
  have hv : (dats m 0 c).after 3 t = (outsAt0 m c t.val t.isLt).1 := after0_3 m c t
  refine Eq.trans (b := (outsAt0 m c t.val t.isLt).1 (ix2 (y 0) (y 1))) ?_ ?_
  · blk_simp
    rw [hv]
    exact congrArg _ (eq_ix2 y)
  · exact block_apply m c t _ _ _ _ e0 e1

/-- The entry of a row of the weight that a result column is made of: in every head its 128 unrotated lanes, its 64 rotary lanes,
    their quarter turn. -/
def pick (e : Fin 4096) (f : Fin 3072 → EReal) : EReal :=
  if h : e.val % 256 < 192 then f ⟨e.val / 256 * 192 + e.val % 256, by omega⟩
  else if h : e.val % 256 < 224 then - f ⟨e.val / 256 * 192 + (e.val % 256 - 32), by omega⟩
  else f ⟨e.val / 256 * 192 + (e.val % 256 - 96), by omega⟩

/-- By the lane: as it is, or with its sign turned. -/
theorem pick_at (e : Fin 4096) (f : Fin 3072 → EReal) (d : Fin 3072) (b : Prop) [Decidable b]
    (h : e.val % 256 < 192 ∧ d.val = e.val / 256 * 192 + e.val % 256 ∧ ¬ b
      ∨ 192 ≤ e.val % 256 ∧ e.val % 256 < 224 ∧ d.val = e.val / 256 * 192 + (e.val % 256 - 32) ∧ b
      ∨ 224 ≤ e.val % 256 ∧ d.val = e.val / 256 * 192 + (e.val % 256 - 96) ∧ ¬ b) :
    pick e f = if b then - f d else f d := by
  have eq : ∀ a : Fin 3072, a.val = d.val → f a = f d := fun a h => congrArg f (Fin.ext h)
  rcases h with ⟨h, hd, hb⟩ | ⟨h, h', hd, hb⟩ | ⟨h, hd, hb⟩
  · rw [pick, dif_pos h, if_neg hb]
    exact eq _ hd.symm
  · rw [pick, dif_neg (show ¬ e.val % 256 < 192 by omega), dif_pos h', if_pos hb]
    exact congrArg Neg.neg (eq _ hd.symm)
  · rw [pick, dif_neg (show ¬ e.val % 256 < 192 by omega), dif_neg (show ¬ e.val % 256 < 224 by omega), if_neg hb]
    exact eq _ hd.symm

theorem pick_pos (e : Fin 4096) (f : Fin 3072 → EReal) (d : Fin 3072)
    (h : e.val % 256 < 192 ∧ d.val = e.val / 256 * 192 + e.val % 256 ∨ 224 ≤ e.val % 256 ∧ d.val = e.val / 256 * 192 + (e.val % 256 - 96)) :
    pick e f = f d :=
  (pick_at e f d False (by tauto)).trans (if_neg id)

theorem pick_neg (e : Fin 4096) (f : Fin 3072 → EReal) (d : Fin 3072)
    (h : 192 ≤ e.val % 256 ∧ e.val % 256 < 224 ∧ d.val = e.val / 256 * 192 + (e.val % 256 - 32)) :
    pick e f = - f d :=
  (pick_at e f d True (by tauto)).trans (if_pos trivial)

theorem in0 (c : Dev nD) : V m c main_arg0 = m (c.tc.loc main_arg0) := V_main_arg0 m c

theorem in1 (c : Dev nD) (k : Fin 1024) :
    (V m c main_v10 : S1x1024.Idx → EReal) (ix2 0 k) = (m ((c.tc.loc main_arg1)) : S1024.Idx → EReal) (ix1 k) := by
  have h : V m c main_v10 = (shapeCast S1x1024 (m (c.tc.loc main_arg1) : FVec Ideal S1024 .f32) shapeCasts_S1024_S1x1024 : FVec Ideal S1x1024 .f32) := by
    unfold V
    after_results_simp
    rfl
  rw [h]
  pointwise

/-- The weight by head. -/
def heads (B : FVec Ideal S1024x3072 .f32) : FVec Ideal S1024x16x192 .f32 := shapeCast S1024x16x192 B shapeCasts_S1024x3072_S1024x16x192

/-- The rotary lanes. -/
def rope (B : FVec Ideal S1024x3072 .f32) : FVec Ideal S1024x16x64 .f32 :=
  extractStridedSlice S1024x16x64 ![0, 0, 128] (heads B) slices_S1024x16x192_S1024x16x64_0_0_128

/-- Their quarter turn. -/
def turn (B : FVec Ideal S1024x3072 .f32) : FVec Ideal S1024x16x64 .f32 :=
  concatenate S1024x16x64 2
    [⟨S1024x16x32, Host.negf (extractStridedSlice S1024x16x32 ![0, 0, 32] (rope B) slices_S1024x16x64_S1024x16x32_0_0_32)⟩,
      ⟨S1024x16x32, extractStridedSlice S1024x16x32 ![0, 0, 0] (rope B) slices_S1024x16x64_S1024x16x32_0_0_0⟩]
    concatenates_S1024x16x32_S1024x16x32_S1024x16x64_d2

/-- The weight's columns as the call takes them. -/
def cols (B : FVec Ideal S1024x3072 .f32) : FVec Ideal S1024x4096 .f32 :=
  shapeCast S1024x4096 (concatenate S1024x16x256 2
    [⟨S1024x16x128, extractStridedSlice S1024x16x128 ![0, 0, 0] (heads B) slices_S1024x16x192_S1024x16x128_0_0_0⟩,
      ⟨S1024x16x64, rope B⟩, ⟨S1024x16x64, turn B⟩]
    concatenates_S1024x16x128_S1024x16x64_S1024x16x64_S1024x16x256_d2) shapeCasts_S1024x16x256_S1024x4096

theorem heads_apply (B : FVec Ideal S1024x3072 .f32) (k : Fin 1024) (h : Fin 16) (l : Fin 192) :
    heads B (ix3 k h l) = B (ix2 k ⟨h.val * 192 + l.val, by omega⟩) := by
  pointwise [heads]

theorem rope_apply (B : FVec Ideal S1024x3072 .f32) (k : Fin 1024) (h : Fin 16) (l : Fin 64) :
    rope B (ix3 k h l) = B (ix2 k ⟨h.val * 192 + (128 + l.val), by omega⟩) := by
  pointwise [rope, heads]

theorem turn_apply (B : FVec Ideal S1024x3072 .f32) (k : Fin 1024) (h : Fin 16) (l : Fin 64) :
    turn B (ix3 k h l) = if g : l.val < 32 then - rope B (ix3 k h ⟨32 + l.val, by omega⟩) else rope B (ix3 k h ⟨l.val - 32, by omega⟩) := by
  unfold turn
  pointwise

theorem cols_apply (B : FVec Ideal S1024x3072 .f32) (k : Fin 1024) (e : Fin 4096) : cols B (ix2 k e) = pick e fun d => B (ix2 k d) := by
  unfold cols
  pointwise
  simp only [heads_apply, rope_apply, turn_apply]
  split_ifs <;> first
    | exact (pick_pos e (fun d => B (ix2 k d)) _ (by dsimp only; omega)).symm
    | exact (pick_neg e (fun d => B (ix2 k d)) _ (by dsimp only; omega)).symm

theorem in2 (c : Dev nD) (k : Fin 1024) (e : Fin 4096) :
    (V m c main_v9 : S1024x4096.Idx → EReal) (ix2 k e) = pick e fun d => (m ((c.tc.loc main_arg2)) : S1024x3072.Idx → EReal) (ix2 k d) := by
  have h : V m c main_v9 = truncf (F := Ideal) .bf16 (cols (m (c.tc.loc main_arg2))) bitsLt_bf16_f32 := by
    unfold V
    after_results_simp
    rfl
  rw [h]
  exact cols_apply _ k e

end Cert.KernelQIdeal.Prod

end
-- ==== Proof.QEq.lean ====
/- The queries' up-projection: the reference's result, and its equality with the kernel's. -/
module

public import proofs.«01_k».proof.Proof.QVal
public import proofs.«01_k».proof.Proof.Finite
public import proofs.«01_k».proof.Proof.Soft
public import proofs.«01_k».proof.Proof.Gen.Pre_finite_q
public import proofs.«01_k».proof.Proof.Gen.ReferenceQIdeal.Run

@[expose] public section

set_option maxRecDepth 16384

noncomputable section

namespace Cert.ReferenceQIdeal.Prod

open Cert.ReferenceQIdeal Cert.ReferenceQIdeal.Gen Idealize.ShloMosaic Idealize.ShloMosaic.TcCoe Idealize.SL.Sem
open Cert.KernelQIdeal.Prod (rms pick pick_pos pick_neg)

/-- The latents. -/
def lat (A : FVec Ideal S16384x2048 .f32) : FVec Ideal S16384x1024 .f32 :=
  extractStridedSlice S16384x1024 ![0, 0] A slices_S16384x2048_S16384x1024_0_0

/-- Their rows, normalised. -/
def rows (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 G))

/-- The product with the weight. -/
def whole (N : FVec Ideal S16384x1024 .f32) (B : FVec Ideal S1024x3072 .f32) : FVec Ideal S16384x3072 .f32 :=
  Host.dotGeneral dot_S16384x1024_S1024x3072_S16384x3072_1_0_0_1_n_n none N B

/-- The projection by head. -/
def heads (P : FVec Ideal S16384x3072 .f32) : FVec Ideal S16384x16x192 .f32 := shapeCast S16384x16x192 P shapeCasts_S16384x3072_S16384x16x192

/-- The rotary lanes. -/
def rope (P : FVec Ideal S16384x3072 .f32) : FVec Ideal S16384x16x64 .f32 :=
  extractStridedSlice S16384x16x64 ![0, 0, 128] (heads P) slices_S16384x16x192_S16384x16x64_0_0_128

/-- Their quarter turn. -/
def turn (P : FVec Ideal S16384x3072 .f32) : FVec Ideal S16384x16x64 .f32 :=
  concatenate S16384x16x64 2
    [⟨S16384x16x32, Host.negf (extractStridedSlice S16384x16x32 ![0, 0, 32] (rope P) slices_S16384x16x64_S16384x16x32_0_0_32)⟩,
      ⟨S16384x16x32, extractStridedSlice S16384x16x32 ![0, 0, 0] (rope P) slices_S16384x16x64_S16384x16x32_0_0_0⟩]
    concatenates_S16384x16x32_S16384x16x32_S16384x16x64_d2

/-- The unrotated lanes, the rotary lanes and their quarter turn, side by side in every head. -/
def parts (P : FVec Ideal S16384x3072 .f32) : FVec Ideal S16384x4096 .f32 :=
  shapeCast S16384x4096 (concatenate S16384x16x256 2
    [⟨S16384x16x128, extractStridedSlice S16384x16x128 ![0, 0, 0] (heads P) slices_S16384x16x192_S16384x16x128_0_0_0⟩,
      ⟨S16384x16x64, rope P⟩, ⟨S16384x16x64, turn P⟩]
    concatenates_S16384x16x128_S16384x16x64_S16384x16x64_S16384x16x256_d2) shapeCasts_S16384x16x256_S16384x4096

/-- The reference's result as a function of its arguments. -/
def result (A : FVec Ideal S16384x2048 .f32) (G : FVec Ideal S1024 .f32) (B : FVec Ideal S1024x3072 .f32) : FVec Ideal S16384x4096 .bf16 :=
  truncf .bf16 (parts (whole (rows (lat A) G) B)) bitsLt_bf16_f32

/-- The run's result is that function. -/
theorem res_eq (m : (ℓ : Loc nD τ sig) → Buf (Elt Ideal) ℓ) (c : Dev nD) :
    Cert.ReferenceQIdeal.Value.res_out0 m c = result (m (c.tc.loc main_arg0)) (m (c.tc.loc main_arg1)) (m (c.tc.loc main_arg2)) := rfl

theorem lat_apply (A : FVec Ideal S16384x2048 .f32) (r : Fin 16384) (k : Fin 1024) : lat A (ix2 r k) = A (ix2 r ⟨k.val, by omega⟩) := by
  pointwise [lat]

theorem rows_apply (X : FVec Ideal S16384x1024 .f32) (G : FVec Ideal S1024 .f32) (r : Fin 16384) (k : Fin 1024) :
    rows X G (ix2 r k) = rms (fun j => X (ix2 r j)) (fun j => G (ix1 j)) k := by
  pointwise [rows, rms]

theorem whole_apply (N : FVec Ideal S16384x1024 .f32) (B : FVec Ideal S1024x3072 .f32) (r : Fin 16384) (e : Fin 3072) :
    whole N B (ix2 r e) = ∑ k : Fin 1024, N (ix2 r k) * B (ix2 k e) := by
  pointwise [whole]

theorem heads_apply (P : FVec Ideal S16384x3072 .f32) (r : Fin 16384) (h : Fin 16) (l : Fin 192) :
    heads P (ix3 r h l) = P (ix2 r ⟨h.val * 192 + l.val, by omega⟩) := by
  pointwise [heads]

theorem rope_apply (P : FVec Ideal S16384x3072 .f32) (r : Fin 16384) (h : Fin 16) (l : Fin 64) :
    rope P (ix3 r h l) = P (ix2 r ⟨h.val * 192 + (128 + l.val), by omega⟩) := by
  pointwise [rope, heads]

theorem turn_apply (P : FVec Ideal S16384x3072 .f32) (r : Fin 16384) (h : Fin 16) (l : Fin 64) :
    turn P (ix3 r h l) = if g : l.val < 32 then - rope P (ix3 r h ⟨32 + l.val, by omega⟩) else rope P (ix3 r h ⟨l.val - 32, by omega⟩) := by
  unfold turn
  pointwise

theorem parts_apply (P : FVec Ideal S16384x3072 .f32) (r : Fin 16384) (e : Fin 4096) : parts P (ix2 r e) = pick e fun d => P (ix2 r d) := by
  unfold parts
  pointwise
  simp only [heads_apply, rope_apply, turn_apply]
  split_ifs <;> first
    | exact (pick_pos e (fun d => P (ix2 r d)) _ (by dsimp only; omega)).symm
    | exact (pick_neg e (fun d => P (ix2 r d)) _ (by dsimp only; omega)).symm

theorem result_apply (A : FVec Ideal S16384x2048 .f32) (G : FVec Ideal S1024 .f32) (B : FVec Ideal S1024x3072 .f32) (r : Fin 16384) (e : Fin 4096) :
    result A G B (ix2 r e)
      = pick e fun d => ∑ k : Fin 1024, rms (fun j => A (ix2 r ⟨j.val, by omega⟩)) (fun j => G (ix1 j)) k * B (ix2 k d) := by
  refine (parts_apply _ r e).trans (congrArg (pick e) (funext fun d => (whole_apply _ _ r d).trans (Finset.sum_congr rfl fun k _ => ?_)))
  rw [rows_apply]
  exact congrArg (fun f => rms f (fun j => G (ix1 j)) k * B (ix2 k d)) (funext fun j => lat_apply A r j)

end Cert.ReferenceQIdeal.Prod

namespace Cert.QProj

open Idealize.ShloMosaic Idealize.ShloMosaic.TcCoe Idealize.SL.Sem
open Cert.KernelQIdeal.Prod (rms pick)

/-- The precondition at one device: the latents, the gain and the heads' rotary weights are real. -/
theorem finite_reads (A : FVec Ideal Cert.Pre_finite_q.S16384x2048 .f32) (G : FVec Ideal Cert.Pre_finite_q.S1024 .f32)
    (B : FVec Ideal Cert.Pre_finite_q.S1024x3072 .f32) (h : Cert.Pre_finite_q.fn (F := Ideal) A G B = fun _ => 1#1) :
    (∀ (r : Fin 16384) (k : Fin 1024), ∃ y : ℝ, A (ix2 r ⟨k.val, by omega⟩) = (y : EReal)) ∧ (∀ k : Fin 1024, ∃ y : ℝ, G (ix1 k) = (y : EReal))
      ∧ ∀ (k : Fin 1024) (a : Fin 16) (l : Fin 64), ∃ y : ℝ, B (ix2 k ⟨a.val * 192 + (128 + l.val), by omega⟩) = (y : EReal) := by
  haveI : Subsingleton Cert.Pre_finite.S_.Idx := ⟨fun a b => funext fun k => k.elim0⟩
  have h := congrFun h (Shape.Idx.first (s := Cert.Pre_finite_q.S_) (by decide))
  obtain ⟨h, h3⟩ := IntOp.andi_eq_one.1 h
  obtain ⟨h1, h2⟩ := IntOp.andi_eq_one.1 h
  refine ⟨fun r k => ?_, fun k => Cert.Attn.real_of_all G _ _ _ _ _ h2 (ix1 k), fun k a l => ?_⟩
  · obtain ⟨y, hy⟩ := Cert.Attn.real_of_all _ _ _ _ _ _ h1 (ix2 r k)
    refine ⟨y, hy ▸ congrArg A (funext fun j => ?_)⟩
    match j with
    | 0 => exact Fin.ext (by show r.val = _; exact (Nat.zero_add _).symm)
    | 1 => exact Fin.ext (by show k.val = _; exact (Nat.zero_add _).symm)
  · obtain ⟨y, hy⟩ := Cert.Attn.real_of_all _ _ _ _ _ _ h3 (ix3 k a l)
    exact ⟨y, (Cert.KernelQIdeal.Prod.rope_apply B k a l).symm.trans hy⟩

theorem bits_1024 : Ideal.ofBits FTy.f32 0x44800000#32 = ((1024 : ℝ) : EReal) := by
  show Ideal.ieee 8 23 0x44800000#32 = _
  simp [Ideal.ieee, -EReal.coe_mul]
  norm_num

theorem bits_eps : Ideal.ofBits FTy.f32 0x358637BD#32 = ((8796093 / 8796093022208 : ℝ) : EReal) := by
  show Ideal.ieee 8 23 0x358637BD#32 = _
  simp [Ideal.ieee, -EReal.coe_mul]
  norm_num

/-- A normalised row of reals is real. -/
theorem rms_real (x g : Fin 1024 → EReal) (hx : ∀ k, ∃ y : ℝ, x k = (y : EReal)) (hg : ∀ k, ∃ y : ℝ, g k = (y : EReal)) (k : Fin 1024) :
    ∃ y : ℝ, rms x g k = (y : EReal) := by
  choose x' hx using hx
  choose g' hg using hg
  have hs : ∑ j, x j * x j = ((∑ j, x' j * x' j : ℝ) : EReal) := by
    rw [Cert.Attn.coe_sum]
    exact Finset.sum_congr rfl fun j _ => by rw [hx, EReal.coe_mul]
  have h0 : (0 : ℝ) ≤ ∑ j, x' j * x' j := Finset.sum_nonneg fun j _ => mul_self_nonneg _
  have hp : (0 : ℝ) < (∑ j, x' j * x' j) * (1024 : ℝ)⁻¹ + 8796093 / 8796093022208 := by positivity
  refine ⟨x' k * (Real.sqrt ((∑ j, x' j * x' j) * (1024 : ℝ)⁻¹ + 8796093 / 8796093022208))⁻¹ * g' k, ?_⟩
  unfold rms
  rw [hs, bits_1024, bits_eps, Ideal.div, if_neg (by rw [← EReal.coe_zero, EReal.coe_eq_coe_iff]; norm_num), ← EReal.coe_inv, ← EReal.coe_mul,
    ← EReal.coe_add, hx, hg, EReal.coe_mul, EReal.coe_mul]
  refine congrArg (fun z => _ * z * _) ?_
  show (if _ then _ else if _ then _ else _) = _
  rw [if_neg (not_lt.mpr hp.le), if_neg hp.ne']

/-- A sum of real products with one factor negated. -/
theorem sum_neg (a b : Fin 1024 → EReal) (ha : ∀ k, ∃ y : ℝ, a k = (y : EReal)) (hb : ∀ k, ∃ y : ℝ, b k = (y : EReal)) :
    ∑ k, a k * - b k = - ∑ k, a k * b k := by
  choose a' ha using ha
  choose b' hb using hb
  have e1 : ∀ k, a k * - b k = ((a' k * - b' k : ℝ) : EReal) := fun k => by rw [ha, hb]; norm_cast
  have e2 : ∀ k, a k * b k = ((a' k * b' k : ℝ) : EReal) := fun k => by rw [ha, hb]; norm_cast
  simp only [e1, e2]
  rw [← Cert.Attn.coe_sum, ← Cert.Attn.coe_sum, ← EReal.coe_neg]
  simp only [mul_neg, Finset.sum_neg_distrib]

/-- A sum of products with picked columns is the picked sum of products. -/
theorem sum_pick (e : Fin 4096) (a : Fin 1024 → EReal) (b : Fin 1024 → Fin 3072 → EReal) (ha : ∀ k, ∃ y : ℝ, a k = (y : EReal))
    (hb : ∀ k (h : Fin 16) (l : Fin 64), ∃ y : ℝ, b k ⟨h.val * 192 + (128 + l.val), by omega⟩ = (y : EReal)) :
    ∑ k, a k * pick e (b k) = pick e fun c => ∑ k, a k * b k c := by
  unfold pick
  split_ifs with h h'
  · rfl
  · refine sum_neg a (fun k => b k _) ha fun k => ?_
    obtain ⟨y, hy⟩ := hb k ⟨e.val / 256, by omega⟩ ⟨e.val % 256 - 160, by omega⟩
    exact ⟨y, hy ▸ congrArg (b k) (Fin.ext (by dsimp only; omega))⟩
  · rfl

/-- The kernel's result array is the reference's result, at equal arguments that meet the precondition. -/
theorem q_eq (m : (ℓ : Loc KernelQIdeal.nD KernelQIdeal.τ KernelQIdeal.sig) → Buf (Elt Ideal) ℓ)
    (m' : (ℓ : Loc ReferenceQIdeal.nD ReferenceQIdeal.τ ReferenceQIdeal.sig) → Buf (Elt Ideal) ℓ) (c : Dev KernelQIdeal.nD)
    (hp : Cert.Pre_KernelQIdeal_finite_q m)
    (h0 : m' (c.tc.loc ReferenceQIdeal.main_arg0) = m (c.tc.loc KernelQIdeal.main_arg0))
    (h1 : m' (c.tc.loc ReferenceQIdeal.main_arg1) = m (c.tc.loc KernelQIdeal.main_arg1))
    (h2 : m' (c.tc.loc ReferenceQIdeal.main_arg2) = m (c.tc.loc KernelQIdeal.main_arg2)) :
    ReferenceQIdeal.Value.res_out0 m' c = (KernelQIdeal.Gen.dats m 0 c).arrAt 3 KernelQIdeal.cfg0.N := by
  obtain ⟨f0, f1, f2⟩ := finite_reads _ _ _ (hp c)
  rw [ReferenceQIdeal.Prod.res_eq, h0, h1, h2, KernelQIdeal.Prod.result_eq m c]
  funext i
  rw [eq_ix2 i]
  refine (ReferenceQIdeal.Prod.result_apply _ _ _ _ _).trans ?_
  refine (sum_pick (i 1) _ _ (fun k => rms_real _ _ (fun j => f0 (i 0) j) f1 k) f2).symm.trans ?_
  unfold KernelQIdeal.Prod.prod
  refine Finset.sum_congr rfl fun k _ => congrArg₂ (· * ·) ?_ (KernelQIdeal.Prod.in2 m c k (i 1)).symm
  rw [KernelQIdeal.Prod.in0 m c]
  exact congrArg (fun g => rms _ g k) (funext fun j => (KernelQIdeal.Prod.in1 m c j).symm)

end Cert.QProj

end
-- ==== Proof.NormVal.lean ====
/- The layer's first norm: the kernel's result array after the run. -/
module

public import proofs.«01_k».proof.Proof.Gen.KernelNormIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.KernelNormIdeal.Prod

open Cert.KernelNormIdeal Cert.KernelNormIdeal.Gen Idealize.ShloMosaic Idealize.ShloMosaic.TcCoe Idealize.SL.Sem

/-- A row of 4096 entries over its root mean square, times a gain, at an entry. -/
def rms (x g : Fin 4096 → EReal) (k : Fin 4096) : EReal :=
  x k * Ideal.rsqrt (Ideal.div (∑ j, x j * x j) (Ideal.ofBits .f32 0x45800000#32) + Ideal.ofBits .f32 0x358637BD#32) * g k

/-- A trip's payload at an index: one normalised row. -/
theorem pay1_apply (X : Vec Ideal S32x4096 .f32) (G : Vec Ideal S1x4096 .f32) (r : Fin 32) (k : Fin 4096) :
    k0_pay1 X G (ix2 r k) = rms (fun j => X (ix2 r j)) (fun j => G (ix2 0 j)) k := by
  pointwise [k0_pay1, rms]

theorem off1_eq (k : Fin k0_t1_loop.trips) : k0_off1 k = ![32 * k.val, 0] := by revert k; decide +kernel

/-- A block of normalised rows. -/
def rows (X : Vec Ideal S512x4096 .f32) (G : Vec Ideal S1x4096 .f32) : S512x4096.Idx → EReal := fun y =>
  rms (fun j => X (ix2 (y 0) j)) (fun j => G (ix2 0 j)) (y 1)

section Loop

variable (c : Dev nD) (i : grid0.Coords) (arg1 : Memref sig .tc .vmem S512x4096 .f32) (harg1 : arg1.IsWhole) (arg2 : Memref sig .tc .vmem S1x4096 .f32)
  (harg2 : arg2.IsWhole) (arg3 : Memref sig .tc .vmem S512x4096 .bf16) (harg3 : arg3.IsWhole)

/-- One trip's store. -/
theorem trip_eq (X2 : BufTy.Contents (Elt Ideal) arg1.view.ty) (X3 : BufTy.Contents (Elt Ideal) arg2.view.ty) (k : Fin k0_t1_loop.trips) :
    tripL_k0_t1 (F := Ideal) Variants.none c none i arg1 harg1 arg2 harg2 arg3 harg3 X2 X3 k
      = [⟨Rect.unit (s := S512x4096) (k0_off1 k) S32x4096.size (k0_off1_inb k),
          k0_pay1 (arg1.view.readAt (Elt Ideal) (Rect.unit (s := S512x4096) (k0_off1 k) S32x4096.size (k0_off1_inb k)).toLoadRect X2)
            (arg2.view.readAt (Elt Ideal) (Rect.unit (s := S1x4096) ![0, 0] S1x4096.size inb_S1x4096_S1x4096_0_0).toLoadRect X3)⟩] := by
  unfold tripL_k0_t1 trip_k0_t1
  rfl

/-- It is a block of the normalised rows. -/
theorem trip_at (X : Vec Ideal S512x4096 .f32) (G : Vec Ideal S1x4096 .f32) (off : Fin 2 → ℕ) (inb : ∀ a, off a + S32x4096.size a ≤ S512x4096.size a)
    (a : ℕ) (e : off = ![a, 0]) (x : S32x4096.Idx) :
    k0_pay1 (View.ld X (Rect.unit (s := S512x4096) off S32x4096.size inb)) G x
      = rows X G ((Rect.unit (s := S512x4096) off S32x4096.size inb).emb x) := by
  subst e
  obtain ⟨r, k, rfl⟩ : ∃ (r : Fin 32) (k : Fin 4096), x = ix2 r k := ⟨_, _, eq_ix2 x⟩
  refine (pay1_apply _ _ r k).trans ?_
  have h0 : ∀ j : Fin 4096, View.ld X (Rect.unit (s := S512x4096) ![a, 0] S32x4096.size inb) (ix2 r j)
      = X (ix2 (((Rect.unit (s := S512x4096) ![a, 0] S32x4096.size inb).emb (ix2 r k)) 0) j) := fun j => by
    rw [View.ld_apply]
    refine congrArg X (funext fun b => ?_)
    match b with
    | 0 => rfl
    | 1 => exact Fin.ext (by show 0 + 1 * j.val = j.val; omega)
  have h1 : k = (((Rect.unit (s := S512x4096) ![a, 0] S32x4096.size inb).emb (ix2 r k)) 1 : Fin 4096) :=
    Fin.ext (by show k.val = 0 + 1 * k.val; omega)
  exact congrArg₂ (fun f e => rms f (fun j => G (ix2 0 j)) e) (funext h0) h1

/-- The stores of the trips before any one are blocks of the normalised rows. -/
theorem pieces (X : Vec Ideal S512x4096 .f32) (G : Vec Ideal S1x4096 .f32) (n : ℕ) (hn : n ≤ k0_t1_loop.trips) :
    View.PiecesOf (rows X G) (pb_k0_t1 (F := Ideal) Variants.none c none i arg1 harg1 arg2 harg2 arg3 harg3
      (harg1.unread X) (harg2.unread G) n) := by
  induction n with
  | zero => rw [pb_k0_t1.eq_1]; trivial
  | succ n ih =>
    rw [pb_k0_t1_succ (F := Ideal) Variants.none c none i arg1 harg1 arg2 harg2 arg3 harg3 _ _ ⟨n, hn⟩, trip_eq]
    refine ⟨fun x => ?_, ih (by omega)⟩
    have h2 : ∀ r : Rect S512x4096, arg1.view.readAt (Elt Ideal) r.toLoadRect (harg1.unread X) = View.ld X r := fun r => by
      funext j
      rw [View.readAt_apply, harg1.read_unread]
    have h3 : arg2.view.readAt (Elt Ideal) (Rect.unit (s := S1x4096) ![0, 0] S1x4096.size inb_S1x4096_S1x4096_0_0).toLoadRect (harg2.unread G) = G := by
      funext j
      rw [View.readAt_apply, harg2.read_unread]
      show View.ld G (Rect.unit (s := S1x4096) ![0, 0] S1x4096.size inb_S1x4096_S1x4096_0_0) j = G j
      rw [View.ld_unit_zero (by decide)]
    dsimp only
    rw [h2, h3]
    exact trip_at X G _ _ _ (off1_eq _) x

end Loop

variable (m : (ℓ : Loc nD τ sig) → Buf (Elt Ideal) ℓ)

/-- The blocks of a point: row block, gain, row block. -/
theorem idx (t : Fin cfg0.N) : win0_0.index t = ![t.val, 0] ∧ win0_1.index t = ![0, 0] ∧ win0_2.index t = ![t.val, 0] := by
  revert t
  decide +kernel

theorem read0 (c : Dev nD) (t : Fin cfg0.N) (y : Fin 512) (k : Fin 4096) (r : Fin 16384) (hr : r.val = t.val * 512 + y.val) :
    iblk m c 0 t (ix2 y k) = V m c main_arg0 (ix2 r k) := by
  blk_ext [iblk, (idx t).1]

theorem read1 (c : Dev nD) (t : Fin cfg0.N) (k : Fin 4096) : iblk m c 1 t (ix2 0 k) = V m c main_v0 (ix2 0 k) := by
  blk_ext [iblk, (idx t).2.1]

/-- At every point the output block is the normalised rows of the point's row block. -/
theorem block_eq (c : Dev nD) (t : Fin cfg0.N) (y : S512x4096.Idx) : outsAt0 m c t y = rows (iblk m c 0 t) (iblk m c 1 t) y := by
  have hc := cover0_A_2 (F := Ideal) c (grid0.coords t) (ms0_0 t) (hs0_0 t) (ms0_1 t) (hs0_1 t) (ms0_2 t) (hs0_2 t) (iblk m c 0 t) (iblk m c 1 t) y
  unfold outsAt0
  frame_out
  refine (congrArg (fun L => View.canon L y) (List.append_nil _).symm).trans ?_
  exact View.canon_append_of_piecesOf (rows (iblk m c 0 t) (iblk m c 1 t)) [] _ (pieces _ _ _ _ _ _ _ _ _ _ _ (by decide)) y hc

theorem block_apply (c : Dev nD) (t : Fin cfg0.N) (y : Fin 512) (k : Fin 4096) (r : Fin 16384) (hr : r.val = t.val * 512 + y.val) :
    outsAt0 m c t (ix2 y k) = rms (fun j => V m c main_arg0 (ix2 r j)) (fun j => V m c main_v0 (ix2 0 j)) k := by
  have h0 := fun j => read0 m c t y j r hr
  have h1 := fun j => read1 m c t j
  exact (block_eq m c t (ix2 y k)).trans (congrArg₂ (fun f g => rms f g k) (funext h0) (funext h1))

set_option maxHeartbeats 1000000 in
/-- The result array after the run. -/
theorem result_eq (c : Dev nD) : (dats m 0 c).arrAt 2 cfg0.N = fun i : S16384x4096.Idx =>
    rms (fun j => V m c main_arg0 (ix2 (i 0) j)) (fun j => V m c main_v0 (ix2 0 j)) (i 1) := by
  refine (dats m 0 c).arrAt_eq_of_covers 2 _ (by decide +kernel) fun t hf y => ?_
  have i3 := (idx t).2.2
  have e1 : ((((cfg0.win 2).blk t).view.emb y) 1).val = (y 1).val := by blk_simp [i3]
  have e0 : ((((cfg0.win 2).blk t).view.emb y) 0).val = t.val * 512 + (y 0).val := by blk_simp [i3]
  have hv : (dats m 0 c).after 2 t = outsAt0 m c t := after0_2 m c t
  refine Eq.trans (b := outsAt0 m c t (ix2 (y 0) (y 1))) ?_ ?_
  · blk_simp
    rw [hv]
    exact congrArg _ (eq_ix2 y)
  · refine (block_apply m c t _ _ _ e0).trans ?_
    exact congrArg (rms _ _) (Fin.ext e1.symm)

theorem in0 (c : Dev nD) : V m c main_arg0 = m (c.tc.loc main_arg0) := V_main_arg0 m c

set_option maxRecDepth 65536 in
theorem in1 (c : Dev nD) (k : Fin 4096) :
    (V m c main_v0 : S1x4096.Idx → EReal) (ix2 0 k) = (m ((c.tc.loc main_arg1)) : S4096.Idx → EReal) (ix1 k) := by
  have h : V m c main_v0 = (shapeCast S1x4096 (m (c.tc.loc main_arg1) : FVec Ideal S4096 .f32) shapeCasts_S4096_S1x4096 : FVec Ideal S1x4096 .f32) := by
    unfold V
    after_results_simp
    rfl
  rw [h]
  pointwise

end Cert.KernelNormIdeal.Prod

end
-- ==== Proof.NormEq.lean ====
/- The layer's first norm: the reference's result, and its equality with the kernel's. -/
module

public import proofs.«01_k».proof.Proof.NormVal
public import proofs.«01_k».proof.Proof.Gen.ReferenceNormIdeal.Run

@[expose] public section

set_option maxRecDepth 16384

noncomputable section

namespace Cert.ReferenceNormIdeal.Prod

open Cert.ReferenceNormIdeal Cert.ReferenceNormIdeal.Gen Idealize.ShloMosaic Idealize.ShloMosaic.TcCoe Idealize.SL.Sem
open Cert.KernelNormIdeal.Prod (rms)

/-- The reference's result as a function of its arguments. -/
def result (X : FVec Ideal S16384x4096 .f32) (G : FVec Ideal S4096 .f32) : FVec Ideal S16384x4096 .bf16 :=
  truncf .bf16 (mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 G))) bitsLt_bf16_f32

theorem result_apply (X : FVec Ideal S16384x4096 .f32) (G : FVec Ideal S4096 .f32) (r : Fin 16384) (k : Fin 4096) :
    result X G (ix2 r k) = rms (fun j => X (ix2 r j)) (fun j => G (ix1 j)) k := by
  pointwise [result, rms]

end Cert.ReferenceNormIdeal.Prod

namespace Cert.FirstNorm

open Idealize.ShloMosaic Idealize.ShloMosaic.TcCoe Idealize.SL.Sem
open Cert.KernelNormIdeal.Prod (rms)

/-- The kernel's result array is the reference's result, at equal arguments. -/
theorem norm_eq (m : (ℓ : Loc KernelNormIdeal.nD KernelNormIdeal.τ KernelNormIdeal.sig) → Buf (Elt Ideal) ℓ)
    (m' : (ℓ : Loc ReferenceNormIdeal.nD ReferenceNormIdeal.τ ReferenceNormIdeal.sig) → Buf (Elt Ideal) ℓ) (c : Dev KernelNormIdeal.nD)
    (h0 : m' (c.tc.loc ReferenceNormIdeal.main_arg0) = m (c.tc.loc KernelNormIdeal.main_arg0))
    (h1 : m' (c.tc.loc ReferenceNormIdeal.main_arg1) = m (c.tc.loc KernelNormIdeal.main_arg1)) :
    ReferenceNormIdeal.Prod.result (m' (c.tc.loc ReferenceNormIdeal.main_arg0)) (m' (c.tc.loc ReferenceNormIdeal.main_arg1))
      = (KernelNormIdeal.Gen.dats m 0 c).arrAt 2 KernelNormIdeal.cfg0.N := by
  rw [h0, h1, KernelNormIdeal.Prod.result_eq m c]
  funext i
  rw [eq_ix2 i]
  refine (ReferenceNormIdeal.Prod.result_apply _ _ _ _).trans ?_
  rw [KernelNormIdeal.Prod.in0 m c]
  exact congrArg (fun g => rms _ g (i 1)) (funext fun j => (KernelNormIdeal.Prod.in1 m c j).symm)

end Cert.FirstNorm

end
-- ==== Proof.RopeVal.lean ====
/- The rotary preparation: the kernel's result arrays after the run. -/
module

public import proofs.«01_k».proof.Proof.Gen.KernelRopeIdeal.Frame
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelRopeIdeal.Prod

open Cert.KernelRopeIdeal Cert.KernelRopeIdeal.Gen Idealize.ShloMosaic Idealize.ShloMosaic.TcCoe Idealize.SL.Sem

/-- The angle of a position and a frequency. -/
def ang (p : BitVec 32) (f : EReal) : EReal := (FloatOps.sitofp (F := Ideal) .f32 p : EReal) * f

/-- The score scale: one over the square root of 192 times the logarithm of 2. -/
def fac : EReal := (((Real.sqrt 192)⁻¹ * (Real.log 2)⁻¹ : ℝ) : EReal)

theorem named_fac : (Named.named κ "qk_scale_log2" 0x3DD53B95#32 : Ideal .f32) = fac := rfl

/-- The first result's payload at an index. -/
theorem pay4_apply (P : Vec Ideal S1024x1 .i32) (W : Vec Ideal S1x128 .f32) (A B : Vec Ideal S1024x128 .f32) (r : Fin 1024) (e : Fin 128) :
    k0_pay4 P W A B (ix2 r e)
      = A (ix2 r e) * Ideal.cos (ang (P (ix2 r 0)) (W (ix2 0 e))) + B (ix2 r e) * Ideal.sin (ang (P (ix2 r 0)) (W (ix2 0 e))) := by
  pointwise [k0_pay4, k0_pay3, k0_pay2, k0_pay1, ang]

theorem below (e : Fin 128) : IntOp.cmpi CmpIPredicate.slt (BitVec.ofNat 32 e.val) 64#32 = if e.val < 64 then 1#1 else 0#1 := by
  revert e
  decide +kernel

/-- The second result's. -/
theorem pay5_apply (P : Vec Ideal S1024x1 .i32) (W : Vec Ideal S1x128 .f32) (r : Fin 1024) (e : Fin 128) :
    k0_pay5 P W (ix2 r e)
      = (if e.val < 64 then Ideal.cos (ang (P (ix2 r 0)) (W (ix2 0 e))) else Ideal.sin (ang (P (ix2 r 0)) (W (ix2 0 e)))) * fac := by
  pointwise [k0_pay5, k0_pay3, k0_pay2, k0_pay1, ang, named_fac]
  rw [below]
  by_cases h : e.val < 64
  · rw [if_pos h, if_pos h]
    rfl
  · rw [if_neg h, if_neg h]
    rfl

variable (m : (ℓ : Loc nD τ sig) → Buf (Elt Ideal) ℓ)

/-- The blocks of a point. -/
theorem idx (t : Fin cfg0.N) : win0_0.index t = ![t.val, 0] ∧ win0_1.index t = ![0, 0] ∧ win0_2.index t = ![t.val, 12] ∧ win0_3.index t = ![t.val, 13]
    ∧ win0_4.index t = ![t.val, 0] ∧ win0_5.index t = ![t.val, 0] := by
  revert t
  decide +kernel

theorem read0 (c : Dev nD) (t : Fin cfg0.N) (y : Fin 1024) (r : Fin 16384) (hr : r.val = t.val * 1024 + y.val) :
    iblk m c 0 t (ix2 y 0) = V m c main_v14 (ix2 r 0) := by
  blk_ext [iblk, (idx t).1]

theorem read1 (c : Dev nD) (t : Fin cfg0.N) (k : Fin 128) : iblk m c 1 t (ix2 0 k) = V m c main_v13 (ix2 0 k) := by
  blk_ext [iblk, (idx t).2.1]

theorem read2 (c : Dev nD) (t : Fin cfg0.N) (y : Fin 1024) (l : Fin 128) (r : Fin 16384) (hr : r.val = t.val * 1024 + y.val) :
    iblk m c 2 t (ix2 y l) = V m c main_v21 (ix2 r ⟨1536 + l.val, by omega⟩) := by
  blk_ext [iblk, (idx t).2.2.1]

theorem read3 (c : Dev nD) (t : Fin cfg0.N) (y : Fin 1024) (l : Fin 128) (r : Fin 16384) (hr : r.val = t.val * 1024 + y.val) :
    iblk m c 3 t (ix2 y l) = V m c main_v21 (ix2 r ⟨1664 + l.val, by omega⟩) := by
  blk_ext [iblk, (idx t).2.2.2.1]

/-- The angle at an entry of the results. -/
def angle (c : Dev nD) (r : Fin 16384) (e : Fin 128) : EReal := ang (V m c main_v14 (ix2 r 0)) (V m c main_v13 (ix2 0 e))

/-- The array of the two key windows. -/
def packed (c : Dev nD) : S16384x2048.Idx → EReal := V m c main_v21

/-- The turned key, from the array's two column blocks. -/
def key (c : Dev nD) (r : Fin 16384) (e : Fin 128) : EReal :=
  packed m c (ix2 r ⟨1536 + e.val, by omega⟩) * Ideal.cos (angle m c r e)
    + packed m c (ix2 r ⟨1664 + e.val, by omega⟩) * Ideal.sin (angle m c r e)

/-- The scaled cosines and sines. -/
def wave (c : Dev nD) (r : Fin 16384) (e : Fin 128) : EReal :=
  (if e.val < 64 then Ideal.cos (angle m c r e) else Ideal.sin (angle m c r e)) * fac

theorem block4_apply (c : Dev nD) (t : Fin cfg0.N) (y : Fin 1024) (l e : Fin 128) (r : Fin 16384) (hr : r.val = t.val * 1024 + y.val) (he : e.val = l.val) :
    out0_4 (iblk m c 0 t) (iblk m c 1 t) (iblk m c 2 t) (iblk m c 3 t) (ix2 y l) = key m c r e := by
  obtain rfl : e = l := Fin.ext he
  have h : out0_4 (iblk m c 0 t) (iblk m c 1 t) (iblk m c 2 t) (iblk m c 3 t)
      = k0_pay4 (iblk m c 0 t) (iblk m c 1 t) (iblk m c 2 t) (iblk m c 3 t) := by
    unfold out0_4
    rw [View.canon_unit_zero (by decide), View.ld_unit_zero (by decide), View.ld_unit_zero (by decide), View.ld_unit_zero (by decide),
      View.ld_unit_zero (by decide)]
  rw [h, pay4_apply, read0 m c t y r hr, read1 m c t e, read2 m c t y e r hr, read3 m c t y e r hr]
  rfl

theorem block5_apply (c : Dev nD) (t : Fin cfg0.N) (y : Fin 1024) (l e : Fin 128) (r : Fin 16384) (hr : r.val = t.val * 1024 + y.val) (he : e.val = l.val) :
    out0_5 (iblk m c 0 t) (iblk m c 1 t) (iblk m c 2 t) (iblk m c 3 t) (ix2 y l) = wave m c r e := by
  obtain rfl : e = l := Fin.ext he
  have h : out0_5 (iblk m c 0 t) (iblk m c 1 t) (iblk m c 2 t) (iblk m c 3 t) = k0_pay5 (iblk m c 0 t) (iblk m c 1 t) := by
    unfold out0_5
    rw [View.canon_unit_zero (by decide), View.ld_unit_zero (by decide), View.ld_unit_zero (by decide)]
  rw [h, pay5_apply, read0 m c t y r hr, read1 m c t e]
  rfl

set_option maxHeartbeats 1000000 in
/-- The first result array after the run. -/
theorem result4_eq (c : Dev nD) : (dats m 0 c).arrAt 4 cfg0.N = fun i : S16384x128.Idx => key m c (i 0) (i 1) := by
  refine (dats m 0 c).arrAt_eq_of_covers 4 _ (by decide +kernel) fun t hf y => ?_
  have i2 := (idx t).2.2.2.2.1
  have e1 : ((((cfg0.win 4).blk t).view.emb y) 1).val = (y 1).val := by blk_simp [i2]
  have e0 : ((((cfg0.win 4).blk t).view.emb y) 0).val = t.val * 1024 + (y 0).val := by blk_simp [i2]
  have hv : (dats m 0 c).after 4 t = out0_4 (iblk m c 0 t) (iblk m c 1 t) (iblk m c 2 t) (iblk m c 3 t) := after0_4 m c t
  refine Eq.trans (b := out0_4 (iblk m c 0 t) (iblk m c 1 t) (iblk m c 2 t) (iblk m c 3 t) (ix2 (y 0) (y 1))) ?_ ?_
  · blk_simp
    rw [hv]
    exact congrArg _ (eq_ix2 y)
  · exact block4_apply m c t _ _ _ _ e0 e1

set_option maxHeartbeats 1000000 in
/-- The second result array after the run. -/
theorem result5_eq (c : Dev nD) : (dats m 0 c).arrAt 5 cfg0.N = fun i : S16384x128.Idx => wave m c (i 0) (i 1) := by
  refine (dats m 0 c).arrAt_eq_of_covers 5 _ (by decide +kernel) fun t hf y => ?_
  have i2 := (idx t).2.2.2.2.2
  have e1 : ((((cfg0.win 5).blk t).view.emb y) 1).val = (y 1).val := by blk_simp [i2]
  have e0 : ((((cfg0.win 5).blk t).view.emb y) 0).val = t.val * 1024 + (y 0).val := by blk_simp [i2]
  have hv : (dats m 0 c).after 5 t = out0_5 (iblk m c 0 t) (iblk m c 1 t) (iblk m c 2 t) (iblk m c 3 t) := after0_5 m c t
  refine Eq.trans (b := out0_5 (iblk m c 0 t) (iblk m c 1 t) (iblk m c 2 t) (iblk m c 3 t) (ix2 (y 0) (y 1))) ?_ ?_
  · blk_simp
    rw [hv]
    exact congrArg _ (eq_ix2 y)
  · exact block5_apply m c t _ _ _ _ e0 e1

/-- The run with the two result arrays named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v22_0) = (dats m 0 c).arrAt 4 cfg0.N
      ∧ r.2.mem ((c : Thread nD τ).loc main_v22_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4, (h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- Four times over. -/
def tiled (W : FVec Ideal S32 .f32) : FVec Ideal S1x128 .f32 :=
  shapeCast S1x128 (shapeCast S128 (broadcastInDim S4x32 ![0, 1] bcast_S1x32_S4x32_0_1 (shapeCast S1x32 W shapeCasts_S32_S1x32 : FVec Ideal S1x32 .f32)) shapeCasts_S4x32_S128 : FVec Ideal S128 .f32) shapeCasts_S128_S1x128

/-- The quarter turn. -/
def turn (K : FVec Ideal S16384x64 .f32) : FVec Ideal S16384x64 .f32 :=
  concatenate S16384x64 1
    [⟨S16384x32, Host.negf (extractStridedSlice S16384x32 ![0, 32] K slices_S16384x64_S16384x32_0_32)⟩,
      ⟨S16384x32, extractStridedSlice S16384x32 ![0, 0] K slices_S16384x64_S16384x32_0_0⟩]
    concatenates_S16384x32_S16384x32_S16384x64_d1

theorem tiled_apply (W : FVec Ideal S32 .f32) (e : Fin 128) : tiled W (ix2 0 e) = W (ix1 ⟨e.val % 32, by omega⟩) := by
  unfold tiled
  pointwise

theorem turn_apply (K : FVec Ideal S16384x64 .f32) (r : Fin 16384) (l : Fin 64) :
    turn K (ix2 r l) = if g : l.val < 32 then - K (ix2 r ⟨32 + l.val, by omega⟩) else K (ix2 r ⟨l.val - 32, by omega⟩) := by
  unfold turn
  pointwise

/-- The array: the key twice, its quarter turn twice, zeros elsewhere. -/
def arr (K : FVec Ideal S16384x64 .f32) : FVec Ideal S16384x2048 .f32 :=
  concatenate S16384x2048 1
    [⟨S16384x1536, broadcastInDim S16384x1536 ![] bcast_S_S16384x1536 (constant S_ .f32 0x00000000#32)⟩, ⟨S16384x64, K⟩, ⟨S16384x64, K⟩,
      ⟨S16384x64, turn K⟩, ⟨S16384x64, turn K⟩, ⟨S16384x256, broadcastInDim S16384x256 ![] bcast_S_S16384x256 (constant S_ .f32 0x00000000#32)⟩]
    concatenates_S16384x1536_S16384x64_S16384x64_S16384x64_S16384x64_S16384x256_S16384x2048_d1

theorem arr_key (K : FVec Ideal S16384x64 .f32) (r : Fin 16384) (e : Fin 128) :
    arr K (ix2 r ⟨1536 + e.val, by omega⟩) = K (ix2 r ⟨e.val % 64, by omega⟩) := by
  unfold arr
  pointwise
  split_ifs <;> first
    | (exfalso; omega)
    | exact congrArg (fun j => K (ix2 r j)) (Fin.ext (by dsimp only; omega))

theorem arr_turn (K : FVec Ideal S16384x64 .f32) (r : Fin 16384) (e : Fin 128) :
    arr K (ix2 r ⟨1664 + e.val, by omega⟩) = turn K (ix2 r ⟨e.val % 64, by omega⟩) := by
  unfold arr
  pointwise
  split_ifs <;> first
    | (exfalso; omega)
    | exact congrArg (fun j => turn K (ix2 r j)) (Fin.ext (by dsimp only; omega))

theorem in_pos (c : Dev nD) (r : Fin 16384) :
    (V m c main_v14 : S16384x1.Idx → BitVec 32) (ix2 r 0) = (m ((c.tc.loc main_arg0)) : S16384.Idx → BitVec 32) (ix1 r) := by
  have h : V m c main_v14 = (shapeCast S16384x1 (m (c.tc.loc main_arg0) : IVec S16384 32) shapeCasts_S16384_S16384x1 : IVec S16384x1 32) := by
    unfold V
    after_results_simp
    rfl
  rw [h]
  pointwise

theorem in_freq (c : Dev nD) (e : Fin 128) : (V m c main_v13 : S1x128.Idx → EReal) (ix2 0 e) = freq (ix1 ⟨e.val % 32, by omega⟩) := by
  have h : V m c main_v13 = tiled freq := by
    unfold V
    after_results_simp
    rfl
  rw [h]
  exact tiled_apply _ e

theorem in_arr (c : Dev nD) : packed m c = arr (m (c.tc.loc main_arg1)) := by
  unfold packed V
  after_results_simp
  try dsimp only [Matrix.cons_val]
  try after_results_simp
  rfl

end Cert.KernelRopeIdeal.Prod

end
-- ==== Proof.RopeEq.lean ====
/- The rotary preparation: the reference's results, and their equality with the kernel's. -/
module

public import proofs.«01_k».proof.Proof.RopeVal
public import proofs.«01_k».proof.Proof.Gen.ReferenceRopeIdeal.Run
public import proofs.«01_k».proof.Proof.Entry

@[expose] public section

set_option maxRecDepth 16384

noncomputable section

namespace Cert.ReferenceRopeIdeal.Prod

open Cert.ReferenceRopeIdeal Cert.ReferenceRopeIdeal.Gen Idealize.ShloMosaic Idealize.ShloMosaic.TcCoe Idealize.SL.Sem
open Cert.KernelRopeIdeal.Prod (ang fac freq)

/-- The angles. -/
def angs (P : IVec S16384 32) : FVec Ideal S16384x32 .f32 :=
  mulf (broadcastInDim S16384x32 ![0, 1] bcast_S16384x1_S16384x32_0_1 (broadcastInDim S16384x1 ![0] bcast_S16384_S16384x1_0 (sitofp .f32 P))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The turned key. -/
def rot (K : FVec Ideal S16384x64 .f32) (C S : FVec Ideal S16384x32 .f32) : FVec Ideal S16384x64 .f32 :=
  concatenate S16384x64 1
    [⟨S16384x32, subf (mulf (extractStridedSlice S16384x32 ![0, 0] K slices_S16384x64_S16384x32_0_0) C) (mulf (extractStridedSlice S16384x32 ![0, 32] K slices_S16384x64_S16384x32_0_32) S)⟩,
      ⟨S16384x32, addf (mulf (extractStridedSlice S16384x32 ![0, 32] K slices_S16384x64_S16384x32_0_32) C) (mulf (extractStridedSlice S16384x32 ![0, 0] K slices_S16384x64_S16384x32_0_0) S)⟩]
    concatenates_S16384x32_S16384x32_S16384x64_d1

/-- Twice side by side. -/
def twice (R : FVec Ideal S16384x64 .f32) : FVec Ideal S16384x128 .bf16 :=
  truncf .bf16 (concatenate S16384x128 1 [⟨S16384x64, R⟩, ⟨S16384x64, R⟩] concatenates_S16384x64_S16384x64_S16384x128_d1) bitsLt_bf16_f32

/-- Cosines twice, sines twice. -/
def four (C S : FVec Ideal S16384x32 .f32) : FVec Ideal S16384x128 .f32 :=
  concatenate S16384x128 1 [⟨S16384x32, C⟩, ⟨S16384x32, C⟩, ⟨S16384x32, S⟩, ⟨S16384x32, S⟩] concatenates_S16384x32_S16384x32_S16384x32_S16384x32_S16384x128_d1

/-- The cosines and the sines over the score scale's inverse. -/
def waves (C S : FVec Ideal S16384x32 .f32) : FVec Ideal S16384x128 .f32 :=
  Host.divf (four C S)
    (broadcastInDim S16384x128 ![] bcast_S_S16384x128 (mulf (Host.sqrt (constant S_ .f32 0x43400000#32)) (Host.log (constant S_ .f32 0x40000000#32))))

theorem angs_apply (P : IVec S16384 32) (r : Fin 16384) (j : Fin 32) : angs P (ix2 r j) = ang (P (ix1 r)) (freq (ix1 j)) := by
  pointwise [angs, ang, freq]

theorem rot_apply (K : FVec Ideal S16384x64 .f32) (C S : FVec Ideal S16384x32 .f32) (r : Fin 16384) (l : Fin 64) :
    rot K C S (ix2 r l) = if g : l.val < 32
      then (K (ix2 r ⟨l.val, by omega⟩) * C (ix2 r ⟨l.val, g⟩) - K (ix2 r ⟨32 + l.val, by omega⟩) * S (ix2 r ⟨l.val, g⟩) : EReal)
      else (K (ix2 r ⟨32 + (l.val - 32), by omega⟩) * C (ix2 r ⟨l.val - 32, by omega⟩) + K (ix2 r ⟨l.val - 32, by omega⟩) * S (ix2 r ⟨l.val - 32, by omega⟩) : EReal) := by
  unfold rot
  pointwise

theorem twice_apply (R : FVec Ideal S16384x64 .f32) (r : Fin 16384) (e : Fin 128) : twice R (ix2 r e) = R (ix2 r ⟨e.val % 64, by omega⟩) := by
  unfold twice
  pointwise
  split_ifs <;> exact congrArg (fun j => R (ix2 r j)) (Fin.ext (by dsimp only <;> omega))

theorem four_apply (C S : FVec Ideal S16384x32 .f32) (r : Fin 16384) (e : Fin 128) :
    four C S (ix2 r e) = if e.val < 64 then C (ix2 r ⟨e.val % 32, by omega⟩) else S (ix2 r ⟨e.val % 32, by omega⟩) := by
  unfold four
  by_cases g : e.val < 64
  · rw [if_pos g]
    pointwise
    split_ifs <;> first
      | (exfalso; omega)
      | exact congrArg (fun j => C (ix2 r j)) (Fin.ext (by dsimp only <;> omega))
  · rw [if_neg g]
    pointwise
    split_ifs <;> first
      | (exfalso; omega)
      | exact congrArg (fun j => S (ix2 r j)) (Fin.ext (by dsimp only <;> omega))

theorem waves_apply (C S : FVec Ideal S16384x32 .f32) (r : Fin 16384) (e : Fin 128) :
    waves C S (ix2 r e) = (four C S (ix2 r e) * fac : EReal) := by
  unfold waves
  pointwise
  have h2 : (0 : ℝ) < Real.log 2 := Real.log_pos (by norm_num)
  rw [Cert.KernelIdeal.Attn.bits_192, Cert.KernelIdeal.Attn.bits_2, Ideal.sqrt_coe, if_neg (by norm_num), Ideal.log_coe, if_neg (by norm_num),
    ← EReal.coe_mul, Ideal.div, if_neg (by rw [← EReal.coe_zero, EReal.coe_eq_coe_iff]; positivity), ← EReal.coe_inv, mul_inv, fac]

/-- The reference's results as functions of its arguments. -/
def keys (P : IVec S16384 32) (K : FVec Ideal S16384x64 .f32) : FVec Ideal S16384x128 .bf16 :=
  twice (rot K (Host.cos (angs P)) (Host.sin (angs P)))

def table (P : IVec S16384 32) : FVec Ideal S16384x128 .f32 := waves (Host.cos (angs P)) (Host.sin (angs P))

end Cert.ReferenceRopeIdeal.Prod

namespace Cert.Rope

open Idealize.ShloMosaic Idealize.ShloMosaic.TcCoe Idealize.SL.Sem
open Cert.KernelRopeIdeal.Prod

section

variable (m : (ℓ : Loc KernelRopeIdeal.nD KernelRopeIdeal.τ KernelRopeIdeal.sig) → Buf (Elt Ideal) ℓ)

/-- The kernel's angle at an entry. -/
theorem angle_eq (c : Dev KernelRopeIdeal.nD) (r : Fin 16384) (e : Fin 128) (j : Fin 32) (hj : j.val = e.val % 32) :
    angle m c r e = ReferenceRopeIdeal.Prod.angs (m (c.tc.loc KernelRopeIdeal.main_arg0)) (ix2 r j) := by
  rw [ReferenceRopeIdeal.Prod.angs_apply, show j = ⟨e.val % 32, by omega⟩ from Fin.ext hj]
  unfold angle
  rw [in_pos m c r, in_freq m c e]

/-- The key at an entry. -/
theorem key_eq (c : Dev KernelRopeIdeal.nD) (r : Fin 16384) (e : Fin 128) :
    ReferenceRopeIdeal.Prod.keys (m (c.tc.loc KernelRopeIdeal.main_arg0)) (m (c.tc.loc KernelRopeIdeal.main_arg1)) (ix2 r e) = key m c r e := by
  unfold ReferenceRopeIdeal.Prod.keys
  rw [ReferenceRopeIdeal.Prod.twice_apply, ReferenceRopeIdeal.Prod.rot_apply]
  unfold key
  rw [in_arr, arr_key, arr_turn, turn_apply]
  by_cases g : e.val % 64 < 32
  · rw [dif_pos g, dif_pos g, angle_eq m c r e ⟨e.val % 64, g⟩ (by dsimp only; omega), sub_eq_add_neg, EReal.neg_mul]
    rfl
  · rw [dif_neg g, dif_neg g, angle_eq m c r e ⟨e.val % 64 - 32, by omega⟩ (by dsimp only; omega)]
    rw [show (⟨32 + (e.val % 64 - 32), by omega⟩ : Fin 64) = ⟨e.val % 64, by omega⟩ from Fin.ext (by dsimp only; omega)]
    rfl

/-- The cosine or sine at an entry. -/
theorem wave_eq (c : Dev KernelRopeIdeal.nD) (r : Fin 16384) (e : Fin 128) :
    ReferenceRopeIdeal.Prod.table (m (c.tc.loc KernelRopeIdeal.main_arg0)) (ix2 r e) = wave m c r e := by
  unfold ReferenceRopeIdeal.Prod.table
  rw [ReferenceRopeIdeal.Prod.waves_apply, ReferenceRopeIdeal.Prod.four_apply]
  unfold wave
  rw [angle_eq m c r e ⟨e.val % 32, by omega⟩ rfl]
  rfl

end

variable (m : (ℓ : Loc KernelRopeIdeal.nD KernelRopeIdeal.τ KernelRopeIdeal.sig) → Buf (Elt Ideal) ℓ)
  (m' : (ℓ : Loc ReferenceRopeIdeal.nD ReferenceRopeIdeal.τ ReferenceRopeIdeal.sig) → Buf (Elt Ideal) ℓ)

/-- The kernel's first result array is the reference's, at equal arguments. -/
theorem keys_eq (c : Dev KernelRopeIdeal.nD)
    (h0 : m' (c.tc.loc ReferenceRopeIdeal.main_arg0) = m (c.tc.loc KernelRopeIdeal.main_arg0))
    (h1 : m' (c.tc.loc ReferenceRopeIdeal.main_arg1) = m (c.tc.loc KernelRopeIdeal.main_arg1)) :
    ReferenceRopeIdeal.Value.res_out0 m' c = (KernelRopeIdeal.Gen.dats m 0 c).arrAt 4 KernelRopeIdeal.cfg0.N := by
  refine Eq.trans (b := ReferenceRopeIdeal.Prod.keys (m' (c.tc.loc ReferenceRopeIdeal.main_arg0)) (m' (c.tc.loc ReferenceRopeIdeal.main_arg1))) ?_ ?_
  · rfl
  rw [h0, h1, result4_eq m c]
  funext i
  rw [eq_ix2 i]
  exact key_eq m c _ _

/-- The second. -/
theorem table_eq (c : Dev KernelRopeIdeal.nD)
    (h0 : m' (c.tc.loc ReferenceRopeIdeal.main_arg0) = m (c.tc.loc KernelRopeIdeal.main_arg0)) :
    ReferenceRopeIdeal.Prod.table (m' (c.tc.loc ReferenceRopeIdeal.main_arg0)) = (KernelRopeIdeal.Gen.dats m 0 c).arrAt 5 KernelRopeIdeal.cfg0.N := by
  rw [h0, result5_eq m c]
  funext i
  rw [eq_ix2 i]
  exact wave_eq m c _ _

end Cert.Rope

end
-- ==== Proof.lean ====
/- The proof of every claim of the certificate: the layer's first norm, the rotary preparation, the attention call, the up-projections of the keys and values and of the queries, the combined projection's two parts, the
   gated sum of two products, the output projection with its residual and the experts' two projections, each against its reference. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.KernelMix.Frame
public import proofs.«01_k».proof.Proof.Gen.KernelMixIdeal.Value
public import proofs.«01_k».proof.Proof.Gen.ReferenceMixIdeal.Run
public import proofs.«01_k».proof.Proof.Gen.KernelOut.Frame
public import proofs.«01_k».proof.Proof.Gen.KernelOutIdeal.Value
public import proofs.«01_k».proof.Proof.Gen.ReferenceOutIdeal.Run
public import proofs.«01_k».proof.Proof.AttnEq
public import proofs.«01_k».proof.Proof.InEq
public import proofs.«01_k».proof.Proof.MixEq
public import proofs.«01_k».proof.Proof.OutEq
public import proofs.«01_k».proof.Proof.Gen.Pre_plan_up
public import proofs.«01_k».proof.Proof.Gen.ReferenceUpIdeal.Run
public import proofs.«01_k».proof.Proof.Gen.KernelUpIdeal.Skeleton
public import proofs.«01_k».proof.Proof.Gen.KernelUpIdeal.Launch
public import proofs.«01_k».proof.Proof.Gen.KernelUpIdeal.Loops
public import proofs.«01_k».proof.Proof.Gen.KernelUp.Launch
public import proofs.«01_k».proof.Proof.Gen.KernelUp.Loops
public import proofs.«01_k».proof.Proof.Gen.Pre_plan_down
public import proofs.«01_k».proof.Proof.Gen.ReferenceDownIdeal.Run
public import proofs.«01_k».proof.Proof.Gen.KernelDownIdeal.Skeleton
public import proofs.«01_k».proof.Proof.Gen.KernelDownIdeal.Launch
public import proofs.«01_k».proof.Proof.Gen.KernelDownIdeal.Loops
public import proofs.«01_k».proof.Proof.Gen.KernelDown.Skeleton
public import proofs.«01_k».proof.Proof.Gen.KernelDown.Launch
public import proofs.«01_k».proof.Proof.Gen.KernelDown.Loops
public import proofs.«01_k».proof.Proof.Gen.Pre_finite_small
public import proofs.«01_k».proof.Proof.Gen.KernelSmall.Frame
public import proofs.«01_k».proof.Proof.Gen.KernelSmallIdeal.Value
public import proofs.«01_k».proof.Proof.Gen.ReferenceSmallIdeal.Run
public import proofs.«01_k».proof.Proof.Gen.KernelKv.Frame
public import proofs.«01_k».proof.Proof.Gen.KernelKvIdeal.Value
public import proofs.«01_k».proof.Proof.Gen.ReferenceKvIdeal.Run
public import proofs.«01_k».proof.Proof.Gen.Pre_finite_q
public import proofs.«01_k».proof.Proof.Gen.KernelQ.Frame
public import proofs.«01_k».proof.Proof.Gen.KernelQIdeal.Value
public import proofs.«01_k».proof.Proof.Gen.ReferenceQIdeal.Run
public import proofs.«01_k».proof.Proof.Gen.KernelNorm.Frame
public import proofs.«01_k».proof.Proof.Gen.KernelNormIdeal.Value
public import proofs.«01_k».proof.Proof.Gen.ReferenceNormIdeal.Run
public import proofs.«01_k».proof.Proof.Gen.KernelRope.Frame
public import proofs.«01_k».proof.Proof.Gen.KernelRopeIdeal.Frame
public import proofs.«01_k».proof.Proof.Gen.ReferenceRopeIdeal.Run
public import proofs.«01_k».proof.Proof.BitPre
public import proofs.«01_k».proof.Proof.UpVal
public import proofs.«01_k».proof.Proof.BitDownPre
public import proofs.«01_k».proof.Proof.DownVal
public import proofs.«01_k».proof.Proof.SmallEq
public import proofs.«01_k».proof.Proof.KvEq
public import proofs.«01_k».proof.Proof.QEq
public import proofs.«01_k».proof.Proof.NormEq
public import proofs.«01_k».proof.Proof.RopeEq
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention reference ends with no semaphore raised and its arguments unchanged. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, Idealize.ShloMosaic.sem_eq_zero_of_no_sems (by decide) r.2⟩) (Cert.ReferenceIdeal.Value.run m ρ)

/-- Every claim of the certificate. -/
theorem claim : Cert.Claim := ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelMix.Gen.facts, Cert.KernelMixIdeal.Gen.facts, Cert.ReferenceMixIdeal.Gen.facts, Cert.KernelOut.Gen.facts, Cert.KernelOutIdeal.Gen.facts, Cert.ReferenceOutIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelSmall.Gen.facts, Cert.KernelSmallIdeal.Gen.facts, Cert.ReferenceSmallIdeal.Gen.facts, Cert.KernelKv.Gen.facts, Cert.KernelKvIdeal.Gen.facts, Cert.ReferenceKvIdeal.Gen.facts, Cert.KernelQ.Gen.facts, Cert.KernelQIdeal.Gen.facts, Cert.ReferenceQIdeal.Gen.facts, Cert.KernelNorm.Gen.facts, Cert.KernelNormIdeal.Gen.facts, Cert.ReferenceNormIdeal.Gen.facts, Cert.KernelRope.Gen.facts, Cert.KernelRopeIdeal.Gen.facts, Cert.ReferenceRopeIdeal.Gen.facts, Cert.Pre_finite.Gen.facts, Cert.Pre_plan_up.Gen.facts, Cert.Pre_plan_down.Gen.facts, Cert.Pre_finite_small.Gen.facts, Cert.Pre_finite_q.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.KernelIn.Gen.frame m ρ,
  fun m ρ _ => Cert.KernelInIdeal.Gen.frame m ρ,
  fun m ρ _ => (θ_run Cert.ReferenceInIdeal.defs _ _).mono (fun r h => ⟨fun c => (h c).2, Idealize.ShloMosaic.sem_eq_zero_of_no_sems (by decide) r.2⟩)
    (Cert.ReferenceInIdeal.Value.run m ρ),
  fun m ρ _ => Cert.KernelMix.Gen.frame m ρ,
  fun m ρ _ => Cert.KernelMixIdeal.Gen.frame m ρ,
  fun m ρ _ => (θ_run Cert.ReferenceMixIdeal.defs _ _).mono (fun r h => ⟨fun c => (h c).2, Idealize.ShloMosaic.sem_eq_zero_of_no_sems (by decide) r.2⟩)
    (Cert.ReferenceMixIdeal.Value.run m ρ),
  fun m ρ _ => Cert.KernelOut.Gen.frame m ρ,
  fun m ρ _ => Cert.KernelOutIdeal.Gen.frame m ρ,
  fun m ρ _ => (θ_run Cert.ReferenceOutIdeal.defs _ _).mono (fun r h => ⟨fun c => (h c).2, Idealize.ShloMosaic.sem_eq_zero_of_no_sems (by decide) r.2⟩)
    (Cert.ReferenceOutIdeal.Value.run m ρ),
  fun m ρ h => Cert.KernelUp.Up.frame m ρ (Cert.KernelUp.Up.ok_planned m (Cert.KernelUp.Up.planned m (h 0))) (Cert.KernelUp.Up.planned m (h 0)),
  fun m ρ h => Cert.KernelUpIdeal.Up.frame m ρ (Cert.KernelUpIdeal.Up.ok_planned m (Cert.KernelUpIdeal.Up.planned m (h 0))) (Cert.KernelUpIdeal.Up.planned m (h 0)),
  fun m ρ _ => (θ_run Cert.ReferenceUpIdeal.defs _ _).mono (fun r h => ⟨fun c => (h c).2, Idealize.ShloMosaic.sem_eq_zero_of_no_sems (by decide) r.2⟩)
    (Cert.ReferenceUpIdeal.Value.run m ρ),
  fun m ρ _ => (θ_run Cert.ReferenceUpIdeal.defs _ _).mono (fun r h => ⟨fun c => (h c).2, Idealize.ShloMosaic.sem_eq_zero_of_no_sems (by decide) r.2⟩)
    (Cert.ReferenceUpIdeal.Value.run m ρ),
  fun m ρ h => Cert.KernelDown.Down.frame m ρ (Cert.KernelDown.Down.ok_planned m (Cert.KernelDown.Down.planned m (h 0))) (Cert.KernelDown.Down.planned m (h 0)),
  fun m ρ h => Cert.KernelDownIdeal.Down.frame m ρ (Cert.KernelDownIdeal.Down.ok_planned m (Cert.KernelDownIdeal.Down.planned m (h 0))) (Cert.KernelDownIdeal.Down.planned m (h 0)),
  fun m ρ _ => (θ_run Cert.ReferenceDownIdeal.defs _ _).mono (fun r h => ⟨fun c => (h c).2, Idealize.ShloMosaic.sem_eq_zero_of_no_sems (by decide) r.2⟩)
    (Cert.ReferenceDownIdeal.Value.run m ρ),
  fun m ρ _ => (θ_run Cert.ReferenceDownIdeal.defs _ _).mono (fun r h => ⟨fun c => (h c).2, Idealize.ShloMosaic.sem_eq_zero_of_no_sems (by decide) r.2⟩)
    (Cert.ReferenceDownIdeal.Value.run m ρ),
  fun m ρ _ => Cert.KernelSmall.Gen.frame m ρ,
  fun m ρ _ => Cert.KernelSmallIdeal.Gen.frame m ρ,
  fun m ρ _ => Cert.KernelSmallIdeal.Gen.frame m ρ,
  fun m ρ _ => (θ_run Cert.ReferenceSmallIdeal.defs _ _).mono (fun r h => ⟨fun c => (h c).2, Idealize.ShloMosaic.sem_eq_zero_of_no_sems (by decide) r.2⟩)
    (Cert.ReferenceSmallIdeal.Value.run m ρ),
  fun m ρ _ => (θ_run Cert.ReferenceSmallIdeal.defs _ _).mono (fun r h => ⟨fun c => (h c).2, Idealize.ShloMosaic.sem_eq_zero_of_no_sems (by decide) r.2⟩)
    (Cert.ReferenceSmallIdeal.Value.run m ρ),
  fun m ρ _ => Cert.KernelKv.Gen.frame m ρ,
  fun m ρ _ => Cert.KernelKvIdeal.Gen.frame m ρ,
  fun m ρ _ => (θ_run Cert.ReferenceKvIdeal.defs _ _).mono (fun r h => ⟨fun c => (h c).2, Idealize.ShloMosaic.sem_eq_zero_of_no_sems (by decide) r.2⟩)
    (Cert.ReferenceKvIdeal.Value.run m ρ),
  fun m ρ _ => Cert.KernelQ.Gen.frame m ρ,
  fun m ρ _ => Cert.KernelQIdeal.Gen.frame m ρ,
  fun m ρ _ => Cert.KernelQIdeal.Gen.frame m ρ,
  fun m ρ _ => (θ_run Cert.ReferenceQIdeal.defs _ _).mono (fun r h => ⟨fun c => (h c).2, Idealize.ShloMosaic.sem_eq_zero_of_no_sems (by decide) r.2⟩)
    (Cert.ReferenceQIdeal.Value.run m ρ),
  fun m ρ _ => (θ_run Cert.ReferenceQIdeal.defs _ _).mono (fun r h => ⟨fun c => (h c).2, Idealize.ShloMosaic.sem_eq_zero_of_no_sems (by decide) r.2⟩)
    (Cert.ReferenceQIdeal.Value.run m ρ),
  fun m ρ _ => Cert.KernelNorm.Gen.frame m ρ,
  fun m ρ _ => Cert.KernelNormIdeal.Gen.frame m ρ,
  fun m ρ _ => (θ_run Cert.ReferenceNormIdeal.defs _ _).mono (fun r h => ⟨fun c => (h c).2, Idealize.ShloMosaic.sem_eq_zero_of_no_sems (by decide) r.2⟩)
    (Cert.ReferenceNormIdeal.Value.run m ρ),
  fun m ρ _ => Cert.KernelRope.Gen.frame m ρ,
  fun m ρ _ => Cert.KernelRopeIdeal.Gen.frame m ρ,
  fun m ρ _ => (θ_run Cert.ReferenceRopeIdeal.defs _ _).mono (fun r h => ⟨fun c => (h c).2.2, Idealize.ShloMosaic.sem_eq_zero_of_no_sems (by decide) r.2⟩)
    (Cert.ReferenceRopeIdeal.Value.run m ρ),
  IdealRules.named_const.statement Cert.KernelIdeal.κ "qk_scale_log2" .f32 0x3DD53B95#32 _ rfl,
  fun m ρ m' ρ' hp hm => ⟨fun c => (Cert.KernelIdeal.Gen.dats m 0 c).arrAt 5 Cert.KernelIdeal.cfg0.N,
    Cert.KernelIdeal.Value.run_blocks m ρ,
    (θ_run Cert.ReferenceIdeal.defs _ _).mono (fun _ h c => ⟨(h c).1.trans (Cert.Attn.attn_eq m m' c hp (hm c).1 (hm c).2.1 (hm c).2.2.1 (hm c).2.2.2.1 (hm c).2.2.2.2), (h c).2⟩)
      (Cert.ReferenceIdeal.Value.run m' ρ')⟩,
  trivial,
  fun m ρ m' ρ' _ hm => ⟨fun c => (Cert.KernelInIdeal.Gen.dats m 0 c).arrAt 2 Cert.KernelInIdeal.cfg0.N,
    Cert.KernelInIdeal.Value.run_blocks m ρ,
    (θ_run Cert.ReferenceInIdeal.defs _ _).mono (fun _ h c => ⟨(h c).1.trans (Cert.InProj.in_eq m m' c (hm c).1 (hm c).2), (h c).2⟩)
      (Cert.ReferenceInIdeal.Value.run m' ρ')⟩,
  trivial,
  fun m ρ m' ρ' _ hm => ⟨fun c => (Cert.KernelMixIdeal.Gen.dats m 0 c).arrAt 6 Cert.KernelMixIdeal.cfg0.N,
    Cert.KernelMixIdeal.Value.run_blocks m ρ,
    (θ_run Cert.ReferenceMixIdeal.defs _ _).mono (fun _ h c => ⟨(h c).1.trans (Cert.Mix.mix_eq m m' c (hm c).1 (hm c).2.1 (hm c).2.2.1 (hm c).2.2.2.1 (hm c).2.2.2.2), (h c).2⟩)
      (Cert.ReferenceMixIdeal.Value.run m' ρ')⟩,
  trivial,
  fun m ρ m' ρ' _ hm => ⟨fun c => (Cert.KernelOutIdeal.Gen.dats m 0 c).arrAt 3 Cert.KernelOutIdeal.cfg0.N,
    Cert.KernelOutIdeal.Value.run_blocks m ρ,
    (θ_run Cert.ReferenceOutIdeal.defs _ _).mono (fun _ h c => ⟨(h c).1.trans (Cert.OutProj.out_eq m m' c (hm c).1 (hm c).2.1 (hm c).2.2), (h c).2⟩)
      (Cert.ReferenceOutIdeal.Value.run m' ρ')⟩,
  trivial,
  fun m ρ m' ρ' hp hm =>
    have hP := Cert.KernelUpIdeal.Up.planned m (hp 0)
    have hO := Cert.KernelUpIdeal.Up.ok_planned m hP
    ⟨fun c => (Cert.KernelUpIdeal.Up.dats m hO 0 c).arrAt 3 (Cert.KernelUpIdeal.Up.cfgM m hO).N,
    (θ_run Cert.KernelUpIdeal.defs _ _).mono (fun r h c => ⟨(h c).1 3, Cert.KernelUpIdeal.Up.kept_args m hO hP r h c⟩) (Cert.KernelUpIdeal.Up.run_main m ρ hO hP),
    (θ_run Cert.ReferenceUpIdeal.defs _ _).mono (fun _ h c => ⟨(h c).1.trans (Cert.Swi.up_eq m m' hO hP c (hm c).1 (hm c).2.2.2.2.1 (hm c).2.2.2.2.2.1 (hm c).2.2.2.2.2.2.1 (hm c).2.2.2.2.2.2.2), (h c).2⟩)
      (Cert.ReferenceUpIdeal.Value.run m' ρ')⟩,
  trivial,
  fun m ρ m' ρ' hp hm =>
    have hP := Cert.KernelDownIdeal.Down.planned m (hp 0)
    have hO := Cert.KernelDownIdeal.Down.ok_planned m hP
    ⟨fun c => (Cert.KernelDownIdeal.Down.dats m hO 0 c).arrAt 2 (Cert.KernelDownIdeal.Down.cfgM m hO).N,
    (θ_run Cert.KernelDownIdeal.defs _ _).mono (fun r h c => ⟨(h c).1 2, Cert.KernelDownIdeal.Down.kept_args m hO hP r h c⟩) (Cert.KernelDownIdeal.Down.run_main m ρ hO hP),
    (θ_run Cert.ReferenceDownIdeal.defs _ _).mono (fun _ h c => ⟨(h c).1.trans (Cert.Dn.down_eq m m' hO hP c (hm c).1 (hm c).2.2.2.2.1 (hm c).2.2.2.2.2.1 (hm c).2.2.2.2.2.2.1 (hm c).2.2.2.2.2.2.2), (h c).2⟩)
      (Cert.ReferenceDownIdeal.Value.run m' ρ')⟩,
  trivial,
  fun m ρ m' ρ' hp hm => ⟨fun c => (Cert.KernelSmallIdeal.Gen.dats m 0 c).arrAt 2 Cert.KernelSmallIdeal.cfg0.N,
    Cert.KernelSmallIdeal.Value.run_blocks m ρ,
    (θ_run Cert.ReferenceSmallIdeal.defs _ _).mono (fun _ h c => ⟨(h c).1.trans (Cert.SmallProj.small_eq m m' c hp (hm c).1 (hm c).2), (h c).2⟩)
      (Cert.ReferenceSmallIdeal.Value.run m' ρ')⟩,
  trivial,
  fun m ρ m' ρ' _ hm => ⟨fun c => (Cert.KernelKvIdeal.Gen.dats m 0 c).arrAt 3 Cert.KernelKvIdeal.cfg0.N,
    Cert.KernelKvIdeal.Value.run_blocks m ρ,
    (θ_run Cert.ReferenceKvIdeal.defs _ _).mono (fun _ h c => ⟨(h c).1.trans (Cert.KvProj.kv_eq m m' c (hm c).1 (hm c).2.1 (hm c).2.2), (h c).2⟩)
      (Cert.ReferenceKvIdeal.Value.run m' ρ')⟩,
  trivial,
  fun m ρ m' ρ' hp hm => ⟨fun c => (Cert.KernelQIdeal.Gen.dats m 0 c).arrAt 3 Cert.KernelQIdeal.cfg0.N,
    Cert.KernelQIdeal.Value.run_blocks m ρ,
    (θ_run Cert.ReferenceQIdeal.defs _ _).mono (fun _ h c => ⟨(h c).1.trans (Cert.QProj.q_eq m m' c hp (hm c).1 (hm c).2.1 (hm c).2.2), (h c).2⟩)
      (Cert.ReferenceQIdeal.Value.run m' ρ')⟩,
  trivial,
  fun m ρ m' ρ' _ hm => ⟨fun c => (Cert.KernelNormIdeal.Gen.dats m 0 c).arrAt 2 Cert.KernelNormIdeal.cfg0.N,
    Cert.KernelNormIdeal.Value.run_blocks m ρ,
    (θ_run Cert.ReferenceNormIdeal.defs _ _).mono (fun _ h c => ⟨(h c).1.trans (Cert.FirstNorm.norm_eq m m' c (hm c).1 (hm c).2), (h c).2⟩)
      (Cert.ReferenceNormIdeal.Value.run m' ρ')⟩,
  IdealRules.named_const.statement Cert.KernelRopeIdeal.κ "qk_scale_log2" .f32 0x3DD53B95#32 _ rfl,
  fun m ρ m' ρ' _ hm => ⟨fun c => (Cert.KernelRopeIdeal.Gen.dats m 0 c).arrAt 4 Cert.KernelRopeIdeal.cfg0.N,
    fun c => (Cert.KernelRopeIdeal.Gen.dats m 0 c).arrAt 5 Cert.KernelRopeIdeal.cfg0.N,
    Cert.KernelRopeIdeal.Prod.run_blocks m ρ,
    (θ_run Cert.ReferenceRopeIdeal.defs _ _).mono (fun _ h c => ⟨(h c).1.trans (Cert.Rope.keys_eq m m' c (hm c).1 (hm c).2),
      (h c).2.1.trans (Cert.Rope.table_eq m m' c (hm c).1), (h c).2.2⟩)
      (Cert.ReferenceRopeIdeal.Value.run m' ρ')⟩⟩

end Cert.Proof

end
